-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_ReferenceDhIdeal (m : (ℓ : Loc Cert.ReferenceDhIdeal.nD Cert.ReferenceDhIdeal.τ Cert.ReferenceDhIdeal.sig) → Buf (Elt Ideal) ℓ) : Prop :=
  True

def Pre_KernelDw (m : (ℓ : Loc Cert.KernelDw.nD Cert.KernelDw.τ Cert.KernelDw.sig) → Buf (Elt Bits) ℓ) : Prop :=
  True

def Pre_KernelDwIdeal (m : (ℓ : Loc Cert.KernelDwIdeal.nD Cert.KernelDwIdeal.τ Cert.KernelDwIdeal.sig) → Buf (Elt Ideal) ℓ) : Prop :=
  True

def Pre_ReferenceDwIdeal (m : (ℓ : Loc Cert.ReferenceDwIdeal.nD Cert.ReferenceDwIdeal.τ Cert.ReferenceDwIdeal.sig) → Buf (Elt Ideal) ℓ) : Prop :=
  True

def Pre_KernelDl (m : (ℓ : Loc Cert.KernelDl.nD Cert.KernelDl.τ Cert.KernelDl.sig) → Buf (Elt Bits) ℓ) : Prop :=
  True

def Pre_KernelDlIdeal (m : (ℓ : Loc Cert.KernelDlIdeal.nD Cert.KernelDlIdeal.τ Cert.KernelDlIdeal.sig) → Buf (Elt Ideal) ℓ) : Prop :=
  True

def Pre_ReferenceDlIdeal (m : (ℓ : Loc Cert.ReferenceDlIdeal.nD Cert.ReferenceDlIdeal.τ Cert.ReferenceDlIdeal.sig) → Buf (Elt Ideal) ℓ) : Prop :=
  True

def Pre_KernelPr (m : (ℓ : Loc Cert.KernelPr.nD Cert.KernelPr.τ Cert.KernelPr.sig) → Buf (Elt Bits) ℓ) : Prop :=
  True

def Pre_KernelPrIdeal (m : (ℓ : Loc Cert.KernelPrIdeal.nD Cert.KernelPrIdeal.τ Cert.KernelPrIdeal.sig) → Buf (Elt Ideal) ℓ) : Prop :=
  True

def Pre_ReferencePrIdeal (m : (ℓ : Loc Cert.ReferencePrIdeal.nD Cert.ReferencePrIdeal.τ Cert.ReferencePrIdeal.sig) → Buf (Elt Ideal) ℓ) : Prop :=
  True

def Pre_KernelDo (m : (ℓ : Loc Cert.KernelDo.nD Cert.KernelDo.τ Cert.KernelDo.sig) → Buf (Elt Bits) ℓ) : Prop :=
  True

def Pre_KernelDoIdeal (m : (ℓ : Loc Cert.KernelDoIdeal.nD Cert.KernelDoIdeal.τ Cert.KernelDoIdeal.sig) → Buf (Elt Ideal) ℓ) : Prop :=
  True

def Pre_ReferenceDoIdeal (m : (ℓ : Loc Cert.ReferenceDoIdeal.nD Cert.ReferenceDoIdeal.τ Cert.ReferenceDoIdeal.sig) → Buf (Elt Ideal) ℓ) : Prop :=
  True

def Pre_KernelUq (m : (ℓ : Loc Cert.KernelUq.nD Cert.KernelUq.τ Cert.KernelUq.sig) → Buf (Elt Bits) ℓ) : Prop :=
  True

def Pre_KernelUqIdeal (m : (ℓ : Loc Cert.KernelUqIdeal.nD Cert.KernelUqIdeal.τ Cert.KernelUqIdeal.sig) → Buf (Elt Ideal) ℓ) : Prop :=
  True

def Pre_ReferenceUqIdeal (m : (ℓ : Loc Cert.ReferenceUqIdeal.nD Cert.ReferenceUqIdeal.τ Cert.ReferenceUqIdeal.sig) → Buf (Elt Ideal) ℓ) : Prop :=
  True

def Pre_KernelUkv (m : (ℓ : Loc Cert.KernelUkv.nD Cert.KernelUkv.τ Cert.KernelUkv.sig) → Buf (Elt Bits) ℓ) : Prop :=
  True

def Pre_KernelUkvIdeal (m : (ℓ : Loc Cert.KernelUkvIdeal.nD Cert.KernelUkvIdeal.τ Cert.KernelUkvIdeal.sig) → Buf (Elt Ideal) ℓ) : Prop :=
  True

def Pre_ReferenceUkvIdeal (m : (ℓ : Loc Cert.ReferenceUkvIdeal.nD Cert.ReferenceUkvIdeal.τ Cert.ReferenceUkvIdeal.sig) → Buf (Elt Ideal) ℓ) : Prop :=
  True

def Pre_KernelQn (m : (ℓ : Loc Cert.KernelQn.nD Cert.KernelQn.τ Cert.KernelQn.sig) → Buf (Elt Bits) ℓ) : Prop :=
  True

def Pre_KernelQnIdeal (m : (ℓ : Loc Cert.KernelQnIdeal.nD Cert.KernelQnIdeal.τ Cert.KernelQnIdeal.sig) → Buf (Elt Ideal) ℓ) : Prop :=
  True

def Pre_ReferenceQnIdeal (m : (ℓ : Loc Cert.ReferenceQnIdeal.nD Cert.ReferenceQnIdeal.τ Cert.ReferenceQnIdeal.sig) → Buf (Elt Ideal) ℓ) : Prop :=
  True

def Pre_KernelKvn (m : (ℓ : Loc Cert.KernelKvn.nD Cert.KernelKvn.τ Cert.KernelKvn.sig) → Buf (Elt Bits) ℓ) : Prop :=
  True

def Pre_KernelKvnIdeal (m : (ℓ : Loc Cert.KernelKvnIdeal.nD Cert.KernelKvnIdeal.τ Cert.KernelKvnIdeal.sig) → Buf (Elt Ideal) ℓ) : Prop :=
  True

def Pre_ReferenceKvnIdeal (m : (ℓ : Loc Cert.ReferenceKvnIdeal.nD Cert.ReferenceKvnIdeal.τ Cert.ReferenceKvnIdeal.sig) → Buf (Elt Ideal) ℓ) : Prop :=
  True

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelDg (m : (ℓ : Loc Cert.KernelDg.nD Cert.KernelDg.τ Cert.KernelDg.sig) → Buf (Elt Bits) ℓ) : Prop :=
  True

def Pre_KernelDgIdeal (m : (ℓ : Loc Cert.KernelDgIdeal.nD Cert.KernelDgIdeal.τ Cert.KernelDgIdeal.sig) → Buf (Elt Ideal) ℓ) : Prop :=
  True

def Pre_ReferenceDgIdeal (m : (ℓ : Loc Cert.ReferenceDgIdeal.nD Cert.ReferenceDgIdeal.τ Cert.ReferenceDgIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1))
      ∧ r.2.sem = fun _ => 0)

def quiescent_KernelDw [hKernelDw : Cert.KernelDw.Facts] : Prop :=
  ∀ (m : (ℓ : Loc Cert.KernelDw.nD Cert.KernelDw.τ Cert.KernelDw.sig) → Buf (Elt Bits) ℓ) (g : Dev Cert.KernelDw.nD → PrngReg), Pre_KernelDw m →
    θ_run (Cert.KernelDw.defs (F := Bits)) (onTc (τ := Cert.KernelDw.τ) (Cert.KernelDw.main (F := Bits))) ⟨m, fun _ => 0, g⟩ (fun r => (∀ c : Dev Cert.KernelDw.nD,
      r.2.mem ((c.tc : Thread Cert.KernelDw.nD Cert.KernelDw.τ).loc Cert.KernelDw.main_arg0) = m ((c.tc : Thread Cert.KernelDw.nD Cert.KernelDw.τ).loc Cert.KernelDw.main_arg0)
      ∧ r.2.mem ((c.tc : Thread Cert.KernelDw.nD Cert.KernelDw.τ).loc Cert.KernelDw.main_arg1) = m ((c.tc : Thread Cert.KernelDw.nD Cert.KernelDw.τ).loc Cert.KernelDw.main_arg1))
      ∧ r.2.sem = fun _ => 0)

def quiescent_KernelDwIdeal [hKernelDwIdeal : Cert.KernelDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ r.2.sem = fun _ => 0)

def quiescent_ReferenceDwIdeal [hReferenceDwIdeal : Cert.ReferenceDwIdeal.Facts] : Prop :=
  ∀ (m : (ℓ : Loc Cert.ReferenceDwIdeal.nD Cert.ReferenceDwIdeal.τ Cert.ReferenceDwIdeal.sig) → Buf (Elt Ideal) ℓ) (g : Dev Cert.ReferenceDwIdeal.nD → PrngReg), Pre_ReferenceDwIdeal m →
    θ_run (Cert.ReferenceDwIdeal.defs (F := Ideal)) (onTc (τ := Cert.ReferenceDwIdeal.τ) (Cert.ReferenceDwIdeal.main (F := Ideal))) ⟨m, fun _ => 0, g⟩ (fun r => (∀ c : Dev Cert.ReferenceDwIdeal.nD,
      r.2.mem ((c.tc : Thread Cert.ReferenceDwIdeal.nD Cert.ReferenceDwIdeal.τ).loc Cert.ReferenceDwIdeal.main_arg0) = m ((c.tc : Thread Cert.ReferenceDwIdeal.nD Cert.ReferenceDwIdeal.τ).loc Cert.ReferenceDwIdeal.main_arg0)
      ∧ r.2.mem ((c.tc : Thread Cert.ReferenceDwIdeal.nD Cert.ReferenceDwIdeal.τ).loc Cert.ReferenceDwIdeal.main_arg1) = m ((c.tc : Thread Cert.ReferenceDwIdeal.nD Cert.ReferenceDwIdeal.τ).loc Cert.ReferenceDwIdeal.main_arg1))
      ∧ r.2.sem = fun _ => 0)

def quiescent_KernelDl [hKernelDl : Cert.KernelDl.Facts] : Prop :=
  ∀ (m : (ℓ : Loc Cert.KernelDl.nD Cert.KernelDl.τ Cert.KernelDl.sig) → Buf (Elt Bits) ℓ) (g : Dev Cert.KernelDl.nD → PrngReg), Pre_KernelDl m →
    θ_run (Cert.KernelDl.defs (F := Bits)) (onTc (τ := Cert.KernelDl.τ) (Cert.KernelDl.main (F := Bits))) ⟨m, fun _ => 0, g⟩ (fun r => (∀ c : Dev Cert.KernelDl.nD,
      r.2.mem ((c.tc : Thread Cert.KernelDl.nD Cert.KernelDl.τ).loc Cert.KernelDl.main_arg0) = m ((c.tc : Thread Cert.KernelDl.nD Cert.KernelDl.τ).loc Cert.KernelDl.main_arg0)
      ∧ r.2.mem ((c.tc : Thread Cert.KernelDl.nD Cert.KernelDl.τ).loc Cert.KernelDl.main_arg1) = m ((c.tc : Thread Cert.KernelDl.nD Cert.KernelDl.τ).loc Cert.KernelDl.main_arg1))
      ∧ r.2.sem = fun _ => 0)

def quiescent_KernelDlIdeal [hKernelDlIdeal : Cert.KernelDlIdeal.Facts] : Prop :=
  ∀ (m : (ℓ : Loc Cert.KernelDlIdeal.nD Cert.KernelDlIdeal.τ Cert.KernelDlIdeal.sig) → Buf (Elt Ideal) ℓ) (g : Dev Cert.KernelDlIdeal.nD → PrngReg), Pre_KernelDlIdeal m →
    θ_run (Cert.KernelDlIdeal.defs (F := Ideal)) (onTc (τ := Cert.KernelDlIdeal.τ) (Cert.KernelDlIdeal.main (F := Ideal))) ⟨m, fun _ => 0, g⟩ (fun r => (∀ c : Dev Cert.KernelDlIdeal.nD,
      r.2.mem ((c.tc : Thread Cert.KernelDlIdeal.nD Cert.KernelDlIdeal.τ).loc Cert.KernelDlIdeal.main_arg0) = m ((c.tc : Thread Cert.KernelDlIdeal.nD Cert.KernelDlIdeal.τ).loc Cert.KernelDlIdeal.main_arg0)
      ∧ r.2.mem ((c.tc : Thread Cert.KernelDlIdeal.nD Cert.KernelDlIdeal.τ).loc Cert.KernelDlIdeal.main_arg1) = m ((c.tc : Thread Cert.KernelDlIdeal.nD Cert.KernelDlIdeal.τ).loc Cert.KernelDlIdeal.main_arg1))
      ∧ r.2.sem = fun _ => 0)

def quiescent_ReferenceDlIdeal [hReferenceDlIdeal : Cert.ReferenceDlIdeal.Facts] : Prop :=
  ∀ (m : (ℓ : Loc Cert.ReferenceDlIdeal.nD Cert.ReferenceDlIdeal.τ Cert.ReferenceDlIdeal.sig) → Buf (Elt Ideal) ℓ) (g : Dev Cert.ReferenceDlIdeal.nD → PrngReg), Pre_ReferenceDlIdeal m →
    θ_run (Cert.ReferenceDlIdeal.defs (F := Ideal)) (onTc (τ := Cert.ReferenceDlIdeal.τ) (Cert.ReferenceDlIdeal.main (F := Ideal))) ⟨m, fun _ => 0, g⟩ (fun r => (∀ c : Dev Cert.ReferenceDlIdeal.nD,
      r.2.mem ((c.tc : Thread Cert.ReferenceDlIdeal.nD Cert.ReferenceDlIdeal.τ).loc Cert.ReferenceDlIdeal.main_arg0) = m ((c.tc : Thread Cert.ReferenceDlIdeal.nD Cert.ReferenceDlIdeal.τ).loc Cert.ReferenceDlIdeal.main_arg0)
      ∧ r.2.mem ((c.tc : Thread Cert.ReferenceDlIdeal.nD Cert.ReferenceDlIdeal.τ).loc Cert.ReferenceDlIdeal.main_arg1) = m ((c.tc : Thread Cert.ReferenceDlIdeal.nD Cert.ReferenceDlIdeal.τ).loc Cert.ReferenceDlIdeal.main_arg1))
      ∧ r.2.sem = fun _ => 0)

def quiescent_KernelPr [hKernelPr : Cert.KernelPr.Facts] : Prop :=
  ∀ (m : (ℓ : Loc Cert.KernelPr.nD Cert.KernelPr.τ Cert.KernelPr.sig) → Buf (Elt Bits) ℓ) (g : Dev Cert.KernelPr.nD → PrngReg), Pre_KernelPr m →
    θ_run (Cert.KernelPr.defs (F := Bits)) (onTc (τ := Cert.KernelPr.τ) (Cert.KernelPr.main (F := Bits))) ⟨m, fun _ => 0, g⟩ (fun r => (∀ c : Dev Cert.KernelPr.nD,
      r.2.mem ((c.tc : Thread Cert.KernelPr.nD Cert.KernelPr.τ).loc Cert.KernelPr.main_arg0) = m ((c.tc : Thread Cert.KernelPr.nD Cert.KernelPr.τ).loc Cert.KernelPr.main_arg0)
      ∧ r.2.mem ((c.tc : Thread Cert.KernelPr.nD Cert.KernelPr.τ).loc Cert.KernelPr.main_arg1) = m ((c.tc : Thread Cert.KernelPr.nD Cert.KernelPr.τ).loc Cert.KernelPr.main_arg1))
      ∧ r.2.sem = fun _ => 0)

def quiescent_KernelPrIdeal [hKernelPrIdeal : Cert.KernelPrIdeal.Facts] : Prop :=
  ∀ (m : (ℓ : Loc Cert.KernelPrIdeal.nD Cert.KernelPrIdeal.τ Cert.KernelPrIdeal.sig) → Buf (Elt Ideal) ℓ) (g : Dev Cert.KernelPrIdeal.nD → PrngReg), Pre_KernelPrIdeal m →
    θ_run (Cert.KernelPrIdeal.defs (F := Ideal)) (onTc (τ := Cert.KernelPrIdeal.τ) (Cert.KernelPrIdeal.main (F := Ideal))) ⟨m, fun _ => 0, g⟩ (fun r => (∀ c : Dev Cert.KernelPrIdeal.nD,
      r.2.mem ((c.tc : Thread Cert.KernelPrIdeal.nD Cert.KernelPrIdeal.τ).loc Cert.KernelPrIdeal.main_arg0) = m ((c.tc : Thread Cert.KernelPrIdeal.nD Cert.KernelPrIdeal.τ).loc Cert.KernelPrIdeal.main_arg0)
      ∧ r.2.mem ((c.tc : Thread Cert.KernelPrIdeal.nD Cert.KernelPrIdeal.τ).loc Cert.KernelPrIdeal.main_arg1) = m ((c.tc : Thread Cert.KernelPrIdeal.nD Cert.KernelPrIdeal.τ).loc Cert.KernelPrIdeal.main_arg1))
      ∧ r.2.sem = fun _ => 0)

def quiescent_ReferencePrIdeal [hReferencePrIdeal : Cert.ReferencePrIdeal.Facts] : Prop :=
  ∀ (m : (ℓ : Loc Cert.ReferencePrIdeal.nD Cert.ReferencePrIdeal.τ Cert.ReferencePrIdeal.sig) → Buf (Elt Ideal) ℓ) (g : Dev Cert.ReferencePrIdeal.nD → PrngReg), Pre_ReferencePrIdeal m →
    θ_run (Cert.ReferencePrIdeal.defs (F := Ideal)) (onTc (τ := Cert.ReferencePrIdeal.τ) (Cert.ReferencePrIdeal.main (F := Ideal))) ⟨m, fun _ => 0, g⟩ (fun r => (∀ c : Dev Cert.ReferencePrIdeal.nD,
      r.2.mem ((c.tc : Thread Cert.ReferencePrIdeal.nD Cert.ReferencePrIdeal.τ).loc Cert.ReferencePrIdeal.main_arg0) = m ((c.tc : Thread Cert.ReferencePrIdeal.nD Cert.ReferencePrIdeal.τ).loc Cert.ReferencePrIdeal.main_arg0)
      ∧ r.2.mem ((c.tc : Thread Cert.ReferencePrIdeal.nD Cert.ReferencePrIdeal.τ).loc Cert.ReferencePrIdeal.main_arg1) = m ((c.tc : Thread Cert.ReferencePrIdeal.nD Cert.ReferencePrIdeal.τ).loc Cert.ReferencePrIdeal.main_arg1))
      ∧ r.2.sem = fun _ => 0)

def quiescent_KernelDo [hKernelDo : Cert.KernelDo.Facts] : Prop :=
  ∀ (m : (ℓ : Loc Cert.KernelDo.nD Cert.KernelDo.τ Cert.KernelDo.sig) → Buf (Elt Bits) ℓ) (g : Dev Cert.KernelDo.nD → PrngReg), Pre_KernelDo m →
    θ_run (Cert.KernelDo.defs (F := Bits)) (onTc (τ := Cert.KernelDo.τ) (Cert.KernelDo.main (F := Bits))) ⟨m, fun _ => 0, g⟩ (fun r => (∀ c : Dev Cert.KernelDo.nD,
      r.2.mem ((c.tc : Thread Cert.KernelDo.nD Cert.KernelDo.τ).loc Cert.KernelDo.main_arg0) = m ((c.tc : Thread Cert.KernelDo.nD Cert.KernelDo.τ).loc Cert.KernelDo.main_arg0)
      ∧ r.2.mem ((c.tc : Thread Cert.KernelDo.nD Cert.KernelDo.τ).loc Cert.KernelDo.main_arg1) = m ((c.tc : Thread Cert.KernelDo.nD Cert.KernelDo.τ).loc Cert.KernelDo.main_arg1))
      ∧ r.2.sem = fun _ => 0)

def quiescent_KernelDoIdeal [hKernelDoIdeal : Cert.KernelDoIdeal.Facts] : Prop :=
  ∀ (m : (ℓ : Loc Cert.KernelDoIdeal.nD Cert.KernelDoIdeal.τ Cert.KernelDoIdeal.sig) → Buf (Elt Ideal) ℓ) (g : Dev Cert.KernelDoIdeal.nD → PrngReg), Pre_KernelDoIdeal m →
    θ_run (Cert.KernelDoIdeal.defs (F := Ideal)) (onTc (τ := Cert.KernelDoIdeal.τ) (Cert.KernelDoIdeal.main (F := Ideal))) ⟨m, fun _ => 0, g⟩ (fun r => (∀ c : Dev Cert.KernelDoIdeal.nD,
      r.2.mem ((c.tc : Thread Cert.KernelDoIdeal.nD Cert.KernelDoIdeal.τ).loc Cert.KernelDoIdeal.main_arg0) = m ((c.tc : Thread Cert.KernelDoIdeal.nD Cert.KernelDoIdeal.τ).loc Cert.KernelDoIdeal.main_arg0)
      ∧ r.2.mem ((c.tc : Thread Cert.KernelDoIdeal.nD Cert.KernelDoIdeal.τ).loc Cert.KernelDoIdeal.main_arg1) = m ((c.tc : Thread Cert.KernelDoIdeal.nD Cert.KernelDoIdeal.τ).loc Cert.KernelDoIdeal.main_arg1))
      ∧ r.2.sem = fun _ => 0)

def quiescent_ReferenceDoIdeal [hReferenceDoIdeal : Cert.ReferenceDoIdeal.Facts] : Prop :=
  ∀ (m : (ℓ : Loc Cert.ReferenceDoIdeal.nD Cert.ReferenceDoIdeal.τ Cert.ReferenceDoIdeal.sig) → Buf (Elt Ideal) ℓ) (g : Dev Cert.ReferenceDoIdeal.nD → PrngReg), Pre_ReferenceDoIdeal m →
    θ_run (Cert.ReferenceDoIdeal.defs (F := Ideal)) (onTc (τ := Cert.ReferenceDoIdeal.τ) (Cert.ReferenceDoIdeal.main (F := Ideal))) ⟨m, fun _ => 0, g⟩ (fun r => (∀ c : Dev Cert.ReferenceDoIdeal.nD,
      r.2.mem ((c.tc : Thread Cert.ReferenceDoIdeal.nD Cert.ReferenceDoIdeal.τ).loc Cert.ReferenceDoIdeal.main_arg0) = m ((c.tc : Thread Cert.ReferenceDoIdeal.nD Cert.ReferenceDoIdeal.τ).loc Cert.ReferenceDoIdeal.main_arg0)
      ∧ r.2.mem ((c.tc : Thread Cert.ReferenceDoIdeal.nD Cert.ReferenceDoIdeal.τ).loc Cert.ReferenceDoIdeal.main_arg1) = m ((c.tc : Thread Cert.ReferenceDoIdeal.nD Cert.ReferenceDoIdeal.τ).loc Cert.ReferenceDoIdeal.main_arg1))
      ∧ r.2.sem = fun _ => 0)

def quiescent_KernelUq [hKernelUq : Cert.KernelUq.Facts] : Prop :=
  ∀ (m : (ℓ : Loc Cert.KernelUq.nD Cert.KernelUq.τ Cert.KernelUq.sig) → Buf (Elt Bits) ℓ) (g : Dev Cert.KernelUq.nD → PrngReg), Pre_KernelUq m →
    θ_run (Cert.KernelUq.defs (F := Bits)) (onTc (τ := Cert.KernelUq.τ) (Cert.KernelUq.main (F := Bits))) ⟨m, fun _ => 0, g⟩ (fun r => (∀ c : Dev Cert.KernelUq.nD,
      r.2.mem ((c.tc : Thread Cert.KernelUq.nD Cert.KernelUq.τ).loc Cert.KernelUq.main_arg0) = m ((c.tc : Thread Cert.KernelUq.nD Cert.KernelUq.τ).loc Cert.KernelUq.main_arg0)
      ∧ r.2.mem ((c.tc : Thread Cert.KernelUq.nD Cert.KernelUq.τ).loc Cert.KernelUq.main_arg1) = m ((c.tc : Thread Cert.KernelUq.nD Cert.KernelUq.τ).loc Cert.KernelUq.main_arg1))
      ∧ r.2.sem = fun _ => 0)

def quiescent_KernelUqIdeal [hKernelUqIdeal : Cert.KernelUqIdeal.Facts] : Prop :=
  ∀ (m : (ℓ : Loc Cert.KernelUqIdeal.nD Cert.KernelUqIdeal.τ Cert.KernelUqIdeal.sig) → Buf (Elt Ideal) ℓ) (g : Dev Cert.KernelUqIdeal.nD → PrngReg), Pre_KernelUqIdeal m →
    θ_run (Cert.KernelUqIdeal.defs (F := Ideal)) (onTc (τ := Cert.KernelUqIdeal.τ) (Cert.KernelUqIdeal.main (F := Ideal))) ⟨m, fun _ => 0, g⟩ (fun r => (∀ c : Dev Cert.KernelUqIdeal.nD,
      r.2.mem ((c.tc : Thread Cert.KernelUqIdeal.nD Cert.KernelUqIdeal.τ).loc Cert.KernelUqIdeal.main_arg0) = m ((c.tc : Thread Cert.KernelUqIdeal.nD Cert.KernelUqIdeal.τ).loc Cert.KernelUqIdeal.main_arg0)
      ∧ r.2.mem ((c.tc : Thread Cert.KernelUqIdeal.nD Cert.KernelUqIdeal.τ).loc Cert.KernelUqIdeal.main_arg1) = m ((c.tc : Thread Cert.KernelUqIdeal.nD Cert.KernelUqIdeal.τ).loc Cert.KernelUqIdeal.main_arg1))
      ∧ r.2.sem = fun _ => 0)

def quiescent_ReferenceUqIdeal [hReferenceUqIdeal : Cert.ReferenceUqIdeal.Facts] : Prop :=
  ∀ (m : (ℓ : Loc Cert.ReferenceUqIdeal.nD Cert.ReferenceUqIdeal.τ Cert.ReferenceUqIdeal.sig) → Buf (Elt Ideal) ℓ) (g : Dev Cert.ReferenceUqIdeal.nD → PrngReg), Pre_ReferenceUqIdeal m →
    θ_run (Cert.ReferenceUqIdeal.defs (F := Ideal)) (onTc (τ := Cert.ReferenceUqIdeal.τ) (Cert.ReferenceUqIdeal.main (F := Ideal))) ⟨m, fun _ => 0, g⟩ (fun r => (∀ c : Dev Cert.ReferenceUqIdeal.nD,
      r.2.mem ((c.tc : Thread Cert.ReferenceUqIdeal.nD Cert.ReferenceUqIdeal.τ).loc Cert.ReferenceUqIdeal.main_arg0) = m ((c.tc : Thread Cert.ReferenceUqIdeal.nD Cert.ReferenceUqIdeal.τ).loc Cert.ReferenceUqIdeal.main_arg0)
      ∧ r.2.mem ((c.tc : Thread Cert.ReferenceUqIdeal.nD Cert.ReferenceUqIdeal.τ).loc Cert.ReferenceUqIdeal.main_arg1) = m ((c.tc : Thread Cert.ReferenceUqIdeal.nD Cert.ReferenceUqIdeal.τ).loc Cert.ReferenceUqIdeal.main_arg1))
      ∧ r.2.sem = fun _ => 0)

def quiescent_KernelUkv [hKernelUkv : Cert.KernelUkv.Facts] : Prop :=
  ∀ (m : (ℓ : Loc Cert.KernelUkv.nD Cert.KernelUkv.τ Cert.KernelUkv.sig) → Buf (Elt Bits) ℓ) (g : Dev Cert.KernelUkv.nD → PrngReg), Pre_KernelUkv m →
    θ_run (Cert.KernelUkv.defs (F := Bits)) (onTc (τ := Cert.KernelUkv.τ) (Cert.KernelUkv.main (F := Bits))) ⟨m, fun _ => 0, g⟩ (fun r => (∀ c : Dev Cert.KernelUkv.nD,
      r.2.mem ((c.tc : Thread Cert.KernelUkv.nD Cert.KernelUkv.τ).loc Cert.KernelUkv.main_arg0) = m ((c.tc : Thread Cert.KernelUkv.nD Cert.KernelUkv.τ).loc Cert.KernelUkv.main_arg0)
      ∧ r.2.mem ((c.tc : Thread Cert.KernelUkv.nD Cert.KernelUkv.τ).loc Cert.KernelUkv.main_arg1) = m ((c.tc : Thread Cert.KernelUkv.nD Cert.KernelUkv.τ).loc Cert.KernelUkv.main_arg1))
      ∧ r.2.sem = fun _ => 0)

def quiescent_KernelUkvIdeal [hKernelUkvIdeal : Cert.KernelUkvIdeal.Facts] : Prop :=
  ∀ (m : (ℓ : Loc Cert.KernelUkvIdeal.nD Cert.KernelUkvIdeal.τ Cert.KernelUkvIdeal.sig) → Buf (Elt Ideal) ℓ) (g : Dev Cert.KernelUkvIdeal.nD → PrngReg), Pre_KernelUkvIdeal m →
    θ_run (Cert.KernelUkvIdeal.defs (F := Ideal)) (onTc (τ := Cert.KernelUkvIdeal.τ) (Cert.KernelUkvIdeal.main (F := Ideal))) ⟨m, fun _ => 0, g⟩ (fun r => (∀ c : Dev Cert.KernelUkvIdeal.nD,
      r.2.mem ((c.tc : Thread Cert.KernelUkvIdeal.nD Cert.KernelUkvIdeal.τ).loc Cert.KernelUkvIdeal.main_arg0) = m ((c.tc : Thread Cert.KernelUkvIdeal.nD Cert.KernelUkvIdeal.τ).loc Cert.KernelUkvIdeal.main_arg0)
      ∧ r.2.mem ((c.tc : Thread Cert.KernelUkvIdeal.nD Cert.KernelUkvIdeal.τ).loc Cert.KernelUkvIdeal.main_arg1) = m ((c.tc : Thread Cert.KernelUkvIdeal.nD Cert.KernelUkvIdeal.τ).loc Cert.KernelUkvIdeal.main_arg1))
      ∧ r.2.sem = fun _ => 0)

def quiescent_ReferenceUkvIdeal [hReferenceUkvIdeal : Cert.ReferenceUkvIdeal.Facts] : Prop :=
  ∀ (m : (ℓ : Loc Cert.ReferenceUkvIdeal.nD Cert.ReferenceUkvIdeal.τ Cert.ReferenceUkvIdeal.sig) → Buf (Elt Ideal) ℓ) (g : Dev Cert.ReferenceUkvIdeal.nD → PrngReg), Pre_ReferenceUkvIdeal m →
    θ_run (Cert.ReferenceUkvIdeal.defs (F := Ideal)) (onTc (τ := Cert.ReferenceUkvIdeal.τ) (Cert.ReferenceUkvIdeal.main (F := Ideal))) ⟨m, fun _ => 0, g⟩ (fun r => (∀ c : Dev Cert.ReferenceUkvIdeal.nD,
      r.2.mem ((c.tc : Thread Cert.ReferenceUkvIdeal.nD Cert.ReferenceUkvIdeal.τ).loc Cert.ReferenceUkvIdeal.main_arg0) = m ((c.tc : Thread Cert.ReferenceUkvIdeal.nD Cert.ReferenceUkvIdeal.τ).loc Cert.ReferenceUkvIdeal.main_arg0)
      ∧ r.2.mem ((c.tc : Thread Cert.ReferenceUkvIdeal.nD Cert.ReferenceUkvIdeal.τ).loc Cert.ReferenceUkvIdeal.main_arg1) = m ((c.tc : Thread Cert.ReferenceUkvIdeal.nD Cert.ReferenceUkvIdeal.τ).loc Cert.ReferenceUkvIdeal.main_arg1))
      ∧ r.2.sem = fun _ => 0)

def quiescent_KernelQn [hKernelQn : Cert.KernelQn.Facts] : Prop :=
  ∀ (m : (ℓ : Loc Cert.KernelQn.nD Cert.KernelQn.τ Cert.KernelQn.sig) → Buf (Elt Bits) ℓ) (g : Dev Cert.KernelQn.nD → PrngReg), Pre_KernelQn m →
    θ_run (Cert.KernelQn.defs (F := Bits)) (onTc (τ := Cert.KernelQn.τ) (Cert.KernelQn.main (F := Bits))) ⟨m, fun _ => 0, g⟩ (fun r => (∀ c : Dev Cert.KernelQn.nD,
      r.2.mem ((c.tc : Thread Cert.KernelQn.nD Cert.KernelQn.τ).loc Cert.KernelQn.main_arg0) = m ((c.tc : Thread Cert.KernelQn.nD Cert.KernelQn.τ).loc Cert.KernelQn.main_arg0)
      ∧ r.2.mem ((c.tc : Thread Cert.KernelQn.nD Cert.KernelQn.τ).loc Cert.KernelQn.main_arg1) = m ((c.tc : Thread Cert.KernelQn.nD Cert.KernelQn.τ).loc Cert.KernelQn.main_arg1))
      ∧ r.2.sem = fun _ => 0)

def quiescent_KernelQnIdeal [hKernelQnIdeal : Cert.KernelQnIdeal.Facts] : Prop :=
  ∀ (m : (ℓ : Loc Cert.KernelQnIdeal.nD Cert.KernelQnIdeal.τ Cert.KernelQnIdeal.sig) → Buf (Elt Ideal) ℓ) (g : Dev Cert.KernelQnIdeal.nD → PrngReg), Pre_KernelQnIdeal m →
    θ_run (Cert.KernelQnIdeal.defs (F := Ideal)) (onTc (τ := Cert.KernelQnIdeal.τ) (Cert.KernelQnIdeal.main (F := Ideal))) ⟨m, fun _ => 0, g⟩ (fun r => (∀ c : Dev Cert.KernelQnIdeal.nD,
      r.2.mem ((c.tc : Thread Cert.KernelQnIdeal.nD Cert.KernelQnIdeal.τ).loc Cert.KernelQnIdeal.main_arg0) = m ((c.tc : Thread Cert.KernelQnIdeal.nD Cert.KernelQnIdeal.τ).loc Cert.KernelQnIdeal.main_arg0)
      ∧ r.2.mem ((c.tc : Thread Cert.KernelQnIdeal.nD Cert.KernelQnIdeal.τ).loc Cert.KernelQnIdeal.main_arg1) = m ((c.tc : Thread Cert.KernelQnIdeal.nD Cert.KernelQnIdeal.τ).loc Cert.KernelQnIdeal.main_arg1))
      ∧ r.2.sem = fun _ => 0)

def quiescent_ReferenceQnIdeal [hReferenceQnIdeal : Cert.ReferenceQnIdeal.Facts] : Prop :=
  ∀ (m : (ℓ : Loc Cert.ReferenceQnIdeal.nD Cert.ReferenceQnIdeal.τ Cert.ReferenceQnIdeal.sig) → Buf (Elt Ideal) ℓ) (g : Dev Cert.ReferenceQnIdeal.nD → PrngReg), Pre_ReferenceQnIdeal m →
    θ_run (Cert.ReferenceQnIdeal.defs (F := Ideal)) (onTc (τ := Cert.ReferenceQnIdeal.τ) (Cert.ReferenceQnIdeal.main (F := Ideal))) ⟨m, fun _ => 0, g⟩ (fun r => (∀ c : Dev Cert.ReferenceQnIdeal.nD,
      r.2.mem ((c.tc : Thread Cert.ReferenceQnIdeal.nD Cert.ReferenceQnIdeal.τ).loc Cert.ReferenceQnIdeal.main_arg0) = m ((c.tc : Thread Cert.ReferenceQnIdeal.nD Cert.ReferenceQnIdeal.τ).loc Cert.ReferenceQnIdeal.main_arg0)
      ∧ r.2.mem ((c.tc : Thread Cert.ReferenceQnIdeal.nD Cert.ReferenceQnIdeal.τ).loc Cert.ReferenceQnIdeal.main_arg1) = m ((c.tc : Thread Cert.ReferenceQnIdeal.nD Cert.ReferenceQnIdeal.τ).loc Cert.ReferenceQnIdeal.main_arg1))
      ∧ r.2.sem = fun _ => 0)

def quiescent_KernelKvn [hKernelKvn : Cert.KernelKvn.Facts] : Prop :=
  ∀ (m : (ℓ : Loc Cert.KernelKvn.nD Cert.KernelKvn.τ Cert.KernelKvn.sig) → Buf (Elt Bits) ℓ) (g : Dev Cert.KernelKvn.nD → PrngReg), Pre_KernelKvn m →
    θ_run (Cert.KernelKvn.defs (F := Bits)) (onTc (τ := Cert.KernelKvn.τ) (Cert.KernelKvn.main (F := Bits))) ⟨m, fun _ => 0, g⟩ (fun r => (∀ c : Dev Cert.KernelKvn.nD,
      r.2.mem ((c.tc : Thread Cert.KernelKvn.nD Cert.KernelKvn.τ).loc Cert.KernelKvn.main_arg0) = m ((c.tc : Thread Cert.KernelKvn.nD Cert.KernelKvn.τ).loc Cert.KernelKvn.main_arg0)
      ∧ r.2.mem ((c.tc : Thread Cert.KernelKvn.nD Cert.KernelKvn.τ).loc Cert.KernelKvn.main_arg1) = m ((c.tc : Thread Cert.KernelKvn.nD Cert.KernelKvn.τ).loc Cert.KernelKvn.main_arg1))
      ∧ r.2.sem = fun _ => 0)

def quiescent_KernelKvnIdeal [hKernelKvnIdeal : Cert.KernelKvnIdeal.Facts] : Prop :=
  ∀ (m : (ℓ : Loc Cert.KernelKvnIdeal.nD Cert.KernelKvnIdeal.τ Cert.KernelKvnIdeal.sig) → Buf (Elt Ideal) ℓ) (g : Dev Cert.KernelKvnIdeal.nD → PrngReg), Pre_KernelKvnIdeal m →
    θ_run (Cert.KernelKvnIdeal.defs (F := Ideal)) (onTc (τ := Cert.KernelKvnIdeal.τ) (Cert.KernelKvnIdeal.main (F := Ideal))) ⟨m, fun _ => 0, g⟩ (fun r => (∀ c : Dev Cert.KernelKvnIdeal.nD,
      r.2.mem ((c.tc : Thread Cert.KernelKvnIdeal.nD Cert.KernelKvnIdeal.τ).loc Cert.KernelKvnIdeal.main_arg0) = m ((c.tc : Thread Cert.KernelKvnIdeal.nD Cert.KernelKvnIdeal.τ).loc Cert.KernelKvnIdeal.main_arg0)
      ∧ r.2.mem ((c.tc : Thread Cert.KernelKvnIdeal.nD Cert.KernelKvnIdeal.τ).loc Cert.KernelKvnIdeal.main_arg1) = m ((c.tc : Thread Cert.KernelKvnIdeal.nD Cert.KernelKvnIdeal.τ).loc Cert.KernelKvnIdeal.main_arg1))
      ∧ r.2.sem = fun _ => 0)

def quiescent_ReferenceKvnIdeal [hReferenceKvnIdeal : Cert.ReferenceKvnIdeal.Facts] : Prop :=
  ∀ (m : (ℓ : Loc Cert.ReferenceKvnIdeal.nD Cert.ReferenceKvnIdeal.τ Cert.ReferenceKvnIdeal.sig) → Buf (Elt Ideal) ℓ) (g : Dev Cert.ReferenceKvnIdeal.nD → PrngReg), Pre_ReferenceKvnIdeal m →
    θ_run (Cert.ReferenceKvnIdeal.defs (F := Ideal)) (onTc (τ := Cert.ReferenceKvnIdeal.τ) (Cert.ReferenceKvnIdeal.main (F := Ideal))) ⟨m, fun _ => 0, g⟩ (fun r => (∀ c : Dev Cert.ReferenceKvnIdeal.nD,
      r.2.mem ((c.tc : Thread Cert.ReferenceKvnIdeal.nD Cert.ReferenceKvnIdeal.τ).loc Cert.ReferenceKvnIdeal.main_arg0) = m ((c.tc : Thread Cert.ReferenceKvnIdeal.nD Cert.ReferenceKvnIdeal.τ).loc Cert.ReferenceKvnIdeal.main_arg0)
      ∧ r.2.mem ((c.tc : Thread Cert.ReferenceKvnIdeal.nD Cert.ReferenceKvnIdeal.τ).loc Cert.ReferenceKvnIdeal.main_arg1) = m ((c.tc : Thread Cert.ReferenceKvnIdeal.nD Cert.ReferenceKvnIdeal.τ).loc Cert.ReferenceKvnIdeal.main_arg1))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1))
      ∧ r.2.sem = fun _ => 0)

def quiescent_KernelDg [hKernelDg : Cert.KernelDg.Facts] : Prop :=
  ∀ (m : (ℓ : Loc Cert.KernelDg.nD Cert.KernelDg.τ Cert.KernelDg.sig) → Buf (Elt Bits) ℓ) (g : Dev Cert.KernelDg.nD → PrngReg), Pre_KernelDg m →
    θ_run (Cert.KernelDg.defs (F := Bits)) (onTc (τ := Cert.KernelDg.τ) (Cert.KernelDg.main (F := Bits))) ⟨m, fun _ => 0, g⟩ (fun r => (∀ c : Dev Cert.KernelDg.nD,
      r.2.mem ((c.tc : Thread Cert.KernelDg.nD Cert.KernelDg.τ).loc Cert.KernelDg.main_arg0) = m ((c.tc : Thread Cert.KernelDg.nD Cert.KernelDg.τ).loc Cert.KernelDg.main_arg0)
      ∧ r.2.mem ((c.tc : Thread Cert.KernelDg.nD Cert.KernelDg.τ).loc Cert.KernelDg.main_arg1) = m ((c.tc : Thread Cert.KernelDg.nD Cert.KernelDg.τ).loc Cert.KernelDg.main_arg1)
      ∧ r.2.mem ((c.tc : Thread Cert.KernelDg.nD Cert.KernelDg.τ).loc Cert.KernelDg.main_arg2) = m ((c.tc : Thread Cert.KernelDg.nD Cert.KernelDg.τ).loc Cert.KernelDg.main_arg2)
      ∧ r.2.mem ((c.tc : Thread Cert.KernelDg.nD Cert.KernelDg.τ).loc Cert.KernelDg.main_arg3) = m ((c.tc : Thread Cert.KernelDg.nD Cert.KernelDg.τ).loc Cert.KernelDg.main_arg3))
      ∧ r.2.sem = fun _ => 0)

def quiescent_KernelDgIdeal [hKernelDgIdeal : Cert.KernelDgIdeal.Facts] : Prop :=
  ∀ (m : (ℓ : Loc Cert.KernelDgIdeal.nD Cert.KernelDgIdeal.τ Cert.KernelDgIdeal.sig) → Buf (Elt Ideal) ℓ) (g : Dev Cert.KernelDgIdeal.nD → PrngReg), Pre_KernelDgIdeal m →
    θ_run (Cert.KernelDgIdeal.defs (F := Ideal)) (onTc (τ := Cert.KernelDgIdeal.τ) (Cert.KernelDgIdeal.main (F := Ideal))) ⟨m, fun _ => 0, g⟩ (fun r => (∀ c : Dev Cert.KernelDgIdeal.nD,
      r.2.mem ((c.tc : Thread Cert.KernelDgIdeal.nD Cert.KernelDgIdeal.τ).loc Cert.KernelDgIdeal.main_arg0) = m ((c.tc : Thread Cert.KernelDgIdeal.nD Cert.KernelDgIdeal.τ).loc Cert.KernelDgIdeal.main_arg0)
      ∧ r.2.mem ((c.tc : Thread Cert.KernelDgIdeal.nD Cert.KernelDgIdeal.τ).loc Cert.KernelDgIdeal.main_arg1) = m ((c.tc : Thread Cert.KernelDgIdeal.nD Cert.KernelDgIdeal.τ).loc Cert.KernelDgIdeal.main_arg1)
      ∧ r.2.mem ((c.tc : Thread Cert.KernelDgIdeal.nD Cert.KernelDgIdeal.τ).loc Cert.KernelDgIdeal.main_arg2) = m ((c.tc : Thread Cert.KernelDgIdeal.nD Cert.KernelDgIdeal.τ).loc Cert.KernelDgIdeal.main_arg2)
      ∧ r.2.mem ((c.tc : Thread Cert.KernelDgIdeal.nD Cert.KernelDgIdeal.τ).loc Cert.KernelDgIdeal.main_arg3) = m ((c.tc : Thread Cert.KernelDgIdeal.nD Cert.KernelDgIdeal.τ).loc Cert.KernelDgIdeal.main_arg3))
      ∧ r.2.sem = fun _ => 0)

def quiescent_ReferenceDgIdeal [hReferenceDgIdeal : Cert.ReferenceDgIdeal.Facts] : Prop :=
  ∀ (m : (ℓ : Loc Cert.ReferenceDgIdeal.nD Cert.ReferenceDgIdeal.τ Cert.ReferenceDgIdeal.sig) → Buf (Elt Ideal) ℓ) (g : Dev Cert.ReferenceDgIdeal.nD → PrngReg), Pre_ReferenceDgIdeal m →
    θ_run (Cert.ReferenceDgIdeal.defs (F := Ideal)) (onTc (τ := Cert.ReferenceDgIdeal.τ) (Cert.ReferenceDgIdeal.main (F := Ideal))) ⟨m, fun _ => 0, g⟩ (fun r => (∀ c : Dev Cert.ReferenceDgIdeal.nD,
      r.2.mem ((c.tc : Thread Cert.ReferenceDgIdeal.nD Cert.ReferenceDgIdeal.τ).loc Cert.ReferenceDgIdeal.main_arg0) = m ((c.tc : Thread Cert.ReferenceDgIdeal.nD Cert.ReferenceDgIdeal.τ).loc Cert.ReferenceDgIdeal.main_arg0)
      ∧ r.2.mem ((c.tc : Thread Cert.ReferenceDgIdeal.nD Cert.ReferenceDgIdeal.τ).loc Cert.ReferenceDgIdeal.main_arg1) = m ((c.tc : Thread Cert.ReferenceDgIdeal.nD Cert.ReferenceDgIdeal.τ).loc Cert.ReferenceDgIdeal.main_arg1)
      ∧ r.2.mem ((c.tc : Thread Cert.ReferenceDgIdeal.nD Cert.ReferenceDgIdeal.τ).loc Cert.ReferenceDgIdeal.main_arg2) = m ((c.tc : Thread Cert.ReferenceDgIdeal.nD Cert.ReferenceDgIdeal.τ).loc Cert.ReferenceDgIdeal.main_arg2)
      ∧ r.2.mem ((c.tc : Thread Cert.ReferenceDgIdeal.nD Cert.ReferenceDgIdeal.τ).loc Cert.ReferenceDgIdeal.main_arg3) = m ((c.tc : Thread Cert.ReferenceDgIdeal.nD Cert.ReferenceDgIdeal.τ).loc Cert.ReferenceDgIdeal.main_arg3))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelDh_KernelDhIdeal : Prop :=
  True

def algebraic_KernelDhIdeal_ReferenceDhIdeal [hKernelDhIdeal : Cert.KernelDhIdeal.Facts] [hReferenceDhIdeal : Cert.ReferenceDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)) →
    ∃ (v0 : (c : Dev Cert.KernelDhIdeal.nD) → Buf (Elt Ideal) ((c.tc : Thread Cert.KernelDhIdeal.nD Cert.KernelDhIdeal.τ).loc Cert.KernelDhIdeal.main_v0)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v0) = v0 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v4) = v0 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1))

def preserves_KernelDw_KernelDwIdeal : Prop :=
  True

def algebraic_KernelDwIdeal_ReferenceDwIdeal [hKernelDwIdeal : Cert.KernelDwIdeal.Facts] [hReferenceDwIdeal : Cert.ReferenceDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg)
    (m' : (ℓ : Loc Cert.ReferenceDwIdeal.nD Cert.ReferenceDwIdeal.τ Cert.ReferenceDwIdeal.sig) → Buf (Elt Ideal) ℓ) (g' : Dev Cert.ReferenceDwIdeal.nD → PrngReg), Pre_KernelDwIdeal m →
    (∀ c : Dev Cert.KernelDwIdeal.nD,
      m' ((c.tc : Thread Cert.ReferenceDwIdeal.nD Cert.ReferenceDwIdeal.τ).loc Cert.ReferenceDwIdeal.main_arg0) = m ((c.tc : Thread Cert.KernelDwIdeal.nD Cert.KernelDwIdeal.τ).loc Cert.KernelDwIdeal.main_arg0)
      ∧ m' ((c.tc : Thread Cert.ReferenceDwIdeal.nD Cert.ReferenceDwIdeal.τ).loc Cert.ReferenceDwIdeal.main_arg1) = m ((c.tc : Thread Cert.KernelDwIdeal.nD Cert.KernelDwIdeal.τ).loc Cert.KernelDwIdeal.main_arg1)) →
    ∃ (v0 : (c : Dev Cert.KernelDwIdeal.nD) → Buf (Elt Ideal) ((c.tc : Thread Cert.KernelDwIdeal.nD Cert.KernelDwIdeal.τ).loc Cert.KernelDwIdeal.main_v0)),
      θ_run (Cert.KernelDwIdeal.defs (F := Ideal)) (onTc (τ := Cert.KernelDwIdeal.τ) (Cert.KernelDwIdeal.main (F := Ideal))) ⟨m, fun _ => 0, g⟩ (fun r => ∀ c : Dev Cert.KernelDwIdeal.nD,
          r.2.mem ((c.tc : Thread Cert.KernelDwIdeal.nD Cert.KernelDwIdeal.τ).loc Cert.KernelDwIdeal.main_v0) = v0 c
          ∧ r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
          ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ θ_run (Cert.ReferenceDwIdeal.defs (F := Ideal)) (onTc (τ := Cert.ReferenceDwIdeal.τ) (Cert.ReferenceDwIdeal.main (F := Ideal))) ⟨m', fun _ => 0, g'⟩ (fun r => ∀ c : Dev Cert.ReferenceDwIdeal.nD,
          r.2.mem ((c.tc : Thread Cert.ReferenceDwIdeal.nD Cert.ReferenceDwIdeal.τ).loc Cert.ReferenceDwIdeal.main_v8) = v0 c
          ∧ r.2.mem ((c.tc : Thread Cert.ReferenceDwIdeal.nD Cert.ReferenceDwIdeal.τ).loc Cert.ReferenceDwIdeal.main_arg0) = m' ((c.tc : Thread Cert.ReferenceDwIdeal.nD Cert.ReferenceDwIdeal.τ).loc Cert.ReferenceDwIdeal.main_arg0)
          ∧ r.2.mem ((c.tc : Thread Cert.ReferenceDwIdeal.nD Cert.ReferenceDwIdeal.τ).loc Cert.ReferenceDwIdeal.main_arg1) = m' ((c.tc : Thread Cert.ReferenceDwIdeal.nD Cert.ReferenceDwIdeal.τ).loc Cert.ReferenceDwIdeal.main_arg1))

def preserves_KernelDl_KernelDlIdeal : Prop :=
  True

def algebraic_KernelDlIdeal_ReferenceDlIdeal [hKernelDlIdeal : Cert.KernelDlIdeal.Facts] [hReferenceDlIdeal : Cert.ReferenceDlIdeal.Facts] : Prop :=
  ∀ (m : (ℓ : Loc Cert.KernelDlIdeal.nD Cert.KernelDlIdeal.τ Cert.KernelDlIdeal.sig) → Buf (Elt Ideal) ℓ) (g : Dev Cert.KernelDlIdeal.nD → PrngReg)
    (m' : (ℓ : Loc Cert.ReferenceDlIdeal.nD Cert.ReferenceDlIdeal.τ Cert.ReferenceDlIdeal.sig) → Buf (Elt Ideal) ℓ) (g' : Dev Cert.ReferenceDlIdeal.nD → PrngReg), Pre_KernelDlIdeal m →
    (∀ c : Dev Cert.KernelDlIdeal.nD,
      m' ((c.tc : Thread Cert.ReferenceDlIdeal.nD Cert.ReferenceDlIdeal.τ).loc Cert.ReferenceDlIdeal.main_arg0) = m ((c.tc : Thread Cert.KernelDlIdeal.nD Cert.KernelDlIdeal.τ).loc Cert.KernelDlIdeal.main_arg0)
      ∧ m' ((c.tc : Thread Cert.ReferenceDlIdeal.nD Cert.ReferenceDlIdeal.τ).loc Cert.ReferenceDlIdeal.main_arg1) = m ((c.tc : Thread Cert.KernelDlIdeal.nD Cert.KernelDlIdeal.τ).loc Cert.KernelDlIdeal.main_arg1)) →
    ∃ (v0 : (c : Dev Cert.KernelDlIdeal.nD) → Buf (Elt Ideal) ((c.tc : Thread Cert.KernelDlIdeal.nD Cert.KernelDlIdeal.τ).loc Cert.KernelDlIdeal.main_v0)),
      θ_run (Cert.KernelDlIdeal.defs (F := Ideal)) (onTc (τ := Cert.KernelDlIdeal.τ) (Cert.KernelDlIdeal.main (F := Ideal))) ⟨m, fun _ => 0, g⟩ (fun r => ∀ c : Dev Cert.KernelDlIdeal.nD,
          r.2.mem ((c.tc : Thread Cert.KernelDlIdeal.nD Cert.KernelDlIdeal.τ).loc Cert.KernelDlIdeal.main_v0) = v0 c
          ∧ r.2.mem ((c.tc : Thread Cert.KernelDlIdeal.nD Cert.KernelDlIdeal.τ).loc Cert.KernelDlIdeal.main_arg0) = m ((c.tc : Thread Cert.KernelDlIdeal.nD Cert.KernelDlIdeal.τ).loc Cert.KernelDlIdeal.main_arg0)
          ∧ r.2.mem ((c.tc : Thread Cert.KernelDlIdeal.nD Cert.KernelDlIdeal.τ).loc Cert.KernelDlIdeal.main_arg1) = m ((c.tc : Thread Cert.KernelDlIdeal.nD Cert.KernelDlIdeal.τ).loc Cert.KernelDlIdeal.main_arg1))
      ∧ θ_run (Cert.ReferenceDlIdeal.defs (F := Ideal)) (onTc (τ := Cert.ReferenceDlIdeal.τ) (Cert.ReferenceDlIdeal.main (F := Ideal))) ⟨m', fun _ => 0, g'⟩ (fun r => ∀ c : Dev Cert.ReferenceDlIdeal.nD,
          r.2.mem ((c.tc : Thread Cert.ReferenceDlIdeal.nD Cert.ReferenceDlIdeal.τ).loc Cert.ReferenceDlIdeal.main_v8) = v0 c
          ∧ r.2.mem ((c.tc : Thread Cert.ReferenceDlIdeal.nD Cert.ReferenceDlIdeal.τ).loc Cert.ReferenceDlIdeal.main_arg0) = m' ((c.tc : Thread Cert.ReferenceDlIdeal.nD Cert.ReferenceDlIdeal.τ).loc Cert.ReferenceDlIdeal.main_arg0)
          ∧ r.2.mem ((c.tc : Thread Cert.ReferenceDlIdeal.nD Cert.ReferenceDlIdeal.τ).loc Cert.ReferenceDlIdeal.main_arg1) = m' ((c.tc : Thread Cert.ReferenceDlIdeal.nD Cert.ReferenceDlIdeal.τ).loc Cert.ReferenceDlIdeal.main_arg1))

def preserves_KernelPr_KernelPrIdeal : Prop :=
  True

def algebraic_KernelPrIdeal_ReferencePrIdeal [hKernelPrIdeal : Cert.KernelPrIdeal.Facts] [hReferencePrIdeal : Cert.ReferencePrIdeal.Facts] : Prop :=
  ∀ (m : (ℓ : Loc Cert.KernelPrIdeal.nD Cert.KernelPrIdeal.τ Cert.KernelPrIdeal.sig) → Buf (Elt Ideal) ℓ) (g : Dev Cert.KernelPrIdeal.nD → PrngReg)
    (m' : (ℓ : Loc Cert.ReferencePrIdeal.nD Cert.ReferencePrIdeal.τ Cert.ReferencePrIdeal.sig) → Buf (Elt Ideal) ℓ) (g' : Dev Cert.ReferencePrIdeal.nD → PrngReg), Pre_KernelPrIdeal m →
    (∀ c : Dev Cert.KernelPrIdeal.nD,
      m' ((c.tc : Thread Cert.ReferencePrIdeal.nD Cert.ReferencePrIdeal.τ).loc Cert.ReferencePrIdeal.main_arg0) = m ((c.tc : Thread Cert.KernelPrIdeal.nD Cert.KernelPrIdeal.τ).loc Cert.KernelPrIdeal.main_arg0)
      ∧ m' ((c.tc : Thread Cert.ReferencePrIdeal.nD Cert.ReferencePrIdeal.τ).loc Cert.ReferencePrIdeal.main_arg1) = m ((c.tc : Thread Cert.KernelPrIdeal.nD Cert.KernelPrIdeal.τ).loc Cert.KernelPrIdeal.main_arg1)) →
    ∃ (v0 : (c : Dev Cert.KernelPrIdeal.nD) → Buf (Elt Ideal) ((c.tc : Thread Cert.KernelPrIdeal.nD Cert.KernelPrIdeal.τ).loc Cert.KernelPrIdeal.main_v0_0)) (v1 : (c : Dev Cert.KernelPrIdeal.nD) → Buf (Elt Ideal) ((c.tc : Thread Cert.KernelPrIdeal.nD Cert.KernelPrIdeal.τ).loc Cert.KernelPrIdeal.main_v0_1)),
      θ_run (Cert.KernelPrIdeal.defs (F := Ideal)) (onTc (τ := Cert.KernelPrIdeal.τ) (Cert.KernelPrIdeal.main (F := Ideal))) ⟨m, fun _ => 0, g⟩ (fun r => ∀ c : Dev Cert.KernelPrIdeal.nD,
          r.2.mem ((c.tc : Thread Cert.KernelPrIdeal.nD Cert.KernelPrIdeal.τ).loc Cert.KernelPrIdeal.main_v0_0) = v0 c
          ∧ r.2.mem ((c.tc : Thread Cert.KernelPrIdeal.nD Cert.KernelPrIdeal.τ).loc Cert.KernelPrIdeal.main_v0_1) = v1 c
          ∧ r.2.mem ((c.tc : Thread Cert.KernelPrIdeal.nD Cert.KernelPrIdeal.τ).loc Cert.KernelPrIdeal.main_arg0) = m ((c.tc : Thread Cert.KernelPrIdeal.nD Cert.KernelPrIdeal.τ).loc Cert.KernelPrIdeal.main_arg0)
          ∧ r.2.mem ((c.tc : Thread Cert.KernelPrIdeal.nD Cert.KernelPrIdeal.τ).loc Cert.KernelPrIdeal.main_arg1) = m ((c.tc : Thread Cert.KernelPrIdeal.nD Cert.KernelPrIdeal.τ).loc Cert.KernelPrIdeal.main_arg1))
      ∧ θ_run (Cert.ReferencePrIdeal.defs (F := Ideal)) (onTc (τ := Cert.ReferencePrIdeal.τ) (Cert.ReferencePrIdeal.main (F := Ideal))) ⟨m', fun _ => 0, g'⟩ (fun r => ∀ c : Dev Cert.ReferencePrIdeal.nD,
          r.2.mem ((c.tc : Thread Cert.ReferencePrIdeal.nD Cert.ReferencePrIdeal.τ).loc Cert.ReferencePrIdeal.main_v3) = v0 c
          ∧ r.2.mem ((c.tc : Thread Cert.ReferencePrIdeal.nD Cert.ReferencePrIdeal.τ).loc Cert.ReferencePrIdeal.main_v4) = v1 c
          ∧ r.2.mem ((c.tc : Thread Cert.ReferencePrIdeal.nD Cert.ReferencePrIdeal.τ).loc Cert.ReferencePrIdeal.main_arg0) = m' ((c.tc : Thread Cert.ReferencePrIdeal.nD Cert.ReferencePrIdeal.τ).loc Cert.ReferencePrIdeal.main_arg0)
          ∧ r.2.mem ((c.tc : Thread Cert.ReferencePrIdeal.nD Cert.ReferencePrIdeal.τ).loc Cert.ReferencePrIdeal.main_arg1) = m' ((c.tc : Thread Cert.ReferencePrIdeal.nD Cert.ReferencePrIdeal.τ).loc Cert.ReferencePrIdeal.main_arg1))

def preserves_KernelDo_KernelDoIdeal : Prop :=
  True

def algebraic_KernelDoIdeal_ReferenceDoIdeal [hKernelDoIdeal : Cert.KernelDoIdeal.Facts] [hReferenceDoIdeal : Cert.ReferenceDoIdeal.Facts] : Prop :=
  ∀ (m : (ℓ : Loc Cert.KernelDoIdeal.nD Cert.KernelDoIdeal.τ Cert.KernelDoIdeal.sig) → Buf (Elt Ideal) ℓ) (g : Dev Cert.KernelDoIdeal.nD → PrngReg)
    (m' : (ℓ : Loc Cert.ReferenceDoIdeal.nD Cert.ReferenceDoIdeal.τ Cert.ReferenceDoIdeal.sig) → Buf (Elt Ideal) ℓ) (g' : Dev Cert.ReferenceDoIdeal.nD → PrngReg), Pre_KernelDoIdeal m →
    (∀ c : Dev Cert.KernelDoIdeal.nD,
      m' ((c.tc : Thread Cert.ReferenceDoIdeal.nD Cert.ReferenceDoIdeal.τ).loc Cert.ReferenceDoIdeal.main_arg0) = m ((c.tc : Thread Cert.KernelDoIdeal.nD Cert.KernelDoIdeal.τ).loc Cert.KernelDoIdeal.main_arg0)
      ∧ m' ((c.tc : Thread Cert.ReferenceDoIdeal.nD Cert.ReferenceDoIdeal.τ).loc Cert.ReferenceDoIdeal.main_arg1) = m ((c.tc : Thread Cert.KernelDoIdeal.nD Cert.KernelDoIdeal.τ).loc Cert.KernelDoIdeal.main_arg1)) →
    ∃ (v0 : (c : Dev Cert.KernelDoIdeal.nD) → Buf (Elt Ideal) ((c.tc : Thread Cert.KernelDoIdeal.nD Cert.KernelDoIdeal.τ).loc Cert.KernelDoIdeal.main_v0)),
      θ_run (Cert.KernelDoIdeal.defs (F := Ideal)) (onTc (τ := Cert.KernelDoIdeal.τ) (Cert.KernelDoIdeal.main (F := Ideal))) ⟨m, fun _ => 0, g⟩ (fun r => ∀ c : Dev Cert.KernelDoIdeal.nD,
          r.2.mem ((c.tc : Thread Cert.KernelDoIdeal.nD Cert.KernelDoIdeal.τ).loc Cert.KernelDoIdeal.main_v0) = v0 c
          ∧ r.2.mem ((c.tc : Thread Cert.KernelDoIdeal.nD Cert.KernelDoIdeal.τ).loc Cert.KernelDoIdeal.main_arg0) = m ((c.tc : Thread Cert.KernelDoIdeal.nD Cert.KernelDoIdeal.τ).loc Cert.KernelDoIdeal.main_arg0)
          ∧ r.2.mem ((c.tc : Thread Cert.KernelDoIdeal.nD Cert.KernelDoIdeal.τ).loc Cert.KernelDoIdeal.main_arg1) = m ((c.tc : Thread Cert.KernelDoIdeal.nD Cert.KernelDoIdeal.τ).loc Cert.KernelDoIdeal.main_arg1))
      ∧ θ_run (Cert.ReferenceDoIdeal.defs (F := Ideal)) (onTc (τ := Cert.ReferenceDoIdeal.τ) (Cert.ReferenceDoIdeal.main (F := Ideal))) ⟨m', fun _ => 0, g'⟩ (fun r => ∀ c : Dev Cert.ReferenceDoIdeal.nD,
          r.2.mem ((c.tc : Thread Cert.ReferenceDoIdeal.nD Cert.ReferenceDoIdeal.τ).loc Cert.ReferenceDoIdeal.main_v7) = v0 c
          ∧ r.2.mem ((c.tc : Thread Cert.ReferenceDoIdeal.nD Cert.ReferenceDoIdeal.τ).loc Cert.ReferenceDoIdeal.main_arg0) = m' ((c.tc : Thread Cert.ReferenceDoIdeal.nD Cert.ReferenceDoIdeal.τ).loc Cert.ReferenceDoIdeal.main_arg0)
          ∧ r.2.mem ((c.tc : Thread Cert.ReferenceDoIdeal.nD Cert.ReferenceDoIdeal.τ).loc Cert.ReferenceDoIdeal.main_arg1) = m' ((c.tc : Thread Cert.ReferenceDoIdeal.nD Cert.ReferenceDoIdeal.τ).loc Cert.ReferenceDoIdeal.main_arg1))

def preserves_KernelUq_KernelUqIdeal : Prop :=
  True

def algebraic_KernelUqIdeal_ReferenceUqIdeal [hKernelUqIdeal : Cert.KernelUqIdeal.Facts] [hReferenceUqIdeal : Cert.ReferenceUqIdeal.Facts] : Prop :=
  ∀ (m : (ℓ : Loc Cert.KernelUqIdeal.nD Cert.KernelUqIdeal.τ Cert.KernelUqIdeal.sig) → Buf (Elt Ideal) ℓ) (g : Dev Cert.KernelUqIdeal.nD → PrngReg)
    (m' : (ℓ : Loc Cert.ReferenceUqIdeal.nD Cert.ReferenceUqIdeal.τ Cert.ReferenceUqIdeal.sig) → Buf (Elt Ideal) ℓ) (g' : Dev Cert.ReferenceUqIdeal.nD → PrngReg), Pre_KernelUqIdeal m →
    (∀ c : Dev Cert.KernelUqIdeal.nD,
      m' ((c.tc : Thread Cert.ReferenceUqIdeal.nD Cert.ReferenceUqIdeal.τ).loc Cert.ReferenceUqIdeal.main_arg0) = m ((c.tc : Thread Cert.KernelUqIdeal.nD Cert.KernelUqIdeal.τ).loc Cert.KernelUqIdeal.main_arg0)
      ∧ m' ((c.tc : Thread Cert.ReferenceUqIdeal.nD Cert.ReferenceUqIdeal.τ).loc Cert.ReferenceUqIdeal.main_arg1) = m ((c.tc : Thread Cert.KernelUqIdeal.nD Cert.KernelUqIdeal.τ).loc Cert.KernelUqIdeal.main_arg1)) →
    ∃ (v0 : (c : Dev Cert.KernelUqIdeal.nD) → Buf (Elt Ideal) ((c.tc : Thread Cert.KernelUqIdeal.nD Cert.KernelUqIdeal.τ).loc Cert.KernelUqIdeal.main_v0)),
      θ_run (Cert.KernelUqIdeal.defs (F := Ideal)) (onTc (τ := Cert.KernelUqIdeal.τ) (Cert.KernelUqIdeal.main (F := Ideal))) ⟨m, fun _ => 0, g⟩ (fun r => ∀ c : Dev Cert.KernelUqIdeal.nD,
          r.2.mem ((c.tc : Thread Cert.KernelUqIdeal.nD Cert.KernelUqIdeal.τ).loc Cert.KernelUqIdeal.main_v0) = v0 c
          ∧ r.2.mem ((c.tc : Thread Cert.KernelUqIdeal.nD Cert.KernelUqIdeal.τ).loc Cert.KernelUqIdeal.main_arg0) = m ((c.tc : Thread Cert.KernelUqIdeal.nD Cert.KernelUqIdeal.τ).loc Cert.KernelUqIdeal.main_arg0)
          ∧ r.2.mem ((c.tc : Thread Cert.KernelUqIdeal.nD Cert.KernelUqIdeal.τ).loc Cert.KernelUqIdeal.main_arg1) = m ((c.tc : Thread Cert.KernelUqIdeal.nD Cert.KernelUqIdeal.τ).loc Cert.KernelUqIdeal.main_arg1))
      ∧ θ_run (Cert.ReferenceUqIdeal.defs (F := Ideal)) (onTc (τ := Cert.ReferenceUqIdeal.τ) (Cert.ReferenceUqIdeal.main (F := Ideal))) ⟨m', fun _ => 0, g'⟩ (fun r => ∀ c : Dev Cert.ReferenceUqIdeal.nD,
          r.2.mem ((c.tc : Thread Cert.ReferenceUqIdeal.nD Cert.ReferenceUqIdeal.τ).loc Cert.ReferenceUqIdeal.main_v7) = v0 c
          ∧ r.2.mem ((c.tc : Thread Cert.ReferenceUqIdeal.nD Cert.ReferenceUqIdeal.τ).loc Cert.ReferenceUqIdeal.main_arg0) = m' ((c.tc : Thread Cert.ReferenceUqIdeal.nD Cert.ReferenceUqIdeal.τ).loc Cert.ReferenceUqIdeal.main_arg0)
          ∧ r.2.mem ((c.tc : Thread Cert.ReferenceUqIdeal.nD Cert.ReferenceUqIdeal.τ).loc Cert.ReferenceUqIdeal.main_arg1) = m' ((c.tc : Thread Cert.ReferenceUqIdeal.nD Cert.ReferenceUqIdeal.τ).loc Cert.ReferenceUqIdeal.main_arg1))

def preserves_KernelUkv_KernelUkvIdeal : Prop :=
  True

def algebraic_KernelUkvIdeal_ReferenceUkvIdeal [hKernelUkvIdeal : Cert.KernelUkvIdeal.Facts] [hReferenceUkvIdeal : Cert.ReferenceUkvIdeal.Facts] : Prop :=
  ∀ (m : (ℓ : Loc Cert.KernelUkvIdeal.nD Cert.KernelUkvIdeal.τ Cert.KernelUkvIdeal.sig) → Buf (Elt Ideal) ℓ) (g : Dev Cert.KernelUkvIdeal.nD → PrngReg)
    (m' : (ℓ : Loc Cert.ReferenceUkvIdeal.nD Cert.ReferenceUkvIdeal.τ Cert.ReferenceUkvIdeal.sig) → Buf (Elt Ideal) ℓ) (g' : Dev Cert.ReferenceUkvIdeal.nD → PrngReg), Pre_KernelUkvIdeal m →
    (∀ c : Dev Cert.KernelUkvIdeal.nD,
      m' ((c.tc : Thread Cert.ReferenceUkvIdeal.nD Cert.ReferenceUkvIdeal.τ).loc Cert.ReferenceUkvIdeal.main_arg0) = m ((c.tc : Thread Cert.KernelUkvIdeal.nD Cert.KernelUkvIdeal.τ).loc Cert.KernelUkvIdeal.main_arg0)
      ∧ m' ((c.tc : Thread Cert.ReferenceUkvIdeal.nD Cert.ReferenceUkvIdeal.τ).loc Cert.ReferenceUkvIdeal.main_arg1) = m ((c.tc : Thread Cert.KernelUkvIdeal.nD Cert.KernelUkvIdeal.τ).loc Cert.KernelUkvIdeal.main_arg1)) →
    ∃ (v0 : (c : Dev Cert.KernelUkvIdeal.nD) → Buf (Elt Ideal) ((c.tc : Thread Cert.KernelUkvIdeal.nD Cert.KernelUkvIdeal.τ).loc Cert.KernelUkvIdeal.main_v0)),
      θ_run (Cert.KernelUkvIdeal.defs (F := Ideal)) (onTc (τ := Cert.KernelUkvIdeal.τ) (Cert.KernelUkvIdeal.main (F := Ideal))) ⟨m, fun _ => 0, g⟩ (fun r => ∀ c : Dev Cert.KernelUkvIdeal.nD,
          r.2.mem ((c.tc : Thread Cert.KernelUkvIdeal.nD Cert.KernelUkvIdeal.τ).loc Cert.KernelUkvIdeal.main_v0) = v0 c
          ∧ r.2.mem ((c.tc : Thread Cert.KernelUkvIdeal.nD Cert.KernelUkvIdeal.τ).loc Cert.KernelUkvIdeal.main_arg0) = m ((c.tc : Thread Cert.KernelUkvIdeal.nD Cert.KernelUkvIdeal.τ).loc Cert.KernelUkvIdeal.main_arg0)
          ∧ r.2.mem ((c.tc : Thread Cert.KernelUkvIdeal.nD Cert.KernelUkvIdeal.τ).loc Cert.KernelUkvIdeal.main_arg1) = m ((c.tc : Thread Cert.KernelUkvIdeal.nD Cert.KernelUkvIdeal.τ).loc Cert.KernelUkvIdeal.main_arg1))
      ∧ θ_run (Cert.ReferenceUkvIdeal.defs (F := Ideal)) (onTc (τ := Cert.ReferenceUkvIdeal.τ) (Cert.ReferenceUkvIdeal.main (F := Ideal))) ⟨m', fun _ => 0, g'⟩ (fun r => ∀ c : Dev Cert.ReferenceUkvIdeal.nD,
          r.2.mem ((c.tc : Thread Cert.ReferenceUkvIdeal.nD Cert.ReferenceUkvIdeal.τ).loc Cert.ReferenceUkvIdeal.main_v7) = v0 c
          ∧ r.2.mem ((c.tc : Thread Cert.ReferenceUkvIdeal.nD Cert.ReferenceUkvIdeal.τ).loc Cert.ReferenceUkvIdeal.main_arg0) = m' ((c.tc : Thread Cert.ReferenceUkvIdeal.nD Cert.ReferenceUkvIdeal.τ).loc Cert.ReferenceUkvIdeal.main_arg0)
          ∧ r.2.mem ((c.tc : Thread Cert.ReferenceUkvIdeal.nD Cert.ReferenceUkvIdeal.τ).loc Cert.ReferenceUkvIdeal.main_arg1) = m' ((c.tc : Thread Cert.ReferenceUkvIdeal.nD Cert.ReferenceUkvIdeal.τ).loc Cert.ReferenceUkvIdeal.main_arg1))

def preserves_KernelQn_KernelQnIdeal : Prop :=
  True

def algebraic_KernelQnIdeal_ReferenceQnIdeal [hKernelQnIdeal : Cert.KernelQnIdeal.Facts] [hReferenceQnIdeal : Cert.ReferenceQnIdeal.Facts] : Prop :=
  ∀ (m : (ℓ : Loc Cert.KernelQnIdeal.nD Cert.KernelQnIdeal.τ Cert.KernelQnIdeal.sig) → Buf (Elt Ideal) ℓ) (g : Dev Cert.KernelQnIdeal.nD → PrngReg)
    (m' : (ℓ : Loc Cert.ReferenceQnIdeal.nD Cert.ReferenceQnIdeal.τ Cert.ReferenceQnIdeal.sig) → Buf (Elt Ideal) ℓ) (g' : Dev Cert.ReferenceQnIdeal.nD → PrngReg), Pre_KernelQnIdeal m →
    (∀ c : Dev Cert.KernelQnIdeal.nD,
      m' ((c.tc : Thread Cert.ReferenceQnIdeal.nD Cert.ReferenceQnIdeal.τ).loc Cert.ReferenceQnIdeal.main_arg0) = m ((c.tc : Thread Cert.KernelQnIdeal.nD Cert.KernelQnIdeal.τ).loc Cert.KernelQnIdeal.main_arg0)
      ∧ m' ((c.tc : Thread Cert.ReferenceQnIdeal.nD Cert.ReferenceQnIdeal.τ).loc Cert.ReferenceQnIdeal.main_arg1) = m ((c.tc : Thread Cert.KernelQnIdeal.nD Cert.KernelQnIdeal.τ).loc Cert.KernelQnIdeal.main_arg1)) →
    ∃ (v0 : (c : Dev Cert.KernelQnIdeal.nD) → Buf (Elt Ideal) ((c.tc : Thread Cert.KernelQnIdeal.nD Cert.KernelQnIdeal.τ).loc Cert.KernelQnIdeal.main_v0)),
      θ_run (Cert.KernelQnIdeal.defs (F := Ideal)) (onTc (τ := Cert.KernelQnIdeal.τ) (Cert.KernelQnIdeal.main (F := Ideal))) ⟨m, fun _ => 0, g⟩ (fun r => ∀ c : Dev Cert.KernelQnIdeal.nD,
          r.2.mem ((c.tc : Thread Cert.KernelQnIdeal.nD Cert.KernelQnIdeal.τ).loc Cert.KernelQnIdeal.main_v0) = v0 c
          ∧ r.2.mem ((c.tc : Thread Cert.KernelQnIdeal.nD Cert.KernelQnIdeal.τ).loc Cert.KernelQnIdeal.main_arg0) = m ((c.tc : Thread Cert.KernelQnIdeal.nD Cert.KernelQnIdeal.τ).loc Cert.KernelQnIdeal.main_arg0)
          ∧ r.2.mem ((c.tc : Thread Cert.KernelQnIdeal.nD Cert.KernelQnIdeal.τ).loc Cert.KernelQnIdeal.main_arg1) = m ((c.tc : Thread Cert.KernelQnIdeal.nD Cert.KernelQnIdeal.τ).loc Cert.KernelQnIdeal.main_arg1))
      ∧ θ_run (Cert.ReferenceQnIdeal.defs (F := Ideal)) (onTc (τ := Cert.ReferenceQnIdeal.τ) (Cert.ReferenceQnIdeal.main (F := Ideal))) ⟨m', fun _ => 0, g'⟩ (fun r => ∀ c : Dev Cert.ReferenceQnIdeal.nD,
          r.2.mem ((c.tc : Thread Cert.ReferenceQnIdeal.nD Cert.ReferenceQnIdeal.τ).loc Cert.ReferenceQnIdeal.main_v4) = v0 c
          ∧ r.2.mem ((c.tc : Thread Cert.ReferenceQnIdeal.nD Cert.ReferenceQnIdeal.τ).loc Cert.ReferenceQnIdeal.main_arg0) = m' ((c.tc : Thread Cert.ReferenceQnIdeal.nD Cert.ReferenceQnIdeal.τ).loc Cert.ReferenceQnIdeal.main_arg0)
          ∧ r.2.mem ((c.tc : Thread Cert.ReferenceQnIdeal.nD Cert.ReferenceQnIdeal.τ).loc Cert.ReferenceQnIdeal.main_arg1) = m' ((c.tc : Thread Cert.ReferenceQnIdeal.nD Cert.ReferenceQnIdeal.τ).loc Cert.ReferenceQnIdeal.main_arg1))

def preserves_KernelKvn_KernelKvnIdeal : Prop :=
  True

def algebraic_KernelKvnIdeal_ReferenceKvnIdeal [hKernelKvnIdeal : Cert.KernelKvnIdeal.Facts] [hReferenceKvnIdeal : Cert.ReferenceKvnIdeal.Facts] : Prop :=
  ∀ (m : (ℓ : Loc Cert.KernelKvnIdeal.nD Cert.KernelKvnIdeal.τ Cert.KernelKvnIdeal.sig) → Buf (Elt Ideal) ℓ) (g : Dev Cert.KernelKvnIdeal.nD → PrngReg)
    (m' : (ℓ : Loc Cert.ReferenceKvnIdeal.nD Cert.ReferenceKvnIdeal.τ Cert.ReferenceKvnIdeal.sig) → Buf (Elt Ideal) ℓ) (g' : Dev Cert.ReferenceKvnIdeal.nD → PrngReg), Pre_KernelKvnIdeal m →
    (∀ c : Dev Cert.KernelKvnIdeal.nD,
      m' ((c.tc : Thread Cert.ReferenceKvnIdeal.nD Cert.ReferenceKvnIdeal.τ).loc Cert.ReferenceKvnIdeal.main_arg0) = m ((c.tc : Thread Cert.KernelKvnIdeal.nD Cert.KernelKvnIdeal.τ).loc Cert.KernelKvnIdeal.main_arg0)
      ∧ m' ((c.tc : Thread Cert.ReferenceKvnIdeal.nD Cert.ReferenceKvnIdeal.τ).loc Cert.ReferenceKvnIdeal.main_arg1) = m ((c.tc : Thread Cert.KernelKvnIdeal.nD Cert.KernelKvnIdeal.τ).loc Cert.KernelKvnIdeal.main_arg1)) →
    ∃ (v0 : (c : Dev Cert.KernelKvnIdeal.nD) → Buf (Elt Ideal) ((c.tc : Thread Cert.KernelKvnIdeal.nD Cert.KernelKvnIdeal.τ).loc Cert.KernelKvnIdeal.main_v0)),
      θ_run (Cert.KernelKvnIdeal.defs (F := Ideal)) (onTc (τ := Cert.KernelKvnIdeal.τ) (Cert.KernelKvnIdeal.main (F := Ideal))) ⟨m, fun _ => 0, g⟩ (fun r => ∀ c : Dev Cert.KernelKvnIdeal.nD,
          r.2.mem ((c.tc : Thread Cert.KernelKvnIdeal.nD Cert.KernelKvnIdeal.τ).loc Cert.KernelKvnIdeal.main_v0) = v0 c
          ∧ r.2.mem ((c.tc : Thread Cert.KernelKvnIdeal.nD Cert.KernelKvnIdeal.τ).loc Cert.KernelKvnIdeal.main_arg0) = m ((c.tc : Thread Cert.KernelKvnIdeal.nD Cert.KernelKvnIdeal.τ).loc Cert.KernelKvnIdeal.main_arg0)
          ∧ r.2.mem ((c.tc : Thread Cert.KernelKvnIdeal.nD Cert.KernelKvnIdeal.τ).loc Cert.KernelKvnIdeal.main_arg1) = m ((c.tc : Thread Cert.KernelKvnIdeal.nD Cert.KernelKvnIdeal.τ).loc Cert.KernelKvnIdeal.main_arg1))
      ∧ θ_run (Cert.ReferenceKvnIdeal.defs (F := Ideal)) (onTc (τ := Cert.ReferenceKvnIdeal.τ) (Cert.ReferenceKvnIdeal.main (F := Ideal))) ⟨m', fun _ => 0, g'⟩ (fun r => ∀ c : Dev Cert.ReferenceKvnIdeal.nD,
          r.2.mem ((c.tc : Thread Cert.ReferenceKvnIdeal.nD Cert.ReferenceKvnIdeal.τ).loc Cert.ReferenceKvnIdeal.main_v4) = v0 c
          ∧ r.2.mem ((c.tc : Thread Cert.ReferenceKvnIdeal.nD Cert.ReferenceKvnIdeal.τ).loc Cert.ReferenceKvnIdeal.main_arg0) = m' ((c.tc : Thread Cert.ReferenceKvnIdeal.nD Cert.ReferenceKvnIdeal.τ).loc Cert.ReferenceKvnIdeal.main_arg0)
          ∧ r.2.mem ((c.tc : Thread Cert.ReferenceKvnIdeal.nD Cert.ReferenceKvnIdeal.τ).loc Cert.ReferenceKvnIdeal.main_arg1) = m' ((c.tc : Thread Cert.ReferenceKvnIdeal.nD Cert.ReferenceKvnIdeal.τ).loc Cert.ReferenceKvnIdeal.main_arg1))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)) →
    ∃ (v0 : (c : Dev Cert.KernelKvIdeal.nD) → Buf (Elt Ideal) ((c.tc : Thread Cert.KernelKvIdeal.nD Cert.KernelKvIdeal.τ).loc Cert.KernelKvIdeal.main_v0)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v0) = v0 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v3) = v0 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1))

def preserves_KernelDg_KernelDgIdeal : Prop :=
  True

def algebraic_KernelDgIdeal_ReferenceDgIdeal [hKernelDgIdeal : Cert.KernelDgIdeal.Facts] [hReferenceDgIdeal : Cert.ReferenceDgIdeal.Facts] : Prop :=
  ∀ (m : (ℓ : Loc Cert.KernelDgIdeal.nD Cert.KernelDgIdeal.τ Cert.KernelDgIdeal.sig) → Buf (Elt Ideal) ℓ) (g : Dev Cert.KernelDgIdeal.nD → PrngReg)
    (m' : (ℓ : Loc Cert.ReferenceDgIdeal.nD Cert.ReferenceDgIdeal.τ Cert.ReferenceDgIdeal.sig) → Buf (Elt Ideal) ℓ) (g' : Dev Cert.ReferenceDgIdeal.nD → PrngReg), Pre_KernelDgIdeal m →
    (∀ c : Dev Cert.KernelDgIdeal.nD,
      m' ((c.tc : Thread Cert.ReferenceDgIdeal.nD Cert.ReferenceDgIdeal.τ).loc Cert.ReferenceDgIdeal.main_arg0) = m ((c.tc : Thread Cert.KernelDgIdeal.nD Cert.KernelDgIdeal.τ).loc Cert.KernelDgIdeal.main_arg0)
      ∧ m' ((c.tc : Thread Cert.ReferenceDgIdeal.nD Cert.ReferenceDgIdeal.τ).loc Cert.ReferenceDgIdeal.main_arg1) = m ((c.tc : Thread Cert.KernelDgIdeal.nD Cert.KernelDgIdeal.τ).loc Cert.KernelDgIdeal.main_arg1)
      ∧ m' ((c.tc : Thread Cert.ReferenceDgIdeal.nD Cert.ReferenceDgIdeal.τ).loc Cert.ReferenceDgIdeal.main_arg2) = m ((c.tc : Thread Cert.KernelDgIdeal.nD Cert.KernelDgIdeal.τ).loc Cert.KernelDgIdeal.main_arg2)
      ∧ m' ((c.tc : Thread Cert.ReferenceDgIdeal.nD Cert.ReferenceDgIdeal.τ).loc Cert.ReferenceDgIdeal.main_arg3) = m ((c.tc : Thread Cert.KernelDgIdeal.nD Cert.KernelDgIdeal.τ).loc Cert.KernelDgIdeal.main_arg3)) →
    ∃ (v0 : (c : Dev Cert.KernelDgIdeal.nD) → Buf (Elt Ideal) ((c.tc : Thread Cert.KernelDgIdeal.nD Cert.KernelDgIdeal.τ).loc Cert.KernelDgIdeal.main_v0_0)) (v1 : (c : Dev Cert.KernelDgIdeal.nD) → Buf (Elt Ideal) ((c.tc : Thread Cert.KernelDgIdeal.nD Cert.KernelDgIdeal.τ).loc Cert.KernelDgIdeal.main_v0_2)),
      θ_run (Cert.KernelDgIdeal.defs (F := Ideal)) (onTc (τ := Cert.KernelDgIdeal.τ) (Cert.KernelDgIdeal.main (F := Ideal))) ⟨m, fun _ => 0, g⟩ (fun r => ∀ c : Dev Cert.KernelDgIdeal.nD,
          r.2.mem ((c.tc : Thread Cert.KernelDgIdeal.nD Cert.KernelDgIdeal.τ).loc Cert.KernelDgIdeal.main_v0_0) = v0 c
          ∧ r.2.mem ((c.tc : Thread Cert.KernelDgIdeal.nD Cert.KernelDgIdeal.τ).loc Cert.KernelDgIdeal.main_v0_2) = v1 c
          ∧ r.2.mem ((c.tc : Thread Cert.KernelDgIdeal.nD Cert.KernelDgIdeal.τ).loc Cert.KernelDgIdeal.main_arg0) = m ((c.tc : Thread Cert.KernelDgIdeal.nD Cert.KernelDgIdeal.τ).loc Cert.KernelDgIdeal.main_arg0)
          ∧ r.2.mem ((c.tc : Thread Cert.KernelDgIdeal.nD Cert.KernelDgIdeal.τ).loc Cert.KernelDgIdeal.main_arg1) = m ((c.tc : Thread Cert.KernelDgIdeal.nD Cert.KernelDgIdeal.τ).loc Cert.KernelDgIdeal.main_arg1)
          ∧ r.2.mem ((c.tc : Thread Cert.KernelDgIdeal.nD Cert.KernelDgIdeal.τ).loc Cert.KernelDgIdeal.main_arg2) = m ((c.tc : Thread Cert.KernelDgIdeal.nD Cert.KernelDgIdeal.τ).loc Cert.KernelDgIdeal.main_arg2)
          ∧ r.2.mem ((c.tc : Thread Cert.KernelDgIdeal.nD Cert.KernelDgIdeal.τ).loc Cert.KernelDgIdeal.main_arg3) = m ((c.tc : Thread Cert.KernelDgIdeal.nD Cert.KernelDgIdeal.τ).loc Cert.KernelDgIdeal.main_arg3))
      ∧ θ_run (Cert.ReferenceDgIdeal.defs (F := Ideal)) (onTc (τ := Cert.ReferenceDgIdeal.τ) (Cert.ReferenceDgIdeal.main (F := Ideal))) ⟨m', fun _ => 0, g'⟩ (fun r => ∀ c : Dev Cert.ReferenceDgIdeal.nD,
          r.2.mem ((c.tc : Thread Cert.ReferenceDgIdeal.nD Cert.ReferenceDgIdeal.τ).loc Cert.ReferenceDgIdeal.main_v12) = v0 c
          ∧ r.2.mem ((c.tc : Thread Cert.ReferenceDgIdeal.nD Cert.ReferenceDgIdeal.τ).loc Cert.ReferenceDgIdeal.main_v14) = v1 c
          ∧ r.2.mem ((c.tc : Thread Cert.ReferenceDgIdeal.nD Cert.ReferenceDgIdeal.τ).loc Cert.ReferenceDgIdeal.main_arg0) = m' ((c.tc : Thread Cert.ReferenceDgIdeal.nD Cert.ReferenceDgIdeal.τ).loc Cert.ReferenceDgIdeal.main_arg0)
          ∧ r.2.mem ((c.tc : Thread Cert.ReferenceDgIdeal.nD Cert.ReferenceDgIdeal.τ).loc Cert.ReferenceDgIdeal.main_arg1) = m' ((c.tc : Thread Cert.ReferenceDgIdeal.nD Cert.ReferenceDgIdeal.τ).loc Cert.ReferenceDgIdeal.main_arg1)
          ∧ r.2.mem ((c.tc : Thread Cert.ReferenceDgIdeal.nD Cert.ReferenceDgIdeal.τ).loc Cert.ReferenceDgIdeal.main_arg2) = m' ((c.tc : Thread Cert.ReferenceDgIdeal.nD Cert.ReferenceDgIdeal.τ).loc Cert.ReferenceDgIdeal.main_arg2)
          ∧ r.2.mem ((c.tc : Thread Cert.ReferenceDgIdeal.nD Cert.ReferenceDgIdeal.τ).loc Cert.ReferenceDgIdeal.main_arg3) = m' ((c.tc : Thread Cert.ReferenceDgIdeal.nD Cert.ReferenceDgIdeal.τ).loc Cert.ReferenceDgIdeal.main_arg3))

def Claim : Prop :=
  ∃ (hKernel : Cert.Kernel.Facts) (hKernelIdeal : Cert.KernelIdeal.Facts) (hReferenceIdeal : Cert.ReferenceIdeal.Facts) (hKernelDh : Cert.KernelDh.Facts) (hKernelDhIdeal : Cert.KernelDhIdeal.Facts) (hReferenceDhIdeal : Cert.ReferenceDhIdeal.Facts) (hKernelDw : Cert.KernelDw.Facts) (hKernelDwIdeal : Cert.KernelDwIdeal.Facts) (hReferenceDwIdeal : Cert.ReferenceDwIdeal.Facts) (hKernelDl : Cert.KernelDl.Facts) (hKernelDlIdeal : Cert.KernelDlIdeal.Facts) (hReferenceDlIdeal : Cert.ReferenceDlIdeal.Facts) (hKernelPr : Cert.KernelPr.Facts) (hKernelPrIdeal : Cert.KernelPrIdeal.Facts) (hReferencePrIdeal : Cert.ReferencePrIdeal.Facts) (hKernelDo : Cert.KernelDo.Facts) (hKernelDoIdeal : Cert.KernelDoIdeal.Facts) (hReferenceDoIdeal : Cert.ReferenceDoIdeal.Facts) (hKernelUq : Cert.KernelUq.Facts) (hKernelUqIdeal : Cert.KernelUqIdeal.Facts) (hReferenceUqIdeal : Cert.ReferenceUqIdeal.Facts) (hKernelUkv : Cert.KernelUkv.Facts) (hKernelUkvIdeal : Cert.KernelUkvIdeal.Facts) (hReferenceUkvIdeal : Cert.ReferenceUkvIdeal.Facts) (hKernelQn : Cert.KernelQn.Facts) (hKernelQnIdeal : Cert.KernelQnIdeal.Facts) (hReferenceQnIdeal : Cert.ReferenceQnIdeal.Facts) (hKernelKvn : Cert.KernelKvn.Facts) (hKernelKvnIdeal : Cert.KernelKvnIdeal.Facts) (hReferenceKvnIdeal : Cert.ReferenceKvnIdeal.Facts) (hKernelKv : Cert.KernelKv.Facts) (hKernelKvIdeal : Cert.KernelKvIdeal.Facts) (hReferenceKvIdeal : Cert.ReferenceKvIdeal.Facts) (hKernelDg : Cert.KernelDg.Facts) (hKernelDgIdeal : Cert.KernelDgIdeal.Facts) (hReferenceDgIdeal : Cert.ReferenceDgIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDh (hKernelDh := hKernelDh)
    ∧ quiescent_KernelDhIdeal (hKernelDhIdeal := hKernelDhIdeal)
    ∧ quiescent_ReferenceDhIdeal (hReferenceDhIdeal := hReferenceDhIdeal)
    ∧ quiescent_KernelDw (hKernelDw := hKernelDw)
    ∧ quiescent_KernelDwIdeal (hKernelDwIdeal := hKernelDwIdeal)
    ∧ quiescent_ReferenceDwIdeal (hReferenceDwIdeal := hReferenceDwIdeal)
    ∧ quiescent_KernelDl (hKernelDl := hKernelDl)
    ∧ quiescent_KernelDlIdeal (hKernelDlIdeal := hKernelDlIdeal)
    ∧ quiescent_ReferenceDlIdeal (hReferenceDlIdeal := hReferenceDlIdeal)
    ∧ quiescent_KernelPr (hKernelPr := hKernelPr)
    ∧ quiescent_KernelPrIdeal (hKernelPrIdeal := hKernelPrIdeal)
    ∧ quiescent_ReferencePrIdeal (hReferencePrIdeal := hReferencePrIdeal)
    ∧ quiescent_KernelDo (hKernelDo := hKernelDo)
    ∧ quiescent_KernelDoIdeal (hKernelDoIdeal := hKernelDoIdeal)
    ∧ quiescent_ReferenceDoIdeal (hReferenceDoIdeal := hReferenceDoIdeal)
    ∧ quiescent_KernelUq (hKernelUq := hKernelUq)
    ∧ quiescent_KernelUqIdeal (hKernelUqIdeal := hKernelUqIdeal)
    ∧ quiescent_ReferenceUqIdeal (hReferenceUqIdeal := hReferenceUqIdeal)
    ∧ quiescent_KernelUkv (hKernelUkv := hKernelUkv)
    ∧ quiescent_KernelUkvIdeal (hKernelUkvIdeal := hKernelUkvIdeal)
    ∧ quiescent_ReferenceUkvIdeal (hReferenceUkvIdeal := hReferenceUkvIdeal)
    ∧ quiescent_KernelQn (hKernelQn := hKernelQn)
    ∧ quiescent_KernelQnIdeal (hKernelQnIdeal := hKernelQnIdeal)
    ∧ quiescent_ReferenceQnIdeal (hReferenceQnIdeal := hReferenceQnIdeal)
    ∧ quiescent_KernelKvn (hKernelKvn := hKernelKvn)
    ∧ quiescent_KernelKvnIdeal (hKernelKvnIdeal := hKernelKvnIdeal)
    ∧ quiescent_ReferenceKvnIdeal (hReferenceKvnIdeal := hReferenceKvnIdeal)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelDg (hKernelDg := hKernelDg)
    ∧ quiescent_KernelDgIdeal (hKernelDgIdeal := hKernelDgIdeal)
    ∧ quiescent_ReferenceDgIdeal (hReferenceDgIdeal := hReferenceDgIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDh_KernelDhIdeal
    ∧ algebraic_KernelDhIdeal_ReferenceDhIdeal (hKernelDhIdeal := hKernelDhIdeal) (hReferenceDhIdeal := hReferenceDhIdeal)
    ∧ preserves_KernelDw_KernelDwIdeal
    ∧ algebraic_KernelDwIdeal_ReferenceDwIdeal (hKernelDwIdeal := hKernelDwIdeal) (hReferenceDwIdeal := hReferenceDwIdeal)
    ∧ preserves_KernelDl_KernelDlIdeal
    ∧ algebraic_KernelDlIdeal_ReferenceDlIdeal (hKernelDlIdeal := hKernelDlIdeal) (hReferenceDlIdeal := hReferenceDlIdeal)
    ∧ preserves_KernelPr_KernelPrIdeal
    ∧ algebraic_KernelPrIdeal_ReferencePrIdeal (hKernelPrIdeal := hKernelPrIdeal) (hReferencePrIdeal := hReferencePrIdeal)
    ∧ preserves_KernelDo_KernelDoIdeal
    ∧ algebraic_KernelDoIdeal_ReferenceDoIdeal (hKernelDoIdeal := hKernelDoIdeal) (hReferenceDoIdeal := hReferenceDoIdeal)
    ∧ preserves_KernelUq_KernelUqIdeal
    ∧ algebraic_KernelUqIdeal_ReferenceUqIdeal (hKernelUqIdeal := hKernelUqIdeal) (hReferenceUqIdeal := hReferenceUqIdeal)
    ∧ preserves_KernelUkv_KernelUkvIdeal
    ∧ algebraic_KernelUkvIdeal_ReferenceUkvIdeal (hKernelUkvIdeal := hKernelUkvIdeal) (hReferenceUkvIdeal := hReferenceUkvIdeal)
    ∧ preserves_KernelQn_KernelQnIdeal
    ∧ algebraic_KernelQnIdeal_ReferenceQnIdeal (hKernelQnIdeal := hKernelQnIdeal) (hReferenceQnIdeal := hReferenceQnIdeal)
    ∧ preserves_KernelKvn_KernelKvnIdeal
    ∧ algebraic_KernelKvnIdeal_ReferenceKvnIdeal (hKernelKvnIdeal := hKernelKvnIdeal) (hReferenceKvnIdeal := hReferenceKvnIdeal)
    ∧ preserves_KernelKv_KernelKvIdeal
    ∧ algebraic_KernelKvIdeal_ReferenceKvIdeal (hKernelKvIdeal := hKernelKvIdeal) (hReferenceKvIdeal := hReferenceKvIdeal)
    ∧ preserves_KernelDg_KernelDgIdeal
    ∧ algebraic_KernelDgIdeal_ReferenceDgIdeal (hKernelDgIdeal := hKernelDgIdeal) (hReferenceDgIdeal := hReferenceDgIdeal)
-- ==== Pre_finite.lean ====
abbrev S4096x2048 : Shape := ⟨2, ![4096, 2048]⟩
abbrev S4096x128 : Shape := ⟨2, ![4096, 128]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn_part1 {F : FTy → Type} [FloatOps F] (main_v16 : IVec S_ 1) (main_v17 : FVec F S4096x2048 .f32) : IVec S_ 1 :=
  let main_v18 : FVec F S4096x2048 .f32 := Host.absf main_v17
  let main_cst_4 : FVec F S_ .f32 := constant S_ .f32 0x7F800000#32
  let main_v19 : FVec F S4096x2048 .f32 := broadcastInDim S4096x2048 ![] bcast_S_S4096x2048 main_cst_4
  let main_v20 : IVec S4096x2048 1 := cmpf .olt main_v18 main_v19
  let main_c_5 : IVec S_ 1 := constantI S_ 1 1#1
  let main_v21 : IVec S_ 1 := (fun x v => Host.reduce IntOp.andi x v reducesTo_S4096x2048_S_d0_1 h_S_) main_v20 main_c_5
  let main_v22 : IVec S_ 1 := andi main_v16 main_v21
  main_v22

def fn {F : FTy → Type} [FloatOps F] (main_arg0 : FVec F S4096x2048 .bf16) (main_arg1 : FVec F S4096x2048 .bf16) (main_arg2 : FVec F S4096x128 .bf16) (main_arg3 : FVec F S4096x2048 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4096x2048 .f32 := (extf .f32 · bitsLt_bf16_f32) main_arg1
  let main_v6 : FVec F S4096x2048 .f32 := Host.absf main_v5
  let main_cst_0 : FVec F S_ .f32 := constant S_ .f32 0x7F800000#32
  let main_v7 : FVec F S4096x2048 .f32 := broadcastInDim S4096x2048 ![] bcast_S_S4096x2048 main_cst_0
  let main_v8 : IVec S4096x2048 1 := cmpf .olt main_v6 main_v7
  let main_c_1 : IVec S_ 1 := constantI S_ 1 1#1
  let main_v9 : IVec S_ 1 := (fun x v => Host.reduce IntOp.andi x v reducesTo_S4096x2048_S_d0_1 h_S_) main_v8 main_c_1
  let main_v10 : IVec S_ 1 := andi main_v4 main_v9
  let main_v11 : FVec F S4096x128 .f32 := (extf .f32 · bitsLt_bf16_f32) main_arg2
  let main_v12 : FVec F S4096x128 .f32 := Host.absf main_v11
  let main_cst_2 : FVec F S_ .f32 := constant S_ .f32 0x7F800000#32
  let main_v13 : FVec F S4096x128 .f32 := broadcastInDim S4096x128 ![] bcast_S_S4096x128 main_cst_2
  let main_v14 : IVec S4096x128 1 := cmpf .olt main_v12 main_v13
  let main_c_3 : IVec S_ 1 := constantI S_ 1 1#1
  let main_v15 : IVec S_ 1 := (fun x v => Host.reduce IntOp.andi x v reducesTo_S4096x128_S_d0_1 h_S_) main_v14 main_c_3
  let main_v16 : IVec S_ 1 := andi main_v10 main_v15
  let main_v17 : FVec F S4096x2048 .f32 := (extf .f32 · bitsLt_bf16_f32) main_arg3
  fn_part1 (F := F) main_v16 main_v17
-- ==== Kernel.lean ====
abbrev S4096x2048 : Shape := ⟨2, ![4096, 2048]⟩
abbrev S4096x128 : Shape := ⟨2, ![4096, 128]⟩
abbrev S4096x8x256 : Shape := ⟨3, ![4096, 8, 256]⟩
abbrev S4096x1x128 : Shape := ⟨3, ![4096, 1, 128]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x1024 : Shape := ⟨2, ![4096, 1024]⟩
abbrev S8x8x1x512 : Shape := ⟨4, ![8, 8, 1, 512]⟩
abbrev S4096x8 : Shape := ⟨2, ![4096, 8]⟩
abbrev S4096x512 : Shape := ⟨2, ![4096, 512]⟩
abbrev S512x512 : Shape := ⟨2, ![512, 512]⟩
abbrev S512x128 : Shape := ⟨2, ![512, 128]⟩
abbrev S4096x256 : Shape := ⟨2, ![4096, 256]⟩
abbrev S2x8x1x512 : Shape := ⟨4, ![2, 8, 1, 512]⟩
abbrev S512x256 : Shape := ⟨2, ![512, 256]⟩
abbrev S2x512x256 : Shape := ⟨3, ![2, 512, 256]⟩
abbrev S2x512x128 : Shape := ⟨3, ![2, 512, 128]⟩
abbrev S1x1x1x512 : Shape := ⟨4, ![1, 1, 1, 512]⟩
abbrev S1x512 : Shape := ⟨2, ![1, 512]⟩
abbrev S1x512x128 : Shape := ⟨3, ![1, 512, 128]⟩
abbrev S1x512x256 : Shape := ⟨3, ![1, 512, 256]⟩

abbrev nBuf : Space → Nat
  | .hbm => 57
  | .vmem => 20
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x128, .bf16⟩
  | .hbm, ⟨3, _⟩ => ⟨S4096x2048, .bf16⟩
  | .hbm, ⟨4, _⟩ => ⟨S4096x2048, .f32⟩
  | .hbm, ⟨5, _⟩ => ⟨S4096x8x256, .f32⟩
  | .hbm, ⟨6, _⟩ => ⟨S4096x128, .f32⟩
  | .hbm, ⟨7, _⟩ => ⟨S4096x1x128, .f32⟩
  | .hbm, ⟨8, _⟩ => ⟨S4096x8x128, .f32⟩
  | .hbm, ⟨9, _⟩ => ⟨S4096x2048, .f32⟩
  | .hbm, ⟨10, _⟩ => ⟨S4096x8x256, .f32⟩
  | .hbm, ⟨11, _⟩ => ⟨S4096x8x128, .f32⟩
  | .hbm, ⟨12, _⟩ => ⟨S4096x8x256, .f32⟩
  | .hbm, ⟨13, _⟩ => ⟨S8x4096x4096, .f32⟩
  | .hbm, ⟨14, _⟩ => ⟨S_, .f32⟩
  | .hbm, ⟨15, _⟩ => ⟨S_, .f32⟩
  | .hbm, ⟨16, _⟩ => ⟨S8x4096x4096, .f32⟩
  | .hbm, ⟨17, _⟩ => ⟨S8x4096x4096, .f32⟩
  | .hbm, ⟨18, _⟩ => ⟨S4096, .i32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S8x4096x4096, .i1⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S8x4096x4096, .f32⟩
  | .hbm, ⟨39, _⟩ => ⟨S8x4096x4096, .f32⟩
  | .hbm, ⟨40, _⟩ => ⟨S4096x8x128, .f32⟩
  | .hbm, ⟨41, _⟩ => ⟨S8x128x4096, .f32⟩
  | .hbm, ⟨42, _⟩ => ⟨S4096x8x128, .f32⟩
  | .hbm, ⟨43, _⟩ => ⟨S4096x1024, .bf16⟩
  | .hbm, ⟨44, _⟩ => ⟨S4096x1024, .f32⟩
  | .hbm, ⟨45, _⟩ => ⟨S4096x8x128, .f32⟩
  | .hbm, ⟨46, _⟩ => ⟨S8x4096x1, .f32⟩
  | .hbm, ⟨47, _⟩ => ⟨S8x4096x1, .f32⟩
  | .hbm, ⟨48, _⟩ => ⟨S8x8x1x512, .f32⟩
  | .hbm, ⟨49, _⟩ => ⟨S4096x8x128, .f32⟩
  | .hbm, ⟨50, _⟩ => ⟨S_, .f32⟩
  | .hbm, ⟨51, _⟩ => ⟨S4096x8, .f32⟩
  | .hbm, ⟨52, _⟩ => ⟨S8x4096, .f32⟩
  | .hbm, ⟨53, _⟩ => ⟨S8x8x1x512, .f32⟩
  | .hbm, ⟨54, _⟩ => ⟨S4096x2048, .f32⟩
  | .hbm, ⟨55, _⟩ => ⟨S4096x2048, .bf16⟩
  | .hbm, ⟨56, _⟩ => ⟨S4096x1024, .f32⟩
  | .local _ .vmem, ⟨0, _⟩ => ⟨S4096x512, .bf16⟩
  | .local _ .vmem, ⟨1, _⟩ => ⟨S4096x512, .bf16⟩
  | .local _ .vmem, ⟨2, _⟩ => ⟨S512x512, .bf16⟩
  | .local _ .vmem, ⟨3, _⟩ => ⟨S512x512, .bf16⟩
  | .local _ .vmem, ⟨4, _⟩ => ⟨S512x128, .bf16⟩
  | .local _ .vmem, ⟨5, _⟩ => ⟨S512x128, .bf16⟩
  | .local _ .vmem, ⟨6, _⟩ => ⟨S4096x256, .bf16⟩
  | .local _ .vmem, ⟨7, _⟩ => ⟨S4096x256, .bf16⟩
  | .local _ .vmem, ⟨8, _⟩ => ⟨S2x8x1x512, .f32⟩
  | .local _ .vmem, ⟨9, _⟩ => ⟨S2x8x1x512, .f32⟩
  | .local _ .vmem, ⟨10, _⟩ => ⟨S2x8x1x512, .f32⟩
  | .local _ .vmem, ⟨11, _⟩ => ⟨S2x8x1x512, .f32⟩
  | .local _ .vmem, ⟨12, _⟩ => ⟨S4096x512, .f32⟩
  | .local _ .vmem, ⟨13, _⟩ => ⟨S4096x512, .f32⟩
  | .local _ .vmem, ⟨14, _⟩ => ⟨S512x512, .bf16⟩
  | .local _ .vmem, ⟨15, _⟩ => ⟨S512x512, .bf16⟩
  | .local _ .vmem, ⟨16, _⟩ => ⟨S512x256, .f32⟩
  | .local _ .vmem, ⟨17, _⟩ => ⟨S512x256, .f32⟩
  | .local _ .vmem, ⟨18, _⟩ => ⟨S2x512x256, .f32⟩
  | .local _ .vmem, ⟨19, _⟩ => ⟨S2x512x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42_0 : Ref sig .tc := ⟨.hbm, 54, rfl⟩
abbrev main_v42_1 : Ref sig .tc := ⟨.hbm, 55, rfl⟩
abbrev main_v42_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v19 : BitVec 32 := Scalar.muli arg1 c512_i32
  v19
def k0_off1 (i : grid0.Coords) : Fin 2 → Nat :=
  let arg1 : BitVec 32 := BitVec.ofNat 32 (i 1).val
  let c512_i32 : BitVec 32 := 512#32
  let v19 : BitVec 32 := Scalar.muli arg1 c512_i32
  let v20 : BitVec 32 := v19
  let v21 : Index := Scalar.indexCast v20
  let c0_16 : Index := 0#32
  ![v21.toNat, 0]
def k0_off2 (i : grid0.Coords) : Fin 2 → Nat :=
  let arg1 : BitVec 32 := BitVec.ofNat 32 (i 1).val
  let c512_i32 : BitVec 32 := 512#32
  let v19 : BitVec 32 := Scalar.muli arg1 c512_i32
  let v20 : BitVec 32 := v19
  let v23 : Index := Scalar.indexCast v20
  let c0_17 : Index := 0#32
  ![v23.toNat, 0]
def k0_off3 (i : grid0.Coords) : Fin 4 → Nat :=
  let c0_21 : Index := 0#32
  let arg1 : BitVec 32 := BitVec.ofNat 32 (i 1).val
  let v33 : Index := Scalar.indexCast arg1
  let c0_22 : Index := 0#32
  let c0_23 : Index := 0#32
  ![0, v33.toNat, 0, 0]
def k0_off4 (i : grid0.Coords) : Fin 2 → Nat :=
  let arg1 : BitVec 32 := BitVec.ofNat 32 (i 1).val
  let c512_i32 : BitVec 32 := 512#32
  let v19 : BitVec 32 := Scalar.muli arg1 c512_i32
  let v20 : BitVec 32 := v19
  let v73 : Index := Scalar.indexCast v20
  let c256_47 : Index := 256#32
  ![v73.toNat, 256]
def k0_off5 (i : grid0.Coords) : Fin 2 → Nat :=
  let arg1 : BitVec 32 := BitVec.ofNat 32 (i 1).val
  let c512_i32 : BitVec 32 := 512#32
  let v19 : BitVec 32 := Scalar.muli arg1 c512_i32
  let v20 : BitVec 32 := v19
  let v75 : Index := Scalar.indexCast v20
  let c128_48 : Index := 128#32
  ![v75.toNat, 128]
def k0_off6 (i : grid0.Coords) : Fin 4 → Nat :=
  let c1 : Index := 1#32
  let arg1 : BitVec 32 := BitVec.ofNat 32 (i 1).val
  let v85 : Index := Scalar.indexCast arg1
  let c0_52 : Index := 0#32
  let c0_53 : Index := 0#32
  ![1, v85.toNat, 0, 0]
@[reducible] def k0_t1_loop (i : grid0.Coords) : Scf.Loop 32 :=
  let arg1 : BitVec 32 := BitVec.ofNat 32 (i 1).val
  let c1_i32 : BitVec 32 := 1#32
  let v125 : BitVec 32 := Scalar.addi arg1 c1_i32
  let c8_i32 : BitVec 32 := 8#32
  let v126 : BitVec 32 := Scalar.subi c8_i32 v125
  let c1_i32_78 : BitVec 32 := 1#32
  let v128 : BitVec 32 := Scalar.divsi v126 c1_i32_78
  let v129 : BitVec 32 := Scalar.muli v128 c1_i32_78
  let v130 : BitVec 32 := Scalar.addi v125 v129
  let c1_i32_79 : BitVec 32 := 1#32
  ⟨v125, v130, c1_i32_79⟩
def k0_mult2 (i : grid0.Coords) (k0_t1 : Fin (k0_t1_loop i).trips) : BitVec 32 :=
  let arg1 : BitVec 32 := BitVec.ofNat 32 (i 1).val
  let c1_i32 : BitVec 32 := 1#32
  let v125 : BitVec 32 := Scalar.addi arg1 c1_i32
  let c1_i32_79 : BitVec 32 := 1#32
  let arg13 : BitVec 32 := Scf.iv v125 c1_i32_79 k0_t1
  let c512_i32_103 : BitVec 32 := 512#32
  let v148 : BitVec 32 := Scalar.muli arg13 c512_i32_103
  v148
def k0_off7 (i : grid0.Coords) (k0_t1 : Fin (k0_t1_loop i).trips) : Fin 2 → Nat :=
  let arg1 : BitVec 32 := BitVec.ofNat 32 (i 1).val
  let c1_i32 : BitVec 32 := 1#32
  let v125 : BitVec 32 := Scalar.addi arg1 c1_i32
  let c1_i32_79 : BitVec 32 := 1#32
  let arg13 : BitVec 32 := Scf.iv v125 c1_i32_79 k0_t1
  let c512_i32_103 : BitVec 32 := 512#32
  let v148 : BitVec 32 := Scalar.muli arg13 c512_i32_103
  let v149 : BitVec 32 := v148
  let v150 : Index := Scalar.indexCast v149
  let c0_104 : Index := 0#32
  ![v150.toNat, 0]
def k0_off8 (i : grid0.Coords) (k0_t1 : Fin (k0_t1_loop i).trips) : Fin 2 → Nat :=
  let arg1 : BitVec 32 := BitVec.ofNat 32 (i 1).val
  let c1_i32 : BitVec 32 := 1#32
  let v125 : BitVec 32 := Scalar.addi arg1 c1_i32
  let c1_i32_79 : BitVec 32 := 1#32
  let arg13 : BitVec 32 := Scf.iv v125 c1_i32_79 k0_t1
  let c512_i32_103 : BitVec 32 := 512#32
  let v148 : BitVec 32 := Scalar.muli arg13 c512_i32_103
  let v149 : BitVec 32 := v148
  let v152 : Index := Scalar.indexCast v149
  let c0_105 : Index := 0#32
  ![v152.toNat, 0]
def k0_off9 (i : grid0.Coords) (k0_t1 : Fin (k0_t1_loop i).trips) : Fin 4 → Nat :=
  let c0_108 : Index := 0#32
  let arg1 : BitVec 32 := BitVec.ofNat 32 (i 1).val
  let c1_i32 : BitVec 32 := 1#32
  let v125 : BitVec 32 := Scalar.addi arg1 c1_i32
  let c1_i32_79 : BitVec 32 := 1#32
  let arg13 : BitVec 32 := Scf.iv v125 c1_i32_79 k0_t1
  let v157 : Index := Scalar.indexCast arg13
  let c0_109 : Index := 0#32
  let c0_110 : Index := 0#32
  ![0, v157.toNat, 0, 0]
def k0_off10 (i : grid0.Coords) (k0_t1 : Fin (k0_t1_loop i).trips) : Fin 2 → Nat :=
  let arg1 : BitVec 32 := BitVec.ofNat 32 (i 1).val
  let c1_i32 : BitVec 32 := 1#32
  let v125 : BitVec 32 := Scalar.addi arg1 c1_i32
  let c1_i32_79 : BitVec 32 := 1#32
  let arg13 : BitVec 32 := Scf.iv v125 c1_i32_79 k0_t1
  let c512_i32_103 : BitVec 32 := 512#32
  let v148 : BitVec 32 := Scalar.muli arg13 c512_i32_103
  let v149 : BitVec 32 := v148
  let v197 : Index := Scalar.indexCast v149
  let c256_134 : Index := 256#32
  ![v197.toNat, 256]
def k0_off11 (i : grid0.Coords) (k0_t1 : Fin (k0_t1_loop i).trips) : Fin 2 → Nat :=
  let arg1 : BitVec 32 := BitVec.ofNat 32 (i 1).val
  let c1_i32 : BitVec 32 := 1#32
  let v125 : BitVec 32 := Scalar.addi arg1 c1_i32
  let c1_i32_79 : BitVec 32 := 1#32
  let arg13 : BitVec 32 := Scf.iv v125 c1_i32_79 k0_t1
  let c512_i32_103 : BitVec 32 := 512#32
  let v148 : BitVec 32 := Scalar.muli arg13 c512_i32_103
  let v149 : BitVec 32 := v148
  let v199 : Index := Scalar.indexCast v149
  let c128_135 : Index := 128#32
  ![v199.toNat, 128]
def k0_off12 (i : grid0.Coords) (k0_t1 : Fin (k0_t1_loop i).trips) : Fin 4 → Nat :=
  let c1_138 : Index := 1#32
  let arg1 : BitVec 32 := BitVec.ofNat 32 (i 1).val
  let c1_i32 : BitVec 32 := 1#32
  let v125 : BitVec 32 := Scalar.addi arg1 c1_i32
  let c1_i32_79 : BitVec 32 := 1#32
  let arg13 : BitVec 32 := Scf.iv v125 c1_i32_79 k0_t1
  let v204 : Index := Scalar.indexCast arg13
  let c0_139 : Index := 0#32
  let c0_140 : Index := 0#32
  ![1, v204.toNat, 0, 0]
@[reducible] def k0_t2_loop (i : grid0.Coords) : Scf.Loop 32 :=
  let arg1 : BitVec 32 := BitVec.ofNat 32 (i 1).val
  let c1_i32 : BitVec 32 := 1#32
  let v125 : BitVec 32 := Scalar.addi arg1 c1_i32
  let c8_i32 : BitVec 32 := 8#32
  let v126 : BitVec 32 := Scalar.subi c8_i32 v125
  let c1_i32_78 : BitVec 32 := 1#32
  let v128 : BitVec 32 := Scalar.divsi v126 c1_i32_78
  let v129 : BitVec 32 := Scalar.muli v128 c1_i32_78
  let v130 : BitVec 32 := Scalar.addi v125 v129
  let v127 : BitVec 32 := Scalar.addi v125 v126
  let c1_i32_80 : BitVec 32 := 1#32
  ⟨v130, v127, c1_i32_80⟩
def k0_mult3 (i : grid0.Coords) (k0_t2 : Fin (k0_t2_loop i).trips) : BitVec 32 :=
  let arg1 : BitVec 32 := BitVec.ofNat 32 (i 1).val
  let c1_i32 : BitVec 32 := 1#32
  let v125 : BitVec 32 := Scalar.addi arg1 c1_i32
  let c8_i32 : BitVec 32 := 8#32
  let v126 : BitVec 32 := Scalar.subi c8_i32 v125
  let c1_i32_78 : BitVec 32 := 1#32
  let v128 : BitVec 32 := Scalar.divsi v126 c1_i32_78
  let v129 : BitVec 32 := Scalar.muli v128 c1_i32_78
  let v130 : BitVec 32 := Scalar.addi v125 v129
  let c1_i32_80 : BitVec 32 := 1#32
  let arg13 : BitVec 32 := Scf.iv v130 c1_i32_80 k0_t2
  let c512_i32_103 : BitVec 32 := 512#32
  let v148 : BitVec 32 := Scalar.muli arg13 c512_i32_103
  v148
def k0_off13 (i : grid0.Coords) (k0_t2 : Fin (k0_t2_loop i).trips) : Fin 2 → Nat :=
  let arg1 : BitVec 32 := BitVec.ofNat 32 (i 1).val
  let c1_i32 : BitVec 32 := 1#32
  let v125 : BitVec 32 := Scalar.addi arg1 c1_i32
  let c8_i32 : BitVec 32 := 8#32
  let v126 : BitVec 32 := Scalar.subi c8_i32 v125
  let c1_i32_78 : BitVec 32 := 1#32
  let v128 : BitVec 32 := Scalar.divsi v126 c1_i32_78
  let v129 : BitVec 32 := Scalar.muli v128 c1_i32_78
  let v130 : BitVec 32 := Scalar.addi v125 v129
  let c1_i32_80 : BitVec 32 := 1#32
  let arg13 : BitVec 32 := Scf.iv v130 c1_i32_80 k0_t2
  let c512_i32_103 : BitVec 32 := 512#32
  let v148 : BitVec 32 := Scalar.muli arg13 c512_i32_103
  let v149 : BitVec 32 := v148
  let v150 : Index := Scalar.indexCast v149
  let c0_104 : Index := 0#32
  ![v150.toNat, 0]
def k0_off14 (i : grid0.Coords) (k0_t2 : Fin (k0_t2_loop i).trips) : Fin 2 → Nat :=
  let arg1 : BitVec 32 := BitVec.ofNat 32 (i 1).val
  let c1_i32 : BitVec 32 := 1#32
  let v125 : BitVec 32 := Scalar.addi arg1 c1_i32
  let c8_i32 : BitVec 32 := 8#32
  let v126 : BitVec 32 := Scalar.subi c8_i32 v125
  let c1_i32_78 : BitVec 32 := 1#32
  let v128 : BitVec 32 := Scalar.divsi v126 c1_i32_78
  let v129 : BitVec 32 := Scalar.muli v128 c1_i32_78
  let v130 : BitVec 32 := Scalar.addi v125 v129
  let c1_i32_80 : BitVec 32 := 1#32
  let arg13 : BitVec 32 := Scf.iv v130 c1_i32_80 k0_t2
  let c512_i32_103 : BitVec 32 := 512#32
  let v148 : BitVec 32 := Scalar.muli arg13 c512_i32_103
  let v149 : BitVec 32 := v148
  let v152 : Index := Scalar.indexCast v149
  let c0_105 : Index := 0#32
  ![v152.toNat, 0]
def k0_off15 (i : grid0.Coords) (k0_t2 : Fin (k0_t2_loop i).trips) : Fin 4 → Nat :=
  let c0_108 : Index := 0#32
  let arg1 : BitVec 32 := BitVec.ofNat 32 (i 1).val
  let c1_i32 : BitVec 32 := 1#32
  let v125 : BitVec 32 := Scalar.addi arg1 c1_i32
  let c8_i32 : BitVec 32 := 8#32
  let v126 : BitVec 32 := Scalar.subi c8_i32 v125
  let c1_i32_78 : BitVec 32 := 1#32
  let v128 : BitVec 32 := Scalar.divsi v126 c1_i32_78
  let v129 : BitVec 32 := Scalar.muli v128 c1_i32_78
  let v130 : BitVec 32 := Scalar.addi v125 v129
  let c1_i32_80 : BitVec 32 := 1#32
  let arg13 : BitVec 32 := Scf.iv v130 c1_i32_80 k0_t2
  let v157 : Index := Scalar.indexCast arg13
  let c0_109 : Index := 0#32
  let c0_110 : Index := 0#32
  ![0, v157.toNat, 0, 0]
def k0_off16 (i : grid0.Coords) (k0_t2 : Fin (k0_t2_loop i).trips) : Fin 2 → Nat :=
  let arg1 : BitVec 32 := BitVec.ofNat 32 (i 1).val
  let c1_i32 : BitVec 32 := 1#32
  let v125 : BitVec 32 := Scalar.addi arg1 c1_i32
  let c8_i32 : BitVec 32 := 8#32
  let v126 : BitVec 32 := Scalar.subi c8_i32 v125
  let c1_i32_78 : BitVec 32 := 1#32
  let v128 : BitVec 32 := Scalar.divsi v126 c1_i32_78
  let v129 : BitVec 32 := Scalar.muli v128 c1_i32_78
  let v130 : BitVec 32 := Scalar.addi v125 v129
  let c1_i32_80 : BitVec 32 := 1#32
  let arg13 : BitVec 32 := Scf.iv v130 c1_i32_80 k0_t2
  let c512_i32_103 : BitVec 32 := 512#32
  let v148 : BitVec 32 := Scalar.muli arg13 c512_i32_103
  let v149 : BitVec 32 := v148
  let v197 : Index := Scalar.indexCast v149
  let c256_134 : Index := 256#32
  ![v197.toNat, 256]
def k0_off17 (i : grid0.Coords) (k0_t2 : Fin (k0_t2_loop i).trips) : Fin 2 → Nat :=
  let arg1 : BitVec 32 := BitVec.ofNat 32 (i 1).val
  let c1_i32 : BitVec 32 := 1#32
  let v125 : BitVec 32 := Scalar.addi arg1 c1_i32
  let c8_i32 : BitVec 32 := 8#32
  let v126 : BitVec 32 := Scalar.subi c8_i32 v125
  let c1_i32_78 : BitVec 32 := 1#32
  let v128 : BitVec 32 := Scalar.divsi v126 c1_i32_78
  let v129 : BitVec 32 := Scalar.muli v128 c1_i32_78
  let v130 : BitVec 32 := Scalar.addi v125 v129
  let c1_i32_80 : BitVec 32 := 1#32
  let arg13 : BitVec 32 := Scf.iv v130 c1_i32_80 k0_t2
  let c512_i32_103 : BitVec 32 := 512#32
  let v148 : BitVec 32 := Scalar.muli arg13 c512_i32_103
  let v149 : BitVec 32 := v148
  let v199 : Index := Scalar.indexCast v149
  let c128_135 : Index := 128#32
  ![v199.toNat, 128]
def k0_off18 (i : grid0.Coords) (k0_t2 : Fin (k0_t2_loop i).trips) : Fin 4 → Nat :=
  let c1_138 : Index := 1#32
  let arg1 : BitVec 32 := BitVec.ofNat 32 (i 1).val
  let c1_i32 : BitVec 32 := 1#32
  let v125 : BitVec 32 := Scalar.addi arg1 c1_i32
  let c8_i32 : BitVec 32 := 8#32
  let v126 : BitVec 32 := Scalar.subi c8_i32 v125
  let c1_i32_78 : BitVec 32 := 1#32
  let v128 : BitVec 32 := Scalar.divsi v126 c1_i32_78
  let v129 : BitVec 32 := Scalar.muli v128 c1_i32_78
  let v130 : BitVec 32 := Scalar.addi v125 v129
  let c1_i32_80 : BitVec 32 := 1#32
  let arg13 : BitVec 32 := Scf.iv v130 c1_i32_80 k0_t2
  let v204 : Index := Scalar.indexCast arg13
  let c0_139 : Index := 0#32
  let c0_140 : Index := 0#32
  ![1, v204.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x8x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x8x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | "scale" => some (((Real.sqrt 192)⁻¹ : ℝ) : EReal)
  | "scale_log2e" => some (((Real.sqrt 192)⁻¹ * (Real.log 2)⁻¹ : ℝ) : EReal)
  | _ => none
-- ==== ReferenceIdeal.lean ====
abbrev S4096x2048 : Shape := ⟨2, ![4096, 2048]⟩
abbrev S4096x128 : Shape := ⟨2, ![4096, 128]⟩
abbrev S1x4096x1x128 : Shape := ⟨4, ![1, 4096, 1, 128]⟩
abbrev S1x4096x8x128 : Shape := ⟨4, ![1, 4096, 8, 128]⟩
abbrev S4096x1024 : Shape := ⟨2, ![4096, 1024]⟩
abbrev S4096x8x256 : Shape := ⟨3, ![4096, 8, 256]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x128 : Shape := ⟨3, ![8, 4096, 128]⟩

abbrev nBuf : Space → Nat
  | .hbm => 126
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x128, .bf16⟩
  | .hbm, ⟨3, _⟩ => ⟨S4096x2048, .bf16⟩
  | .hbm, ⟨4, _⟩ => ⟨S4096x128, .f32⟩
  | .hbm, ⟨5, _⟩ => ⟨S1x4096x1x128, .f32⟩
  | .hbm, ⟨6, _⟩ => ⟨S1x4096x8x128, .f32⟩
  | .hbm, ⟨7, _⟩ => ⟨S4096x1024, .f32⟩
  | .hbm, ⟨8, _⟩ => ⟨S4096x2048, .f32⟩
  | .hbm, ⟨9, _⟩ => ⟨S4096x2048, .f32⟩
  | .hbm, ⟨10, _⟩ => ⟨S4096x8x256, .f32⟩
  | .hbm, ⟨11, _⟩ => ⟨S4096x8x256, .f32⟩
  | .hbm, ⟨12, _⟩ => ⟨S4096x8x128, .f32⟩
  | .hbm, ⟨13, _⟩ => ⟨S4096x8x128, .f32⟩
  | .hbm, ⟨14, _⟩ => ⟨S4096x8x128, .f32⟩
  | .hbm, ⟨15, _⟩ => ⟨S8x4096x4096, .f32⟩
  | .hbm, ⟨16, _⟩ => ⟨S4096x8x128, .f32⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S_, .f32⟩
  | .hbm, ⟨21, _⟩ => ⟨S8x4096x4096, .f32⟩
  | .hbm, ⟨22, _⟩ => ⟨S8x4096x4096, .f32⟩
  | .hbm, ⟨23, _⟩ => ⟨S4096, .i32⟩
  | .hbm, ⟨24, _⟩ => ⟨S1x4096, .i32⟩
  | .hbm, ⟨25, _⟩ => ⟨S4096x1, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S_, .f32⟩
  | .hbm, ⟨30, _⟩ => ⟨S_, .f32⟩
  | .hbm, ⟨31, _⟩ => ⟨S8x4096x4096, .i1⟩
  | .hbm, ⟨32, _⟩ => ⟨S8x4096x4096, .f32⟩
  | .hbm, ⟨33, _⟩ => ⟨S8x4096x4096, .f32⟩
  | .hbm, ⟨34, _⟩ => ⟨S_, .f32⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S8x4096x4096, .f32⟩
  | .hbm, ⟨40, _⟩ => ⟨S8x4096x4096, .i1⟩
  | .hbm, ⟨41, _⟩ => ⟨S8x4096x4096, .f32⟩
  | .hbm, ⟨42, _⟩ => ⟨S_, .f32⟩
  | .hbm, ⟨43, _⟩ => ⟨S8x4096, .f32⟩
  | .hbm, ⟨44, _⟩ => ⟨S_, .f32⟩
  | .hbm, ⟨45, _⟩ => ⟨S8x4096, .f32⟩
  | .hbm, ⟨46, _⟩ => ⟨S8x4096, .f32⟩
  | .hbm, ⟨47, _⟩ => ⟨S_, .f32⟩
  | .hbm, ⟨48, _⟩ => ⟨S8x4096, .f32⟩
  | .hbm, ⟨49, _⟩ => ⟨S8x4096, .i1⟩
  | .hbm, ⟨50, _⟩ => ⟨S_, .f32⟩
  | .hbm, ⟨51, _⟩ => ⟨S8x4096, .f32⟩
  | .hbm, ⟨52, _⟩ => ⟨S8x4096, .i1⟩
  | .hbm, ⟨53, _⟩ => ⟨S_, .f32⟩
  | .hbm, ⟨54, _⟩ => ⟨S8x4096, .f32⟩
  | .hbm, ⟨55, _⟩ => ⟨S_, .f32⟩
  | .hbm, ⟨56, _⟩ => ⟨S8x4096, .f32⟩
  | .hbm, ⟨57, _⟩ => ⟨S_, .f32⟩
  | .hbm, ⟨58, _⟩ => ⟨S8x4096, .f32⟩
  | .hbm, ⟨59, _⟩ => ⟨S8x4096, .f32⟩
  | .hbm, ⟨60, _⟩ => ⟨S8x4096, .f32⟩
  | .hbm, ⟨61, _⟩ => ⟨S8x4096x1, .f32⟩
  | .hbm, ⟨62, _⟩ => ⟨S8x4096x4096, .f32⟩
  | .hbm, ⟨63, _⟩ => ⟨S8x4096x4096, .f32⟩
  | .hbm, ⟨64, _⟩ => ⟨S8x4096x4096, .f32⟩
  | .hbm, ⟨65, _⟩ => ⟨S_, .f32⟩
  | .hbm, ⟨66, _⟩ => ⟨S8x4096, .f32⟩
  | .hbm, ⟨67, _⟩ => ⟨S8x4096x1, .f32⟩
  | .hbm, ⟨68, _⟩ => ⟨S8x4096x4096, .f32⟩
  | .hbm, ⟨69, _⟩ => ⟨S8x4096x4096, .f32⟩
  | .hbm, ⟨70, _⟩ => ⟨S8x4096x1, .f32⟩
  | .hbm, ⟨71, _⟩ => ⟨S_, .f32⟩
  | .hbm, ⟨72, _⟩ => ⟨S8x4096x1, .f32⟩
  | .hbm, ⟨73, _⟩ => ⟨S8x4096x1, .f32⟩
  | .hbm, ⟨74, _⟩ => ⟨S4096x8x128, .f32⟩
  | .hbm, ⟨75, _⟩ => ⟨S8x128x4096, .f32⟩
  | .hbm, ⟨76, _⟩ => ⟨S4096x8x128, .f32⟩
  | .hbm, ⟨77, _⟩ => ⟨S4096x1024, .f32⟩
  | .hbm, ⟨78, _⟩ => ⟨S4096x1024, .bf16⟩
  | .hbm, ⟨79, _⟩ => ⟨S4096x1024, .f32⟩
  | .hbm, ⟨80, _⟩ => ⟨S4096x8x128, .f32⟩
  | .hbm, ⟨81, _⟩ => ⟨S8x128x4096, .f32⟩
  | .hbm, ⟨82, _⟩ => ⟨S8x4096x4096, .f32⟩
  | .hbm, ⟨83, _⟩ => ⟨S8x128x4096, .f32⟩
  | .hbm, ⟨84, _⟩ => ⟨S4096x8x128, .f32⟩
  | .hbm, ⟨85, _⟩ => ⟨S_, .f32⟩
  | .hbm, ⟨86, _⟩ => ⟨S4096x8x256, .f32⟩
  | .hbm, ⟨87, _⟩ => ⟨S8x4096x4096, .f32⟩
  | .hbm, ⟨88, _⟩ => ⟨S8x4096x4096, .f32⟩
  | .hbm, ⟨89, _⟩ => ⟨S8x4096x4096, .f32⟩
  | .hbm, ⟨90, _⟩ => ⟨S_, .f32⟩
  | .hbm, ⟨91, _⟩ => ⟨S8x4096, .f32⟩
  | .hbm, ⟨92, _⟩ => ⟨S8x4096x1, .f32⟩
  | .hbm, ⟨93, _⟩ => ⟨S8x4096x1, .f32⟩
  | .hbm, ⟨94, _⟩ => ⟨S8x4096x4096, .f32⟩
  | .hbm, ⟨95, _⟩ => ⟨S8x4096x4096, .f32⟩
  | .hbm, ⟨96, _⟩ => ⟨S_, .f32⟩
  | .hbm, ⟨97, _⟩ => ⟨S8x4096, .f32⟩
  | .hbm, ⟨98, _⟩ => ⟨S8x4096x4096, .f32⟩
  | .hbm, ⟨99, _⟩ => ⟨S8x4096x4096, .f32⟩
  | .hbm, ⟨100, _⟩ => ⟨S8x4096x4096, .f32⟩
  | .hbm, ⟨101, _⟩ => ⟨S_, .f32⟩
  | .hbm, ⟨102, _⟩ => ⟨S8x4096x4096, .f32⟩
  | .hbm, ⟨103, _⟩ => ⟨S8x4096x4096, .f32⟩
  | .hbm, ⟨104, _⟩ => ⟨S8x4096x4096, .f32⟩
  | .hbm, ⟨105, _⟩ => ⟨S8x4096x4096, .f32⟩
  | .hbm, ⟨106, _⟩ => ⟨S8x4096x128, .f32⟩
  | .hbm, ⟨107, _⟩ => ⟨S4096x8x128, .f32⟩
  | .hbm, ⟨108, _⟩ => ⟨S8x4096x128, .f32⟩
  | .hbm, ⟨109, _⟩ => ⟨S4096x8x128, .f32⟩
  | .hbm, ⟨110, _⟩ => ⟨S_, .f32⟩
  | .hbm, ⟨111, _⟩ => ⟨S4096x8x256, .f32⟩
  | .hbm, ⟨112, _⟩ => ⟨S8x4096x128, .f32⟩
  | .hbm, ⟨113, _⟩ => ⟨S4096x8x128, .f32⟩
  | .hbm, ⟨114, _⟩ => ⟨S8x4096x128, .f32⟩
  | .hbm, ⟨115, _⟩ => ⟨S4096x8x128, .f32⟩
  | .hbm, ⟨116, _⟩ => ⟨S_, .f32⟩
  | .hbm, ⟨117, _⟩ => ⟨S4096x8x256, .f32⟩
  | .hbm, ⟨118, _⟩ => ⟨S4096x8x256, .f32⟩
  | .hbm, ⟨119, _⟩ => ⟨S_, .f32⟩
  | .hbm, ⟨120, _⟩ => ⟨S4096x8x256, .f32⟩
  | .hbm, ⟨121, _⟩ => ⟨S4096x8x256, .f32⟩
  | .hbm, ⟨122, _⟩ => ⟨S4096x1024, .f32⟩
  | .hbm, ⟨123, _⟩ => ⟨S4096x2048, .f32⟩
  | .hbm, ⟨124, _⟩ => ⟨S4096x2048, .f32⟩
  | .hbm, ⟨125, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_call0_v0 : Ref sig .tc := ⟨.hbm, 30, rfl⟩
abbrev main_v24_1 : Ref sig .tc := ⟨.hbm, 31, rfl⟩
abbrev main_call0_v2 : Ref sig .tc := ⟨.hbm, 32, rfl⟩
abbrev main_v24_0 : Ref sig .tc := ⟨.hbm, 33, rfl⟩
abbrev main_call0_cst : Ref sig .tc := ⟨.hbm, 34, rfl⟩
abbrev main_v24_2 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_13 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_call1_cst : Ref sig .tc := ⟨.hbm, 101, rfl⟩
abbrev main_call1_v0 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_14 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_15 : Ref sig .tc := ⟨.hbm, 116, rfl⟩
abbrev main_v89 : Ref sig .tc := ⟨.hbm, 117, rfl⟩
abbrev main_v90 : Ref sig .tc := ⟨.hbm, 118, rfl⟩
abbrev main_cst_16 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩

abbrev nD : Nat := 1
abbrev τ : Topo := Topo.v7x

variable {F : FTy → Type} [FloatOps F]
-- ==== KernelDh.lean ====
abbrev S2048x6656 : Shape := ⟨2, ![2048, 6656]⟩
abbrev S4096x6656 : Shape := ⟨2, ![4096, 6656]⟩
abbrev S4096x2048 : Shape := ⟨2, ![4096, 2048]⟩
abbrev S2048x1664 : Shape := ⟨2, ![2048, 1664]⟩
abbrev S1024x1664 : Shape := ⟨2, ![1024, 1664]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x6656, .bf16⟩
  | .hbm, ⟨1, _⟩ => ⟨S4096x6656, .bf16⟩
  | .hbm, ⟨2, _⟩ => ⟨S4096x2048, .f32⟩
  | .local _ .vmem, ⟨0, _⟩ => ⟨S2048x1664, .bf16⟩
  | .local _ .vmem, ⟨1, _⟩ => ⟨S2048x1664, .bf16⟩
  | .local _ .vmem, ⟨2, _⟩ => ⟨S1024x1664, .bf16⟩
  | .local _ .vmem, ⟨3, _⟩ => ⟨S1024x1664, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S2048x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDhIdeal.lean ====
abbrev S2048x6656 : Shape := ⟨2, ![2048, 6656]⟩
abbrev S4096x6656 : Shape := ⟨2, ![4096, 6656]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x6656, .bf16⟩
  | .hbm, ⟨1, _⟩ => ⟨S4096x6656, .bf16⟩
  | .hbm, ⟨2, _⟩ => ⟨S_, .f32⟩
  | .hbm, ⟨3, _⟩ => ⟨S4096x2048, .f32⟩
  | .hbm, ⟨4, _⟩ => ⟨S2048x6656, .f32⟩
  | .hbm, ⟨5, _⟩ => ⟨S4096x6656, .f32⟩
  | .hbm, ⟨6, _⟩ => ⟨S4096x6656, .f32⟩
  | .hbm, ⟨7, _⟩ => ⟨S4096x2048, .f32⟩
  | _, _ => ⟨S2048x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDw.lean ====
abbrev S2048x4096 : Shape := ⟨2, ![2048, 4096]⟩
abbrev S4096x6656 : Shape := ⟨2, ![4096, 6656]⟩
abbrev S2048x5120 : Shape := ⟨2, ![2048, 5120]⟩
abbrev S2048x2048 : Shape := ⟨2, ![2048, 2048]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S4096x6656, .bf16⟩
  | .hbm, ⟨2, _⟩ => ⟨S2048x5120, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 10, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwIdeal.lean ====
abbrev S2048x4096 : Shape := ⟨2, ![2048, 4096]⟩
abbrev S4096x6656 : Shape := ⟨2, ![4096, 6656]⟩
abbrev S_ : Shape := ⟨0, ![]⟩
abbrev S2048x5120 : Shape := ⟨2, ![2048, 5120]⟩
abbrev S4096x2048 : Shape := ⟨2, ![4096, 2048]⟩
abbrev S4096x5120 : Shape := ⟨2, ![4096, 5120]⟩
abbrev S5120x2048 : Shape := ⟨2, ![5120, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x6656, .bf16⟩
  | .hbm, ⟨2, _⟩ => ⟨S_, .f32⟩
  | .hbm, ⟨3, _⟩ => ⟨S2048x5120, .f32⟩
  | .hbm, ⟨4, _⟩ => ⟨S2048x4096, .f32⟩
  | .hbm, ⟨5, _⟩ => ⟨S4096x2048, .f32⟩
  | .hbm, ⟨6, _⟩ => ⟨S4096x5120, .f32⟩
  | .hbm, ⟨7, _⟩ => ⟨S4096x5120, .bf16⟩
  | .hbm, ⟨8, _⟩ => ⟨S4096x5120, .f32⟩
  | .hbm, ⟨9, _⟩ => ⟨S5120x2048, .f32⟩
  | .hbm, ⟨10, _⟩ => ⟨S2048x5120, .f32⟩
  | .hbm, ⟨11, _⟩ => ⟨S2048x5120, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDl.lean ====
abbrev S2048x4096 : Shape := ⟨2, ![2048, 4096]⟩
abbrev S4096x6656 : Shape := ⟨2, ![4096, 6656]⟩
abbrev S2048x1536 : Shape := ⟨2, ![2048, 1536]⟩
abbrev S1024x1024 : Shape := ⟨2, ![1024, 1024]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S4096x6656, .bf16⟩
  | .hbm, ⟨2, _⟩ => ⟨S2048x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDlIdeal.lean ====
abbrev S2048x4096 : Shape := ⟨2, ![2048, 4096]⟩
abbrev S4096x6656 : Shape := ⟨2, ![4096, 6656]⟩
abbrev S_ : Shape := ⟨0, ![]⟩
abbrev S2048x1536 : Shape := ⟨2, ![2048, 1536]⟩
abbrev S4096x2048 : Shape := ⟨2, ![4096, 2048]⟩
abbrev S4096x1536 : Shape := ⟨2, ![4096, 1536]⟩
abbrev S1536x2048 : Shape := ⟨2, ![1536, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x6656, .bf16⟩
  | .hbm, ⟨2, _⟩ => ⟨S_, .f32⟩
  | .hbm, ⟨3, _⟩ => ⟨S2048x1536, .f32⟩
  | .hbm, ⟨4, _⟩ => ⟨S2048x4096, .f32⟩
  | .hbm, ⟨5, _⟩ => ⟨S4096x2048, .f32⟩
  | .hbm, ⟨6, _⟩ => ⟨S4096x1536, .f32⟩
  | .hbm, ⟨7, _⟩ => ⟨S4096x1536, .bf16⟩
  | .hbm, ⟨8, _⟩ => ⟨S4096x1536, .f32⟩
  | .hbm, ⟨9, _⟩ => ⟨S1536x2048, .f32⟩
  | .hbm, ⟨10, _⟩ => ⟨S2048x1536, .f32⟩
  | .hbm, ⟨11, _⟩ => ⟨S2048x1536, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelPr.lean ====
abbrev S4096x2048 : Shape := ⟨2, ![4096, 2048]⟩
abbrev S2048x6656 : Shape := ⟨2, ![2048, 6656]⟩
abbrev S4096x6656 : Shape := ⟨2, ![4096, 6656]⟩
abbrev S4096x128 : Shape := ⟨2, ![4096, 128]⟩
abbrev S2048x2048 : Shape := ⟨2, ![2048, 2048]⟩
abbrev S2048x512 : Shape := ⟨2, ![2048, 512]⟩
abbrev S2048x128 : Shape := ⟨2, ![2048, 128]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x6656, .bf16⟩
  | .hbm, ⟨2, _⟩ => ⟨S4096x6656, .bf16⟩
  | .hbm, ⟨3, _⟩ => ⟨S4096x128, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x128, .f32⟩
  | .local _ .vmem, ⟨7, _⟩ => ⟨S2048x128, .f32⟩
  | .local _ .vmem, ⟨8, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 13, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def k0_cond3 (i : grid0.Coords) : BitVec 1 :=
  let arg2 : BitVec 32 := BitVec.ofNat 32 (i 2).val
  let c0_i32_10 : BitVec 32 := 0#32
  let v14 : BitVec 1 := Scalar.cmpi .eq arg2 c0_i32_10
  let arg1 : BitVec 32 := BitVec.ofNat 32 (i 1).val
  let c1_i32 : BitVec 32 := 1#32
  let v15 : BitVec 1 := Scalar.cmpi .eq arg1 c1_i32
  let v16 : BitVec 1 := Scalar.andi v14 v15
  let v17 : BitVec 32 := Scalar.extui v16
  let c0_i32_11 : BitVec 32 := 0#32
  let v18 : BitVec 1 := Scalar.cmpi .ne v17 c0_i32_11
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== ReferencePrIdeal.lean ====
abbrev S4096x2048 : Shape := ⟨2, ![4096, 2048]⟩
abbrev S2048x6656 : Shape := ⟨2, ![2048, 6656]⟩
abbrev S4096x6656 : Shape := ⟨2, ![4096, 6656]⟩
abbrev S4096x128 : Shape := ⟨2, ![4096, 128]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6656, .bf16⟩
  | .hbm, ⟨2, _⟩ => ⟨S4096x2048, .f32⟩
  | .hbm, ⟨3, _⟩ => ⟨S2048x6656, .f32⟩
  | .hbm, ⟨4, _⟩ => ⟨S4096x6656, .f32⟩
  | .hbm, ⟨5, _⟩ => ⟨S4096x6656, .bf16⟩
  | .hbm, ⟨6, _⟩ => ⟨S4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelDo.lean ====
abbrev S2048x4096 : Shape := ⟨2, ![2048, 4096]⟩
abbrev S4096x2048 : Shape := ⟨2, ![4096, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDoIdeal.lean ====
abbrev S2048x4096 : Shape := ⟨2, ![2048, 4096]⟩
abbrev S4096x2048 : Shape := ⟨2, ![4096, 2048]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S2048x4096, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelUq.lean ====
abbrev S768x4096 : Shape := ⟨2, ![768, 4096]⟩
abbrev S4096x2048 : Shape := ⟨2, ![4096, 2048]⟩
abbrev S768x2048 : Shape := ⟨2, ![768, 2048]⟩
abbrev S768x1024 : Shape := ⟨2, ![768, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S768x4096, .bf16⟩
  | .hbm, ⟨1, _⟩ => ⟨S4096x2048, .bf16⟩
  | .hbm, ⟨2, _⟩ => ⟨S768x2048, .bf16⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUqIdeal.lean ====
abbrev S768x4096 : Shape := ⟨2, ![768, 4096]⟩
abbrev S4096x2048 : Shape := ⟨2, ![4096, 2048]⟩
abbrev S_ : Shape := ⟨0, ![]⟩
abbrev S768x2048 : Shape := ⟨2, ![768, 2048]⟩
abbrev S4096x768 : Shape := ⟨2, ![4096, 768]⟩
abbrev S2048x768 : Shape := ⟨2, ![2048, 768]⟩

abbrev nBuf : Space → Nat
  | .hbm => 11
  | .vmem => 0
  | .smem => 0
  | _ => 0

abbrev bufTy : (tb : Table) → Fin (tcTables nBuf tb) → BufTy
  | .hbm, ⟨0, _⟩ => ⟨S768x4096, .bf16⟩
  | .hbm, ⟨1, _⟩ => ⟨S4096x2048, .bf16⟩
  | .hbm, ⟨2, _⟩ => ⟨S_, .f32⟩
  | .hbm, ⟨3, _⟩ => ⟨S768x2048, .f32⟩
  | .hbm, ⟨4, _⟩ => ⟨S768x4096, .f32⟩
  | .hbm, ⟨5, _⟩ => ⟨S4096x768, .f32⟩
  | .hbm, ⟨6, _⟩ => ⟨S4096x2048, .f32⟩
  | .hbm, ⟨7, _⟩ => ⟨S4096x2048, .f32⟩
  | .hbm, ⟨8, _⟩ => ⟨S2048x768, .f32⟩
  | .hbm, ⟨9, _⟩ => ⟨S768x2048, .f32⟩
  | .hbm, ⟨10, _⟩ => ⟨S768x2048, .bf16⟩
  | _, _ => ⟨S768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelUkv.lean ====
abbrev S512x4096 : Shape := ⟨2, ![512, 4096]⟩
abbrev S4096x2048 : Shape := ⟨2, ![4096, 2048]⟩
abbrev S512x2048 : Shape := ⟨2, ![512, 2048]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S512x4096, .bf16⟩
  | .hbm, ⟨1, _⟩ => ⟨S4096x2048, .bf16⟩
  | .hbm, ⟨2, _⟩ => ⟨S512x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUkvIdeal.lean ====
abbrev S512x4096 : Shape := ⟨2, ![512, 4096]⟩
abbrev S4096x2048 : Shape := ⟨2, ![4096, 2048]⟩
abbrev S_ : Shape := ⟨0, ![]⟩
abbrev S512x2048 : Shape := ⟨2, ![512, 2048]⟩
abbrev S4096x512 : Shape := ⟨2, ![4096, 512]⟩
abbrev S2048x512 : Shape := ⟨2, ![2048, 512]⟩

abbrev nBuf : Space → Nat
  | .hbm => 11
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S4096x2048, .bf16⟩
  | .hbm, ⟨2, _⟩ => ⟨S_, .f32⟩
  | .hbm, ⟨3, _⟩ => ⟨S512x2048, .f32⟩
  | .hbm, ⟨4, _⟩ => ⟨S512x4096, .f32⟩
  | .hbm, ⟨5, _⟩ => ⟨S4096x512, .f32⟩
  | .hbm, ⟨6, _⟩ => ⟨S4096x2048, .f32⟩
  | .hbm, ⟨7, _⟩ => ⟨S4096x2048, .f32⟩
  | .hbm, ⟨8, _⟩ => ⟨S2048x512, .f32⟩
  | .hbm, ⟨9, _⟩ => ⟨S512x2048, .f32⟩
  | .hbm, ⟨10, _⟩ => ⟨S512x2048, .bf16⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelQn.lean ====
abbrev S768x2048 : Shape := ⟨2, ![768, 2048]⟩
abbrev S4096x2048 : Shape := ⟨2, ![4096, 2048]⟩
abbrev S4096x768 : Shape := ⟨2, ![4096, 768]⟩
abbrev S1024x2048 : Shape := ⟨2, ![1024, 2048]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S768x2048, .bf16⟩
  | .hbm, ⟨1, _⟩ => ⟨S4096x2048, .bf16⟩
  | .hbm, ⟨2, _⟩ => ⟨S4096x768, .f32⟩
  | .local _ .vmem, ⟨0, _⟩ => ⟨S1024x2048, .bf16⟩
  | .local _ .vmem, ⟨1, _⟩ => ⟨S1024x2048, .bf16⟩
  | .local _ .vmem, ⟨2, _⟩ => ⟨S768x2048, .bf16⟩
  | .local _ .vmem, ⟨3, _⟩ => ⟨S1024x768, .f32⟩
  | .local _ .vmem, ⟨4, _⟩ => ⟨S1024x768, .f32⟩
  | .local _ .vmem, ⟨5, _⟩ => ⟨S1024x768, .f32⟩
  | _, _ => ⟨S768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceQnIdeal.lean ====
abbrev S768x2048 : Shape := ⟨2, ![768, 2048]⟩
abbrev S4096x2048 : Shape := ⟨2, ![4096, 2048]⟩
abbrev S_ : Shape := ⟨0, ![]⟩
abbrev S4096x768 : Shape := ⟨2, ![4096, 768]⟩

abbrev nBuf : Space → Nat
  | .hbm => 8
  | .vmem => 0
  | .smem => 0
  | _ => 0

abbrev bufTy : (tb : Table) → Fin (tcTables nBuf tb) → BufTy
  | .hbm, ⟨0, _⟩ => ⟨S768x2048, .bf16⟩
  | .hbm, ⟨1, _⟩ => ⟨S4096x2048, .bf16⟩
  | .hbm, ⟨2, _⟩ => ⟨S_, .f32⟩
  | .hbm, ⟨3, _⟩ => ⟨S4096x768, .f32⟩
  | .hbm, ⟨4, _⟩ => ⟨S768x2048, .f32⟩
  | .hbm, ⟨5, _⟩ => ⟨S4096x2048, .f32⟩
  | .hbm, ⟨6, _⟩ => ⟨S4096x2048, .f32⟩
  | .hbm, ⟨7, _⟩ => ⟨S4096x768, .f32⟩
  | _, _ => ⟨S768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelKvn.lean ====
abbrev S512x2048 : Shape := ⟨2, ![512, 2048]⟩
abbrev S4096x2048 : Shape := ⟨2, ![4096, 2048]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x2048, .bf16⟩
  | .hbm, ⟨1, _⟩ => ⟨S4096x2048, .bf16⟩
  | .hbm, ⟨2, _⟩ => ⟨S4096x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceKvnIdeal.lean ====
abbrev S512x2048 : Shape := ⟨2, ![512, 2048]⟩
abbrev S4096x2048 : Shape := ⟨2, ![4096, 2048]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S4096x2048, .bf16⟩
  | .hbm, ⟨2, _⟩ => ⟨S_, .f32⟩
  | .hbm, ⟨3, _⟩ => ⟨S4096x512, .f32⟩
  | .hbm, ⟨4, _⟩ => ⟨S512x2048, .f32⟩
  | .hbm, ⟨5, _⟩ => ⟨S4096x2048, .f32⟩
  | .hbm, ⟨6, _⟩ => ⟨S4096x2048, .f32⟩
  | .hbm, ⟨7, _⟩ => ⟨S4096x512, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelKv.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceKvIdeal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x512, .f32⟩
  | .hbm, ⟨3, _⟩ => ⟨S512x2048, .f32⟩
  | .hbm, ⟨4, _⟩ => ⟨S4096x2048, .f32⟩
  | .hbm, ⟨5, _⟩ => ⟨S4096x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelDg.lean ====
abbrev S4096x2048 : Shape := ⟨2, ![4096, 2048]⟩
abbrev S2048x2048 : Shape := ⟨2, ![2048, 2048]⟩
abbrev S4096x6656 : Shape := ⟨2, ![4096, 6656]⟩
abbrev S4096x128 : Shape := ⟨2, ![4096, 128]⟩
abbrev S1024x2048 : Shape := ⟨2, ![1024, 2048]⟩
abbrev S512x2048 : Shape := ⟨2, ![512, 2048]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 7
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x6656, .bf16⟩
  | .hbm, ⟨4, _⟩ => ⟨S4096x2048, .bf16⟩
  | .hbm, ⟨5, _⟩ => ⟨S4096x6656, .bf16⟩
  | .hbm, ⟨6, _⟩ => ⟨S4096x128, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x128, .f32⟩
  | .local _ .vmem, ⟨13, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceDgIdeal.lean ====
abbrev S4096x2048 : Shape := ⟨2, ![4096, 2048]⟩
abbrev S2048x2048 : Shape := ⟨2, ![2048, 2048]⟩
abbrev S4096x6656 : Shape := ⟨2, ![4096, 6656]⟩
abbrev S_ : Shape := ⟨0, ![]⟩
abbrev S4096x16x128 : Shape := ⟨3, ![4096, 16, 128]⟩
abbrev S4096x16 : Shape := ⟨2, ![4096, 16]⟩
abbrev S4096x112 : Shape := ⟨2, ![4096, 112]⟩
abbrev S4096x128 : Shape := ⟨2, ![4096, 128]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x6656, .bf16⟩
  | .hbm, ⟨4, _⟩ => ⟨S4096x2048, .bf16⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S2048x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x16x128, .f32⟩
  | .hbm, ⟨23, _⟩ => ⟨S_, .f32⟩
  | .hbm, ⟨24, _⟩ => ⟨S4096x16, .f32⟩
  | .hbm, ⟨25, _⟩ => ⟨S4096x2048, .bf16⟩
  | .hbm, ⟨26, _⟩ => ⟨S_, .f32⟩
  | .hbm, ⟨27, _⟩ => ⟨S4096x112, .f32⟩
  | .hbm, ⟨28, _⟩ => ⟨S4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩

abbrev nD : Nat := 1
abbrev τ : Topo := Topo.v7x

variable {F : FTy → Type} [FloatOps F]
-- ==== Proof.KernelFrame.lean ====
/- The kernel's own frame: every grid point runs from any contents of the output blocks and of the scratch, and leaves the input
   blocks alone, so the whole call ends with its arguments unchanged and every counter at zero. What the outputs hold is not said. -/
module

public import proofs.«01_k».proof.Proof.Gen.Kernel.Frame
public import proofs.«01_k».proof.Proof.Gen.Kernel.Loops
public import Idealize.ShloMosaic.Lib.LoopRemainder
public import Idealize.ShloMosaic.Lib.Claim

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

/-- The resources of a run of this kernel. -/
local notation "𝕄" => MT nD τ sig Unit (Elt F) ℕ (UR sig nD τ) ℕ

/-! ## One point -/

/-- The kernel's test at a grid point: its block of keys is the first one. -/
abbrev AtFirst (i : grid0.Coords) : Prop :=
  (Scalar.cmpi .ne (Scalar.extui (Scalar.cmpi .eq (BitVec.ofNat 32 (i 1).val) 0#32)) 0#32) = 1#1

/-- What a point holds before and after: the input blocks at their contents, the outputs and the scratch at any. -/
def held (c : Dev nD) (arg2 : Memref sig .tc .vmem S4096x512 .bf16)
    (arg3 : Memref sig .tc .vmem S512x512 .bf16)
    (arg4 : Memref sig .tc .vmem S512x128 .bf16)
    (arg5 : Memref sig .tc .vmem S4096x256 .bf16)
    (arg6 : Memref sig .tc .vmem S2x8x1x512 .f32)
    (arg7 : Memref sig .tc .vmem S2x8x1x512 .f32)
    (arg8 : Memref sig .tc .vmem S4096x512 .f32)
    (arg9 : Memref sig .tc .vmem S512x512 .bf16)
    (arg10 : Memref sig .tc .vmem S512x256 .f32)
    (arg11 : Memref sig .tc .vmem S2x512x256 .f32)
    (arg12 : Memref sig .tc .vmem S2x512x128 .f32)
    (x0 : Vec F S4096x512 .bf16) (x1 : Vec F S512x512 .bf16) (x2 : Vec F S512x128 .bf16) (x3 : Vec F S4096x256 .bf16) (x4 : Vec F S2x8x1x512 .f32) (x5 : Vec F S2x8x1x512 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d))

section
variable (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x512 .f32) (harg8 : arg8.IsWhole) (arg9 : Memref sig .tc .vmem S512x512 .bf16) (harg9 : arg9.IsWhole) (arg10 : Memref sig .tc .vmem S512x256 .f32) (harg10 : arg10.IsWhole) (arg11 : Memref sig .tc .vmem S2x512x256 .f32) (harg11 : arg11.IsWhole) (arg12 : Memref sig .tc .vmem S2x512x128 .f32) (harg12 : arg12.IsWhole)
    (x0 : Vec F S4096x512 .bf16) (x1 : Vec F S512x512 .bf16) (x2 : Vec F S512x128 .bf16) (x3 : Vec F S4096x256 .bf16) (x4 : Vec F S2x8x1x512 .f32) (x5 : Vec F S2x8x1x512 .f32)

set_option maxHeartbeats 1000000 in
include harg2 harg3 harg4 harg5 harg6 harg7 harg8 harg9 harg10 harg11 harg12 in
/-- A point at the first block of keys of a pass. -/
theorem run_first (hc0 : AtFirst i) (E : Set ℕ) (K : PUnit → sProp 𝕄) :
    iprop(held c arg2 arg3 arg4 arg5 arg6 arg7 arg8 arg9 arg10 arg11 arg12 x0 x1 x2 x3 x4 x5 ∗ (held c arg2 arg3 arg4 arg5 arg6 arg7 arg8 arg9 arg10 arg11 arg12 x0 x1 x2 x3 x4 x5 -∗ K ⟨⟩))
      ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11 arg12 harg12) K := by
  simp only [cc0_mla_bwd_eq_skeleton]; unfold cc0_mla_bwd_skel
  simp only [k0_part5_eq_skeleton, k0_part6_eq_skeleton, k0_part7_eq_skeleton, k0_part8_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

set_option maxHeartbeats 1000000 in
include harg2 harg3 harg4 harg5 harg6 harg7 harg8 harg9 harg10 harg11 harg12 in
/-- A point at a later block of keys. -/
theorem run_later (hc0 : ¬ AtFirst i) (E : Set ℕ) (K : PUnit → sProp 𝕄) :
    iprop(held c arg2 arg3 arg4 arg5 arg6 arg7 arg8 arg9 arg10 arg11 arg12 x0 x1 x2 x3 x4 x5 ∗ (held c arg2 arg3 arg4 arg5 arg6 arg7 arg8 arg9 arg10 arg11 arg12 x0 x1 x2 x3 x4 x5 -∗ K ⟨⟩))
      ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11 arg12 harg12) K := by
  simp only [cc0_mla_bwd_eq_skeleton]; unfold cc0_mla_bwd_skel
  simp only [k0_part5_eq_skeleton, k0_part6_eq_skeleton, k0_part7_eq_skeleton, k0_part8_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

/-- A point, whichever block of keys it is at. -/
theorem run (E : Set ℕ) (K : PUnit → sProp 𝕄) :
    iprop(held c arg2 arg3 arg4 arg5 arg6 arg7 arg8 arg9 arg10 arg11 arg12 x0 x1 x2 x3 x4 x5 ∗ (held c arg2 arg3 arg4 arg5 arg6 arg7 arg8 arg9 arg10 arg11 arg12 x0 x1 x2 x3 x4 x5 -∗ K ⟨⟩))
      ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11 arg12 harg12) K := by
  by_cases h : AtFirst i
  · exact run_first c i arg2 harg2 arg3 harg3 arg4 harg4 arg5 harg5 arg6 harg6 arg7 harg7 arg8 harg8 arg9 harg9 arg10 harg10 arg11 harg11 arg12 harg12 x0 x1 x2 x3 x4 x5 h E K
  · exact run_later c i arg2 harg2 arg3 harg3 arg4 harg4 arg5 harg5 arg6 harg6 arg7 harg7 arg8 harg8 arg9 harg9 arg10 harg10 arg11 harg11 arg12 harg12 x0 x1 x2 x3 x4 x5 h E K
end

/-! ## The whole grid -/

variable (m : (ℓ : Loc nD τ sig) → Buf (Elt F) ℓ) (ρ : Dev nD → PrngReg)

/-- What every input's block holds after a point; the outputs are left unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Dat.unnamed ⟨6, h⟩ t
    | ⟨7, h⟩ => Dat.unnamed ⟨7, h⟩ t
    | ⟨8, h⟩ => Dat.unnamed ⟨8, h⟩ t
  Φ _ := Pipeline.ΦA spec0 c
  q _ := fullShare
  owed _ := 0

/-- The windows of which nothing is said: the outputs. -/
def unsaid (w : Fin cfg0.W) : Bool := match w with
  | ⟨0, _⟩ => false | ⟨1, _⟩ => false | ⟨2, _⟩ => false | ⟨3, _⟩ => false | ⟨4, _⟩ => false | ⟨5, _⟩ => false
  | ⟨6, _⟩ => true | ⟨7, _⟩ => true | ⟨8, _⟩ => true

theorem A_eq (c : Dev nD) (w : Fin cfg0.W) : (dats (F := F) m 0 c).A w = V m c (Pipeline.arrRef spec0 w) := by dsimp only [dats]

theorem after_0 (c : Dev nD) (t : Fin cfg0.N) : (dats (F := F) m 0 c).after 0 t = iblk m c 0 t := by dsimp only [dats]
theorem after_1 (c : Dev nD) (t : Fin cfg0.N) : (dats (F := F) m 0 c).after 1 t = iblk m c 1 t := by dsimp only [dats]
theorem after_2 (c : Dev nD) (t : Fin cfg0.N) : (dats (F := F) m 0 c).after 2 t = iblk m c 2 t := by dsimp only [dats]
theorem after_3 (c : Dev nD) (t : Fin cfg0.N) : (dats (F := F) m 0 c).after 3 t = iblk m c 3 t := by dsimp only [dats]
theorem after_4 (c : Dev nD) (t : Fin cfg0.N) : (dats (F := F) m 0 c).after 4 t = iblk m c 4 t := by dsimp only [dats]
theorem after_5 (c : Dev nD) (t : Fin cfg0.N) : (dats (F := F) m 0 c).after 5 t = iblk m c 5 t := by dsimp only [dats]

theorem before_0 (c : Dev nD) (t : Fin cfg0.N) (d) : (dats (F := F) m 0 c).before 0 t d = iblk m c 0 t :=
  before0_0_of m (dats m 0 c) (A_eq m c 0) (after_0 m c) t d
theorem before_1 (c : Dev nD) (t : Fin cfg0.N) (d) : (dats (F := F) m 0 c).before 1 t d = iblk m c 1 t :=
  before0_1_of m (dats m 0 c) (A_eq m c 1) (after_1 m c) t d
theorem before_2 (c : Dev nD) (t : Fin cfg0.N) (d) : (dats (F := F) m 0 c).before 2 t d = iblk m c 2 t :=
  before0_2_of m (dats m 0 c) (A_eq m c 2) (after_2 m c) t d
theorem before_3 (c : Dev nD) (t : Fin cfg0.N) (d) : (dats (F := F) m 0 c).before 3 t d = iblk m c 3 t :=
  before0_3_of m (dats m 0 c) (A_eq m c 3) (after_3 m c) t d
theorem before_4 (c : Dev nD) (t : Fin cfg0.N) (d) : (dats (F := F) m 0 c).before 4 t d = iblk m c 4 t :=
  before0_4_of m (dats m 0 c) (A_eq m c 4) (after_4 m c) t d
theorem before_5 (c : Dev nD) (t : Fin cfg0.N) (d) : (dats (F := F) m 0 c).before 5 t d = iblk m c 5 t :=
  before0_5_of m (dats m 0 c) (A_eq m c 5) (after_5 m c) t d

/-- Each window's current block at a point. -/
abbrev ms0 (t : Fin cfg0.N) : Memref sig .tc .vmem S4096x512 .bf16 := win0_0.stage (cfg0.slots t 0)
abbrev ms1 (t : Fin cfg0.N) : Memref sig .tc .vmem S512x512 .bf16 := win0_1.stage (cfg0.slots t 1)
abbrev ms2 (t : Fin cfg0.N) : Memref sig .tc .vmem S512x128 .bf16 := win0_2.stage (cfg0.slots t 2)
abbrev ms3 (t : Fin cfg0.N) : Memref sig .tc .vmem S4096x256 .bf16 := win0_3.stage (cfg0.slots t 3)
abbrev ms4 (t : Fin cfg0.N) : Memref sig .tc .vmem S2x8x1x512 .f32 := win0_4.stage (cfg0.slots t 4)
abbrev ms5 (t : Fin cfg0.N) : Memref sig .tc .vmem S2x8x1x512 .f32 := win0_5.stage (cfg0.slots t 5)
abbrev ms6 (t : Fin cfg0.N) : Memref sig .tc .vmem S4096x512 .f32 := win0_6.stage (cfg0.slots t 6)
abbrev ms7 (t : Fin cfg0.N) : Memref sig .tc .vmem S512x512 .bf16 := win0_7.stage (cfg0.slots t 7)
abbrev ms8 (t : Fin cfg0.N) : Memref sig .tc .vmem S512x256 .f32 := win0_8.stage (cfg0.slots t 8)

/-- The two accumulators kept in scratch. -/
abbrev dkS : Memref sig .tc .vmem S2x512x256 .f32 := Memref.whole cc0_scratch0
abbrev dvS : Memref sig .tc .vmem S2x512x128 .f32 := Memref.whole cc0_scratch1

/-- Between points the accumulators hold anything. -/
theorem scratch_eq (c : Dev nD) :
    (Pipeline.ΦA spec0 c : sProp 𝕄)
      = iprop(iprop((∃ d, owns (c : Thread nD τ) dkS fullShare d) ∗ (∃ d, owns (c : Thread nD τ) dvS fullShare d)) ∗ (∃ r, prngReg c r)) := by
  unfold Pipeline.ΦA; rw [scopedRest0_eq]; simp only [dkS, dvS, owns_whole]; try rfl

/-- What the body is called with at a point, the windows one by one, -/
def bodyPre (c : Dev nD) (t : Fin cfg0.N) : sProp 𝕄 :=
  iprop((dats m 0 c).Φ t.castSucc
    ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ X, owns (c : Thread nD τ) (ms6 t) fullShare X)
    ∗ (∃ X, owns (c : Thread nD τ) (ms7 t) fullShare X)
    ∗ (∃ X, owns (c : Thread nD τ) (ms8 t) fullShare X))

/-- and what it returns. -/
def bodyPost (c : Dev nD) (t : Fin cfg0.N) : sProp 𝕄 :=
  iprop((dats m 0 c).Φ t.succ
    ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (∃ X, owns (c : Thread nD τ) (ms6 t) fullShare X)
    ∗ (∃ X, owns (c : Thread nD τ) (ms7 t) fullShare X)
    ∗ (∃ X, owns (c : Thread nD τ) (ms8 t) fullShare X))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, scratch_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, H6, H7, H8⟩
  iapply (run c (grid0.coords t) _ _ _ _ _ _ _ _ _ _ _ _ _ _ _ _ _ _ _ _ _ _ (iblk m c 0 t) (iblk m c 1 t) (iblk m c 2 t) (iblk m c 3 t) (iblk m c 4 t) (iblk m c 5 t) Set.univ _)
  unfold held
  isplitl [H0 H1 H2 H3 H4 H5 H6 H7 H8 HS0 HS1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body's row of the table of calls is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ unsaid := fun t => by
  rw [bigSep_W0, bigSep_W0, defs₀_row]
  exact triple_restated (sound_body m c t) rfl .rfl fun _ => .rfl

/-! ## The run -/

set_option backward.isDefEq.respectTransparency.types false in
/-- The whole call runs, ends with the inputs' arrays as they were, and leaves every counter at zero. -/
theorem run_main : θ_run defs (onTc (τ := τ) (main (F := F))) (s₀ m ρ)
    (fun r => Pipeline.RDat.FramePost cfg0 (fun c => (dats m 0 c).toRForget unsaid) (V m) r ∧ r.2.sem = fun _ => 0) :=
  Pipeline.θ_run_frame_forget (Q' := _) cfgs (dats m) (0 : Fin 1) launch0 defs₀ Variants.none unsaid m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run an input's array holds what it held before it. -/
theorem input_kept {r : PUnit × MemSt nD τ sig (Elt F)} (h : Pipeline.RDat.FramePost cfg0 (fun c => (dats m 0 c).toRForget unsaid) (V m) r)
    (c : Dev nD) (w : Fin cfg0.W) (hin : (cfg0.win w).isOut = false) :
    r.2.mem ((cfg0.spec w).arr.view.loc (c.tc : Thread nD τ)) = V m c (Pipeline.arrRef spec0 w) :=
  (Pipeline.RDat.FramePost.arr_in h c w hin).trans (A_eq m c w)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(input_kept m h.1 c 0 rfl).trans (V_main_arg0 m c),
      (input_kept m h.1 c 1 rfl).trans (V_main_arg1 m c),
      (input_kept m h.1 c 2 rfl).trans (V_main_arg2 m c),
      (input_kept m h.1 c 3 rfl).trans (V_main_arg3 m c)⟩, h.2⟩) (run_main m ρ)

end Cert.Kernel.Run

end
-- ==== Proof.Body.lean ====
/- One grid point of the gradient kernel, run once in each of its two cases: at the first block of keys of a pair of heads,
   where the accumulator of the query gradient is cleared, and at a later block, where it is added to. The run finds what the
   point leaves in each of its three output blocks, as a list of stores. -/
module

public import proofs.«01_k».proof.Proof.Gen.KernelIdeal.Frame
public import proofs.«01_k».proof.Proof.Gen.KernelIdeal.Loops
public import Idealize.ShloMosaic.Lib.LoopRemainder

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resources of a run of this kernel. -/
local notation "𝕄" => MT nD τ sig Unit (Elt F) ℕ (UR sig nD τ) ℕ

/-- The kernel's test at a grid point: its block of keys is the first one. -/
abbrev AtFirst (i : grid0.Coords) : Prop :=
  (Scalar.cmpi .ne (Scalar.extui (Scalar.cmpi .eq (BitVec.ofNat 32 (i 1).val) 0#32)) 0#32) = 1#1

set_option maxHeartbeats 1000000 in
/-- The run at the first block of keys of a pair of heads: whatever the three output blocks held, they end at the listed stores. -/
@[irreducible] def runFirst (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x512 .f32) (harg8 : arg8.IsWhole) (arg9 : Memref sig .tc .vmem S512x512 .bf16) (harg9 : arg9.IsWhole) (arg10 : Memref sig .tc .vmem S512x256 .f32) (harg10 : arg10.IsWhole) (arg11 : Memref sig .tc .vmem S2x512x256 .f32) (harg11 : arg11.IsWhole) (arg12 : Memref sig .tc .vmem S2x512x128 .f32) (harg12 : arg12.IsWhole) (hc0 : AtFirst i)
    (x0 : Vec F S4096x512 .bf16) (x1 : Vec F S512x512 .bf16) (x2 : Vec F S512x128 .bf16) (x3 : Vec F S4096x256 .bf16) (x4 : Vec F S2x8x1x512 .f32) (x5 : Vec F S2x8x1x512 .f32) :
    Σ' (L6 : List (View.Piece (Elt F) S4096x512 .f32)) (L7 : List (View.Piece (Elt F) S512x512 .bf16)),
      { L8 : List (View.Piece (Elt F) S512x256 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, (arg8.view.loc (c : Thread nD τ) ↦[arg8.view.set]{fullShare} arg8.view.writes (Elt F) f L6)) ∗ (∃ f, (arg9.view.loc (c : Thread nD τ) ↦[arg9.view.set]{fullShare} arg9.view.writes (Elt F) f L7)) ∗ (∃ f, (arg10.view.loc (c : Thread nD τ) ↦[arg10.view.set]{fullShare} arg10.view.writes (Elt F) f L8)) ∗ (∃ d, owns (c : Thread nD τ) arg11 fullShare d) ∗ (∃ d, owns (c : Thread nD τ) arg12 fullShare d)) -∗ K ⟨⟩))
          ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_mla_bwd_eq_skeleton]; unfold cc0_mla_bwd_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; iexact H7
    isplitl [H8]
    · iexists _; iexact H8
    isplitl [HS0]
    · iexists _, _; isplitr; swap; · iexact HS0
      ipureintro; rfl
    iexists _, _; isplitr; swap; · iexact HS1
    ipureintro; rfl

set_option maxHeartbeats 1000000 in
/-- The run at a later block of keys: the query gradient is added to what its block held. -/
@[irreducible] def runLater (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x512 .f32) (harg8 : arg8.IsWhole) (arg9 : Memref sig .tc .vmem S512x512 .bf16) (harg9 : arg9.IsWhole) (arg10 : Memref sig .tc .vmem S512x256 .f32) (harg10 : arg10.IsWhole) (arg11 : Memref sig .tc .vmem S2x512x256 .f32) (harg11 : arg11.IsWhole) (arg12 : Memref sig .tc .vmem S2x512x128 .f32) (harg12 : arg12.IsWhole) (hc0 : ¬ AtFirst i)
    (x0 : Vec F S4096x512 .bf16) (x1 : Vec F S512x512 .bf16) (x2 : Vec F S512x128 .bf16) (x3 : Vec F S4096x256 .bf16) (x4 : Vec F S2x8x1x512 .f32) (x5 : Vec F S2x8x1x512 .f32) (x6 : Vec F S4096x512 .f32) :
    Σ' (L6 : List (View.Piece (Elt F) S4096x512 .f32)) (L7 : List (View.Piece (Elt F) S512x512 .bf16)),
      { L8 : List (View.Piece (Elt F) S512x256 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (arg8.view.loc (c : Thread nD τ) ↦[arg8.view.set]{fullShare} arg8.view.writes (Elt F) (harg8.unread x6) L6) ∗ (∃ f, (arg9.view.loc (c : Thread nD τ) ↦[arg9.view.set]{fullShare} arg9.view.writes (Elt F) f L7)) ∗ (∃ f, (arg10.view.loc (c : Thread nD τ) ↦[arg10.view.set]{fullShare} arg10.view.writes (Elt F) f L8)) ∗ (∃ d, owns (c : Thread nD τ) arg11 fullShare d) ∗ (∃ d, owns (c : Thread nD τ) arg12 fullShare d)) -∗ K ⟨⟩))
          ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_mla_bwd_eq_skeleton]; unfold cc0_mla_bwd_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexact H6
    isplitl [H7]
    · iexists _; iexact H7
    isplitl [H8]
    · iexists _; iexact H8
    isplitl [HS0]
    · iexists _, _; isplitr; swap; · iexact HS0
      ipureintro; rfl
    iexists _, _; isplitr; swap; · iexact HS1
    ipureintro; rfl

end Cert.KernelIdeal.Body

end
-- ==== Proof.Tile.lean ====
/- What one block of the gradient kernel computes, on exact numbers. From the blocks a grid point reads (`x0` the queries of two
   heads, `x1` their keys and values, `x2` the shared rotary keys, `x3` the gradient of their output, `x4` the log-sums, `x5` the
   row sums `delta`) this file defines the weight and the score gradient of a key and a query, and shows that each value the
   kernel stores is the old value plus the matching sum over one chunk. -/
module

public import proofs.«01_k».proof.Proof.Gen.KernelIdeal.Skeleton
public import Idealize.ShloMosaic.Lib.Pointwise
public import Idealize.ShloMosaic.Lib.WordCmp

@[expose] public section

set_option maxRecDepth 16384

noncomputable section

namespace Cert.KernelIdeal.Tile

open Cert.KernelIdeal.Gen
open Idealize.ShloMosaic Idealize.ShloMosaic.TcCoe Idealize.SL.Sem

/-- `scale · log2 e`, as the kernel names it. -/
abbrev cSL : Ideal .f32 := Named.named κ "scale_log2e" 0x3DD53B95#32
/-- `log2 e`, as the kernel names it. -/
abbrev cL : Ideal .f32 := Named.named κ "log2e" 0x3FB8AA3B#32
/-- The scale of the scores, as the kernel names it. -/
abbrev cS : Ideal .f32 := Named.named κ "scale" 0x3D93CD3A#32

/-- Entry `x` of chunk `n` of the queries. -/
def row (n : ℕ) (x : Fin 512) : Fin 4096 := ⟨(512 * n + x.val) % 4096, Nat.mod_lt _ (by decide)⟩

theorem row_val {n : ℕ} (hn : n < 8) (x : Fin 512) : (row n x).val = 512 * n + x.val := by
  have := x.isLt
  exact Nat.mod_eq_of_lt (by omega)

section
variable (b : ℕ) (x0 : FVec Ideal S4096x512 .bf16) (x1 : FVec Ideal S512x512 .bf16) (x2 : FVec Ideal S512x128 .bf16)
  (x3 : FVec Ideal S4096x256 .bf16) (x4 x5 : FVec Ideal S2x8x1x512 .f32)

/-- Key `j` of head `u`: 128 entries of its own, then 128 rotary entries that the heads share. -/
def keyAt (u : Fin 2) (j : Fin 512) (d : Fin 256) : Ideal .bf16 :=
  if h : d.val < 128 then x1 (ix2 j ⟨256 * u.val + d.val, by omega⟩) else x2 (ix2 j ⟨d.val - 128, by omega⟩)

/-- Value `j` of head `u`. -/
def valAt (u : Fin 2) (j : Fin 512) (d : Fin 128) : Ideal .bf16 := x1 (ix2 j ⟨256 * u.val + 128 + d.val, by omega⟩)

/-- Query `r` of head `u`. -/
def qAt (u : Fin 2) (r : Fin 4096) (d : Fin 256) : Ideal .bf16 := x0 (ix2 r ⟨256 * u.val + d.val, by omega⟩)

/-- The gradient of the output of head `u` at query `r`. -/
def doAt (u : Fin 2) (r : Fin 4096) (d : Fin 128) : Ideal .bf16 := x3 (ix2 r ⟨128 * u.val + d.val, by omega⟩)

/-- A number kept per head and query. -/
def rowAt (x : FVec Ideal S2x8x1x512 .f32) (u : Fin 2) (r : Fin 4096) : Ideal .f32 :=
  x (ix4 u ⟨r.val / 512, by omega⟩ 0 ⟨r.val % 512, by omega⟩)

/-- The softmax weight of key `j` of block `b` at query `r`: keys after the query are masked. -/
def wAt (u : Fin 2) (j : Fin 512) (r : Fin 4096) : Ideal .f32 :=
  FloatOps.exp2 (((if 512 * b + j.val ≤ r.val then ∑ d, keyAt x1 x2 u j d * qAt x0 u r d else (⊥ : EReal) : EReal) : Ideal .f32) * cSL
    - rowAt x4 u r * cL)

/-- The gradient of the score of key `j` of block `b` at query `r`. -/
def dsAt (u : Fin 2) (j : Fin 512) (r : Fin 4096) : Ideal .f32 :=
  wAt b x0 x1 x2 x4 u j r * (∑ d, valAt x1 u j d * doAt x3 u r d - rowAt x5 u r) * cS

/-- What chunk `n` of the queries adds to the gradient of value `j`. -/
def dvAdd (n : ℕ) (u : Fin 2) (j : Fin 512) (d : Fin 128) : Ideal .f32 :=
  ∑ x : Fin 512, wAt b x0 x1 x2 x4 u j (row n x) * doAt x3 u (row n x) d

/-- What chunk `n` of the queries adds to the gradient of key `j`. -/
def dkAdd (n : ℕ) (u : Fin 2) (j : Fin 512) (d : Fin 256) : Ideal .f32 :=
  ∑ x : Fin 512, dsAt b x0 x1 x2 x3 x4 x5 u j (row n x) * qAt x0 u (row n x) d

/-- What block `b` of the keys adds to the gradient of query `r`. -/
def dqAdd (u : Fin 2) (r : Fin 4096) (d : Fin 256) : Ideal .f32 :=
  ∑ j : Fin 512, dsAt b x0 x1 x2 x3 x4 x5 u j r * keyAt x1 x2 u j d
end

section
variable {b : ℕ} {x0 : FVec Ideal S4096x512 .bf16} {x1 : FVec Ideal S512x512 .bf16} {x2 : FVec Ideal S512x128 .bf16}
  {x3 : FVec Ideal S4096x256 .bf16} {x4 x5 : FVec Ideal S2x8x1x512 .f32} {n : ℕ} {u : Fin 2}
  {K Q : FVec Ideal S512x256 .bf16} {V O : FVec Ideal S512x128 .bf16} {L D : FVec Ideal S1x1x1x512 .f32}
  {W : FVec Ideal S512x512 .f32} {G : FVec Ideal S512x512 .bf16}

/-- Before the diagonal no key is masked. -/
theorem weight_at (hn : n < 8) (hb : b < n) (hK : ∀ j d, K (ix2 j d) = keyAt x1 x2 u j d)
    (hQ : ∀ x d, Q (ix2 x d) = qAt x0 u (row n x) d) (hL : ∀ x, L (ix4 0 0 0 x) = rowAt x4 u (row n x)) (j x : Fin 512) :
    k0_pay3 (F := Ideal) K Q L (ix2 j x) = wAt b x0 x1 x2 x4 u j (row n x) := by
  have hm : 512 * b + j.val ≤ (row n x).val := by rw [row_val hn]; have := j.isLt; omega
  unfold wAt
  rw [if_pos hm]
  pointwise [k0_pay3]
  simp only [hK, hQ, hL]

/-- The other head's weights are computed by the same formula. -/
theorem weight_eq : k0_pay8 (F := Ideal) K Q L = k0_pay3 K Q L := rfl

/-- On the diagonal block the mask compares places within the block. -/
theorem maskedWeight_at (hn : n < 8) (hK : ∀ j d, K (ix2 j d) = keyAt x1 x2 u j d)
    (hQ : ∀ x d, Q (ix2 x d) = qAt x0 u (row n x) d) (hL : ∀ x, L (ix4 0 0 0 x) = rowAt x4 u (row n x)) (j x : Fin 512) :
    k0_pay30 (F := Ideal) K Q L (ix2 j x) = wAt n x0 x1 x2 x4 u j (row n x) := by
  have hm : (512 * n + j.val ≤ (row n x).val) ↔ j.val ≤ x.val := by rw [row_val hn]; omega
  have hs : IntOp.cmpi CmpIPredicate.sle (BitVec.ofNat 32 j.val) (BitVec.ofNat 32 x.val) = BitVec.ofBool (decide (j.val ≤ x.val)) :=
    WordCmp.cmpi_sle_ofNat (by omega) (by omega)
  have hi : (Ideal.ofBits FTy.f32 4286578688#32) = (⊥ : EReal) := by simp [Ideal.ofBits, Ideal.ieee]
  unfold wAt
  pointwise [k0_pay30]
  simp only [hK, hQ, hL, hs, hm, hi]
  by_cases h : j.val ≤ x.val <;> simp [h, Scalar.select]

theorem maskedWeight_eq {A B : FVec Ideal S512x128 .bf16} :
    k0_pay24 (F := Ideal) (k0_pay22 A B Q) (k0_pay23) L = k0_pay30 (k0_pay20 A B) Q L := rfl

/-- The score gradient from the weights. -/
theorem score_at (hV : ∀ j d, V (ix2 j d) = valAt x1 u j d) (hO : ∀ x d, O (ix2 x d) = doAt x3 u (row n x) d)
    (hD : ∀ x, D (ix4 0 0 0 x) = rowAt x5 u (row n x)) (hW : ∀ j x, W (ix2 j x) = wAt b x0 x1 x2 x4 u j (row n x)) (j x : Fin 512) :
    k0_pay32 (F := Ideal) V O W D (ix2 j x) = dsAt b x0 x1 x2 x3 x4 x5 u j (row n x) := by
  unfold dsAt
  pointwise [k0_pay32]
  simp only [hV, hO, hD, hW]

theorem score_eq₁ : k0_pay5 (F := Ideal) K V Q O L D = k0_pay32 V O (k0_pay3 K Q L) D := rfl
theorem score_eq₂ : k0_pay36 (F := Ideal) V O W D = k0_pay32 V O W D := rfl
theorem score_eq₃ {A : FVec Ideal S512x512 .f32} {B : IVec S512x512 1} :
    k0_pay26 (F := Ideal) V O A B L D = k0_pay32 V O (k0_pay24 A B L) D := rfl

/-- The query gradient's accumulator at a chunk of the queries. -/
theorem dq_at {X : FVec Ideal S512x256 .f32} (hK : ∀ j d, K (ix2 j d) = keyAt x1 x2 u j d)
    (hG : ∀ j x, G (ix2 j x) = dsAt b x0 x1 x2 x3 x4 x5 u j (row n x)) (x : Fin 512) (d : Fin 256) :
    k0_pay7 (F := Ideal) K G X (ix2 x d) = X (ix2 x d) + dqAdd b x0 x1 x2 x3 x4 x5 u (row n x) d := by
  unfold dqAdd
  pointwise [k0_pay7]
  simp only [hK, hG]

theorem dq_eq₁ {X : FVec Ideal S512x256 .f32} : k0_pay38 (F := Ideal) K V O W D X = k0_pay7 K (k0_pay32 V O W D) X := rfl
theorem dq_eq₂ {X : FVec Ideal S512x256 .f32} : k0_pay34 (F := Ideal) K V O W D X = k0_pay7 K (k0_pay32 V O W D) X := rfl
theorem dq_eq₃ {X : FVec Ideal S512x256 .f32} : k0_pay29 (F := Ideal) K G X = k0_pay7 K G X := rfl

/-- The key gradient's accumulator. -/
theorem dk_at {X : FVec Ideal S1x512x256 .f32} (hQ : ∀ x d, Q (ix2 x d) = qAt x0 u (row n x) d)
    (hG : ∀ j x, G (ix2 j x) = dsAt b x0 x1 x2 x3 x4 x5 u j (row n x)) (j : Fin 512) (d : Fin 256) :
    k0_pay6 (F := Ideal) Q G X (ix3 0 j d) = X (ix3 0 j d) + dkAdd b x0 x1 x2 x3 x4 x5 n u j d := by
  unfold dkAdd
  pointwise [k0_pay6]
  simp only [hQ, hG]

theorem dk_eq₁ {X : FVec Ideal S1x512x256 .f32} : k0_pay37 (F := Ideal) V Q O W D X = k0_pay6 Q (k0_pay32 V O W D) X := rfl
theorem dk_eq₂ {X : FVec Ideal S1x512x256 .f32} : k0_pay33 (F := Ideal) V Q O W D X = k0_pay6 Q (k0_pay32 V O W D) X := rfl
theorem dk_eq₃ {A : FVec Ideal S512x512 .f32} {B : IVec S512x512 1} {X : FVec Ideal S1x512x256 .f32} :
    k0_pay28 (F := Ideal) (k0_pay27 V Q O A B L D X) = k0_pay6 Q (k0_pay32 V O (k0_pay24 A B L) D) X := rfl

/-- The value gradient's accumulator. -/
theorem dv_at {X : FVec Ideal S1x512x128 .f32} (hO : ∀ x d, O (ix2 x d) = doAt x3 u (row n x) d)
    (hW : ∀ j x, k0_pay30 (F := Ideal) K Q L (ix2 j x) = wAt b x0 x1 x2 x4 u j (row n x)) (j : Fin 512) (d : Fin 128) :
    k0_pay31 (F := Ideal) K Q O L X (ix3 0 j d) = X (ix3 0 j d) + dvAdd b x0 x1 x2 x3 x4 n u j d := by
  unfold dvAdd
  pointwise [k0_pay31]
  simp only [hO, hW]

theorem dv_at' {X : FVec Ideal S1x512x128 .f32} (hO : ∀ x d, O (ix2 x d) = doAt x3 u (row n x) d)
    (hW : ∀ j x, k0_pay3 (F := Ideal) K Q L (ix2 j x) = wAt b x0 x1 x2 x4 u j (row n x)) (j : Fin 512) (d : Fin 128) :
    k0_pay4 (F := Ideal) K Q O L X (ix3 0 j d) = X (ix3 0 j d) + dvAdd b x0 x1 x2 x3 x4 n u j d := by
  unfold dvAdd
  pointwise [k0_pay4]
  simp only [hO, hW]

theorem dv_eq₁ {X : FVec Ideal S1x512x128 .f32} : k0_pay35 (F := Ideal) (k0_pay9 K Q O L X) = k0_pay4 K Q O L X := rfl
theorem dv_eq₂ {A B : FVec Ideal S512x128 .bf16} {X : FVec Ideal S1x512x128 .f32} :
    k0_pay25 (F := Ideal) O (k0_pay22 A B Q) k0_pay23 L X = k0_pay31 (k0_pay20 A B) Q O L X := rfl

/-- The keys of a head, assembled from its own half and the shared half. -/
theorem keys_at {A B : FVec Ideal S512x128 .bf16} (hA : ∀ (j : Fin 512) (d : Fin 128), A (ix2 j d) = x1 (ix2 j ⟨256 * u.val + d.val, by omega⟩))
    (hB : ∀ (j : Fin 512) (d : Fin 128), B (ix2 j d) = x2 (ix2 j d)) (j : Fin 512) (d : Fin 256) :
    k0_pay20 (F := Ideal) A B (ix2 j d) = keyAt x1 x2 u j d := by
  unfold keyAt
  pointwise [k0_pay20]
  simp only [hA, hB]

theorem keys_eq {A B : FVec Ideal S512x128 .bf16} : k0_pay21 (F := Ideal) A B = k0_pay20 A B := rfl

/-- The block of key and value gradients that is written out: for each head its own half of the key, then the value. -/
theorem dkv_at {A B C E : FVec Ideal S1x512x128 .f32} {dk : Fin 2 → Fin 512 → Fin 256 → Ideal .f32}
    {dv : Fin 2 → Fin 512 → Fin 128 → Ideal .f32}
    (hA : ∀ (j : Fin 512) (d : Fin 128), A (ix3 0 j d) = dk 0 j ⟨d.val, by omega⟩) (hB : ∀ (j : Fin 512) (d : Fin 128), B (ix3 0 j d) = dv 0 j d)
    (hC : ∀ (j : Fin 512) (d : Fin 128), C (ix3 0 j d) = dk 1 j ⟨d.val, by omega⟩) (hE : ∀ (j : Fin 512) (d : Fin 128), E (ix3 0 j d) = dv 1 j d)
    (j : Fin 512) (e : Fin 512) :
    k0_pay1 (F := Ideal) (k0_pay43 A) B C E (ix2 j e)
      = if h : e.val % 256 < 128 then dk ⟨e.val / 256, by omega⟩ j ⟨e.val % 256, by omega⟩
        else dv ⟨e.val / 256, by omega⟩ j ⟨e.val % 256 - 128, by omega⟩ := by
  pointwise [k0_pay1, k0_pay43]
  simp only [hA, hB, hC, hE]
  have he := e.isLt
  by_cases h1 : e.val < 128
  · have e1 : e.val / 256 = 0 := by omega
    have e2 : e.val % 256 = e.val := by omega
    simp [h1, e1, e2]
  · by_cases h2 : e.val < 256
    · have e1 : e.val / 256 = 0 := by omega
      have e2 : e.val % 256 = e.val := by omega
      have h3 : e.val - 128 < 128 := by omega
      simp [h1, e1, e2, h3]
    · have e1 : e.val / 256 = 1 := by omega
      have e2 : e.val % 256 = e.val - 128 - 128 := by omega
      have h3 : ¬ e.val - 128 < 128 := by omega
      by_cases h4 : e.val - 128 - 128 < 128 <;> simp [h1, e1, e2, h3, h4]

/-- The block of rotary-key gradients that is written out, one copy per head. -/
theorem dkr_at {A B : FVec Ideal S1x512x128 .f32} {dk : Fin 2 → Fin 512 → Fin 256 → Ideal .f32}
    (hA : ∀ (j : Fin 512) (d : Fin 128), A (ix3 0 j d) = dk 0 j ⟨128 + d.val, by omega⟩)
    (hB : ∀ (j : Fin 512) (d : Fin 128), B (ix3 0 j d) = dk 1 j ⟨128 + d.val, by omega⟩) (j : Fin 512) (e : Fin 256) :
    k0_pay2 (F := Ideal) A B (ix2 j e) = dk ⟨e.val / 128, by omega⟩ j ⟨128 + e.val % 128, by omega⟩ := by
  pointwise [k0_pay2]
  simp only [hA, hB]
  have he := e.isLt
  by_cases h1 : e.val < 128
  · have e1 : e.val / 128 = 0 := by omega
    have e2 : e.val % 128 = e.val := by omega
    simp [h1, e1, e2]
  · have e1 : e.val / 128 = 1 := by omega
    have e2 : e.val % 128 = e.val - 128 := by omega
    simp [h1, e1, e2]
end

end Cert.KernelIdeal.Tile

end
-- ==== Proof.Trip.lean ====
/- One trip of the kernel's loop over the chunks of queries after the diagonal one, and all its trips: what each of the three
   accumulators holds, entry by entry, on exact numbers. -/
module

public import proofs.«01_k».proof.Proof.Tile
public import proofs.«01_k».proof.Proof.Gen.KernelIdeal.Loops
public import Idealize.ShloMosaic.Lib.WritesUnit

@[expose] public section

set_option maxRecDepth 16384

noncomputable section

namespace Cert.KernelIdeal.Trip

open Cert.KernelIdeal.Gen Cert.KernelIdeal.Tile
open Idealize.ShloMosaic Idealize.ShloMosaic.TcCoe Idealize.SL.Sem

/-- A load of a block reads the contents at the block's place. -/
theorem load_read {s : Shape} {e : EltTy} (v : View sig .tc .vmem s e) (f : v.ty.Contents (Elt Ideal))
    {off size : Fin s.rank → ℕ} (inb : ∀ a, off a + size a ≤ s.size a) (z : (Rect.unit off size inb).shape.Idx) (y : s.Idx)
    (h : ∀ a, (y a).val = off a + (z a).val) :
    v.readAt (Elt Ideal) (Rect.unit off size inb).toLoadRect f z = v.read (Elt Ideal) f y := by
  rw [View.readAt_apply]
  refine congrArg _ (funext fun a => Fin.ext ?_)
  show off a + 1 * (z a).val = (y a).val
  rw [h a, Nat.one_mul]

/-- The same with the block's place given by an equation. -/
theorem load_read_at {s : Shape} {e : EltTy} (v : View sig .tc .vmem s e) (f : v.ty.Contents (Elt Ideal))
    {off off' size : Fin s.rank → ℕ} (inb : ∀ a, off a + size a ≤ s.size a) (z : (Rect.unit off size inb).shape.Idx) (y : s.Idx)
    (ho : off = off') (h : ∀ a, (y a).val = off' a + (z a).val) :
    v.readAt (Elt Ideal) (Rect.unit off size inb).toLoadRect f z = v.read (Elt Ideal) f y := by
  subst ho; exact load_read v f inb z y h

/-- A load from a whole buffer that holds `x` reads `x`. -/
theorem load_whole {s : Shape} {e : EltTy} {arg : Memref sig .tc .vmem s e} (harg : arg.IsWhole) (x : Vec Ideal s e)
    {off size : Fin s.rank → ℕ} (inb : ∀ a, off a + size a ≤ s.size a) (z : (Rect.unit off size inb).shape.Idx) (y : s.Idx)
    (h : ∀ a, (y a).val = off a + (z a).val) :
    arg.view.readAt (Elt Ideal) (Rect.unit off size inb).toLoadRect (harg.unread x) z = x y := by
  rw [load_read arg.view _ inb z y h, harg.read_unread]

/-- A load of a chunk of one head's queries. -/
theorem q_load {arg : Memref sig .tc .vmem S4096x512 .bf16} (harg : arg.IsWhole) (x0 : FVec Ideal S4096x512 .bf16) {n : ℕ} (hn : n < 8) (u : Fin 2)
    {off : Fin 2 → ℕ} (ho : off = ![512 * n, 256 * u.val]) (inb : ∀ a, off a + ![512, 256] a ≤ S4096x512.size a) (x : Fin 512) (d : Fin 256) :
    arg.view.readAt (Elt Ideal) (Rect.unit (s := S4096x512) off ![512, 256] inb).toLoadRect (harg.unread x0) (ix2 x d) = qAt x0 u (row n x) d := by
  subst ho
  exact load_whole harg x0 inb _ (ix2 (row n x) ⟨256 * u.val + d.val, by omega⟩) (Fin.forall_fin_two.mpr ⟨row_val hn x, rfl⟩)

/-- A load of a chunk of one head's output gradient. -/
theorem do_load {arg : Memref sig .tc .vmem S4096x256 .bf16} (harg : arg.IsWhole) (x3 : FVec Ideal S4096x256 .bf16) {n : ℕ} (hn : n < 8) (u : Fin 2)
    {off : Fin 2 → ℕ} (ho : off = ![512 * n, 128 * u.val]) (inb : ∀ a, off a + ![512, 128] a ≤ S4096x256.size a) (x : Fin 512) (d : Fin 128) :
    arg.view.readAt (Elt Ideal) (Rect.unit (s := S4096x256) off ![512, 128] inb).toLoadRect (harg.unread x3) (ix2 x d) = doAt x3 u (row n x) d := by
  subst ho
  exact load_whole harg x3 inb _ (ix2 (row n x) ⟨128 * u.val + d.val, by omega⟩) (Fin.forall_fin_two.mpr ⟨row_val hn x, rfl⟩)

/-- A load of a chunk of one head's row of numbers. -/
theorem row_load {arg : Memref sig .tc .vmem S2x8x1x512 .f32} (harg : arg.IsWhole) (x4 : FVec Ideal S2x8x1x512 .f32) {n : ℕ} (hn : n < 8) (u : Fin 2)
    {off : Fin 4 → ℕ} (ho : off = ![u.val, n, 0, 0]) (inb : ∀ a, off a + ![1, 1, 1, 512] a ≤ S2x8x1x512.size a) (x : Fin 512) :
    arg.view.readAt (Elt Ideal) (Rect.unit (s := S2x8x1x512) off ![1, 1, 1, 512] inb).toLoadRect (harg.unread x4) (ix4 0 0 0 x) = rowAt x4 u (row n x) := by
  subst ho
  have hr := row_val hn x
  have hx := x.isLt
  refine load_whole harg x4 inb _ (ix4 u ⟨(row n x).val / 512, by omega⟩ 0 ⟨(row n x).val % 512, by omega⟩) (fun a => ?_)
  fin_cases a
  · rfl
  · show (row n x).val / 512 = n + 0
    omega
  · rfl
  · show (row n x).val % 512 = 0 + x.val
    omega

/-- Column `d` of head `u` in the block of query gradients. -/
abbrev col (u : Fin 2) (d : Fin 256) : Fin 512 := ⟨256 * u.val + d.val, by omega⟩

/-- The loop runs once for each chunk after the diagonal one. -/
theorem trips_eq : ∀ i : grid0.Coords, (k0_t1_loop i).trips = 7 - (i 1).val := by decide +kernel

section
variable (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x512 .f32) (harg8 : arg8.IsWhole) (arg9 : Memref sig .tc .vmem S512x512 .bf16) (harg9 : arg9.IsWhole) (arg10 : Memref sig .tc .vmem S512x256 .f32) (harg10 : arg10.IsWhole) (arg11 : Memref sig .tc .vmem S2x512x256 .f32) (harg11 : arg11.IsWhole) (arg12 : Memref sig .tc .vmem S2x512x128 .f32) (harg12 : arg12.IsWhole)
  (arg1 : BitVec 32) (v13 : FVec Ideal S512x256 .bf16) (v16 : FVec Ideal S512x256 .bf16) (v17 : Vec Ideal S512x128 .bf16) (v18 : Vec Ideal S512x128 .bf16) (v20 : BitVec 32) (v74 : Vec Ideal S512x256 .bf16) (v76 : Vec Ideal S512x128 .bf16) (v92 : FVec Ideal S512x512 .f32) (v125 : BitVec 32)
variable (x0 : FVec Ideal S4096x512 .bf16) (x1 : FVec Ideal S512x512 .bf16) (x2 : FVec Ideal S512x128 .bf16)
  (x3 : FVec Ideal S4096x256 .bf16) (x4 x5 : FVec Ideal S2x8x1x512 .f32)

/-- The stores of trip `k` into the three accumulators. -/
abbrev stores (k : Fin (k0_t1_loop i).trips) (f8 : BufTy.Contents (Elt Ideal) arg8.view.ty) (f11 : BufTy.Contents (Elt Ideal) arg11.view.ty)
    (f12 : BufTy.Contents (Elt Ideal) arg12.view.ty) :=
  tripL_k0_t1 (F := Ideal) Variants.none c none i arg2 harg2 arg3 harg3 arg4 harg4 arg5 harg5 arg6 harg6 arg7 harg7 arg8 harg8 arg9 harg9 arg10 harg10 arg11 harg11 arg12 harg12 arg1 v13 v16 v17 v18 v20 v74 v76 v92 v125
    (harg2.unread x0) (harg5.unread x3) (harg6.unread x4) (harg7.unread x5) k f8 f11 f12

variable (hK0 : ∀ (j : Fin 512) (d : Fin 256), v13 (ix2 j d) = keyAt x1 x2 0 j d) (hK1 : ∀ (j : Fin 512) (d : Fin 256), v16 (ix2 j d) = keyAt x1 x2 1 j d)
  (hV0 : ∀ (j : Fin 512) (d : Fin 128), v17 (ix2 j d) = valAt x1 0 j d) (hV1 : ∀ (j : Fin 512) (d : Fin 128), v18 (ix2 j d) = valAt x1 1 j d)
  (k : Fin (k0_t1_loop i).trips) (f8 : BufTy.Contents (Elt Ideal) arg8.view.ty) (f11 : BufTy.Contents (Elt Ideal) arg11.view.ty)
    (f12 : BufTy.Contents (Elt Ideal) arg12.view.ty)

include hK0 hK1 hV0 hV1

theorem trip_dv (u : Fin 2) (j : Fin 512) (d : Fin 128) :
    arg12.view.read (Elt Ideal) (arg12.view.writes (Elt Ideal) f12
        (stores c i arg2 harg2 arg3 harg3 arg4 harg4 arg5 harg5 arg6 harg6 arg7 harg7 arg8 harg8 arg9 harg9 arg10 harg10 arg11 harg11 arg12 harg12 arg1 v13 v16 v17 v18 v20 v74 v76 v92 v125 x0 x3 x4 x5 k f8 f11 f12).2.2) (ix3 u j d)
      = arg12.view.read (Elt Ideal) f12 (ix3 u j d) + dvAdd (i 1).val x0 x1 x2 x3 x4 ((i 1).val + k.val + 1) u j d := by
  have hn : (i 1).val + k.val + 1 < 8 := by have := Nat.lt_of_lt_of_eq k.isLt (trips_eq i); omega
  have hb : (i 1).val < (i 1).val + k.val + 1 := by omega
  unfold stores tripL_k0_t1 trip_k0_t1; dsimp only
  obtain rfl | rfl : u = 0 ∨ u = 1 := by omega
  · rw [View.read_writes_cons_unit_of_not_mem _ _ _ _ _ _ rfl 0 (Or.inl (by show 0 < 1; decide)),
      View.read_writes_cons_unit_of_mem _ _ _ _ _ _ (ix3 0 j d) rfl (fun a => by fin_cases a <;> simp)]
    refine (dv_at' (fun x d => do_load harg5 x3 hn 0 ?_ _ x d) (fun j x => weight_at hn hb hK0 (fun x d => q_load harg2 x0 hn 0 ?_ _ x d) (fun x => row_load harg6 x4 hn 0 ?_ _ x) j x) j d).trans ?_
    · rw [k0_off8_eq]; exact congrArg (fun a => ![a, 0]) (by omega)
    · rw [k0_off7_eq]; exact congrArg (fun a => ![a, 0]) (by omega)
    · rw [k0_off9_eq]; rfl
    · rw [load_read _ _ _ _ (ix3 0 j d) (fun a => by fin_cases a <;> simp)]
  · rw [View.read_writes_cons_unit_of_mem _ _ _ _ _ _ (ix3 0 j d) rfl (fun a => by fin_cases a <;> simp)]
    unfold trip_k0_t1.sl.r_5 trip_k0_t1.sl.v212
    rw [dv_eq₁]
    refine (dv_at' (fun x d => do_load harg5 x3 hn 1 ?_ _ x d) (fun j x => weight_at hn hb hK1 (fun x d => q_load harg2 x0 hn 1 ?_ _ x d) (fun x => row_load harg6 x4 hn 1 ?_ _ x) j x) j d).trans ?_
    · rw [k0_off11_eq]; exact congrArg (fun a => ![a, 128]) (by omega)
    · rw [k0_off10_eq]; exact congrArg (fun a => ![a, 256]) (by omega)
    · rw [k0_off12_eq]; rfl
    · rw [load_read _ _ _ _ (ix3 1 j d) (fun a => by fin_cases a <;> simp)]

theorem trip_dk (u : Fin 2) (j : Fin 512) (d : Fin 256) :
    arg11.view.read (Elt Ideal) (arg11.view.writes (Elt Ideal) f11
        (stores c i arg2 harg2 arg3 harg3 arg4 harg4 arg5 harg5 arg6 harg6 arg7 harg7 arg8 harg8 arg9 harg9 arg10 harg10 arg11 harg11 arg12 harg12 arg1 v13 v16 v17 v18 v20 v74 v76 v92 v125 x0 x3 x4 x5 k f8 f11 f12).2.1) (ix3 u j d)
      = arg11.view.read (Elt Ideal) f11 (ix3 u j d) + dkAdd (i 1).val x0 x1 x2 x3 x4 x5 ((i 1).val + k.val + 1) u j d := by
  have hn : (i 1).val + k.val + 1 < 8 := by have := Nat.lt_of_lt_of_eq k.isLt (trips_eq i); omega
  have hb : (i 1).val < (i 1).val + k.val + 1 := by omega
  unfold stores tripL_k0_t1 trip_k0_t1; dsimp only
  unfold trip_k0_t1.sl.r trip_k0_t1.sl.r_1 trip_k0_t1.sl.r_2 trip_k0_t1.sl.r_3 trip_k0_t1.sl.r_4
  obtain rfl | rfl : u = 0 ∨ u = 1 := by omega
  · rw [View.read_writes_cons_unit_of_not_mem _ _ _ _ _ _ rfl 0 (Or.inl (by show 0 < 1; decide)),
      View.read_writes_cons_unit_of_mem _ _ _ _ _ _ (ix3 0 j d) rfl (fun a => by fin_cases a <;> simp)]
    have hQ : (i 1).val = (i 1).val := rfl
    rw [score_eq₁]
    refine (dk_at (fun x d => q_load harg2 x0 hn 0 ?_ _ x d) (fun j x => score_at hV0 (fun x d => do_load harg5 x3 hn 0 ?_ _ x d) (fun x => row_load harg7 x5 hn 0 ?_ _ x)
      (fun j x => weight_at hn hb hK0 (fun x d => q_load harg2 x0 hn 0 ?_ _ x d) (fun x => row_load harg6 x4 hn 0 ?_ _ x) j x) j x) j d).trans ?_
    · rw [k0_off7_eq]; exact congrArg (fun a => ![a, 0]) (by omega)
    · rw [k0_off8_eq]; exact congrArg (fun a => ![a, 0]) (by omega)
    · rw [k0_off9_eq]; rfl
    · rw [k0_off7_eq]; exact congrArg (fun a => ![a, 0]) (by omega)
    · rw [k0_off9_eq]; rfl
    · rw [load_read _ _ _ _ (ix3 0 j d) (fun a => by fin_cases a <;> simp)]
  · rw [View.read_writes_cons_unit_of_mem _ _ _ _ _ _ (ix3 0 j d) rfl (fun a => by fin_cases a <;> simp), dk_eq₁]
    unfold trip_k0_t1.sl.v230
    refine (dk_at (fun x d => q_load harg2 x0 hn 1 ?_ _ x d) (fun j x => score_at hV1 (fun x d => do_load harg5 x3 hn 1 ?_ _ x d) (fun x => row_load harg7 x5 hn 1 ?_ _ x)
      (fun j x => weight_at hn hb hK1 (fun x d => q_load harg2 x0 hn 1 ?_ _ x d) (fun x => row_load harg6 x4 hn 1 ?_ _ x) j x) j x) j d).trans ?_
    · rw [k0_off10_eq]; exact congrArg (fun a => ![a, 256]) (by omega)
    · rw [k0_off11_eq]; exact congrArg (fun a => ![a, 128]) (by omega)
    · rw [k0_off12_eq]; rfl
    · rw [k0_off10_eq]; exact congrArg (fun a => ![a, 256]) (by omega)
    · rw [k0_off12_eq]; rfl
    · rw [load_read _ _ _ _ (ix3 1 j d) (fun a => by fin_cases a <;> simp)]

theorem trip_dq (u : Fin 2) (r : Fin 4096) (d : Fin 256) :
    arg8.view.read (Elt Ideal) (arg8.view.writes (Elt Ideal) f8
        (stores c i arg2 harg2 arg3 harg3 arg4 harg4 arg5 harg5 arg6 harg6 arg7 harg7 arg8 harg8 arg9 harg9 arg10 harg10 arg11 harg11 arg12 harg12 arg1 v13 v16 v17 v18 v20 v74 v76 v92 v125 x0 x3 x4 x5 k f8 f11 f12).1) (ix2 r (col u d))
      = arg8.view.read (Elt Ideal) f8 (ix2 r (col u d))
        + if r.val / 512 = (i 1).val + k.val + 1 then dqAdd (i 1).val x0 x1 x2 x3 x4 x5 u r d else 0 := by
  have hn : (i 1).val + k.val + 1 < 8 := by have := Nat.lt_of_lt_of_eq k.isLt (trips_eq i); omega
  have hb : (i 1).val < (i 1).val + k.val + 1 := by omega
  unfold stores tripL_k0_t1 trip_k0_t1; dsimp only
  unfold trip_k0_t1.sl.r_1 trip_k0_t1.sl.r_3 trip_k0_t1.sl.r_4
  by_cases hr : r.val / 512 = (i 1).val + k.val + 1
  · obtain ⟨x, rfl⟩ : ∃ x, r = row ((i 1).val + k.val + 1) x :=
      ⟨⟨r.val - 512 * ((i 1).val + k.val + 1), by omega⟩, Fin.ext (by rw [row_val hn]; dsimp only; omega)⟩
    have hx := row_val hn x
    rw [if_pos hr]
    obtain rfl | rfl : u = 0 ∨ u = 1 := by omega
    · refine (View.read_writes_cons_unit_of_not_mem _ _ _ _ _ _ (k0_off10_eq i k) 1 (Or.inl (by show 256 * 0 + d.val < 256; omega))).trans ?_
      refine (View.read_writes_cons_unit_of_mem _ _ _ _ _ _ (ix2 x d) (k0_off7_eq i k) (Fin.forall_fin_two.mpr ⟨?_, ?_⟩)).trans ?_
      · show (row ((i 1).val + k.val + 1) x).val = 512 * (i 1).val + 512 * k.val + 512 + x.val; omega
      · rfl
      rw [score_eq₁]
      refine (dq_at hK0 (fun j x => score_at hV0 (fun x d => do_load harg5 x3 hn 0 ?_ _ x d) (fun x => row_load harg7 x5 hn 0 ?_ _ x)
        (fun j x => weight_at hn hb hK0 (fun x d => q_load harg2 x0 hn 0 ?_ _ x d) (fun x => row_load harg6 x4 hn 0 ?_ _ x) j x) j x) x d).trans ?_
      · rw [k0_off8_eq]; exact congrArg (fun a => ![a, 0]) (by omega)
      · rw [k0_off9_eq]; rfl
      · rw [k0_off7_eq]; exact congrArg (fun a => ![a, 0]) (by omega)
      · rw [k0_off9_eq]; rfl
      · exact congrArg (· + _) (load_read_at _ _ _ _ (ix2 (row ((i 1).val + k.val + 1) x) (col 0 d)) (k0_off7_eq i k)
          (Fin.forall_fin_two.mpr ⟨by show (row ((i 1).val + k.val + 1) x).val = 512 * (i 1).val + 512 * k.val + 512 + x.val; omega, rfl⟩))
    · refine (View.read_writes_cons_unit_of_mem _ _ _ _ _ _ (ix2 x d) (k0_off10_eq i k) (Fin.forall_fin_two.mpr ⟨?_, ?_⟩)).trans ?_
      · show (row ((i 1).val + k.val + 1) x).val = 512 * (i 1).val + 512 * k.val + 512 + x.val; omega
      · show 256 * 1 + d.val = 256 + d.val; omega
      unfold trip_k0_t1.sl.v238
      rw [dq_eq₁]
      refine (dq_at hK1 (fun j x => score_at hV1 (fun x d => do_load harg5 x3 hn 1 ?_ _ x d) (fun x => row_load harg7 x5 hn 1 ?_ _ x)
        (fun j x => weight_at hn hb hK1 (fun x d => q_load harg2 x0 hn 1 ?_ _ x d) (fun x => row_load harg6 x4 hn 1 ?_ _ x) j x) j x) x d).trans ?_
      · rw [k0_off11_eq]; exact congrArg (fun a => ![a, 128]) (by omega)
      · rw [k0_off12_eq]; rfl
      · rw [k0_off10_eq]; exact congrArg (fun a => ![a, 256]) (by omega)
      · rw [k0_off12_eq]; rfl
      · exact congrArg (· + _) (load_read_at _ _ _ _ (ix2 (row ((i 1).val + k.val + 1) x) (col 1 d)) (k0_off10_eq i k)
          (Fin.forall_fin_two.mpr ⟨by show (row ((i 1).val + k.val + 1) x).val = 512 * (i 1).val + 512 * k.val + 512 + x.val; omega, by show 256 * 1 + d.val = 256 + d.val; omega⟩))
  · have hm : r.val < 512 * (i 1).val + 512 * k.val + 512 ∨ 512 * (i 1).val + 512 * k.val + 512 + 512 ≤ r.val := by omega
    rw [if_neg hr, add_zero, View.read_writes_cons_unit_of_not_mem _ _ _ _ _ _ (k0_off10_eq i k) 0 hm,
      View.read_writes_cons_unit_of_not_mem _ _ _ _ _ _ (k0_off7_eq i k) 0 hm]
    rfl

theorem loop_dv (m : ℕ) (hm : m ≤ (k0_t1_loop i).trips) (u : Fin 2) (j : Fin 512) (d : Fin 128) :
    arg12.view.read (Elt Ideal) (arg12.view.writes (Elt Ideal) f12 (pb_k0_t1 (F := Ideal) Variants.none c none i arg2 harg2 arg3 harg3 arg4 harg4 arg5 harg5 arg6 harg6 arg7 harg7 arg8 harg8 arg9 harg9 arg10 harg10 arg11 harg11 arg12 harg12 arg1 v13 v16 v17 v18 v20 v74 v76 v92 v125 (harg2.unread x0) (harg5.unread x3) (harg6.unread x4) (harg7.unread x5) f8 f11 f12 m).2.2) (ix3 u j d)
      = arg12.view.read (Elt Ideal) f12 (ix3 u j d) + ∑ t ∈ Finset.range m, dvAdd (i 1).val x0 x1 x2 x3 x4 ((i 1).val + t + 1) u j d := by
  induction m with
  | zero => rw [pb_k0_t1.eq_1, Finset.range_zero, Finset.sum_empty, add_zero]; rfl
  | succ m ih =>
    rw [pb_k0_t1_succ (F := Ideal) Variants.none c none i arg2 harg2 arg3 harg3 arg4 harg4 arg5 harg5 arg6 harg6 arg7 harg7 arg8 harg8 arg9 harg9 arg10 harg10 arg11 harg11 arg12 harg12 arg1 v13 v16 v17 v18 v20 v74 v76 v92 v125 (harg2.unread x0) (harg5.unread x3) (harg6.unread x4) (harg7.unread x5) f8 f11 f12 ⟨m, hm⟩]
    dsimp only
    rw [View.writes_append, Finset.sum_range_succ, ← add_assoc, ← ih (by omega)]
    exact trip_dv c i arg2 harg2 arg3 harg3 arg4 harg4 arg5 harg5 arg6 harg6 arg7 harg7 arg8 harg8 arg9 harg9 arg10 harg10 arg11 harg11 arg12 harg12 arg1 v13 v16 v17 v18 v20 v74 v76 v92 v125 x0 x1 x2 x3 x4 x5 hK0 hK1 hV0 hV1 ⟨m, hm⟩ _ _ _ _ _ _

theorem loop_dk (m : ℕ) (hm : m ≤ (k0_t1_loop i).trips) (u : Fin 2) (j : Fin 512) (d : Fin 256) :
    arg11.view.read (Elt Ideal) (arg11.view.writes (Elt Ideal) f11 (pb_k0_t1 (F := Ideal) Variants.none c none i arg2 harg2 arg3 harg3 arg4 harg4 arg5 harg5 arg6 harg6 arg7 harg7 arg8 harg8 arg9 harg9 arg10 harg10 arg11 harg11 arg12 harg12 arg1 v13 v16 v17 v18 v20 v74 v76 v92 v125 (harg2.unread x0) (harg5.unread x3) (harg6.unread x4) (harg7.unread x5) f8 f11 f12 m).2.1) (ix3 u j d)
      = arg11.view.read (Elt Ideal) f11 (ix3 u j d) + ∑ t ∈ Finset.range m, dkAdd (i 1).val x0 x1 x2 x3 x4 x5 ((i 1).val + t + 1) u j d := by
  induction m with
  | zero => rw [pb_k0_t1.eq_1, Finset.range_zero, Finset.sum_empty, add_zero]; rfl
  | succ m ih =>
    rw [pb_k0_t1_succ (F := Ideal) Variants.none c none i arg2 harg2 arg3 harg3 arg4 harg4 arg5 harg5 arg6 harg6 arg7 harg7 arg8 harg8 arg9 harg9 arg10 harg10 arg11 harg11 arg12 harg12 arg1 v13 v16 v17 v18 v20 v74 v76 v92 v125 (harg2.unread x0) (harg5.unread x3) (harg6.unread x4) (harg7.unread x5) f8 f11 f12 ⟨m, hm⟩]
    dsimp only
    rw [View.writes_append, Finset.sum_range_succ, ← add_assoc, ← ih (by omega)]
    exact trip_dk c i arg2 harg2 arg3 harg3 arg4 harg4 arg5 harg5 arg6 harg6 arg7 harg7 arg8 harg8 arg9 harg9 arg10 harg10 arg11 harg11 arg12 harg12 arg1 v13 v16 v17 v18 v20 v74 v76 v92 v125 x0 x1 x2 x3 x4 x5 hK0 hK1 hV0 hV1 ⟨m, hm⟩ _ _ _ _ _ _

theorem loop_dq (m : ℕ) (hm : m ≤ (k0_t1_loop i).trips) (u : Fin 2) (r : Fin 4096) (d : Fin 256) :
    arg8.view.read (Elt Ideal) (arg8.view.writes (Elt Ideal) f8 (pb_k0_t1 (F := Ideal) Variants.none c none i arg2 harg2 arg3 harg3 arg4 harg4 arg5 harg5 arg6 harg6 arg7 harg7 arg8 harg8 arg9 harg9 arg10 harg10 arg11 harg11 arg12 harg12 arg1 v13 v16 v17 v18 v20 v74 v76 v92 v125 (harg2.unread x0) (harg5.unread x3) (harg6.unread x4) (harg7.unread x5) f8 f11 f12 m).1) (ix2 r (col u d))
      = arg8.view.read (Elt Ideal) f8 (ix2 r (col u d)) + ∑ t ∈ Finset.range m, if r.val / 512 = (i 1).val + t + 1 then dqAdd (i 1).val x0 x1 x2 x3 x4 x5 u r d else 0 := by
  induction m with
  | zero => rw [pb_k0_t1.eq_1, Finset.range_zero, Finset.sum_empty, add_zero]; rfl
  | succ m ih =>
    rw [pb_k0_t1_succ (F := Ideal) Variants.none c none i arg2 harg2 arg3 harg3 arg4 harg4 arg5 harg5 arg6 harg6 arg7 harg7 arg8 harg8 arg9 harg9 arg10 harg10 arg11 harg11 arg12 harg12 arg1 v13 v16 v17 v18 v20 v74 v76 v92 v125 (harg2.unread x0) (harg5.unread x3) (harg6.unread x4) (harg7.unread x5) f8 f11 f12 ⟨m, hm⟩]
    dsimp only
    rw [View.writes_append, Finset.sum_range_succ, ← add_assoc, ← ih (by omega)]
    exact trip_dq c i arg2 harg2 arg3 harg3 arg4 harg4 arg5 harg5 arg6 harg6 arg7 harg7 arg8 harg8 arg9 harg9 arg10 harg10 arg11 harg11 arg12 harg12 arg1 v13 v16 v17 v18 v20 v74 v76 v92 v125 x0 x1 x2 x3 x4 x5 hK0 hK1 hV0 hV1 ⟨m, hm⟩ _ _ _ _ _ _

end

end Cert.KernelIdeal.Trip

end
-- ==== Proof.Point.lean ====
/- What one grid point of the gradient kernel leaves in its three output blocks, entry by entry, on exact numbers: the query
   gradient gains the point's block of keys, and the key and value gradients of that block are summed over all the chunks of
   queries from the diagonal one on. -/
module

public import proofs.«01_k».proof.Proof.Body
public import proofs.«01_k».proof.Proof.Trip

@[expose] public section

set_option maxRecDepth 16384

noncomputable section

namespace Cert.KernelIdeal.Point

open Cert.KernelIdeal.Gen Cert.KernelIdeal.Tile Cert.KernelIdeal.Trip Cert.KernelIdeal.Body
open Idealize.ShloMosaic Idealize.ShloMosaic.TcCoe Idealize.SL.Sem

theorem col_zero (d : Fin 256) : (col 0 d).val = 0 + d.val := by
  show 256 * 0 + d.val = 0 + d.val; omega

section Loads
variable {arg3 : Memref sig .tc .vmem S512x512 .bf16} (harg3 : arg3.IsWhole) {arg4 : Memref sig .tc .vmem S512x128 .bf16} (harg4 : arg4.IsWhole)
  (x1 : FVec Ideal S512x512 .bf16) (x2 : FVec Ideal S512x128 .bf16)

/-- A load of 128 columns of the block of keys and values. -/
theorem cols_load {o : ℕ} (ho : o + 128 ≤ 512) (inb : ∀ a, ![0, o] a + S512x128.size a ≤ S512x512.size a) (j : Fin 512) (d : Fin 128) :
    arg3.view.readAt (Elt Ideal) (Rect.unit (s := S512x512) ![0, o] S512x128.size inb).toLoadRect (harg3.unread x1) (ix2 j d)
      = x1 (ix2 j ⟨o + d.val, by omega⟩) :=
  load_whole harg3 x1 inb _ (ix2 j ⟨o + d.val, by omega⟩) (Fin.forall_fin_two.mpr ⟨(Nat.zero_add _).symm, rfl⟩)

/-- A load of the whole block of rotary keys. -/
theorem rope_load (inb : ∀ a, ![0, 0] a + S512x128.size a ≤ S512x128.size a) (j : Fin 512) (d : Fin 128) :
    arg4.view.readAt (Elt Ideal) (Rect.unit (s := S512x128) ![0, 0] S512x128.size inb).toLoadRect (harg4.unread x2) (ix2 j d) = x2 (ix2 j d) :=
  load_whole harg4 x2 inb _ (ix2 j d) (Fin.forall_fin_two.mpr ⟨(Nat.zero_add _).symm, (Nat.zero_add _).symm⟩)

theorem keys0 (c : Dev nD) (j : Fin 512) (d : Fin 256) : runLater.sl.r (F := Ideal) c arg3 harg3 arg4 harg4 x1 x2 (ix2 j d) = keyAt x1 x2 0 j d :=
  keys_at (u := 0) (fun j d => (cols_load harg3 x1 (by omega) _ j d).trans (congrArg (fun e => x1 (ix2 j e)) (Fin.ext rfl))) (rope_load harg4 x2 _) j d

theorem keys1 (c : Dev nD) (j : Fin 512) (d : Fin 256) : runLater.sl.r_1 (F := Ideal) c arg3 harg3 arg4 harg4 x1 x2 (ix2 j d) = keyAt x1 x2 1 j d :=
  keys_at (u := 1) (fun j d => (cols_load harg3 x1 (by omega) _ j d).trans (congrArg (fun e => x1 (ix2 j e)) (Fin.ext rfl))) (rope_load harg4 x2 _) j d

theorem vals0 (c : Dev nD) (j : Fin 512) (d : Fin 128) : runLater.sl.r_2 (F := Ideal) c arg3 harg3 x1 (ix2 j d) = valAt x1 0 j d :=
  (cols_load harg3 x1 (by omega) _ j d).trans (congrArg (fun e => x1 (ix2 j e)) (Fin.ext rfl))

theorem vals1 (c : Dev nD) (j : Fin 512) (d : Fin 128) : runLater.sl.r_3 (F := Ideal) c arg3 harg3 x1 (ix2 j d) = valAt x1 1 j d :=
  (cols_load harg3 x1 (by omega) _ j d).trans (congrArg (fun e => x1 (ix2 j e)) (Fin.ext rfl))
end Loads

/-- Loads of one head's chunk of the query gradient. -/
theorem dq_load0 {i : grid0.Coords} {v : View sig .tc .vmem S4096x512 .f32} (f : v.ty.Contents (Elt Ideal)) (x : Fin 512) (d : Fin 256) :
    v.readAt (Elt Ideal) (Rect.unit (s := S4096x512) (k0_off1 i) S512x256.size (k0_off1_inb i)).toLoadRect f (ix2 x d)
      = v.read (Elt Ideal) f (ix2 (row (i 1).val x) (col 0 d)) :=
  load_read_at v f _ _ _ (k0_off1_eq i) (Fin.forall_fin_two.mpr ⟨row_val (i 1).isLt x, col_zero d⟩)

theorem dq_load1 {i : grid0.Coords} {v : View sig .tc .vmem S4096x512 .f32} (f : v.ty.Contents (Elt Ideal)) (x : Fin 512) (d : Fin 256) :
    v.readAt (Elt Ideal) (Rect.unit (s := S4096x512) (k0_off4 i) S512x256.size (k0_off4_inb i)).toLoadRect f (ix2 x d)
      = v.read (Elt Ideal) f (ix2 (row (i 1).val x) (col 1 d)) :=
  load_read_at v f _ _ _ (k0_off4_eq i) (Fin.forall_fin_two.mpr ⟨row_val (i 1).isLt x, by show 256 * 1 + d.val = 256 + d.val; omega⟩)

/-- The accumulators start from zero. -/
theorem zero18 (y : S2x512x256.Idx) : k0_pay18 (F := Ideal) y = 0 := by
  show Ideal.ofBits .f32 0x00000000#32 = 0
  simp [Ideal.ofBits, Ideal.ieee]
theorem zero19 (y : S2x512x128.Idx) : k0_pay19 (F := Ideal) y = 0 := by
  show Ideal.ofBits .f32 0x00000000#32 = 0
  simp [Ideal.ofBits, Ideal.ieee]
theorem zero17 (y : S4096x512.Idx) : k0_pay17 (F := Ideal) y = 0 := by
  show Ideal.ofBits .f32 0x00000000#32 = 0
  simp [Ideal.ofBits, Ideal.ieee]

section
variable (b : ℕ) (x0 : FVec Ideal S4096x512 .bf16) (x1 : FVec Ideal S512x512 .bf16) (x2 : FVec Ideal S512x128 .bf16)
  (x3 : FVec Ideal S4096x256 .bf16) (x4 x5 : FVec Ideal S2x8x1x512 .f32)

/-- The gradient of key `j` of block `b`: the diagonal chunk of queries, then the later ones. -/
def dkPt (u : Fin 2) (j : Fin 512) (d : Fin 256) : Ideal .f32 :=
  dkAdd b x0 x1 x2 x3 x4 x5 b u j d + ∑ t ∈ Finset.range (7 - b), dkAdd b x0 x1 x2 x3 x4 x5 (b + t + 1) u j d

/-- The gradient of value `j` of block `b`. -/
def dvPt (u : Fin 2) (j : Fin 512) (d : Fin 128) : Ideal .f32 :=
  dvAdd b x0 x1 x2 x3 x4 b u j d + ∑ t ∈ Finset.range (7 - b), dvAdd b x0 x1 x2 x3 x4 (b + t + 1) u j d

/-- What block `b` of the keys adds to the gradient of query `r`: nothing if they all come later. -/
def dqPt (u : Fin 2) (r : Fin 4096) (d : Fin 256) : Ideal .f32 :=
  if b ≤ r.val / 512 then dqAdd b x0 x1 x2 x3 x4 x5 u r d else 0
end

section
variable (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x512 .f32) (harg8 : arg8.IsWhole) (arg9 : Memref sig .tc .vmem S512x512 .bf16) (harg9 : arg9.IsWhole) (arg10 : Memref sig .tc .vmem S512x256 .f32) (harg10 : arg10.IsWhole) (arg11 : Memref sig .tc .vmem S2x512x256 .f32) (harg11 : arg11.IsWhole) (arg12 : Memref sig .tc .vmem S2x512x128 .f32) (harg12 : arg12.IsWhole)
variable (x0 : FVec Ideal S4096x512 .bf16) (x1 : FVec Ideal S512x512 .bf16) (x2 : FVec Ideal S512x128 .bf16)
  (x3 : FVec Ideal S4096x256 .bf16) (x4 x5 : FVec Ideal S2x8x1x512 .f32)
include c i arg2 harg2 arg3 harg3 arg4 harg4 arg5 harg5 arg6 harg6 arg7 harg7 arg8 harg8 arg9 harg9 arg10 harg10 arg11 harg11 arg12 harg12 x0 x1 x2 x3 x4 x5

theorem weight0 (j x : Fin 512) :
    k0_pay24 (F := Ideal) (runLater.sl.r_6 c i arg2 harg2 arg3 harg3 arg4 harg4 x0 x1 x2) k0_pay23
        (arg6.view.readAt (Elt Ideal) (Rect.unit (s := S2x8x1x512) (k0_off3 i) S1x1x1x512.size (k0_off3_inb i)).toLoadRect (harg6.unread x4)) (ix2 j x)
      = wAt (i 1).val x0 x1 x2 x4 0 j (row (i 1).val x) := by
  unfold runLater.sl.r_6
  rw [maskedWeight_eq]
  exact maskedWeight_at (i 1).isLt (keys0 harg3 harg4 x1 x2 c) (q_load harg2 x0 (i 1).isLt 0 (k0_off1_eq i) _)
    (row_load harg6 x4 (i 1).isLt 0 (k0_off3_eq i) _) j x

theorem weight1 (j x : Fin 512) :
    runLater.sl.r_11 (F := Ideal) c i arg2 harg2 arg3 harg3 arg4 harg4 arg6 harg6 x0 x1 x2 x4 (ix2 j x)
      = wAt (i 1).val x0 x1 x2 x4 1 j (row (i 1).val x) :=
  maskedWeight_at (i 1).isLt (keys1 harg3 harg4 x1 x2 c) (q_load harg2 x0 (i 1).isLt 1 (k0_off4_eq i) _)
    (row_load harg6 x4 (i 1).isLt 1 (k0_off6_eq i) _) j x

/-- The value gradient's accumulator after the diagonal chunk. -/
theorem first_dv (u : Fin 2) (j : Fin 512) (d : Fin 128) :
    arg12.view.read (Elt Ideal) (arg12.view.writes (Elt Ideal) arg12.view.junk (runLater.sl.HS1_3 c i arg2 harg2 arg3 harg3 arg4 harg4 arg5 harg5 arg6 harg6 arg12 x0 x1 x2 x3 x4)) (ix3 u j d)
      = dvAdd (i 1).val x0 x1 x2 x3 x4 (i 1).val u j d := by
  obtain rfl | rfl : u = 0 ∨ u = 1 := by omega
  · unfold runLater.sl.HS1_3 runLater.sl.HS1_2
    refine (View.read_writes_cons_unit_of_not_mem _ _ _ _ _ _ rfl 0 (Or.inl (by show 0 < 1; decide))).trans ?_
    refine (View.read_writes_cons_unit_of_mem _ _ _ _ _ _ (ix3 0 j d) rfl (fun a => by fin_cases a <;> simp)).trans ?_
    unfold runLater.sl.r_6
    rw [dv_eq₂]
    refine (dv_at (u := 0) (do_load harg5 x3 (i 1).isLt 0 (k0_off2_eq i) _)
      (maskedWeight_at (i 1).isLt (keys0 harg3 harg4 x1 x2 c) (q_load harg2 x0 (i 1).isLt 0 (k0_off1_eq i) _) (row_load harg6 x4 (i 1).isLt 0 (k0_off3_eq i) _)) j d).trans ?_
    have hz : runLater.sl.v41 (F := Ideal) c arg12 (ix3 0 j d) = 0 := by
      refine (load_read arg12.view _ _ _ (ix3 0 j d) (fun a => by fin_cases a <;> simp)).trans ?_
      exact (View.read_writes_cons_unit_of_mem _ _ _ _ _ _ (ix3 0 j d) rfl (fun a => by fin_cases a <;> simp)).trans (zero19 _)
    rw [hz, zero_add]
  · unfold runLater.sl.HS1_3
    refine (View.read_writes_cons_unit_of_mem _ _ _ _ _ _ (ix3 0 j d) rfl (fun a => by fin_cases a <;> simp)).trans ?_
    refine (dv_at (u := 1) (do_load harg5 x3 (i 1).isLt 1 (k0_off5_eq i) _)
      (maskedWeight_at (i 1).isLt (keys1 harg3 harg4 x1 x2 c) (q_load harg2 x0 (i 1).isLt 1 (k0_off4_eq i) _) (row_load harg6 x4 (i 1).isLt 1 (k0_off6_eq i) _)) j d).trans ?_
    have hz : runLater.sl.v93 (F := Ideal) c i arg2 harg2 arg3 harg3 arg4 harg4 arg5 harg5 arg6 harg6 arg12 x0 x1 x2 x3 x4 (ix3 0 j d) = 0 := by
      refine (load_read arg12.view _ _ _ (ix3 1 j d) (fun a => by fin_cases a <;> simp)).trans ?_
      refine (View.read_writes_cons_unit_of_not_mem _ _ _ _ _ _ rfl 0 (Or.inr (by show 0 + 1 ≤ 1; decide))).trans ?_
      exact (View.read_writes_cons_unit_of_mem _ _ _ _ _ _ (ix3 1 j d) rfl (fun a => by fin_cases a <;> simp)).trans (zero19 _)
    rw [hz, zero_add]

theorem score0 (j x : Fin 512) :
    runLater.sl.r_7 (F := Ideal) c i arg2 harg2 arg3 harg3 arg4 harg4 arg5 harg5 arg6 harg6 arg7 harg7 x0 x1 x2 x3 x4 x5 (ix2 j x) = dsAt (i 1).val x0 x1 x2 x3 x4 x5 0 j (row (i 1).val x) := by
  unfold runLater.sl.r_7
  rw [score_eq₃]
  exact score_at (u := 0) (vals0 harg3 x1 c) (do_load harg5 x3 (i 1).isLt 0 (k0_off2_eq i) _) (row_load harg7 x5 (i 1).isLt 0 (k0_off3_eq i) _)
    (weight0 c i arg2 harg2 arg3 harg3 arg4 harg4 arg5 harg5 arg6 harg6 arg7 harg7 arg8 harg8 arg9 harg9 arg10 harg10 arg11 harg11 arg12 harg12 x0 x1 x2 x3 x4 x5) j x

theorem score1 (j x : Fin 512) :
    k0_pay32 (F := Ideal) (runLater.sl.r_3 (F := Ideal) c arg3 harg3 x1) (runLater.sl.r_10 c i arg5 harg5 x3) (runLater.sl.r_11 (F := Ideal) c i arg2 harg2 arg3 harg3 arg4 harg4 arg6 harg6 x0 x1 x2 x4)
        (arg7.view.readAt (Elt Ideal) (Rect.unit (s := S2x8x1x512) (k0_off6 i) S1x1x1x512.size (k0_off6_inb i)).toLoadRect (harg7.unread x5)) (ix2 j x)
      = dsAt (i 1).val x0 x1 x2 x3 x4 x5 1 j (row (i 1).val x) :=
  score_at (u := 1) (vals1 harg3 x1 c) (do_load harg5 x3 (i 1).isLt 1 (k0_off5_eq i) _) (row_load harg7 x5 (i 1).isLt 1 (k0_off6_eq i) _)
    (weight1 c i arg2 harg2 arg3 harg3 arg4 harg4 arg5 harg5 arg6 harg6 arg7 harg7 arg8 harg8 arg9 harg9 arg10 harg10 arg11 harg11 arg12 harg12 x0 x1 x2 x3 x4 x5) j x

/-- The key gradient's accumulator after the diagonal chunk. -/
theorem first_dk (u : Fin 2) (j : Fin 512) (d : Fin 256) :
    arg11.view.read (Elt Ideal) (arg11.view.writes (Elt Ideal) arg11.view.junk (runLater.sl.HS0_3 c i arg2 harg2 arg3 harg3 arg4 harg4 arg5 harg5 arg6 harg6 arg7 harg7 arg11 x0 x1 x2 x3 x4 x5)) (ix3 u j d)
      = dkAdd (i 1).val x0 x1 x2 x3 x4 x5 (i 1).val u j d := by
  obtain rfl | rfl : u = 0 ∨ u = 1 := by omega
  · unfold runLater.sl.HS0_3 runLater.sl.HS0_2
    refine (View.read_writes_cons_unit_of_not_mem _ _ _ _ _ _ rfl 0 (Or.inl (by show 0 < 1; decide))).trans ?_
    refine (View.read_writes_cons_unit_of_mem _ _ _ _ _ _ (ix3 0 j d) rfl (fun a => by fin_cases a <;> simp)).trans ?_
    unfold runLater.sl.r_8
    rw [dk_eq₃]
    refine (dk_at (u := 0) (q_load harg2 x0 (i 1).isLt 0 (k0_off1_eq i) _) (score0 c i arg2 harg2 arg3 harg3 arg4 harg4 arg5 harg5 arg6 harg6 arg7 harg7 arg8 harg8 arg9 harg9 arg10 harg10 arg11 harg11 arg12 harg12 x0 x1 x2 x3 x4 x5) j d).trans ?_
    have hz : runLater.sl.v59 (F := Ideal) c arg11 (ix3 0 j d) = 0 := by
      refine (load_read arg11.view _ _ _ (ix3 0 j d) (fun a => by fin_cases a <;> simp)).trans ?_
      exact (View.read_writes_cons_unit_of_mem _ _ _ _ _ _ (ix3 0 j d) rfl (fun a => by fin_cases a <;> simp)).trans (zero18 _)
    rw [hz, zero_add]
  · unfold runLater.sl.HS0_3
    refine (View.read_writes_cons_unit_of_mem _ _ _ _ _ _ (ix3 0 j d) rfl (fun a => by fin_cases a <;> simp)).trans ?_
    rw [dk_eq₂]
    refine (dk_at (u := 1) (q_load harg2 x0 (i 1).isLt 1 (k0_off4_eq i) _) (score1 c i arg2 harg2 arg3 harg3 arg4 harg4 arg5 harg5 arg6 harg6 arg7 harg7 arg8 harg8 arg9 harg9 arg10 harg10 arg11 harg11 arg12 harg12 x0 x1 x2 x3 x4 x5) j d).trans ?_
    have hz : runLater.sl.v111 (F := Ideal) c i arg2 harg2 arg3 harg3 arg4 harg4 arg5 harg5 arg6 harg6 arg7 harg7 arg11 x0 x1 x2 x3 x4 x5 (ix3 0 j d) = 0 := by
      refine (load_read arg11.view _ _ _ (ix3 1 j d) (fun a => by fin_cases a <;> simp)).trans ?_
      refine (View.read_writes_cons_unit_of_not_mem _ _ _ _ _ _ rfl 0 (Or.inr (by show 0 + 1 ≤ 1; decide))).trans ?_
      exact (View.read_writes_cons_unit_of_mem _ _ _ _ _ _ (ix3 1 j d) rfl (fun a => by fin_cases a <;> simp)).trans (zero18 _)
    rw [hz, zero_add]

/-- The two stores into the query gradient at the diagonal chunk, over contents that read `g`. -/
theorem first_dq {f8 : BufTy.Contents (Elt Ideal) arg8.view.ty} {L : List (View.Piece (Elt Ideal) S4096x512 .f32)} {g : Vec Ideal S4096x512 .f32}
    {X0 X1 : FVec Ideal S512x256 .f32} (hg : ∀ r e, arg8.view.read (Elt Ideal) (arg8.view.writes (Elt Ideal) f8 L) (ix2 r e) = g (ix2 r e))
    (h0 : ∀ x d, X0 (ix2 x d) = g (ix2 (row (i 1).val x) (col 0 d))) (h1 : ∀ x d, X1 (ix2 x d) = g (ix2 (row (i 1).val x) (col 1 d)))
    (u : Fin 2) (r : Fin 4096) (d : Fin 256) :
    arg8.view.read (Elt Ideal) (arg8.view.writes (Elt Ideal) f8 (⟨Rect.unit (k0_off4 i) S512x256.size (k0_off4_inb i),
        k0_pay34 (runLater.sl.r_1 (F := Ideal) c arg3 harg3 arg4 harg4 x1 x2) (runLater.sl.r_3 (F := Ideal) c arg3 harg3 x1) (runLater.sl.r_10 c i arg5 harg5 x3) (runLater.sl.r_11 (F := Ideal) c i arg2 harg2 arg3 harg3 arg4 harg4 arg6 harg6 x0 x1 x2 x4)
          (arg7.view.readAt (Elt Ideal) (Rect.unit (s := S2x8x1x512) (k0_off6 i) S1x1x1x512.size (k0_off6_inb i)).toLoadRect (harg7.unread x5)) X1⟩
      :: ⟨Rect.unit (k0_off1 i) S512x256.size (k0_off1_inb i),
        k0_pay29 (runLater.sl.r (F := Ideal) c arg3 harg3 arg4 harg4 x1 x2) (runLater.sl.r_7 (F := Ideal) c i arg2 harg2 arg3 harg3 arg4 harg4 arg5 harg5 arg6 harg6 arg7 harg7 x0 x1 x2 x3 x4 x5) X0⟩ :: L)) (ix2 r (col u d))
      = g (ix2 r (col u d)) + if r.val / 512 = (i 1).val then dqAdd (i 1).val x0 x1 x2 x3 x4 x5 u r d else 0 := by
  by_cases hr : r.val / 512 = (i 1).val
  · obtain ⟨x, rfl⟩ : ∃ x, r = row (i 1).val x :=
      ⟨⟨r.val - 512 * (i 1).val, by omega⟩, Fin.ext (by rw [row_val (i 1).isLt]; dsimp only; omega)⟩
    have hx := row_val (i 1).isLt x
    rw [if_pos hr]
    obtain rfl | rfl : u = 0 ∨ u = 1 := by omega
    · refine (View.read_writes_cons_unit_of_not_mem _ _ _ _ _ _ (k0_off4_eq i) 1 (Or.inl (by show 256 * 0 + d.val < 256; omega))).trans ?_
      refine (View.read_writes_cons_unit_of_mem _ _ _ _ _ _ (ix2 x d) (k0_off1_eq i) (Fin.forall_fin_two.mpr ⟨hx, col_zero d⟩)).trans ?_
      rw [dq_eq₃]
      exact (dq_at (u := 0) (keys0 harg3 harg4 x1 x2 c) (score0 c i arg2 harg2 arg3 harg3 arg4 harg4 arg5 harg5 arg6 harg6 arg7 harg7 arg8 harg8 arg9 harg9 arg10 harg10 arg11 harg11 arg12 harg12 x0 x1 x2 x3 x4 x5) x d).trans (by rw [h0])
    · refine (View.read_writes_cons_unit_of_mem _ _ _ _ _ _ (ix2 x d) (k0_off4_eq i) (Fin.forall_fin_two.mpr ⟨hx, ?_⟩)).trans ?_
      · show 256 * 1 + d.val = 256 + d.val; omega
      rw [dq_eq₂]
      exact (dq_at (u := 1) (keys1 harg3 harg4 x1 x2 c) (score1 c i arg2 harg2 arg3 harg3 arg4 harg4 arg5 harg5 arg6 harg6 arg7 harg7 arg8 harg8 arg9 harg9 arg10 harg10 arg11 harg11 arg12 harg12 x0 x1 x2 x3 x4 x5) x d).trans (by rw [h1])
  · have hm : r.val < 512 * (i 1).val ∨ 512 * (i 1).val + 512 ≤ r.val := by omega
    rw [if_neg hr, add_zero]
    refine (View.read_writes_cons_unit_of_not_mem _ _ _ _ _ _ (k0_off4_eq i) 0 hm).trans ?_
    exact (View.read_writes_cons_unit_of_not_mem _ _ _ _ _ _ (k0_off1_eq i) 0 hm).trans (hg r _)

/-- All the stores of the loop, over the accumulators after the diagonal chunk. -/
abbrev loopStores (f8 : BufTy.Contents (Elt Ideal) arg8.view.ty) :=
  pb_k0_t1 (F := Ideal) Variants.none c none i arg2 harg2 arg3 harg3 arg4 harg4 arg5 harg5 arg6 harg6 arg7 harg7 arg8 harg8 arg9 harg9 arg10 harg10 arg11 harg11 arg12 harg12 (BitVec.ofNat 32 (i 1).val)
    (runLater.sl.r (F := Ideal) c arg3 harg3 arg4 harg4 x1 x2) (runLater.sl.r_1 (F := Ideal) c arg3 harg3 arg4 harg4 x1 x2) (runLater.sl.r_2 (F := Ideal) c arg3 harg3 x1) (runLater.sl.r_3 (F := Ideal) c arg3 harg3 x1) (runLater.sl.v19 i)
    (runLater.sl.r_9 c i arg2 harg2 x0) (runLater.sl.r_10 c i arg5 harg5 x3) (runLater.sl.r_11 (F := Ideal) c i arg2 harg2 arg3 harg3 arg4 harg4 arg6 harg6 x0 x1 x2 x4) (runLater.sl.v125 i)
    (harg2.unread x0) (harg5.unread x3) (harg6.unread x4) (harg7.unread x5) f8
    (arg11.view.writes (Elt Ideal) arg11.view.junk (runLater.sl.HS0_3 c i arg2 harg2 arg3 harg3 arg4 harg4 arg5 harg5 arg6 harg6 arg7 harg7 arg11 x0 x1 x2 x3 x4 x5))
    (arg12.view.writes (Elt Ideal) arg12.view.junk (runLater.sl.HS1_3 c i arg2 harg2 arg3 harg3 arg4 harg4 arg5 harg5 arg6 harg6 arg12 x0 x1 x2 x3 x4))
    (k0_t1_loop i).trips

/-- The key gradient's accumulator at the end of the point. -/
theorem all_dk (f8 : BufTy.Contents (Elt Ideal) arg8.view.ty) (u : Fin 2) (j : Fin 512) (d : Fin 256) :
    arg11.view.read (Elt Ideal) (arg11.view.writes (Elt Ideal) arg11.view.junk ((loopStores c i arg2 harg2 arg3 harg3 arg4 harg4 arg5 harg5 arg6 harg6 arg7 harg7 arg8 harg8 arg9 harg9 arg10 harg10 arg11 harg11 arg12 harg12 x0 x1 x2 x3 x4 x5 f8).2.1
        ++ runLater.sl.HS0_3 c i arg2 harg2 arg3 harg3 arg4 harg4 arg5 harg5 arg6 harg6 arg7 harg7 arg11 x0 x1 x2 x3 x4 x5)) (ix3 u j d) = dkPt (i 1).val x0 x1 x2 x3 x4 x5 u j d := by
  rw [View.writes_append]
  unfold loopStores
  rw [loop_dk c i arg2 harg2 arg3 harg3 arg4 harg4 arg5 harg5 arg6 harg6 arg7 harg7 arg8 harg8 arg9 harg9 arg10 harg10 arg11 harg11 arg12 harg12 _ _ _ _ _ _ _ _ _ _ x0 x1 x2 x3 x4 x5 (keys0 harg3 harg4 x1 x2 c) (keys1 harg3 harg4 x1 x2 c) (vals0 harg3 x1 c) (vals1 harg3 x1 c) _ _ _ _ le_rfl u j d,
    first_dk c i arg2 harg2 arg3 harg3 arg4 harg4 arg5 harg5 arg6 harg6 arg7 harg7 arg8 harg8 arg9 harg9 arg10 harg10 arg11 harg11 arg12 harg12 x0 x1 x2 x3 x4 x5 u j d, trips_eq]
  rfl

theorem all_dv (f8 : BufTy.Contents (Elt Ideal) arg8.view.ty) (u : Fin 2) (j : Fin 512) (d : Fin 128) :
    arg12.view.read (Elt Ideal) (arg12.view.writes (Elt Ideal) arg12.view.junk ((loopStores c i arg2 harg2 arg3 harg3 arg4 harg4 arg5 harg5 arg6 harg6 arg7 harg7 arg8 harg8 arg9 harg9 arg10 harg10 arg11 harg11 arg12 harg12 x0 x1 x2 x3 x4 x5 f8).2.2
        ++ runLater.sl.HS1_3 c i arg2 harg2 arg3 harg3 arg4 harg4 arg5 harg5 arg6 harg6 arg12 x0 x1 x2 x3 x4)) (ix3 u j d) = dvPt (i 1).val x0 x1 x2 x3 x4 u j d := by
  rw [View.writes_append]
  unfold loopStores
  rw [loop_dv c i arg2 harg2 arg3 harg3 arg4 harg4 arg5 harg5 arg6 harg6 arg7 harg7 arg8 harg8 arg9 harg9 arg10 harg10 arg11 harg11 arg12 harg12 _ _ _ _ _ _ _ _ _ _ x0 x1 x2 x3 x4 x5 (keys0 harg3 harg4 x1 x2 c) (keys1 harg3 harg4 x1 x2 c) (vals0 harg3 x1 c) (vals1 harg3 x1 c) _ _ _ _ le_rfl u j d,
    first_dv c i arg2 harg2 arg3 harg3 arg4 harg4 arg5 harg5 arg6 harg6 arg7 harg7 arg8 harg8 arg9 harg9 arg10 harg10 arg11 harg11 arg12 harg12 x0 x1 x2 x3 x4 x5 u j d, trips_eq]
  rfl

/-- The query gradient after the loop, over contents `f8` that have gained the diagonal chunk. -/
theorem all_dq {f8 : BufTy.Contents (Elt Ideal) arg8.view.ty} {g : Vec Ideal S4096x512 .f32} (u : Fin 2) (r : Fin 4096) (d : Fin 256)
    (h : arg8.view.read (Elt Ideal) f8 (ix2 r (col u d))
      = g (ix2 r (col u d)) + if r.val / 512 = (i 1).val then dqAdd (i 1).val x0 x1 x2 x3 x4 x5 u r d else 0) :
    arg8.view.read (Elt Ideal) (arg8.view.writes (Elt Ideal) f8 (loopStores c i arg2 harg2 arg3 harg3 arg4 harg4 arg5 harg5 arg6 harg6 arg7 harg7 arg8 harg8 arg9 harg9 arg10 harg10 arg11 harg11 arg12 harg12 x0 x1 x2 x3 x4 x5 f8).1) (ix2 r (col u d))
      = g (ix2 r (col u d)) + dqPt (i 1).val x0 x1 x2 x3 x4 x5 u r d := by
  unfold loopStores
  rw [loop_dq c i arg2 harg2 arg3 harg3 arg4 harg4 arg5 harg5 arg6 harg6 arg7 harg7 arg8 harg8 arg9 harg9 arg10 harg10 arg11 harg11 arg12 harg12 _ _ _ _ _ _ _ _ _ _ x0 x1 x2 x3 x4 x5 (keys0 harg3 harg4 x1 x2 c) (keys1 harg3 harg4 x1 x2 c) (vals0 harg3 x1 c) (vals1 harg3 x1 c) _ _ _ _ le_rfl u r d,
    h, trips_eq, add_assoc]
  refine congrArg (_ + ·) ?_
  unfold dqPt
  have hr := r.isLt
  have hi := (i 1).isLt
  by_cases h1 : r.val / 512 < (i 1).val
  · rw [if_neg (by omega), if_neg (by omega), zero_add]
    exact Finset.sum_eq_zero fun t _ => if_neg (by omega)
  by_cases h2 : r.val / 512 = (i 1).val
  · rw [if_pos h2, if_pos (by omega), Finset.sum_eq_zero fun t _ => if_neg (by omega), add_zero]
  · rw [if_neg h2, if_pos (by omega), zero_add, Finset.sum_eq_single (r.val / 512 - (i 1).val - 1)]
    · exact if_pos (by omega)
    · intro t _ ht; exact if_neg (by omega)
    · intro ht; exact absurd (Finset.mem_range.mpr (show r.val / 512 - (i 1).val - 1 < 7 - (i 1).val by change _ < _ at hi; omega)) ht
end

section
variable (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x512 .f32) (harg8 : arg8.IsWhole) (arg9 : Memref sig .tc .vmem S512x512 .bf16) (harg9 : arg9.IsWhole) (arg10 : Memref sig .tc .vmem S512x256 .f32) (harg10 : arg10.IsWhole) (arg11 : Memref sig .tc .vmem S2x512x256 .f32) (harg11 : arg11.IsWhole) (arg12 : Memref sig .tc .vmem S2x512x128 .f32) (harg12 : arg12.IsWhole)
variable (hc0 : AtFirst i) (x0 : FVec Ideal S4096x512 .bf16) (x1 : FVec Ideal S512x512 .bf16) (x2 : FVec Ideal S512x128 .bf16)
  (x3 : FVec Ideal S4096x256 .bf16) (x4 x5 : FVec Ideal S2x8x1x512 .f32)

/-- The clearing of the query gradient covers it. -/
theorem cleared (y : S4096x512.Idx) : ∃ p ∈ runFirst.sl.H6_1 (F := Ideal), y ∈ p.1.set := by
  unfold runFirst.sl.H6_1
  simp only [List.mem_singleton, exists_eq_left]
  refine Rect.mem_set_unit.mpr ?_
  exact Fin.forall_fin_two.mpr ⟨⟨Nat.zero_le _, by simpa using (y 0).isLt⟩, ⟨Nat.zero_le _, by simpa using (y 1).isLt⟩⟩

/-- At the first block of keys the query gradient starts from zero. -/
theorem runFirst_dq (f : BufTy.Contents (Elt Ideal) arg8.view.ty) (u : Fin 2) (r : Fin 4096) (d : Fin 256) :
    arg8.view.read (Elt Ideal) (arg8.view.writes (Elt Ideal) f (runFirst (F := Ideal) c i arg2 harg2 arg3 harg3 arg4 harg4 arg5 harg5 arg6 harg6 arg7 harg7 arg8 harg8 arg9 harg9 arg10 harg10 arg11 harg11 arg12 harg12 hc0 x0 x1 x2 x3 x4 x5).1) (ix2 r (col u d)) = dqPt (i 1).val x0 x1 x2 x3 x4 x5 u r d := by
  have hz : ∀ r e, arg8.view.read (Elt Ideal) (arg8.view.writes (Elt Ideal) arg8.view.junk (runFirst.sl.H6_1 (F := Ideal))) (ix2 r e) = (fun _ => 0 : Vec Ideal S4096x512 .f32) (ix2 r e) :=
    fun r e => (View.read_writes_cons_unit_of_mem _ _ _ _ _ _ (ix2 r e) rfl (Fin.forall_fin_two.mpr ⟨(Nat.zero_add _).symm, (Nat.zero_add _).symm⟩)).trans (zero17 _)
  have hw := fun x => row_val (i 1).isLt x
  have key := all_dq c i arg2 harg2 arg3 harg3 arg4 harg4 arg5 harg5 arg6 harg6 arg7 harg7 arg8 harg8 arg9 harg9 arg10 harg10 arg11 harg11 arg12 harg12 x0 x1 x2 x3 x4 x5 (g := fun _ => 0) u r d (first_dq c i arg2 harg2 arg3 harg3 arg4 harg4 arg5 harg5 arg6 harg6 arg7 harg7 arg8 harg8 arg9 harg9 arg10 harg10 arg11 harg11 arg12 harg12 x0 x1 x2 x3 x4 x5 (f8 := arg8.view.junk) (L := runFirst.sl.H6_1 (F := Ideal)) (g := fun _ => 0) hz
    (X0 := arg8.view.readAt (Elt Ideal) (Rect.unit (s := S4096x512) (k0_off1 i) S512x256.size (k0_off1_inb i)).toLoadRect (arg8.view.writes (Elt Ideal) arg8.view.junk (runFirst.sl.H6_1 (F := Ideal))))
    (X1 := runFirst.sl.v119 (F := Ideal) c i arg2 harg2 arg3 harg3 arg4 harg4 arg5 harg5 arg6 harg6 arg7 harg7 arg8 x0 x1 x2 x3 x4 x5)
    (fun x d => (dq_load0 _ x d).trans (hz _ _))
    (fun x d => by
      refine (dq_load1 (i := i) _ x d).trans ?_
      refine (View.read_writes_cons_unit_of_not_mem _ _ _ _ _ _ (k0_off1_eq i) 1 (Or.inr ?_)).trans (hz _ _)
      show 0 + 256 ≤ 256 * 1 + d.val; omega) u r d)
  rw [zero_add] at key
  rw [← key, ← View.writes_append]
  unfold runFirst; dsimp only
  have hmem : ∀ (L : List (View.Piece (Elt Ideal) S4096x512 .f32)) (p q : View.Piece (Elt Ideal) S4096x512 .f32) (y : S4096x512.Idx),
      ∃ p' ∈ L ++ p :: q :: runFirst.sl.H6_1 (F := Ideal), y ∈ p'.1.set := fun L p q y =>
    let ⟨p', h, hy⟩ := cleared y; ⟨p', List.mem_append_right _ (List.mem_cons_of_mem _ (List.mem_cons_of_mem _ h)), hy⟩
  refine (View.read_writes_apply_eq_canon _ _ _ _ (hmem _ _ _ _)).trans (View.read_writes_apply_eq_canon _ _ _ _ (hmem _ _ _ _)).symm

/-- The block of key and value gradients that the point writes out. -/
theorem runFirst_dkv (f : BufTy.Contents (Elt Ideal) arg9.view.ty) (j e : Fin 512) :
    arg9.view.read (Elt Ideal) (arg9.view.writes (Elt Ideal) f (runFirst (F := Ideal) c i arg2 harg2 arg3 harg3 arg4 harg4 arg5 harg5 arg6 harg6 arg7 harg7 arg8 harg8 arg9 harg9 arg10 harg10 arg11 harg11 arg12 harg12 hc0 x0 x1 x2 x3 x4 x5).2.1) (ix2 j e)
      = if h : e.val % 256 < 128 then dkPt (i 1).val x0 x1 x2 x3 x4 x5 ⟨e.val / 256, by omega⟩ j ⟨e.val % 256, by omega⟩
        else dvPt (i 1).val x0 x1 x2 x3 x4 ⟨e.val / 256, by omega⟩ j ⟨e.val % 256 - 128, by omega⟩ := by
  unfold runFirst; dsimp only
  refine (View.read_writes_cons_unit_of_mem _ _ _ _ _ _ (ix2 j e) rfl (Fin.forall_fin_two.mpr ⟨(Nat.zero_add _).symm, (Nat.zero_add _).symm⟩)).trans ?_
  unfold runFirst.sl.r_12
  refine dkv_at (fun j d => ?_) (fun j d => ?_) (fun j d => ?_) (fun j d => ?_) j e
  · exact (load_read arg11.view _ _ _ (ix3 0 j ⟨d.val, by omega⟩) (fun a => by fin_cases a <;> simp)).trans (all_dk c i arg2 harg2 arg3 harg3 arg4 harg4 arg5 harg5 arg6 harg6 arg7 harg7 arg8 harg8 arg9 harg9 arg10 harg10 arg11 harg11 arg12 harg12 x0 x1 x2 x3 x4 x5 _ 0 j _)
  · exact (load_read arg12.view _ _ _ (ix3 0 j d) (fun a => by fin_cases a <;> simp)).trans (all_dv c i arg2 harg2 arg3 harg3 arg4 harg4 arg5 harg5 arg6 harg6 arg7 harg7 arg8 harg8 arg9 harg9 arg10 harg10 arg11 harg11 arg12 harg12 x0 x1 x2 x3 x4 x5 _ 0 j _)
  · exact (load_read arg11.view _ _ _ (ix3 1 j ⟨d.val, by omega⟩) (fun a => by fin_cases a <;> simp)).trans (all_dk c i arg2 harg2 arg3 harg3 arg4 harg4 arg5 harg5 arg6 harg6 arg7 harg7 arg8 harg8 arg9 harg9 arg10 harg10 arg11 harg11 arg12 harg12 x0 x1 x2 x3 x4 x5 _ 1 j _)
  · exact (load_read arg12.view _ _ _ (ix3 1 j d) (fun a => by fin_cases a <;> simp)).trans (all_dv c i arg2 harg2 arg3 harg3 arg4 harg4 arg5 harg5 arg6 harg6 arg7 harg7 arg8 harg8 arg9 harg9 arg10 harg10 arg11 harg11 arg12 harg12 x0 x1 x2 x3 x4 x5 _ 1 j _)

/-- The block of rotary-key gradients that the point writes out. -/
theorem runFirst_dkr (f : BufTy.Contents (Elt Ideal) arg10.view.ty) (j : Fin 512) (e : Fin 256) :
    arg10.view.read (Elt Ideal) (arg10.view.writes (Elt Ideal) f (runFirst (F := Ideal) c i arg2 harg2 arg3 harg3 arg4 harg4 arg5 harg5 arg6 harg6 arg7 harg7 arg8 harg8 arg9 harg9 arg10 harg10 arg11 harg11 arg12 harg12 hc0 x0 x1 x2 x3 x4 x5).2.2.1) (ix2 j e)
      = dkPt (i 1).val x0 x1 x2 x3 x4 x5 ⟨e.val / 128, by omega⟩ j ⟨128 + e.val % 128, by omega⟩ := by
  unfold runFirst; dsimp only
  refine (View.read_writes_cons_unit_of_mem _ _ _ _ _ _ (ix2 j e) rfl (Fin.forall_fin_two.mpr ⟨(Nat.zero_add _).symm, (Nat.zero_add _).symm⟩)).trans ?_
  refine dkr_at (fun j d => ?_) (fun j d => ?_) j e
  · exact (load_read arg11.view _ _ _ (ix3 0 j ⟨128 + d.val, by omega⟩) (fun a => by fin_cases a <;> simp)).trans (all_dk c i arg2 harg2 arg3 harg3 arg4 harg4 arg5 harg5 arg6 harg6 arg7 harg7 arg8 harg8 arg9 harg9 arg10 harg10 arg11 harg11 arg12 harg12 x0 x1 x2 x3 x4 x5 _ 0 j _)
  · exact (load_read arg11.view _ _ _ (ix3 1 j ⟨128 + d.val, by omega⟩) (fun a => by fin_cases a <;> simp)).trans (all_dk c i arg2 harg2 arg3 harg3 arg4 harg4 arg5 harg5 arg6 harg6 arg7 harg7 arg8 harg8 arg9 harg9 arg10 harg10 arg11 harg11 arg12 harg12 x0 x1 x2 x3 x4 x5 _ 1 j _)
end

section
variable (c : Dev nD) (i : grid0.Coords) (arg2 : Memref sig .tc .vmem S4096x512 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S4096x256 .bf16) (harg5 : arg5.IsWhole) (arg6 : Memref sig .tc .vmem S2x8x1x512 .f32) (harg6 : arg6.IsWhole) (arg7 : Memref sig .tc .vmem S2x8x1x512 .f32) (harg7 : arg7.IsWhole) (arg8 : Memref sig .tc .vmem S4096x512 .f32) (harg8 : arg8.IsWhole) (arg9 : Memref sig .tc .vmem S512x512 .bf16) (harg9 : arg9.IsWhole) (arg10 : Memref sig .tc .vmem S512x256 .f32) (harg10 : arg10.IsWhole) (arg11 : Memref sig .tc .vmem S2x512x256 .f32) (harg11 : arg11.IsWhole) (arg12 : Memref sig .tc .vmem S2x512x128 .f32) (harg12 : arg12.IsWhole)
variable (hc0 : ¬AtFirst i) (x0 : FVec Ideal S4096x512 .bf16) (x1 : FVec Ideal S512x512 .bf16) (x2 : FVec Ideal S512x128 .bf16)
  (x3 : FVec Ideal S4096x256 .bf16) (x4 x5 : FVec Ideal S2x8x1x512 .f32) (x6 : Vec Ideal S4096x512 .f32)

/-- At a later block of keys the query gradient gains the block's part. -/
theorem runLater_dq (u : Fin 2) (r : Fin 4096) (d : Fin 256) :
    arg8.view.read (Elt Ideal) (arg8.view.writes (Elt Ideal) (harg8.unread x6) (runLater (F := Ideal) c i arg2 harg2 arg3 harg3 arg4 harg4 arg5 harg5 arg6 harg6 arg7 harg7 arg8 harg8 arg9 harg9 arg10 harg10 arg11 harg11 arg12 harg12 hc0 x0 x1 x2 x3 x4 x5 x6).1) (ix2 r (col u d)) = x6 (ix2 r (col u d)) + dqPt (i 1).val x0 x1 x2 x3 x4 x5 u r d := by
  have hw := fun x => row_val (i 1).isLt x
  have hg : ∀ r e, arg8.view.read (Elt Ideal) (arg8.view.writes (Elt Ideal) (harg8.unread x6) []) (ix2 r e) = x6 (ix2 r e) := fun r e => by
    rw [View.writes_nil, harg8.read_unread]
  have key := all_dq c i arg2 harg2 arg3 harg3 arg4 harg4 arg5 harg5 arg6 harg6 arg7 harg7 arg8 harg8 arg9 harg9 arg10 harg10 arg11 harg11 arg12 harg12 x0 x1 x2 x3 x4 x5 (g := x6) u r d (first_dq c i arg2 harg2 arg3 harg3 arg4 harg4 arg5 harg5 arg6 harg6 arg7 harg7 arg8 harg8 arg9 harg9 arg10 harg10 arg11 harg11 arg12 harg12 x0 x1 x2 x3 x4 x5 (f8 := harg8.unread x6) (L := []) (g := x6) hg
    (X0 := arg8.view.readAt (Elt Ideal) (Rect.unit (s := S4096x512) (k0_off1 i) S512x256.size (k0_off1_inb i)).toLoadRect (harg8.unread x6))
    (X1 := runLater.sl.v119 (F := Ideal) c i arg8 harg8 x6)
    (fun x d => (dq_load0 _ x d).trans (by rw [harg8.read_unread]))
    (fun x d => (dq_load1 _ x d).trans (by rw [harg8.read_unread])) u r d)
  rw [← key, ← View.writes_append]
  unfold runLater; dsimp only

/-- The block of key and value gradients that the point writes out. -/
theorem runLater_dkv (f : BufTy.Contents (Elt Ideal) arg9.view.ty) (j e : Fin 512) :
    arg9.view.read (Elt Ideal) (arg9.view.writes (Elt Ideal) f (runLater (F := Ideal) c i arg2 harg2 arg3 harg3 arg4 harg4 arg5 harg5 arg6 harg6 arg7 harg7 arg8 harg8 arg9 harg9 arg10 harg10 arg11 harg11 arg12 harg12 hc0 x0 x1 x2 x3 x4 x5 x6).2.1) (ix2 j e)
      = if h : e.val % 256 < 128 then dkPt (i 1).val x0 x1 x2 x3 x4 x5 ⟨e.val / 256, by omega⟩ j ⟨e.val % 256, by omega⟩
        else dvPt (i 1).val x0 x1 x2 x3 x4 ⟨e.val / 256, by omega⟩ j ⟨e.val % 256 - 128, by omega⟩ := by
  unfold runLater; dsimp only
  refine (View.read_writes_cons_unit_of_mem _ _ _ _ _ _ (ix2 j e) rfl (Fin.forall_fin_two.mpr ⟨(Nat.zero_add _).symm, (Nat.zero_add _).symm⟩)).trans ?_
  unfold runLater.sl.r_12
  refine dkv_at (fun j d => ?_) (fun j d => ?_) (fun j d => ?_) (fun j d => ?_) j e
  · exact (load_read arg11.view _ _ _ (ix3 0 j ⟨d.val, by omega⟩) (fun a => by fin_cases a <;> simp)).trans (all_dk c i arg2 harg2 arg3 harg3 arg4 harg4 arg5 harg5 arg6 harg6 arg7 harg7 arg8 harg8 arg9 harg9 arg10 harg10 arg11 harg11 arg12 harg12 x0 x1 x2 x3 x4 x5 _ 0 j _)
  · exact (load_read arg12.view _ _ _ (ix3 0 j d) (fun a => by fin_cases a <;> simp)).trans (all_dv c i arg2 harg2 arg3 harg3 arg4 harg4 arg5 harg5 arg6 harg6 arg7 harg7 arg8 harg8 arg9 harg9 arg10 harg10 arg11 harg11 arg12 harg12 x0 x1 x2 x3 x4 x5 _ 0 j _)
  · exact (load_read arg11.view _ _ _ (ix3 1 j ⟨d.val, by omega⟩) (fun a => by fin_cases a <;> simp)).trans (all_dk c i arg2 harg2 arg3 harg3 arg4 harg4 arg5 harg5 arg6 harg6 arg7 harg7 arg8 harg8 arg9 harg9 arg10 harg10 arg11 harg11 arg12 harg12 x0 x1 x2 x3 x4 x5 _ 1 j _)
  · exact (load_read arg12.view _ _ _ (ix3 1 j d) (fun a => by fin_cases a <;> simp)).trans (all_dv c i arg2 harg2 arg3 harg3 arg4 harg4 arg5 harg5 arg6 harg6 arg7 harg7 arg8 harg8 arg9 harg9 arg10 harg10 arg11 harg11 arg12 harg12 x0 x1 x2 x3 x4 x5 _ 1 j _)

/-- The block of rotary-key gradients that the point writes out. -/
theorem runLater_dkr (f : BufTy.Contents (Elt Ideal) arg10.view.ty) (j : Fin 512) (e : Fin 256) :
    arg10.view.read (Elt Ideal) (arg10.view.writes (Elt Ideal) f (runLater (F := Ideal) c i arg2 harg2 arg3 harg3 arg4 harg4 arg5 harg5 arg6 harg6 arg7 harg7 arg8 harg8 arg9 harg9 arg10 harg10 arg11 harg11 arg12 harg12 hc0 x0 x1 x2 x3 x4 x5 x6).2.2.1) (ix2 j e)
      = dkPt (i 1).val x0 x1 x2 x3 x4 x5 ⟨e.val / 128, by omega⟩ j ⟨128 + e.val % 128, by omega⟩ := by
  unfold runLater; dsimp only
  refine (View.read_writes_cons_unit_of_mem _ _ _ _ _ _ (ix2 j e) rfl (Fin.forall_fin_two.mpr ⟨(Nat.zero_add _).symm, (Nat.zero_add _).symm⟩)).trans ?_
  refine dkr_at (fun j d => ?_) (fun j d => ?_) j e
  · exact (load_read arg11.view _ _ _ (ix3 0 j ⟨128 + d.val, by omega⟩) (fun a => by fin_cases a <;> simp)).trans (all_dk c i arg2 harg2 arg3 harg3 arg4 harg4 arg5 harg5 arg6 harg6 arg7 harg7 arg8 harg8 arg9 harg9 arg10 harg10 arg11 harg11 arg12 harg12 x0 x1 x2 x3 x4 x5 _ 0 j _)
  · exact (load_read arg11.view _ _ _ (ix3 1 j ⟨128 + d.val, by omega⟩) (fun a => by fin_cases a <;> simp)).trans (all_dk c i arg2 harg2 arg3 harg3 arg4 harg4 arg5 harg5 arg6 harg6 arg7 harg7 arg8 harg8 arg9 harg9 arg10 harg10 arg11 harg11 arg12 harg12 x0 x1 x2 x3 x4 x5 _ 1 j _)
end

end Cert.KernelIdeal.Point

end
-- ==== Proof.Frame.lean ====
/- The pipeline's run on exact numbers: what each grid point finds and leaves in every block, and the run of the whole call. -/
module

public import proofs.«01_k».proof.Proof.Point
public import Idealize.ShloMosaic.Lib.Claim

@[expose] public section

set_option maxRecDepth 16384

noncomputable section

namespace Cert.KernelIdeal.Run

open Cert.KernelIdeal.Gen Cert.KernelIdeal.Tile Cert.KernelIdeal.Trip Cert.KernelIdeal.Body Cert.KernelIdeal.Point
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

/-- The resources of a run of this kernel on exact numbers. -/
local notation "𝕄" => MT nD τ sig Unit (Elt Ideal) ℕ (UR sig nD τ) ℕ

variable (m : (ℓ : Loc nD τ sig) → Buf (Elt Ideal) ℓ) (ρ : Dev nD → PrngReg)

/-! ## What a point leaves -/

/-- The block of keys of a point. -/
abbrev kb (t : Fin cfg0.N) : ℕ := (grid0.coords t 1).val

theorem kb_eq (t : Fin cfg0.N) : kb t = t.val % 8 := by
  have h : kb t = t.val / 1 % 8 := Pipeline.Grid.coords_val t 1 (by decide) rfl
  rw [h, Nat.div_one]

theorem first_iff (t : Fin cfg0.N) : AtFirst (grid0.coords t) ↔ t.val % 8 = 0 := by
  have ht : t.val < 32 := Nat.lt_of_lt_of_eq t.isLt N_0
  have e0 : (grid0.coords t 0).val = t.val / 8 % 4 := Pipeline.Grid.coords_val t 0 (by decide) rfl
  have e1 : (grid0.coords t 1).val = t.val / 1 % 8 := Pipeline.Grid.coords_val t 1 (by decide) rfl
  simp only [AtFirst, e0, e1]; word_cmp

/-- What a point adds to the query gradient. -/
def dqStep (c : Dev nD) (t : Fin cfg0.N) (u : Fin 2) (r : Fin 4096) (d : Fin 256) : Ideal .f32 :=
  dqPt (kb t) (iblk m c 0 t) (iblk m c 1 t) (iblk m c 2 t) (iblk m c 3 t) (iblk m c 4 t) (iblk m c 5 t) u r d

/-- The query gradient after a point: the sum over the points of its pass so far. -/
def dqAcc (c : Dev nD) (n : ℕ) : Vec Ideal S4096x512 .f32 := fun y =>
  ∑ b ∈ Finset.range (n % 8 + 1), if h : 8 * (n / 8) + b < cfg0.N then
    dqStep m c ⟨8 * (n / 8) + b, h⟩ ⟨(y 1).val / 256, by have := (y 1).isLt; change _ < 512 at this; omega⟩ (y 0) ⟨(y 1).val % 256, by omega⟩ else 0

theorem dqAcc_first (c : Dev nD) (t : Fin cfg0.N) (h : t.val % 8 = 0) (u : Fin 2) (r : Fin 4096) (d : Fin 256) :
    dqAcc m c t.val (ix2 r (col u d)) = dqStep m c t u r d := by
  have hu : (⟨(col u d).val / 256, by omega⟩ : Fin 2) = u := Fin.ext (by show (256 * u.val + d.val) / 256 = u.val; omega)
  have hd : (⟨(col u d).val % 256, by omega⟩ : Fin 256) = d := Fin.ext (by show (256 * u.val + d.val) % 256 = d.val; omega)
  have ht : (8 * (t.val / 8) + 0) = t.val := by omega
  show (∑ b ∈ Finset.range (t.val % 8 + 1), if h : 8 * (t.val / 8) + b < cfg0.N then dqStep m c ⟨8 * (t.val / 8) + b, h⟩ ⟨(col u d).val / 256, _⟩ r ⟨(col u d).val % 256, _⟩ else 0) = _
  rw [h, Finset.sum_range_one, dif_pos (by rw [ht]; exact t.isLt), hu, hd]
  exact congrArg (fun s => dqStep m c s u r d) (Fin.ext ht)

theorem dqAcc_later (c : Dev nD) (t : Fin cfg0.N) (h : t.val % 8 ≠ 0) (u : Fin 2) (r : Fin 4096) (d : Fin 256) :
    dqAcc m c t.val (ix2 r (col u d)) = dqAcc m c (t.val - 1) (ix2 r (col u d)) + dqStep m c t u r d := by
  have hu : (⟨(col u d).val / 256, by omega⟩ : Fin 2) = u := Fin.ext (by show (256 * u.val + d.val) / 256 = u.val; omega)
  have hd : (⟨(col u d).val % 256, by omega⟩ : Fin 256) = d := Fin.ext (by show (256 * u.val + d.val) % 256 = d.val; omega)
  have ht : (8 * (t.val / 8) + t.val % 8) = t.val := by omega
  show (∑ b ∈ Finset.range (t.val % 8 + 1), if h : 8 * (t.val / 8) + b < cfg0.N then dqStep m c ⟨8 * (t.val / 8) + b, h⟩ ⟨(col u d).val / 256, _⟩ r ⟨(col u d).val % 256, _⟩ else 0)
    = (∑ b ∈ Finset.range ((t.val - 1) % 8 + 1), if h : 8 * ((t.val - 1) / 8) + b < cfg0.N then dqStep m c ⟨8 * ((t.val - 1) / 8) + b, h⟩ ⟨(col u d).val / 256, _⟩ r ⟨(col u d).val % 256, _⟩ else 0) + _
  have e1 : (t.val - 1) % 8 + 1 = t.val % 8 := by omega
  have e2 : (t.val - 1) / 8 = t.val / 8 := by omega
  rw [Finset.sum_range_succ, e1, e2, dif_pos (show 8 * (t.val / 8) + t.val % 8 < cfg0.N by rw [ht]; exact t.isLt), hu, hd]
  exact congrArg (_ + ·) (congrArg (fun s => dqStep m c s u r d) (Fin.ext ht))

/-- The block of key and value gradients of a point: per head 128 columns of the one, then 128 of the other. -/
def dkvOut (c : Dev nD) (t : Fin cfg0.N) : Vec Ideal S512x512 .bf16 := fun y =>
  if h : (y 1).val % 256 < 128 then
    dkPt (kb t) (iblk m c 0 t) (iblk m c 1 t) (iblk m c 2 t) (iblk m c 3 t) (iblk m c 4 t) (iblk m c 5 t)
      ⟨(y 1).val / 256, by have := (y 1).isLt; change _ < 512 at this; omega⟩ (y 0) ⟨(y 1).val % 256, by omega⟩
  else
    dvPt (kb t) (iblk m c 0 t) (iblk m c 1 t) (iblk m c 2 t) (iblk m c 3 t) (iblk m c 4 t)
      ⟨(y 1).val / 256, by have := (y 1).isLt; change _ < 512 at this; omega⟩ (y 0) ⟨(y 1).val % 256 - 128, by omega⟩

/-- The block of rotary-key gradients of a point. -/
def dkrOut (c : Dev nD) (t : Fin cfg0.N) : Vec Ideal S512x256 .f32 := fun y =>
  dkPt (kb t) (iblk m c 0 t) (iblk m c 1 t) (iblk m c 2 t) (iblk m c 3 t) (iblk m c 4 t) (iblk m c 5 t)
    ⟨(y 1).val / 128, by have := (y 1).isLt; change _ < 256 at this; omega⟩ (y 0) ⟨128 + (y 1).val % 128, by omega⟩

/-! ## The proof data -/

/-- What every window's block holds after a point: an input its block, an output what the point leaves. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAcc m c t.val
    | ⟨7, _⟩ => dkvOut m c t
    | ⟨8, _⟩ => dkrOut m c t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = dqAcc m c t.val := by dsimp only [dats]
theorem after_7 (c : Dev nD) (t : Fin cfg0.N) : (dats m 0 c).after 7 t = dkvOut m c t := by dsimp only [dats]
theorem after_8 (c : Dev nD) (t : Fin cfg0.N) : (dats m 0 c).after 8 t = dkrOut m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- Within a pass the query gradient's block holds what the point before left. -/
theorem before_6 (c : Dev nD) (t : Fin cfg0.N) (h : t.val % 8 ≠ 0) (d) : (dats m 0 c).before 6 t d = dqAcc m c (t.val - 1) := by
  refine ((dats m 0 c).before_out_kept 6 rfl t (fun e => h (by rw [e])) ?_ (fun _ => rfl) (fun _ _ => rfl) d).trans (after_6 m c _)
  refine Bool.eq_false_iff.mpr fun e => ?_
  have e' := (flush0_6 _).mp e
  dsimp only at e'; omega

/-! ## The body's blocks -/

/-- Each window's current block at a point. -/
abbrev ms0_0 (t : Fin cfg0.N) : Memref sig .tc .vmem S4096x512 .bf16 := win0_0.stage (cfg0.slots t 0)
abbrev ms0_1 (t : Fin cfg0.N) : Memref sig .tc .vmem S512x512 .bf16 := win0_1.stage (cfg0.slots t 1)
abbrev ms0_2 (t : Fin cfg0.N) : Memref sig .tc .vmem S512x128 .bf16 := win0_2.stage (cfg0.slots t 2)
abbrev ms0_3 (t : Fin cfg0.N) : Memref sig .tc .vmem S4096x256 .bf16 := win0_3.stage (cfg0.slots t 3)
abbrev ms0_4 (t : Fin cfg0.N) : Memref sig .tc .vmem S2x8x1x512 .f32 := win0_4.stage (cfg0.slots t 4)
abbrev ms0_5 (t : Fin cfg0.N) : Memref sig .tc .vmem S2x8x1x512 .f32 := win0_5.stage (cfg0.slots t 5)
abbrev ms0_6 (t : Fin cfg0.N) : Memref sig .tc .vmem S4096x512 .f32 := win0_6.stage (cfg0.slots t 6)
abbrev ms0_7 (t : Fin cfg0.N) : Memref sig .tc .vmem S512x512 .bf16 := win0_7.stage (cfg0.slots t 7)
abbrev ms0_8 (t : Fin cfg0.N) : Memref sig .tc .vmem S512x256 .f32 := win0_8.stage (cfg0.slots t 8)

/-- The two accumulators kept in scratch. -/
abbrev scM0_0 : Memref sig .tc .vmem S2x512x256 .f32 := Memref.whole cc0_scratch0
abbrev scM0_1 : Memref sig .tc .vmem S2x512x128 .f32 := Memref.whole cc0_scratch1

/-- Between points the accumulators hold anything. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The body obligation -/

/-- A buffer that reads `x` is owned at `x`. -/
theorem owns_of {c : Dev nD} {s : Shape} {e : EltTy} {arg : Memref sig .tc .vmem s e} {x : s.Idx → Elt Ideal e} {f : BufTy.Contents (Elt Ideal) arg.view.ty}
    (h : arg.view.read (Elt Ideal) f = x) :
    (arg.view.loc (c : Thread nD τ) ↦[arg.view.set]{fullShare} f : sProp 𝕄) ⊢ owns (c : Thread nD τ) arg fullShare x := by
  unfold owns
  iintro H
  iexists _
  isplitr
  · ipureintro; exact h
  iexact H

/-- Two matrices agree if they agree entry by entry. -/
theorem ext_ix2 {n0 n1 : ℕ} {α : Type} {x y : (⟨2, ![n0, n1]⟩ : Shape).Idx → α} (h : ∀ i j, x (ix2 i j) = y (ix2 i j)) : x = y := by
  funext i
  rw [← ix2_eta i]; exact h _ _

/-- Two query-gradient blocks agree if they agree head by head. -/
theorem ext_col {x y : Vec Ideal S4096x512 .f32} (h : ∀ u r d, x (ix2 r (col u d)) = y (ix2 r (col u d))) : x = y := by
  funext i
  obtain ⟨r, e, rfl⟩ : ∃ r e, i = ix2 r e := ⟨i 0, i 1, (ix2_eta i).symm⟩
  have he : col ⟨e.val / 256, by omega⟩ ⟨e.val % 256, by omega⟩ = e := Fin.ext (by show 256 * (e.val / 256) + e.val % 256 = e.val; omega)
  rw [← he]; exact h _ _ _

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, PhiA0_eq]
  by_cases h0 : t.val % 8 = 0
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFirst (F := Ideal) c (grid0.coords t) _ _ _ _ _ _ _ _ _ _ _ _ _ _ _ _ _ _ _ _ _ _ ((first_iff t).mpr h0) (iblk m c 0 t) (iblk m c 1 t) (iblk m c 2 t) (iblk m c 3 t) (iblk m c 4 t) (iblk m c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, ⟨%f6, H6⟩, ⟨%f7, H7⟩, ⟨%f8, H8⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply owns_of (ext_col fun u r d => (runFirst_dq c (grid0.coords t) _ _ _ _ _ _ _ _ _ _ _ _ _ _ _ _ _ _ _ _ _ _ _ _ _ _ _ _ _ f6 u r d).trans (dqAcc_first m c t h0 u r d).symm)
      iexact H6
    isplitl [H7]
    · iapply owns_of (ext_ix2 (n0 := 512) (n1 := 512) fun j e => runFirst_dkv c (grid0.coords t) _ _ _ _ _ _ _ _ _ _ _ _ _ _ _ _ _ _ _ _ _ _ _ _ _ _ _ _ _ f7 j e)
      iexact H7
    · iapply owns_of (ext_ix2 (n0 := 512) (n1 := 256) fun j e => runFirst_dkr c (grid0.coords t) _ _ _ _ _ _ _ _ _ _ _ _ _ _ _ _ _ _ _ _ _ _ _ _ _ _ _ _ _ f8 j e)
      iexact H8
  · simp only [before_6 m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runLater (F := Ideal) c (grid0.coords t) _ _ _ _ _ _ _ _ _ _ _ _ _ _ _ _ _ _ _ _ _ _ (fun h => h0 ((first_iff t).mp h)) (iblk m c 0 t) (iblk m c 1 t) (iblk m c 2 t) (iblk m c 3 t) (iblk m c 4 t) (iblk m c 5 t) (dqAcc m c (t.val - 1))).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    iintro ⟨H0, H1, H2, H3, H4, H5, H6, ⟨%f7, H7⟩, ⟨%f8, H8⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply owns_of (ext_col fun u r d => (runLater_dq c (grid0.coords t) _ _ _ _ _ _ _ _ _ _ _ _ _ _ _ _ _ _ _ _ _ _ _ _ _ _ _ _ _ _ u r d).trans (dqAcc_later m c t h0 u r d).symm)
      iexact H6
    isplitl [H7]
    · iapply owns_of (ext_ix2 (n0 := 512) (n1 := 512) fun j e => runLater_dkv c (grid0.coords t) _ _ _ _ _ _ _ _ _ _ _ _ _ _ _ _ _ _ _ _ _ _ _ _ _ _ _ _ _ _ f7 j e)
      iexact H7
    · iapply owns_of (ext_ix2 (n0 := 512) (n1 := 256) fun j e => runLater_dkr c (grid0.coords t) _ _ _ _ _ _ _ _ _ _ _ _ _ _ _ _ _ _ _ _ _ _ _ _ _ _ _ _ _ _ f8 j e)
      iexact H8

/-- The body's row of the table of calls is the body. -/
theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
/-- The whole call runs, ends with every array as the proof data say, and leaves every counter at zero. -/
theorem run_main_quiescent : θ_run defs (onTc (τ := τ) (main (F := Ideal))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

/-- The arguments end unchanged and the counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Grad.lean ====
/- Causal softmax attention with a rotary part shared by the heads, and its gradient, on real numbers. Nothing here speaks of a
   program: the definitions are the mathematics of the call, and the theorems are the identities that the blocked computation rests
   on (a weight as one exponential, the row sum `delta`, and sums over a sequence taken chunk by chunk). -/
module

public import proofs.«01_k».proof.Proof.Tile
public import Mathlib.Analysis.SpecialFunctions.Log.Basic
public import Mathlib.Analysis.SpecialFunctions.Pow.Real

@[expose] public section

noncomputable section

namespace Cert.Grad

open Cert.KernelIdeal.Tile (row row_val)

/-- The four inputs of the call: queries, keys with values, shared rotary keys, and the gradient of the output. -/
structure Inp where
  q : Fin 4096 → Fin 2048 → ℝ
  kv : Fin 4096 → Fin 2048 → ℝ
  kr : Fin 4096 → Fin 128 → ℝ
  g : Fin 4096 → Fin 2048 → ℝ

variable (x : Inp) (h : Fin 8)

/-- A key of a head: 128 entries of its own, then the 128 rotary entries. -/
def key (j : Fin 4096) (d : Fin 256) : ℝ :=
  if hd : d.val < 128 then x.kv j ⟨256 * h.val + d.val, by omega⟩ else x.kr j ⟨d.val - 128, by omega⟩

/-- A value of a head. -/
def val (j : Fin 4096) (d : Fin 128) : ℝ := x.kv j ⟨256 * h.val + 128 + d.val, by omega⟩

/-- A query of a head. -/
def qry (r : Fin 4096) (d : Fin 256) : ℝ := x.q r ⟨256 * h.val + d.val, by omega⟩

/-- The gradient of a head's output. -/
def dout (r : Fin 4096) (d : Fin 128) : ℝ := x.g r ⟨128 * h.val + d.val, by omega⟩

/-- The first half of the entries of a query or a key. -/
def lo (d : Fin 128) : Fin 256 := ⟨d.val, by omega⟩
/-- The second half. -/
def hi (d : Fin 128) : Fin 256 := ⟨128 + d.val, by omega⟩

theorem sum_halves (f : Fin 256 → ℝ) : ∑ d, f d = ∑ d, f (lo d) + ∑ d, f (hi d) :=
  Fin.sum_univ_add (a := 128) (b := 128) f

/-- The divisor of the scores. -/
def root : ℝ := Real.sqrt 192

theorem root_pos : 0 < root := Real.sqrt_pos.mpr (by norm_num)

/-- The score of a query and a key. -/
def score (r j : Fin 4096) : ℝ := (∑ d, key x h j d * qry x h r d) / root

/-- The largest score that a query may see. -/
def top (r : Fin 4096) : ℝ := (Finset.univ.filter (· ≤ r)).sup' ⟨r, by simp⟩ (score x h r)

/-- The exponential of a score that a query may see, and zero for a later key. -/
def ex (r j : Fin 4096) : ℝ := if j ≤ r then Real.exp (score x h r j - top x h r) else 0

def den (r : Fin 4096) : ℝ := ∑ j, ex x h r j

theorem ex_nonneg (r j : Fin 4096) : 0 ≤ ex x h r j := by
  unfold ex; split
  · exact (Real.exp_pos _).le
  · exact le_rfl

theorem den_pos (r : Fin 4096) : 0 < den x h r :=
  Finset.sum_pos' (fun j _ => ex_nonneg x h r j) ⟨r, Finset.mem_univ _, by simp [ex, Real.exp_pos]⟩

/-- The softmax weight. -/
def wt (r j : Fin 4096) : ℝ := ex x h r j / den x h r

/-- The gradient of a weight. -/
def dwt (r j : Fin 4096) : ℝ := ∑ d, val x h j d * dout x h r d

/-- The row sum that the gradient of a softmax takes off. -/
def delta (r : Fin 4096) : ℝ := ∑ j, wt x h r j * dwt x h r j

/-- The gradient of a product of a query and a key. -/
def dsc (r j : Fin 4096) : ℝ := wt x h r j * (dwt x h r j - delta x h r) / root

/-- The gradient of a query. -/
def dq (r : Fin 4096) (d : Fin 256) : ℝ := ∑ j, dsc x h r j * key x h j d
/-- The gradient of a key. -/
def dk (j : Fin 4096) (d : Fin 256) : ℝ := ∑ r, dsc x h r j * qry x h r d
/-- The gradient of a value. -/
def dv (j : Fin 4096) (d : Fin 128) : ℝ := ∑ r, wt x h r j * dout x h r d

/-- The output of a head. -/
def out (r : Fin 4096) (d : Fin 128) : ℝ := ∑ j, wt x h r j * val x h j d

/-- The logarithm of a row's normaliser. -/
def lse (r : Fin 4096) : ℝ := top x h r + Real.log (den x h r)

theorem wt_of_lt {r j : Fin 4096} (hj : ¬ j ≤ r) : wt x h r j = 0 := by simp [wt, ex, hj]

theorem dsc_of_lt {r j : Fin 4096} (hj : ¬ j ≤ r) : dsc x h r j = 0 := by simp [dsc, wt_of_lt x h hj]

/-- A weight is one exponential of a score less the logarithm of the normaliser. -/
theorem wt_eq_exp {r j : Fin 4096} (hj : j ≤ r) : wt x h r j = Real.exp (score x h r j - lse x h r) := by
  rw [wt, ex, if_pos hj, lse, ← sub_sub, Real.exp_sub _ (Real.log _), Real.exp_log (den_pos x h r)]

/-- The same weight as a power of two of the plain product. -/
theorem wt_eq_two {r j : Fin 4096} (hj : j ≤ r) :
    wt x h r j = Real.rpow 2 ((∑ d, key x h j d * qry x h r d) * (root⁻¹ * (Real.log 2)⁻¹) - lse x h r * (Real.log 2)⁻¹) := by
  have hl : Real.log 2 ≠ 0 := (Real.log_pos (by norm_num)).ne'
  rw [wt_eq_exp x h hj]
  change _ = (2 : ℝ) ^ ((∑ d, key x h j d * qry x h r d) * (root⁻¹ * (Real.log 2)⁻¹) - lse x h r * (Real.log 2)⁻¹)
  rw [Real.rpow_def_of_pos (by norm_num), score]
  congr 1
  field_simp

/-- `delta` is the gradient of the output times the output, summed over the entries of the head. -/
theorem delta_eq (r : Fin 4096) : ∑ d, dout x h r d * out x h r d = delta x h r := by
  simp only [out, delta, dwt, Finset.mul_sum]
  rw [Finset.sum_comm]
  exact Finset.sum_congr rfl fun j _ => Finset.sum_congr rfl fun d _ => by ring

/-! ### Sums over the sequence, chunk by chunk -/

/-- A sum over the sequence is the sum over eight chunks of 512. -/
theorem sum_chunks (f : Fin 4096 → ℝ) : ∑ i, f i = ∑ b ∈ Finset.range 8, ∑ y : Fin 512, f (row b y) := by
  rw [Finset.sum_range (fun b => ∑ y : Fin 512, f (row b y)), ← Fintype.sum_prod_type']
  refine (Fintype.sum_equiv (finProdFinEquiv (m := 8) (n := 512)) _ _ fun p => ?_).symm
  congr 1
  apply Fin.ext
  rw [row_val p.1.isLt]
  change 512 * p.1.val + p.2.val = p.2.val + 512 * p.1.val
  omega

/-- A sum whose terms vanish before chunk `b`, as chunk `b` first and then the later chunks. -/
theorem sum_from {b : ℕ} (hb : b < 8) (f : Fin 4096 → ℝ) (h0 : ∀ n < b, ∀ y, f (row n y) = 0) :
    ((∑ y, f (row b y)) + ∑ t ∈ Finset.range (7 - b), ∑ y, f (row (b + t + 1) y)) = ∑ i, f i := by
  rw [sum_chunks, show 8 = b + ((7 - b) + 1) by omega, Finset.sum_range_add, Finset.sum_range_succ']
  rw [Finset.sum_eq_zero fun n hn => Finset.sum_eq_zero fun y _ => h0 n (Finset.mem_range.mp hn) y, zero_add, add_comm]
  rfl

/-- A sum whose terms vanish after chunk `c`, over all chunks with the later ones left out. -/
theorem sum_upto (c : ℕ) (f : Fin 4096 → ℝ) (h0 : ∀ n < 8, c < n → ∀ y, f (row n y) = 0) :
    (∑ b ∈ Finset.range 8, if b ≤ c then ∑ y, f (row b y) else 0) = ∑ i, f i := by
  rw [sum_chunks]
  refine Finset.sum_congr rfl fun b hb => ?_
  split
  · rfl
  · rename_i hc
    exact (Finset.sum_eq_zero fun y _ => h0 b (Finset.mem_range.mp hb) (by omega) y).symm

/-- The gradient of a query, with the chunks of keys it cannot see left out. -/
theorem dq_chunks (r : Fin 4096) (d : Fin 256) :
    (∑ b ∈ Finset.range 8, if b ≤ r.val / 512 then ∑ y, dsc x h r (row b y) * key x h (row b y) d else 0) = dq x h r d :=
  sum_upto _ (fun j => dsc x h r j * key x h j d) fun n hn hc y => by
    rw [dsc_of_lt x h (by rw [Fin.le_def, row_val hn]; omega), zero_mul]

/-- The gradient of a key, from its own chunk of queries on. -/
theorem dk_chunks {b : ℕ} (hb : b < 8) (j : Fin 512) (d : Fin 256) :
    ((∑ y, dsc x h (row b y) (row b j) * qry x h (row b y) d)
        + ∑ t ∈ Finset.range (7 - b), ∑ y, dsc x h (row (b + t + 1) y) (row b j) * qry x h (row (b + t + 1) y) d)
      = dk x h (row b j) d :=
  sum_from hb (fun r => dsc x h r (row b j) * qry x h r d) fun n hn y => by
    rw [dsc_of_lt x h (by rw [Fin.le_def, row_val hb, row_val (by omega)]; omega), zero_mul]

/-- The gradient of a value, from its own chunk of queries on. -/
theorem dv_chunks {b : ℕ} (hb : b < 8) (j : Fin 512) (d : Fin 128) :
    ((∑ y, wt x h (row b y) (row b j) * dout x h (row b y) d)
        + ∑ t ∈ Finset.range (7 - b), ∑ y, wt x h (row (b + t + 1) y) (row b j) * dout x h (row (b + t + 1) y) d)
      = dv x h (row b j) d :=
  sum_from hb (fun r => wt x h r (row b j) * dout x h r d) fun n hn y => by
    rw [wt_of_lt x h (by rw [Fin.le_def, row_val hb, row_val (by omega)]; omega), zero_mul]

end Cert.Grad
-- ==== Proof.Exact.lean ====
/- Exact arithmetic on numbers that happen to be real: sums, quotients and row maxima of real numbers inside the extended reals, the
   values of the literals, and the entries of a row-wise maximum. -/
module

public import Idealize.ShloMosaic.Lib.Pointwise
public import Idealize.ShloMosaic.PureOps.Ideal.Laws
public import Mathlib.Analysis.SpecialFunctions.Log.Basic

@[expose] public section

noncomputable section

namespace Cert.Exact

open Idealize.ShloMosaic

/-- A sum of real numbers, taken in the extended reals, is the real sum. -/
theorem coe_sum {ι : Type} [Fintype ι] (f : ι → ℝ) : ∑ i, ((f i : ℝ) : EReal) = ((∑ i, f i : ℝ) : EReal) :=
  (map_sum (⟨⟨fun r : ℝ => (r : EReal), rfl⟩, EReal.coe_add⟩ : ℝ →+ EReal) f Finset.univ).symm

theorem coe_sum_set {ι : Type} (s : Finset ι) (f : ι → ℝ) : ∑ i ∈ s, ((f i : ℝ) : EReal) = ((∑ i ∈ s, f i : ℝ) : EReal) :=
  (map_sum (⟨⟨fun r : ℝ => (r : EReal), rfl⟩, EReal.coe_add⟩ : ℝ →+ EReal) f s).symm

/-- A quotient of real numbers by a nonzero one. -/
theorem div_real (a : ℝ) {b : ℝ} (hb : b ≠ 0) : Ideal.div (a : EReal) (b : EReal) = ((a / b : ℝ) : EReal) := by
  rw [Ideal.div_coe hb, ← EReal.coe_mul, mul_one_div]

/-- The maximum over a row of the entries that satisfy `p`, the others being `-∞`, is the largest of those entries. -/
theorem fold_max {n : ℕ} (p : Fin n → Prop) [DecidablePred p] (f : Fin n → ℝ) (hp : (Finset.univ.filter p).Nonempty) :
    (Finset.univ : Finset (Fin n)).fold max (⊥ : EReal) (fun k => if p k then ((f k : ℝ) : EReal) else ⊥)
      = (((Finset.univ.filter p).sup' hp f : ℝ) : EReal) := by
  refine le_antisymm ?_ ?_
  · refine (Finset.fold_max_le _).mpr ⟨bot_le, fun k _ => ?_⟩
    split
    · rename_i h
      exact EReal.coe_le_coe_iff.mpr (Finset.le_sup' f (by simpa using h))
    · exact bot_le
  · obtain ⟨k, hk, e⟩ := Finset.exists_mem_eq_sup' hp f
    rw [e]
    refine (Finset.le_fold_max _).mpr (Or.inr ⟨k, Finset.mem_univ _, ?_⟩)
    rw [if_pos (Finset.mem_filter.mp hk).2]

/-- A row maximum of a rank-3 array, at an index. -/
theorem hostMax_row {n0 n1 n2 : ℕ} {s : Shape} (v : FVec Ideal ⟨3, ![n0, n1, n2]⟩ .f32) (init : FVec Ideal s .f32)
    (h : (⟨3, ![n0, n1, n2]⟩ : Shape).ReducesTo [2] ⟨2, ![n0, n1]⟩) (hs : 0 < s.numel) (a : Fin n0) (b : Fin n1) :
    Host.reduce FloatOps.maximumf v init h hs (ix2 a b)
      = Finset.univ.fold max (init (Shape.Idx.first hs)) fun k : Fin n2 => v (ix3 a b k) := by
  pointwise

theorem lit_bot : Ideal.ofBits .f32 4286578688#32 = ⊥ := by simp [Ideal.ofBits, Ideal.ieee]

theorem lit_top : Ideal.ofBits .f32 2139095040#32 = ⊤ := by simp [Ideal.ofBits, Ideal.ieee]

theorem lit_one : Ideal.ofBits .f32 1065353216#32 = ((1 : ℝ) : EReal) := by
  simp [Ideal.ofBits, Ideal.ieee, -EReal.coe_mul]; norm_num

theorem lit_192 : Ideal.ofBits .f32 1128267776#32 = ((192 : ℝ) : EReal) := by
  simp [Ideal.ofBits, Ideal.ieee, -EReal.coe_mul]; norm_num

/-- The root of 192 that both programs take at run time. -/
theorem sqrt_192 : Ideal.sqrt (Ideal.ofBits .f32 1128267776#32) = ((Real.sqrt 192 : ℝ) : EReal) := by
  rw [lit_192, Ideal.sqrt_coe, if_neg (by norm_num)]

end Cert.Exact
-- ==== Proof.HostValue.lean ====
/- What the host computes before the kernel is launched: the log-sum of each row of the softmax and the row sum `delta`, laid out by
   head and chunk. On real inputs every entry is the real number that `Grad` defines. -/
module

public import proofs.«01_k».proof.Proof.Gen.KernelIdeal.Frame
public import proofs.«01_k».proof.Proof.Grad
public import proofs.«01_k».proof.Proof.Exact
public import Idealize.ShloMosaic.Lib.WordCmp

@[expose] public section

set_option maxRecDepth 16384

noncomputable section

namespace Cert.KernelIdeal.Host

open Cert.KernelIdeal Cert.KernelIdeal.Gen Idealize.ShloMosaic Idealize.ShloMosaic.TcCoe Idealize.SL.Sem

section
variable (a0 a1 a3 : FVec Ideal S4096x2048 .bf16) (a2 : FVec Ideal S4096x128 .bf16)

/-- Keys and values, head by head. -/
def kv8 : FVec Ideal S4096x8x256 .f32 := shapeCast _ (extf .f32 a1 bitsLt_bf16_f32) shapeCasts_S4096x2048_S4096x8x256

/-- A head's keys: its own entries, then the rotary ones. -/
def keys : FVec Ideal S4096x8x256 .f32 :=
  concatenate S4096x8x256 2 [⟨S4096x8x128, extractStridedSlice S4096x8x128 ![0, 0, 0] (kv8 a1) slices_S4096x8x256_S4096x8x128_0_0_0⟩, ⟨S4096x8x128, broadcastInDim S4096x8x128 ![0, 1, 2] bcast_S4096x1x128_S4096x8x128_0_1_2 (broadcastInDim S4096x1x128 ![0, 2] bcast_S4096x128_S4096x1x128_0_2 (extf .f32 a2 bitsLt_bf16_f32))⟩] concatenates_S4096x8x128_S4096x8x128_S4096x8x256_d2

/-- The queries, head by head. -/
def q8 : FVec Ideal S4096x8x256 .f32 := shapeCast _ (extf .f32 a0 bitsLt_bf16_f32) shapeCasts_S4096x2048_S4096x8x256

/-- The keys that a query may see. -/
def mask : IVec S8x4096x4096 1 :=
  broadcastInDim S8x4096x4096 ![1, 2] bcast_S4096x4096_S8x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- The masked scores. -/
def sc : FVec Ideal S8x4096x4096 .f32 :=
  select mask (Host.divf (Host.dotGeneral dot_S4096x8x256_S4096x8x256_S8x4096x4096_2_2_0_0_1_1 none (q8 a0) (keys a1 a2)) (broadcastInDim S8x4096x4096 ![] bcast_S_S8x4096x4096 (Host.sqrt (constant S_ .f32 0x43400000#32)))) (broadcastInDim S8x4096x4096 ![] bcast_S_S8x4096x4096 (id (constant S_ .f32 0xFF800000#32)))

/-- The largest score of each row. -/
def mx : FVec Ideal S8x4096x1 .f32 :=
  broadcastInDim S8x4096x1 ![0, 1] bcast_S8x4096_S8x4096x1_0_1 (Host.reduce FloatOps.maximumf (sc a0 a1 a2) (constant S_ .f32 0xFF800000#32) reducesTo_S8x4096x4096_S8x4096_d2 h_S_)

/-- The exponentials. -/
def ex : FVec Ideal S8x4096x4096 .f32 :=
  Host.exp (subf (sc a0 a1 a2) (broadcastInDim S8x4096x4096 ![0, 1, 2] bcast_S8x4096x1_S8x4096x4096_0_1_2 (mx a0 a1 a2)))

/-- The row sums. -/
def den : FVec Ideal S8x4096x1 .f32 :=
  broadcastInDim S8x4096x1 ![0, 1] bcast_S8x4096_S8x4096x1_0_1 (Host.reduceAdd (ex a0 a1 a2) (constant S_ .f32 0x00000000#32) reducesTo_S8x4096x4096_S8x4096_d2 h_S_)

/-- The weights. -/
def wt : FVec Ideal S8x4096x4096 .f32 :=
  Host.divf (ex a0 a1 a2) (broadcastInDim S8x4096x4096 ![0, 1, 2] bcast_S8x4096x1_S8x4096x4096_0_1_2 (den a0 a1 a2))

/-- The output, head by head. -/
def out : FVec Ideal S4096x8x128 .f32 :=
  transpose S4096x8x128 [2, 0, 1] (Host.dotGeneral dot_S4096x8x128_S8x4096x4096_S8x128x4096_0_2_2_1_1_0 none (extractStridedSlice S4096x8x128 ![0, 0, 128] (kv8 a1) slices_S4096x8x256_S4096x8x128_0_0_128) (wt a0 a1 a2)) transposes_S8x128x4096_S4096x8x128_2_0_1

/-- The gradient of the output, head by head. -/
def dO : FVec Ideal S4096x8x128 .f32 :=
  shapeCast _ (extf .f32 (extractStridedSlice S4096x1024 ![0, 0] a3 slices_S4096x2048_S4096x1024_0_0) bitsLt_bf16_f32) shapeCasts_S4096x1024_S4096x8x128

/-- The log-sums, by head and chunk. -/
def lse4 : FVec Ideal S8x8x1x512 .f32 :=
  shapeCast _ (addf (mx a0 a1 a2) (Host.log (den a0 a1 a2))) shapeCasts_S8x4096x1_S8x8x1x512

/-- The row sums `delta`, by head and chunk. -/
def delta4 : FVec Ideal S8x8x1x512 .f32 :=
  shapeCast _ (transpose S8x4096 [1, 0] (Host.reduceAdd (mulf (dO a3) (out a0 a1 a2)) (constant S_ .f32 0x00000000#32) reducesTo_S4096x8x128_S4096x8_d2 h_S_) transposes_S4096x8_S8x4096_1_0) shapeCasts_S8x4096_S8x8x1x512

end

section
variable (m : (ℓ : Loc nD τ sig) → Buf (Elt Ideal) ℓ) (c : Dev nD)

set_option maxHeartbeats 8000000 in
theorem V_lse : V m c main_v37 = lse4 (m ((c : Thread nD τ).loc main_arg0)) (m ((c : Thread nD τ).loc main_arg1)) (m ((c : Thread nD τ).loc main_arg2)) := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl <;> (unfold lse4 den ex mx sc mask q8 keys kv8; rfl)

set_option maxHeartbeats 8000000 in
theorem V_delta : V m c main_v41 = delta4 (m ((c : Thread nD τ).loc main_arg0)) (m ((c : Thread nD τ).loc main_arg1)) (m ((c : Thread nD τ).loc main_arg3)) (m ((c : Thread nD τ).loc main_arg2)) := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl <;> (unfold delta4 dO out wt den ex mx sc mask q8 keys kv8; rfl)
end

end Cert.KernelIdeal.Host
-- ==== Proof.RefValue.lean ====
/- The three results of the reference, entry by entry. The reference is the gradient of masked softmax attention over the whole
   sequence; on real inputs every entry of its results is the real number that `Grad` defines. -/
module

public import proofs.«01_k».proof.Proof.Grad
public import proofs.«01_k».proof.Proof.Gen.ReferenceIdeal.Run

@[expose] public section

set_option maxRecDepth 16384

noncomputable section

namespace Cert.RefValue

open Cert.ReferenceIdeal Cert.ReferenceIdeal.Gen Idealize.ShloMosaic Idealize.ShloMosaic.TcCoe

/-! ### The intermediate arrays, by name -/

section
variable (a0 a1 a3 : FVec Ideal S4096x2048 .bf16) (a2 : FVec Ideal S4096x128 .bf16)

/-- The keys that a query may see. -/
def mask : IVec S8x4096x4096 1 :=
  broadcastInDim S8x4096x4096 ![1, 2] bcast_S4096x4096_S8x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- The gradient of the output, head by head. -/
def dO : FVec Ideal S8x128x4096 .f32 :=
  transpose S8x128x4096 [1, 2, 0] (shapeCast _ (extf .f32 (extractStridedSlice S4096x1024 ![0, 0] a3 slices_S4096x2048_S4096x1024_0_0) bitsLt_bf16_f32) shapeCasts_S4096x1024_S4096x8x128) transposes_S4096x8x128_S8x128x4096_1_2_0

/-- Keys and values, head by head. -/
def kv8 : FVec Ideal S4096x8x256 .f32 := shapeCast _ (extf .f32 a1 bitsLt_bf16_f32) shapeCasts_S4096x2048_S4096x8x256

/-- The gradient of the weights. -/
def dP : FVec Ideal S8x4096x4096 .f32 :=
  Host.dotGeneral dot_S8x128x4096_S4096x8x128_S8x4096x4096_1_2_2_0_0_1 none (dO a3) (extractStridedSlice S4096x8x128 ![0, 0, 128] (kv8 a1) slices_S4096x8x256_S4096x8x128_0_0_128)

/-- The queries, head by head. -/
def q8 : FVec Ideal S4096x8x256 .f32 := shapeCast _ (extf .f32 a0 bitsLt_bf16_f32) shapeCasts_S4096x2048_S4096x8x256

def qN : FVec Ideal S4096x8x128 .f32 := extractStridedSlice S4096x8x128 ![0, 0, 0] (q8 a0) slices_S4096x8x256_S4096x8x128_0_0_0
def kN : FVec Ideal S4096x8x128 .f32 := extractStridedSlice S4096x8x128 ![0, 0, 0] (kv8 a1) slices_S4096x8x256_S4096x8x128_0_0_0
def qR : FVec Ideal S4096x8x128 .f32 := extractStridedSlice S4096x8x128 ![0, 0, 128] (q8 a0) slices_S4096x8x256_S4096x8x128_0_0_128

/-- The rotary keys, once for every head. -/
def kR : FVec Ideal S4096x8x128 .f32 :=
  shapeCast _ (shapeCast _ (broadcastInDim S1x4096x8x128 ![0, 1, 2, 3] bcast_S1x4096x1x128_S1x4096x8x128_0_1_2_3 (shapeCast _ (extf .f32 a2 bitsLt_bf16_f32) shapeCasts_S4096x128_S1x4096x1x128)) shapeCasts_S1x4096x8x128_S4096x1024) shapeCasts_S4096x1024_S4096x8x128

/-- The divisor of the scores. -/
def rt : FVec Ideal S8x4096x4096 .f32 := broadcastInDim S8x4096x4096 ![] bcast_S_S8x4096x4096 (Host.sqrt (constant S_ .f32 0x43400000#32))

/-- The masked scores. -/
def sc : FVec Ideal S8x4096x4096 .f32 :=
  select mask (Host.divf (addf (Host.dotGeneral dot_S4096x8x128_S4096x8x128_S8x4096x4096_2_2_0_0_1_1 none (qN a0) (kN a1)) (Host.dotGeneral dot_S4096x8x128_S4096x8x128_S8x4096x4096_2_2_0_0_1_1 none (qR a0) (kR a2))) rt) (broadcastInDim S8x4096x4096 ![] bcast_S_S8x4096x4096 (id (constant S_ .f32 0xFF800000#32)))

/-- The largest score of each row. -/
def mx : FVec Ideal S8x4096 .f32 :=
  maximumf (broadcastInDim S8x4096 ![] bcast_S_S8x4096 (constant S_ .f32 0xFF800000#32)) (Host.reduce FloatOps.maximumf (sc a0 a1 a2) (constant S_ .f32 0xFF800000#32) reducesTo_S8x4096x4096_S8x4096_d2 h_S_)

/-- The exponentials. -/
def ex : FVec Ideal S8x4096x4096 .f32 :=
  Host.exp (subf (sc a0 a1 a2) (broadcastInDim S8x4096x4096 ![0, 1, 2] bcast_S8x4096x1_S8x4096x4096_0_1_2 (broadcastInDim S8x4096x1 ![0, 1] bcast_S8x4096_S8x4096x1_0_1 (mx a0 a1 a2))))

/-- The row sums. -/
def den : FVec Ideal S8x4096x1 .f32 :=
  broadcastInDim S8x4096x1 ![0, 1] bcast_S8x4096_S8x4096x1_0_1 (Host.reduceAdd (ex a0 a1 a2) (constant S_ .f32 0x00000000#32) reducesTo_S8x4096x4096_S8x4096_d2 h_S_)

def denB : FVec Ideal S8x4096x4096 .f32 := broadcastInDim S8x4096x4096 ![0, 1, 2] bcast_S8x4096x1_S8x4096x4096_0_1_2 (den a0 a1 a2)

/-- The inverse squares of the row sums. -/
def inv2 : FVec Ideal S8x4096x1 .f32 :=
  Host.divf (broadcastInDim S8x4096x1 ![] bcast_S_S8x4096x1 (constant S_ .f32 0x3F800000#32)) (mulf (den a0 a1 a2) (den a0 a1 a2))

/-- What the quotient's denominator receives. -/
def dDen : FVec Ideal S8x4096 .f32 :=
  Host.reduceAdd (Host.negf (shapeCast _ (Host.reduceAdd (mulf (mulf (dP a1 a3) (broadcastInDim S8x4096x4096 ![0, 1, 2] bcast_S8x4096x1_S8x4096x4096_0_1_2 (inv2 a0 a1 a2))) (ex a0 a1 a2)) (constant S_ .f32 0x00000000#32) reducesTo_S8x4096x4096_S8x4096_d2 h_S_) shapeCasts_S8x4096_S8x4096x1)) (constant S_ .f32 0x00000000#32) reducesTo_S8x4096x1_S8x4096_d2 h_S_

/-- The gradient of the product of a query and a key. -/
def dS : FVec Ideal S8x4096x4096 .f32 :=
  Host.divf (select mask (mulf (addf (Host.divf (dP a1 a3) (denB a0 a1 a2)) (broadcastInDim S8x4096x4096 ![0, 1] bcast_S8x4096_S8x4096x4096_0_1 (dDen a0 a1 a3 a2))) (ex a0 a1 a2)) (broadcastInDim S8x4096x4096 ![] bcast_S_S8x4096x4096 (constant S_ .f32 0x00000000#32))) rt

/-- The gradient of the rotary keys. -/
def out2 : FVec Ideal S4096x1024 .f32 :=
  shapeCast _ (transpose S4096x8x128 [1, 0, 2] (Host.dotGeneral dot_S8x4096x4096_S4096x8x128_S8x4096x128_1_0_2_2_0_1 none (dS a0 a1 a3 a2) (qR a0)) transposes_S8x4096x128_S4096x8x128_1_0_2) shapeCasts_S4096x8x128_S4096x1024

/-- The gradient of the keys and values. -/
def out1 : FVec Ideal S4096x2048 .bf16 :=
  truncf .bf16 (shapeCast _ (addf (pad S4096x8x256 ![0, 0, 128] ![0, 0, 0] ![0, 0, 0] (transpose S4096x8x128 [2, 0, 1] (Host.dotGeneral dot_S8x128x4096_S8x4096x4096_S8x128x4096_2_1_1_2_0_0 none (dO a3) (Host.divf (ex a0 a1 a2) (denB a0 a1 a2))) transposes_S8x128x4096_S4096x8x128_2_0_1) (constant S_ .f32 0x00000000#32) pads_S4096x8x128_S4096x8x256_000_000_12800 h_S_) (pad S4096x8x256 ![0, 0, 0] ![0, 0, 128] ![0, 0, 0] (transpose S4096x8x128 [1, 0, 2] (Host.dotGeneral dot_S8x4096x4096_S4096x8x128_S8x4096x128_1_0_2_2_0_1 none (dS a0 a1 a3 a2) (qN a0)) transposes_S8x4096x128_S4096x8x128_1_0_2) (constant S_ .f32 0x00000000#32) pads_S4096x8x128_S4096x8x256_000_000_01280 h_S_)) shapeCasts_S4096x8x256_S4096x2048) bitsLt_bf16_f32

/-- The gradient of the queries. -/
def out0 : FVec Ideal S4096x2048 .f32 :=
  shapeCast _ (addf (pad S4096x8x256 ![0, 0, 128] ![0, 0, 0] ![0, 0, 0] (transpose S4096x8x128 [1, 0, 2] (Host.dotGeneral dot_S8x4096x4096_S4096x8x128_S8x4096x128_2_0_1_2_0_1 none (dS a0 a1 a3 a2) (kR a2)) transposes_S8x4096x128_S4096x8x128_1_0_2) (constant S_ .f32 0x00000000#32) pads_S4096x8x128_S4096x8x256_000_000_12800 h_S_) (pad S4096x8x256 ![0, 0, 0] ![0, 0, 128] ![0, 0, 0] (transpose S4096x8x128 [1, 0, 2] (Host.dotGeneral dot_S8x4096x4096_S4096x8x128_S8x4096x128_2_0_1_2_0_1 none (dS a0 a1 a3 a2) (kN a1)) transposes_S8x4096x128_S4096x8x128_1_0_2) (constant S_ .f32 0x00000000#32) pads_S4096x8x128_S4096x8x256_000_000_01280 h_S_)) shapeCasts_S4096x8x256_S4096x2048

end

section
variable (m : (ℓ : Loc nD τ sig) → Buf (Elt Ideal) ℓ) (c : Dev nD)

set_option maxHeartbeats 4000000 in
theorem res0_eq : Value.res_out0 (F := Ideal) m c = out0 (m ((c.tc : Thread nD τ).loc main_arg0)) (m ((c.tc : Thread nD τ).loc main_arg1)) (m ((c.tc : Thread nD τ).loc main_arg3)) (m ((c.tc : Thread nD τ).loc main_arg2)) := by
  unfold Value.res_out0 Value.res_main_v95 out0 dS dDen inv2 denB den ex mx sc rt kR kN qR qN q8 dP kv8 dO mask
  rfl
set_option maxHeartbeats 4000000 in
theorem res1_eq : Value.res_out1 (F := Ideal) m c = out1 (m ((c.tc : Thread nD τ).loc main_arg0)) (m ((c.tc : Thread nD τ).loc main_arg1)) (m ((c.tc : Thread nD τ).loc main_arg3)) (m ((c.tc : Thread nD τ).loc main_arg2)) := by
  unfold Value.res_out1 Value.res_main_v96 out1 dS dDen inv2 denB den ex mx sc rt kR kN qR qN q8 dP kv8 dO mask
  rfl
set_option maxHeartbeats 4000000 in
theorem res2_eq : Value.res_out2 (F := Ideal) m c = out2 (m ((c.tc : Thread nD τ).loc main_arg0)) (m ((c.tc : Thread nD τ).loc main_arg1)) (m ((c.tc : Thread nD τ).loc main_arg3)) (m ((c.tc : Thread nD τ).loc main_arg2)) := by
  unfold Value.res_out2 Value.res_main_v93 out2 dS dDen inv2 denB den ex mx sc rt kR kN qR qN q8 dP kv8 dO mask
  rfl
end

end Cert.RefValue
-- ==== Proof.RefReal.lean ====
/- The reference's arrays on real inputs: every entry is the real number that `Grad` defines. -/
module

public import proofs.«01_k».proof.Proof.RefValue
public import proofs.«01_k».proof.Proof.Exact
public import Idealize.ShloMosaic.Lib.WordCmp

@[expose] public section

set_option maxRecDepth 16384

noncomputable section

namespace Cert.RefValue

open Cert.ReferenceIdeal Cert.ReferenceIdeal.Gen Idealize.ShloMosaic Idealize.ShloMosaic.TcCoe
open Cert.Grad (Inp key val qry dout root score top lse dwt delta dsc lo hi)
open Cert.Exact

/-- The four arguments hold the real numbers of `x`. -/
structure Reads (x : Inp) (a0 a1 : FVec Ideal S4096x2048 .bf16) (a2 : FVec Ideal S4096x128 .bf16) (a3 : FVec Ideal S4096x2048 .bf16) : Prop where
  q : ∀ r c, a0 (ix2 r c) = ((x.q r c : ℝ) : EReal)
  kv : ∀ r c, a1 (ix2 r c) = ((x.kv r c : ℝ) : EReal)
  kr : ∀ r c, a2 (ix2 r c) = ((x.kr r c : ℝ) : EReal)
  g : ∀ r c, a3 (ix2 r c) = ((x.g r c : ℝ) : EReal)

variable {x : Inp} {a0 a1 a3 : FVec Ideal S4096x2048 .bf16} {a2 : FVec Ideal S4096x128 .bf16} (H : Reads x a0 a1 a2 a3)
  (h : Fin 8) (r j : Fin 4096) (d : Fin 128)

theorem root_ne : Real.sqrt 192 ≠ 0 := Grad.root_pos.ne'

include H

theorem qN_at : qN a0 (ix3 r h d) = ((qry x h r (lo d) : ℝ) : EReal) := by
  pointwise [qN, q8]
  rw [H.q, qry]
  congr 3
  dsimp only [Grad.lo]; omega

theorem qR_at : qR a0 (ix3 r h d) = ((qry x h r (hi d) : ℝ) : EReal) := by
  pointwise [qR, q8]
  rw [H.q, qry]
  congr 3
  dsimp only [Grad.hi]; omega

theorem kN_at : kN a1 (ix3 j h d) = ((key x h j (lo d) : ℝ) : EReal) := by
  pointwise [kN, kv8]
  rw [H.kv, key, dif_pos (show (lo d).val < 128 from d.isLt)]
  congr 3
  dsimp only [Grad.lo]; omega

theorem kR_at : kR a2 (ix3 j h d) = ((key x h j (hi d) : ℝ) : EReal) := by
  pointwise [kR]
  rw [H.kr, key, dif_neg (show ¬ (hi d).val < 128 by dsimp only [Grad.hi]; omega)]
  congr 3
  exact Fin.ext (show d.val = 128 + d.val - 128 by omega)

theorem v_at : kv8 a1 (ix3 j h ⟨128 + d.val, by omega⟩) = ((val x h j d : ℝ) : EReal) := by
  pointwise [kv8]
  rw [H.kv, val]
  congr 3
  omega

theorem dO_at : dO a3 (ix3 h d r) = ((dout x h r d : ℝ) : EReal) := by
  pointwise [dO]
  rw [H.g, dout]
  congr 3
  omega

theorem dP_at : dP a1 a3 (ix3 h r j) = ((dwt x h r j : ℝ) : EReal) := by
  pointwise [dP]
  rw [dwt, ← coe_sum]
  refine Finset.sum_congr rfl fun d _ => ?_
  rw [dO_at H, v_at H, ← EReal.coe_mul, mul_comm]

omit H in
theorem mask_at : mask (ix3 h r j) = if j ≤ r then 1#1 else 0#1 := by
  pointwise [mask]
  rw [WordCmp.cmpi_sle_ofNat (by have := j.isLt; omega) (by have := r.isLt; omega)]
  by_cases hj : j ≤ r
  · rw [if_pos hj, decide_eq_true (Fin.le_def.mp hj)]; rfl
  · rw [if_neg hj, decide_eq_false (fun e => hj (Fin.le_def.mpr e))]; rfl

theorem sc_at : sc a0 a1 a2 (ix3 h r j) = if j ≤ r then ((score x h r j : ℝ) : EReal) else ⊥ := by
  pointwise [sc, rt]
  rw [mask_at]
  by_cases hj : j ≤ r
  · rw [if_pos hj, if_pos hj, ValueIdx.select_one, sqrt_192]
    simp only [qN_at H, kN_at H, qR_at H, kR_at H, ← EReal.coe_mul, coe_sum, ← EReal.coe_add]
    rw [div_real _ root_ne, score, Grad.sum_halves, root]
    congr 3 <;> exact Finset.sum_congr rfl fun _ _ => mul_comm _ _
  · rw [if_neg hj, if_neg hj, ValueIdx.select_zero]
    exact lit_bot

omit H in
theorem rowMax (v : FVec Ideal S8x4096x4096 .f32) (init : FVec Ideal S_ .f32) :
    Host.reduce FloatOps.maximumf v init reducesTo_S8x4096x4096_S8x4096_d2 h_S_ (ix2 h r)
      = Finset.univ.fold max (init (Shape.Idx.first h_S_)) fun k : Fin 4096 => v (ix3 h r k) :=
  hostMax_row v init reducesTo_S8x4096x4096_S8x4096_d2 h_S_ h r

omit H in
theorem maximumf_apply {s : Shape} (u v : FVec Ideal s .f32) (i : s.Idx) : maximumf u v i = max (u i) (v i) := rfl

omit H in
theorem bot_at : broadcastInDim S8x4096 ![] bcast_S_S8x4096 (constant (F := Ideal) S_ .f32 0xFF800000#32) (ix2 h r) = (⊥ : EReal) := by
  pointwise
  exact lit_bot

theorem mx_at : mx a0 a1 a2 (ix2 h r) = ((top x h r : ℝ) : EReal) := by
  unfold mx
  rw [maximumf_apply, bot_at, rowMax, bot_sup_eq]
  simp only [sc_at H, constant, Ideal.ofBits_def, lit_bot]
  exact fold_max (· ≤ r) _ _

theorem ex_at : ex a0 a1 a2 (ix3 h r j) = ((Grad.ex x h r j : ℝ) : EReal) := by
  pointwise [ex]
  rw [sc_at H, mx_at H, Grad.ex]
  split
  · rw [← EReal.coe_sub, Ideal.exp_coe]
  · rw [EReal.bot_sub, Ideal.exp_bot, EReal.coe_zero]

theorem den_at : den a0 a1 a2 (ix3 h r 0) = ((Grad.den x h r : ℝ) : EReal) := by
  pointwise [den]
  simp only [ex_at H, coe_sum]
  rfl

theorem dDen_at : dDen a0 a1 a3 a2 (ix2 h r)
    = ((-∑ j, dwt x h r j * (1 / (Grad.den x h r * Grad.den x h r)) * Grad.ex x h r j : ℝ) : EReal) := by
  have hd := (Grad.den_pos x h r).ne'
  have e : inv2 a0 a1 a2 (ix3 h r 0) = ((1 / (Grad.den x h r * Grad.den x h r) : ℝ) : EReal) := by
    pointwise [inv2]
    rw [den_at H, ← EReal.coe_one, ← EReal.coe_mul, div_real _ (mul_ne_zero hd hd)]
  pointwise [dDen]
  rw [Fin.sum_univ_one]
  simp only [e, dP_at H, ex_at H, ← EReal.coe_mul, coe_sum, ← EReal.coe_neg]

theorem dS_at : dS a0 a1 a3 a2 (ix3 h r j) = ((dsc x h r j : ℝ) : EReal) := by
  have hd := (Grad.den_pos x h r).ne'
  pointwise [dS, rt, denB]
  rw [mask_at, sqrt_192]
  by_cases hj : j ≤ r
  · rw [if_pos hj, ValueIdx.select_one, dP_at H, den_at H, dDen_at H, ex_at H, div_real _ hd, ← EReal.coe_add, ← EReal.coe_mul,
      div_real _ root_ne, dsc, root]
    congr 2
    have e : delta x h r = (∑ j, dwt x h r j * (1 / (Grad.den x h r * Grad.den x h r)) * Grad.ex x h r j) * Grad.den x h r := by
      rw [delta, Finset.sum_mul]
      refine Finset.sum_congr rfl fun j _ => ?_
      rw [Grad.wt]; field_simp
    rw [e, Grad.wt]
    field_simp
    ring
  · rw [if_neg hj, ValueIdx.select_zero, Grad.dsc_of_lt x h hj, ← EReal.coe_zero, div_real _ root_ne, zero_div]

theorem wt_at : Ideal.div (ex a0 a1 a2 (ix3 h r j)) (denB a0 a1 a2 (ix3 h r j)) = ((Grad.wt x h r j : ℝ) : EReal) := by
  have e : denB a0 a1 a2 (ix3 h r j) = ((Grad.den x h r : ℝ) : EReal) := by
    pointwise [denB]
    exact den_at H h r
  rw [e, ex_at H, div_real _ (Grad.den_pos x h r).ne', Grad.wt]

/-- The gradient of the rotary keys, one copy for each head. -/
theorem out2_at (c : Fin 1024) :
    out2 a0 a1 a3 a2 (ix2 r c) = ((Grad.dk x ⟨c.val / 128, by omega⟩ r (hi ⟨c.val % 128, by omega⟩) : ℝ) : EReal) := by
  pointwise [out2]
  simp only [dS_at H, qR_at H, ← EReal.coe_mul, coe_sum]
  rfl

/-- The gradient of the queries. -/
theorem out0_at (c : Fin 2048) :
    out0 a0 a1 a3 a2 (ix2 r c) = ((Grad.dq x ⟨c.val / 256, by omega⟩ r ⟨c.val % 256, by omega⟩ : ℝ) : EReal) := by
  pointwise [out0]
  split
  · rename_i h1
    split
    · rename_i h2
      exfalso; omega
    · refine (add_zero _).trans ?_
      simp only [dS_at H, kR_at H, ← EReal.coe_mul, coe_sum]
      have e : hi ⟨c.val % 256 - 128, by omega⟩ = ⟨c.val % 256, by omega⟩ :=
        Fin.ext (show 128 + (c.val % 256 - 128) = c.val % 256 by omega)
      simp only [e]
      rfl
  · rename_i h1
    split
    · refine (zero_add _).trans ?_
      simp only [dS_at H, kN_at H, ← EReal.coe_mul, coe_sum]
      rfl
    · rename_i h2
      exfalso; omega

/-- The gradients of a head's keys (its first 128 columns) and of its values. -/
theorem out1_at (c : Fin 2048) :
    out1 a0 a1 a3 a2 (ix2 r c) = if hd : c.val % 256 < 128 then
        ((Grad.dk x ⟨c.val / 256, by omega⟩ r ⟨c.val % 256, by omega⟩ : ℝ) : EReal)
      else ((Grad.dv x ⟨c.val / 256, by omega⟩ r ⟨c.val % 256 - 128, by omega⟩ : ℝ) : EReal) := by
  pointwise [out1]
  split
  · rename_i h1
    split
    · rename_i h2
      exfalso; omega
    · refine (add_zero _).trans ?_
      simp only [wt_at H, dO_at H, ← EReal.coe_mul, coe_sum]
      split
      · exfalso; omega
      · exact congrArg _ (Finset.sum_congr rfl fun _ _ => mul_comm _ _)
  · rename_i h1
    split
    · rename_i h2
      refine (zero_add _).trans ?_
      simp only [dS_at H, qN_at H, ← EReal.coe_mul, coe_sum]
      split
      · rfl
      · exfalso; omega
    · rename_i h2
      exfalso; omega

end Cert.RefValue
-- ==== Proof.HostReal.lean ====
/- The host's log-sums and row sums on real inputs. -/
module

public import proofs.«01_k».proof.Proof.HostValue
public import proofs.«01_k».proof.Proof.RefReal

@[expose] public section

set_option maxRecDepth 16384

noncomputable section

namespace Cert.KernelIdeal.Host

open Cert.KernelIdeal Cert.KernelIdeal.Gen Idealize.ShloMosaic Idealize.ShloMosaic.TcCoe
open Cert.Grad (Inp key val qry dout root score top lse dwt delta lo hi)
open Cert.Exact
open Cert.RefValue (Reads root_ne)
open Cert.KernelIdeal.Tile (row row_val)

variable {x : Inp} {a0 a1 a3 : FVec Ideal S4096x2048 .bf16} {a2 : FVec Ideal S4096x128 .bf16} (H : Reads x a0 a1 a2 a3)
  (h : Fin 8) (r j : Fin 4096) (d : Fin 128)

include H

theorem q_at (e : Fin 256) : q8 a0 (ix3 r h e) = ((qry x h r e : ℝ) : EReal) := by
  pointwise [q8]
  rw [H.q, qry]
  congr 3
  omega

theorem key_at (e : Fin 256) : keys a1 a2 (ix3 j h e) = ((key x h j e : ℝ) : EReal) := by
  pointwise [keys, kv8]
  rw [key]
  split
  · rw [H.kv]
    congr 3
    omega
  · rw [H.kr]

theorem v_at : kv8 a1 (ix3 j h ⟨128 + d.val, by omega⟩) = ((val x h j d : ℝ) : EReal) := by
  pointwise [kv8]
  rw [H.kv, val]
  congr 3
  omega

theorem dO_at : dO a3 (ix3 r h d) = ((dout x h r d : ℝ) : EReal) := by
  pointwise [dO]
  rw [H.g, dout]
  congr 3
  omega

omit H in
theorem mask_at : mask (ix3 h r j) = if j ≤ r then 1#1 else 0#1 := by
  pointwise [mask]
  rw [WordCmp.cmpi_sle_ofNat (by have := j.isLt; omega) (by have := r.isLt; omega)]
  by_cases hj : j ≤ r
  · rw [if_pos hj, decide_eq_true (Fin.le_def.mp hj)]; rfl
  · rw [if_neg hj, decide_eq_false (fun e => hj (Fin.le_def.mpr e))]; rfl

theorem sc_at : sc a0 a1 a2 (ix3 h r j) = if j ≤ r then ((score x h r j : ℝ) : EReal) else ⊥ := by
  pointwise [sc]
  rw [mask_at]
  by_cases hj : j ≤ r
  · rw [if_pos hj, if_pos hj, ValueIdx.select_one, sqrt_192]
    simp only [q_at H, key_at H, ← EReal.coe_mul, coe_sum]
    rw [div_real _ root_ne, score, root]
    congr 2
    exact Finset.sum_congr rfl fun _ _ => mul_comm _ _
  · rw [if_neg hj, if_neg hj, ValueIdx.select_zero]
    exact lit_bot

omit H in
theorem rowMax (v : FVec Ideal S8x4096x4096 .f32) (init : FVec Ideal S_ .f32) :
    Host.reduce FloatOps.maximumf v init reducesTo_S8x4096x4096_S8x4096_d2 h_S_ (ix2 h r)
      = Finset.univ.fold max (init (Shape.Idx.first h_S_)) fun k : Fin 4096 => v (ix3 h r k) :=
  hostMax_row v init reducesTo_S8x4096x4096_S8x4096_d2 h_S_ h r

omit H in
theorem col_at (v : FVec Ideal S8x4096 .f32) : broadcastInDim S8x4096x1 ![0, 1] bcast_S8x4096_S8x4096x1_0_1 v (ix3 h r 0) = v (ix2 h r) := by
  pointwise

theorem mx_at : mx a0 a1 a2 (ix3 h r 0) = ((top x h r : ℝ) : EReal) := by
  unfold mx
  rw [col_at, rowMax]
  simp only [sc_at H, constant, Ideal.ofBits_def, lit_bot]
  exact fold_max (· ≤ r) _ _

theorem ex_at : ex a0 a1 a2 (ix3 h r j) = ((Grad.ex x h r j : ℝ) : EReal) := by
  pointwise [ex]
  rw [sc_at H, mx_at H, Grad.ex]
  split
  · rw [← EReal.coe_sub, Ideal.exp_coe]
  · rw [EReal.bot_sub, Ideal.exp_bot, EReal.coe_zero]

theorem den_at : den a0 a1 a2 (ix3 h r 0) = ((Grad.den x h r : ℝ) : EReal) := by
  pointwise [den]
  simp only [ex_at H, coe_sum]
  rfl

theorem wt_at : wt a0 a1 a2 (ix3 h r j) = ((Grad.wt x h r j : ℝ) : EReal) := by
  pointwise [wt]
  rw [den_at H, ex_at H, div_real _ (Grad.den_pos x h r).ne', Grad.wt]

theorem out_at : out a0 a1 a2 (ix3 r h d) = ((Grad.out x h r d : ℝ) : EReal) := by
  pointwise [out]
  simp only [wt_at H, v_at H, ← EReal.coe_mul, coe_sum]
  rw [Grad.out]
  exact congrArg _ (Finset.sum_congr rfl fun _ _ => mul_comm _ _)

omit H in
theorem split_at (v : FVec Ideal S8x4096x1 .f32) (b : Fin 8) (y : Fin 512) :
    shapeCast S8x8x1x512 v shapeCasts_S8x4096x1_S8x8x1x512 (ix4 h b 0 y) = v (ix3 h ⟨b.val * 512 + y.val, by omega⟩ 0) := by
  pointwise

omit H in
theorem addf_apply {s : Shape} (u v : FVec Ideal s .f32) (i : s.Idx) : addf u v i = (u i + v i : EReal) := rfl

omit H in
theorem log_apply {s : Shape} (u : FVec Ideal s .f32) (i : s.Idx) : Host.log u i = Ideal.log (u i) := by
  pointwise

omit H in
theorem row_eq (b : Fin 8) (y : Fin 512) (hb : b.val * 512 + y.val < 4096) : (⟨b.val * 512 + y.val, hb⟩ : Fin 4096) = row b y :=
  Fin.ext (by rw [row_val b.isLt]; simp only [mul_comm])

theorem lse4_at (b : Fin 8) (y : Fin 512) : lse4 a0 a1 a2 (ix4 h b 0 y) = ((lse x h (row b y) : ℝ) : EReal) := by
  unfold lse4
  rw [split_at, row_eq, addf_apply, log_apply, mx_at H, den_at H, Ideal.log_coe, if_neg (not_le.mpr (Grad.den_pos x h _)),
    ← EReal.coe_add, lse]

theorem delta4_at (b : Fin 8) (y : Fin 512) : delta4 a0 a1 a3 a2 (ix4 h b 0 y) = ((delta x h (row b y) : ℝ) : EReal) := by
  pointwise [delta4]
  rw [row_eq, ← Grad.delta_eq, ← coe_sum]
  refine Finset.sum_congr rfl fun d _ => ?_
  rw [dO_at H, out_at H, ← EReal.coe_mul]

end Cert.KernelIdeal.Host
-- ==== Proof.Blocks.lean ====
/- The blocks a grid point reads, at coordinates: pass `t / 8` takes the heads `2 (t / 8)` and `2 (t / 8) + 1`, and its point
   `t % 8` takes that block of 512 keys. On real inputs every entry the kernel reads is a real number. -/
module

public import proofs.«01_k».proof.Proof.Frame
public import Idealize.ShloMosaic.Lib.Pipeline.ValueKit.Geometry
public import proofs.«01_k».proof.Proof.HostReal

@[expose] public section

set_option maxRecDepth 16384

noncomputable section

namespace Cert.KernelIdeal.Blocks

open Cert.KernelIdeal Cert.KernelIdeal.Gen Cert.KernelIdeal.Tile Cert.KernelIdeal.Run
open Idealize.ShloMosaic Idealize.ShloMosaic.TcCoe Idealize.SL.Sem
open Cert.Grad (Inp key val qry dout lse delta)
open Cert.RefValue (Reads)

theorem idx0 : ∀ t : Fin cfg0.N, win0_0.index t = ![0, t.val / 8] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![t.val % 8, 0] := (by decide +kernel : ∀ t : Fin grid0.N, _)
theorem idx3 : ∀ t : Fin cfg0.N, win0_3.index t = ![0, t.val / 8] := (by decide +kernel : ∀ t : Fin grid0.N, _)
theorem idx4 : ∀ t : Fin cfg0.N, win0_4.index t = ![t.val / 8, 0, 0, 0] := (by decide +kernel : ∀ t : Fin grid0.N, _)
theorem idx5 : ∀ t : Fin cfg0.N, win0_5.index t = ![t.val / 8, 0, 0, 0] := (by decide +kernel : ∀ t : Fin grid0.N, _)
theorem idx6 : ∀ t : Fin cfg0.N, win0_6.index t = ![0, t.val / 8] := (by decide +kernel : ∀ t : Fin grid0.N, _)
theorem idx7 : ∀ t : Fin cfg0.N, win0_7.index t = ![t.val % 8, t.val / 8] := (by decide +kernel : ∀ t : Fin grid0.N, _)
theorem idx8 : ∀ t : Fin cfg0.N, win0_8.index t = ![t.val % 8, t.val / 8] := (by decide +kernel : ∀ t : Fin grid0.N, _)

theorem lt_32 (t : Fin cfg0.N) : t.val < 32 := Nat.lt_of_lt_of_eq t.isLt N_0

/-- The head a pass calls `u`. -/
def head (t : Fin cfg0.N) (u : Fin 2) : Fin 8 := ⟨2 * (t.val / 8) + u.val, by have := lt_32 t; omega⟩

variable (m : (ℓ : Loc nD τ sig) → Buf (Elt Ideal) ℓ) (c : Dev nD) (t : Fin cfg0.N)

theorem blk0 (r : Fin 4096) (y : Fin 512) : iblk m c 0 t (ix2 r y) = m ((c : Thread nD τ).loc main_arg0) (ix2 r ⟨512 * (t.val / 8) + y.val, by have := lt_32 t; omega⟩) := by
  rw [← V_main_arg0 m c]
  blk_simp [iblk]
  exact congrArg _ (by blk_ext [idx0])

theorem blk1 (j : Fin 512) (y : Fin 512) : iblk m c 1 t (ix2 j y) = m ((c : Thread nD τ).loc main_arg1) (ix2 (row (kb t) j) ⟨512 * (t.val / 8) + y.val, by have := lt_32 t; omega⟩) := by
  have e := row_val (show kb t < 8 by rw [kb_eq]; omega) j
  rw [kb_eq] at e
  rw [← V_main_arg1 m c]
  blk_simp [iblk]
  exact congrArg _ (by blk_ext [idx1, kb_eq, e])

theorem blk2 (j : Fin 512) (d : Fin 128) : iblk m c 2 t (ix2 j d) = m ((c : Thread nD τ).loc main_arg2) (ix2 (row (kb t) j) d) := by
  have e := row_val (show kb t < 8 by rw [kb_eq]; omega) j
  rw [kb_eq] at e
  rw [← V_main_arg2 m c]
  blk_simp [iblk]
  exact congrArg _ (by blk_ext [idx2, kb_eq, e])

theorem blk3 (r : Fin 4096) (y : Fin 256) : iblk m c 3 t (ix2 r y) = m ((c : Thread nD τ).loc main_arg3) (ix2 r ⟨256 * (t.val / 8) + y.val, by have := lt_32 t; omega⟩) := by
  rw [← V_main_arg3 m c]
  blk_simp [iblk]
  exact congrArg _ (by blk_ext [idx3])

theorem read4 (f : FVec Ideal S8x8x1x512 .f32) (u : Fin 2) (b : Fin 8) (y : Fin 512) :
    (win0_4.blk t).view.read (Elt Ideal) f (ix4 u b 0 y) = f (ix4 (head t u) b 0 y) := by
  have e : (head t u).val = 2 * (t.val / 8) + u.val := rfl
  blk_simp
  exact congrArg f (by blk_ext [idx4, e])

theorem read5 (f : FVec Ideal S8x8x1x512 .f32) (u : Fin 2) (b : Fin 8) (y : Fin 512) :
    (win0_5.blk t).view.read (Elt Ideal) f (ix4 u b 0 y) = f (ix4 (head t u) b 0 y) := by
  have e : (head t u).val = 2 * (t.val / 8) + u.val := rfl
  blk_simp
  exact congrArg f (by blk_ext [idx5, e])

theorem blk4 (u : Fin 2) (b : Fin 8) (y : Fin 512) : iblk m c 4 t (ix4 u b 0 y) = V m c main_v37 (ix4 (head t u) b 0 y) :=
  read4 t (V m c main_v37) u b y

theorem blk5 (u : Fin 2) (b : Fin 8) (y : Fin 512) : iblk m c 5 t (ix4 u b 0 y) = V m c main_v41 (ix4 (head t u) b 0 y) :=
  read5 t (V m c main_v41) u b y

/-! ## On real inputs -/

variable {m c} {x : Inp} (H : Reads x (m ((c : Thread nD τ).loc main_arg0)) (m ((c : Thread nD τ).loc main_arg1))
  (m ((c : Thread nD τ).loc main_arg2)) (m ((c : Thread nD τ).loc main_arg3)))

include H

theorem q_real (u : Fin 2) (r : Fin 4096) (d : Fin 256) : qAt (iblk m c 0 t) u r d = ((qry x (head t u) r d : ℝ) : EReal) := by
  rw [qAt, blk0, H.q, qry]
  congr 3
  show 512 * (t.val / 8) + (256 * u.val + d.val) = 256 * (2 * (t.val / 8) + u.val) + d.val
  omega

theorem key_real (u : Fin 2) (j : Fin 512) (d : Fin 256) :
    keyAt (iblk m c 1 t) (iblk m c 2 t) u j d = ((key x (head t u) (row (kb t) j) d : ℝ) : EReal) := by
  rw [keyAt, key]
  split
  · rw [blk1, H.kv]
    congr 3
    show 512 * (t.val / 8) + (256 * u.val + d.val) = 256 * (2 * (t.val / 8) + u.val) + d.val
    omega
  · rw [blk2, H.kr]

theorem val_real (u : Fin 2) (j : Fin 512) (d : Fin 128) :
    valAt (iblk m c 1 t) u j d = ((val x (head t u) (row (kb t) j) d : ℝ) : EReal) := by
  rw [valAt, val, blk1, H.kv]
  congr 3
  show 512 * (t.val / 8) + (256 * u.val + 128 + d.val) = 256 * (2 * (t.val / 8) + u.val) + 128 + d.val
  omega

theorem do_real (u : Fin 2) (r : Fin 4096) (d : Fin 128) : doAt (iblk m c 3 t) u r d = ((dout x (head t u) r d : ℝ) : EReal) := by
  rw [doAt, dout, blk3, H.g]
  congr 3
  show 256 * (t.val / 8) + (128 * u.val + d.val) = 128 * (2 * (t.val / 8) + u.val) + d.val
  omega

omit H in
theorem row_split (r : Fin 4096) : row (r.val / 512) ⟨r.val % 512, by omega⟩ = r :=
  Fin.ext (by rw [row_val (by omega)]; show 512 * (r.val / 512) + r.val % 512 = r.val; omega)

theorem lse_real (u : Fin 2) (r : Fin 4096) : rowAt (iblk m c 4 t) u r = ((lse x (head t u) r : ℝ) : EReal) := by
  rw [rowAt, blk4, Host.V_lse, Host.lse4_at H]
  exact congrArg (fun s => ((lse x (head t u) s : ℝ) : EReal)) (row_split r)

theorem delta_real (u : Fin 2) (r : Fin 4096) : rowAt (iblk m c 5 t) u r = ((delta x (head t u) r : ℝ) : EReal) := by
  rw [rowAt, blk5, Host.V_delta, Host.delta4_at H]
  exact congrArg (fun s => ((delta x (head t u) s : ℝ) : EReal)) (row_split r)

end Cert.KernelIdeal.Blocks
-- ==== Proof.KernelReal.lean ====
/- What the kernel leaves on real inputs: the weights are the softmax weights, the score gradients those of the reference, and
   the three blocks of a point hold the matching entries of the three gradients. -/
module

public import proofs.«01_k».proof.Proof.Blocks

@[expose] public section

set_option maxRecDepth 16384

noncomputable section

namespace Cert.KernelIdeal.Blocks

open Cert.KernelIdeal Cert.KernelIdeal.Gen Cert.KernelIdeal.Tile Cert.KernelIdeal.Point Cert.KernelIdeal.Run
open Idealize.ShloMosaic Idealize.ShloMosaic.TcCoe Idealize.SL.Sem
open Cert.Grad (Inp key val qry dout lse delta wt dwt dsc dq dk dv root)
open Cert.RefValue (Reads)
open Cert.Exact (coe_sum)

/-! ## The named constants -/

theorem cSL_eq : cSL = ((root⁻¹ * (Real.log 2)⁻¹ : ℝ) : EReal) :=
  IdealRules.named_const.ideal_named_scalar _ _ _ _ rfl
theorem cL_eq : cL = (((Real.log 2)⁻¹ : ℝ) : EReal) :=
  IdealRules.named_const.ideal_named_scalar _ _ _ _ rfl
theorem cS_eq : cS = ((root⁻¹ : ℝ) : EReal) :=
  IdealRules.named_const.ideal_named_scalar _ _ _ _ rfl

theorem kb_lt (t : Fin cfg0.N) : kb t < 8 := by rw [kb_eq]; omega

variable {m : (ℓ : Loc nD τ sig) → Buf (Elt Ideal) ℓ} {c : Dev nD} (t : Fin cfg0.N)
  {x : Inp} (H : Reads x (m ((c : Thread nD τ).loc main_arg0)) (m ((c : Thread nD τ).loc main_arg1))
  (m ((c : Thread nD τ).loc main_arg2)) (m ((c : Thread nD τ).loc main_arg3)))

include H

/-- The kernel's weight is the softmax weight; a masked key's is zero in both. -/
theorem w_real (u : Fin 2) (j : Fin 512) (r : Fin 4096) :
    wAt (kb t) (iblk m c 0 t) (iblk m c 1 t) (iblk m c 2 t) (iblk m c 4 t) u j r = ((wt x (head t u) r (row (kb t) j) : ℝ) : EReal) := by
  have hrow : (row (kb t) j).val = 512 * kb t + j.val := row_val (kb_lt t) j
  unfold wAt
  rw [cSL_eq, cL_eq, lse_real t H]
  by_cases hj : 512 * kb t + j.val ≤ r.val
  · rw [if_pos hj, Grad.wt_eq_two x _ (Fin.le_def.mpr (hrow ▸ hj))]
    simp only [key_real t H, q_real t H, ← EReal.coe_mul, coe_sum, ← EReal.coe_sub]
    exact Ideal.exp2_coe _
  · rw [if_neg hj, Grad.wt_of_lt x _ (fun e => hj (hrow ▸ Fin.le_def.mp e)),
      EReal.bot_mul_coe_of_pos (mul_pos (inv_pos.mpr Grad.root_pos) (inv_pos.mpr (Real.log_pos (by norm_num)))), EReal.bot_sub]
    exact Ideal.exp2_bot

theorem ds_real (u : Fin 2) (j : Fin 512) (r : Fin 4096) :
    dsAt (kb t) (iblk m c 0 t) (iblk m c 1 t) (iblk m c 2 t) (iblk m c 3 t) (iblk m c 4 t) (iblk m c 5 t) u j r
      = ((dsc x (head t u) r (row (kb t) j) : ℝ) : EReal) := by
  unfold dsAt
  rw [cS_eq, w_real t H, delta_real t H]
  simp only [val_real t H, do_real t H, ← EReal.coe_mul, coe_sum, ← EReal.coe_sub]
  rfl

theorem dvAdd_real (n : ℕ) (u : Fin 2) (j : Fin 512) (d : Fin 128) :
    dvAdd (kb t) (iblk m c 0 t) (iblk m c 1 t) (iblk m c 2 t) (iblk m c 3 t) (iblk m c 4 t) n u j d
      = ((∑ y, wt x (head t u) (row n y) (row (kb t) j) * dout x (head t u) (row n y) d : ℝ) : EReal) := by
  unfold dvAdd
  simp only [w_real t H, do_real t H, ← EReal.coe_mul, coe_sum]

theorem dkAdd_real (n : ℕ) (u : Fin 2) (j : Fin 512) (d : Fin 256) :
    dkAdd (kb t) (iblk m c 0 t) (iblk m c 1 t) (iblk m c 2 t) (iblk m c 3 t) (iblk m c 4 t) (iblk m c 5 t) n u j d
      = ((∑ y, dsc x (head t u) (row n y) (row (kb t) j) * qry x (head t u) (row n y) d : ℝ) : EReal) := by
  unfold dkAdd
  simp only [ds_real t H, q_real t H, ← EReal.coe_mul, coe_sum]

theorem dqAdd_real (u : Fin 2) (r : Fin 4096) (d : Fin 256) :
    dqAdd (kb t) (iblk m c 0 t) (iblk m c 1 t) (iblk m c 2 t) (iblk m c 3 t) (iblk m c 4 t) (iblk m c 5 t) u r d
      = ((∑ y, dsc x (head t u) r (row (kb t) y) * key x (head t u) (row (kb t) y) d : ℝ) : EReal) := by
  unfold dqAdd
  simp only [ds_real t H, key_real t H, ← EReal.coe_mul, coe_sum]

/-- The key gradient of a point's block. -/
theorem dk_real (u : Fin 2) (j : Fin 512) (d : Fin 256) :
    dkPt (kb t) (iblk m c 0 t) (iblk m c 1 t) (iblk m c 2 t) (iblk m c 3 t) (iblk m c 4 t) (iblk m c 5 t) u j d
      = ((dk x (head t u) (row (kb t) j) d : ℝ) : EReal) := by
  unfold dkPt
  simp only [dkAdd_real t H, Cert.Exact.coe_sum_set, ← EReal.coe_add]
  exact congrArg _ (Grad.dk_chunks x _ (kb_lt t) j d)

/-- The value gradient of a point's block. -/
theorem dv_real (u : Fin 2) (j : Fin 512) (d : Fin 128) :
    dvPt (kb t) (iblk m c 0 t) (iblk m c 1 t) (iblk m c 2 t) (iblk m c 3 t) (iblk m c 4 t) u j d
      = ((dv x (head t u) (row (kb t) j) d : ℝ) : EReal) := by
  unfold dvPt
  simp only [dvAdd_real t H, Cert.Exact.coe_sum_set, ← EReal.coe_add]
  exact congrArg _ (Grad.dv_chunks x _ (kb_lt t) j d)

/-- What a point adds to the query gradient. -/
theorem dqStep_real (u : Fin 2) (r : Fin 4096) (d : Fin 256) :
    dqStep m c t u r d = ((if kb t ≤ r.val / 512 then ∑ y, dsc x (head t u) r (row (kb t) y) * key x (head t u) (row (kb t) y) d else 0 : ℝ) : EReal) := by
  unfold dqStep dqPt
  rw [dqAdd_real t H]
  split <;> rfl

/-- The query gradient after the last point of a pass. -/
theorem dqAcc_real (ht : t.val % 8 = 7) (r : Fin 4096) (y : Fin 512) :
    dqAcc m c t.val (ix2 r y)
      = ((dq x (head t ⟨y.val / 256, by omega⟩) r ⟨y.val % 256, by omega⟩ : ℝ) : EReal) := by
  rw [← Grad.dq_chunks, ← Cert.Exact.coe_sum_set]
  show (∑ b ∈ Finset.range (t.val % 8 + 1), if h : 8 * (t.val / 8) + b < cfg0.N then
    dqStep m c ⟨8 * (t.val / 8) + b, h⟩ ⟨y.val / 256, _⟩ r ⟨y.val % 256, _⟩ else 0) = _
  rw [ht]
  refine Finset.sum_congr rfl fun b hb => ?_
  have hb' : b < 8 := Finset.mem_range.mp hb
  have hN : 8 * (t.val / 8) + b < cfg0.N := by
    have := lt_32 t
    exact Nat.lt_of_lt_of_eq (by omega) N_0.symm
  have hk : kb ⟨8 * (t.val / 8) + b, hN⟩ = b := by rw [kb_eq]; show (8 * (t.val / 8) + b) % 8 = b; omega
  have hh : ∀ u, head ⟨8 * (t.val / 8) + b, hN⟩ u = head t u := fun u => Fin.ext (by
    show 2 * ((8 * (t.val / 8) + b) / 8) + u.val = 2 * (t.val / 8) + u.val; omega)
  rw [dif_pos hN, dqStep_real _ H, hk, hh]

end Cert.KernelIdeal.Blocks
-- ==== Proof.Final.lean ====
/- The three result arrays after the last grid point: on real inputs they are the reference's three gradients. -/
module

public import proofs.«01_k».proof.Proof.KernelReal

@[expose] public section

set_option maxRecDepth 16384

noncomputable section

namespace Cert.KernelIdeal.Final

open Cert.KernelIdeal Cert.KernelIdeal.Gen Cert.KernelIdeal.Tile Cert.KernelIdeal.Run Cert.KernelIdeal.Blocks
open Idealize.ShloMosaic Idealize.ShloMosaic.TcCoe Idealize.SL.Sem
open Cert.Grad (Inp)
open Cert.RefValue (Reads)

variable {m : (ℓ : Loc nD τ sig) → Buf (Elt Ideal) ℓ} {c : Dev nD}
  {x : Inp} (H : Reads x (m ((c : Thread nD τ).loc main_arg0)) (m ((c : Thread nD τ).loc main_arg1))
  (m ((c : Thread nD τ).loc main_arg2)) (m ((c : Thread nD τ).loc main_arg3)))

theorem emb6 (t : Fin cfg0.N) (r : Fin 4096) (y : Fin 512) :
    (win0_6.blk t).view.emb (ix2 r y) = ix2 r ⟨512 * (t.val / 8) + y.val, by have := lt_32 t; omega⟩ := by
  blk_ext [idx6]

theorem emb7 (t : Fin cfg0.N) (j : Fin 512) (y : Fin 512) :
    (win0_7.blk t).view.emb (ix2 j y) = ix2 (row (kb t) j) ⟨512 * (t.val / 8) + y.val, by have := lt_32 t; omega⟩ := by
  have e := row_val (kb_lt t) j
  rw [kb_eq] at e
  blk_ext [idx7, kb_eq, e]

theorem emb8 (t : Fin cfg0.N) (j : Fin 512) (y : Fin 256) :
    (win0_8.blk t).view.emb (ix2 j y) = ix2 (row (kb t) j) ⟨256 * (t.val / 8) + y.val, by have := lt_32 t; omega⟩ := by
  have e := row_val (kb_lt t) j
  rw [kb_eq] at e
  blk_ext [idx8, kb_eq, e]

include H

/-- The query gradient. -/
theorem final_dq : (dats m 0 c).arrAt 6 cfg0.N = RefValue.out0 (m ((c : Thread nD τ).loc main_arg0)) (m ((c : Thread nD τ).loc main_arg1))
    (m ((c : Thread nD τ).loc main_arg3)) (m ((c : Thread nD τ).loc main_arg2)) := by
  refine (dats m 0 c).arrAt_eq_of_covers 6 _ (by decide +kernel) fun t hf y => ?_
  have ht : t.val % 8 = 7 := (flush0_6 t).mp hf
  obtain ⟨r, y, rfl⟩ : ∃ r y', y = ix2 r y' := ⟨y 0, y 1, (ix2_eta y).symm⟩
  blk_simp
  rw [after_6, dqAcc_real t H ht, emb6, RefValue.out0_at H]
  have e1 : head t ⟨y.val / 256, by omega⟩ = ⟨(512 * (t.val / 8) + y.val) / 256, by have := lt_32 t; omega⟩ := Fin.ext (by
    show 2 * (t.val / 8) + y.val / 256 = (512 * (t.val / 8) + y.val) / 256; omega)
  have e2 : (⟨y.val % 256, by omega⟩ : Fin 256) = ⟨(512 * (t.val / 8) + y.val) % 256, by omega⟩ := Fin.ext (by
    show y.val % 256 = (512 * (t.val / 8) + y.val) % 256; omega)
  rw [e1, e2]

/-- The key and value gradients. -/
theorem final_dkv : (dats m 0 c).arrAt 7 cfg0.N = RefValue.out1 (m ((c : Thread nD τ).loc main_arg0)) (m ((c : Thread nD τ).loc main_arg1))
    (m ((c : Thread nD τ).loc main_arg3)) (m ((c : Thread nD τ).loc main_arg2)) := by
  refine (dats m 0 c).arrAt_eq_of_covers 7 _ (by decide +kernel) fun t hf y => ?_
  obtain ⟨j, y, rfl⟩ : ∃ j y', y = ix2 j y' := ⟨y 0, y 1, (ix2_eta y).symm⟩
  blk_simp
  rw [after_7, emb7, RefValue.out1_at H]
  have e1 : head t ⟨y.val / 256, by omega⟩ = ⟨(512 * (t.val / 8) + y.val) / 256, by have := lt_32 t; omega⟩ := Fin.ext (by
    show 2 * (t.val / 8) + y.val / 256 = (512 * (t.val / 8) + y.val) / 256; omega)
  have e2 : (512 * (t.val / 8) + y.val) % 256 = y.val % 256 := by omega
  unfold dkvOut
  by_cases hd : y.val % 256 < 128
  · rw [dif_pos (show (512 * (t.val / 8) + y.val) % 256 < 128 by rw [e2]; exact hd)]
    refine (dif_pos hd).trans ((dk_real t H _ _ _).trans ?_)
    rw [← e1]
    exact congrArg (fun d => ((Grad.dk x _ _ d : ℝ) : EReal)) (Fin.ext e2.symm)
  · rw [dif_neg (show ¬ (512 * (t.val / 8) + y.val) % 256 < 128 by rw [e2]; exact hd)]
    refine (dif_neg hd).trans ((dv_real t H _ _ _).trans ?_)
    rw [← e1]
    exact congrArg (fun d => ((Grad.dv x _ _ d : ℝ) : EReal)) (Fin.ext (congrArg (· - 128) e2.symm))

/-- The rotary keys' gradients, one copy per head. -/
theorem final_dkr : (dats m 0 c).arrAt 8 cfg0.N = RefValue.out2 (m ((c : Thread nD τ).loc main_arg0)) (m ((c : Thread nD τ).loc main_arg1))
    (m ((c : Thread nD τ).loc main_arg3)) (m ((c : Thread nD τ).loc main_arg2)) := by
  refine (dats m 0 c).arrAt_eq_of_covers 8 _ (by decide +kernel) fun t hf y => ?_
  obtain ⟨j, y, rfl⟩ : ∃ j y', y = ix2 j y' := ⟨y 0, y 1, (ix2_eta y).symm⟩
  blk_simp
  rw [after_8, emb8, RefValue.out2_at H]
  have e1 : head t ⟨y.val / 128, by omega⟩ = ⟨(256 * (t.val / 8) + y.val) / 128, by have := lt_32 t; omega⟩ := Fin.ext (by
    show 2 * (t.val / 8) + y.val / 128 = (256 * (t.val / 8) + y.val) / 128; omega)
  refine (dk_real t H _ _ _).trans ?_
  rw [← e1]
  refine congrArg (fun d => ((Grad.dk x _ _ d : ℝ) : EReal)) (Fin.ext ?_)
  show 128 + y.val % 128 = 128 + (256 * (t.val / 8) + y.val) % 128
  omega

end Cert.KernelIdeal.Final
-- ==== Proof.Pre.lean ====
/- The precondition: every entry of the four arguments is a real number. -/
module

public import proofs.«01_k».proof.Defs
public import proofs.«01_k».proof.Proof.RefReal
public import Idealize.ShloMosaic.Lib.ReduceAll

@[expose] public section

noncomputable section

namespace Cert.Pre_finite.Gen

open Idealize.ShloMosaic

theorem bcast_S_S4096x2048 : S_.BroadcastsInDim S4096x2048 (![] : Fin 0 → Fin S4096x2048.rank) := by decide
theorem reducesTo_S4096x2048_S_d0_1 : S4096x2048.ReducesTo [0, 1] S_ := by decide
theorem h_S_ : 0 < S_.numel := by decide
theorem bcast_S_S4096x128 : S_.BroadcastsInDim S4096x128 (![] : Fin 0 → Fin S4096x128.rank) := by decide
theorem reducesTo_S4096x128_S_d0_1 : S4096x128.ReducesTo [0, 1] S_ := by decide

/-- The side conditions of the precondition's operations. -/
theorem facts : Facts where
  bitsLt_bf16_f32 := by decide
  bcast_S_S4096x2048 := bcast_S_S4096x2048
  reducesTo_S4096x2048_S_d0_1 := reducesTo_S4096x2048_S_d0_1
  h_S_ := h_S_
  bcast_S_S4096x128 := bcast_S_S4096x128
  reducesTo_S4096x128_S_d0_1 := reducesTo_S4096x128_S_d0_1

attribute [instance] facts

instance : Subsingleton S_.Idx := ⟨fun a b => funext fun i => i.elim0⟩

/-- An extended real whose absolute value is less than `⊤` is a real number. -/
theorem real_of_abs_lt {x : EReal} (h : BitVec.ofBool (decide (max x (-x) < Ideal.ofBits .f32 0x7F800000#32)) = 1#1) :
    x = ((x.toReal : ℝ) : EReal) := by
  rw [show Ideal.ofBits .f32 0x7F800000#32 = ⊤ from Cert.Exact.lit_top] at h
  have hlt : max x (-x) < ⊤ := by
    by_contra hn
    rw [decide_eq_false hn] at h
    exact absurd h (by decide)
  refine (EReal.coe_toReal ?_ ?_).symm
  · rintro rfl
    exact absurd hlt (by simp)
  · rintro rfl
    exact absurd hlt (by simp)

theorem all_real {s : Shape} (a : FVec Ideal s .bf16) (hb : S_.BroadcastsInDim s (![] : Fin 0 → Fin s.rank)) {axes : List (Fin s.rank)}
    (hr : s.ReducesTo axes S_) (hl : FTy.bits .bf16 < FTy.bits .f32) (j : S_.Idx)
    (e : Host.reduce IntOp.andi (cmpf .olt (Host.absf (extf .f32 a hl)) (broadcastInDim s ![] hb (constant S_ .f32 0x7F800000#32)))
      (constantI S_ 1 1#1) hr h_S_ j = 1#1) (i : s.Idx) : a i = (((a i).toReal : ℝ) : EReal) :=
  real_of_abs_lt (Host.reduce_andi_all _ _ _ _ _ e i)

/-- Under the precondition the arguments hold real numbers. -/
theorem reads {a0 a1 a3 : FVec Ideal S4096x2048 .bf16} {a2 : FVec Ideal S4096x128 .bf16} (e : fn (F := Ideal) a0 a1 a2 a3 = fun _ => 1#1) :
    ∃ x : Cert.Grad.Inp, Cert.RefValue.Reads x a0 a1 a2 a3 := by
  have e' := congrFun e (fun i => i.elim0)
  unfold fn fn_part1 at e'
  obtain ⟨e012, e3⟩ := IntOp.andi_eq_one.1 e'
  obtain ⟨e01, e2⟩ := IntOp.andi_eq_one.1 e012
  obtain ⟨e0, e1⟩ := IntOp.andi_eq_one.1 e01
  exact ⟨⟨fun r c => (a0 (ix2 r c)).toReal, fun r c => (a1 (ix2 r c)).toReal, fun r c => (a2 (ix2 r c)).toReal, fun r c => (a3 (ix2 r c)).toReal⟩,
    fun r c => all_real a0 _ _ _ _ e0 _, fun r c => all_real a1 _ _ _ _ e1 _, fun r c => all_real a2 _ _ _ _ e2 _, fun r c => all_real a3 _ _ _ _ e3 _⟩

end Cert.Pre_finite.Gen

end
-- ==== Proof.Claims.lean ====
/- The claims: the three frames, what the named constants stand for, and the equality of the results on finite arguments. -/
module

public import proofs.«01_k».proof.Defs
public import proofs.«01_k».proof.Proof.Gen.Kernel
public import proofs.«01_k».proof.Proof.KernelFrame
public import proofs.«01_k».proof.Proof.Gen.ReferenceIdeal.Run
public import proofs.«01_k».proof.Proof.Final
public import proofs.«01_k».proof.Proof.Pre
public import Idealize.ShloMosaic.Lib.Quiescent

@[expose] public section

noncomputable section

open Idealize.ShloMosaic Idealize.SL.Sem

namespace Cert.Proof.Claims

theorem frame_p : Cert.quiescent_Kernel := fun m ρ _ => Cert.Kernel.Run.frame m ρ
theorem frame_pi : Cert.quiescent_KernelIdeal := fun m ρ _ => Cert.KernelIdeal.Run.frame m ρ
theorem frame_pi_finite : Cert.quiescent_KernelIdeal_pre_finite := fun m ρ _ => Cert.KernelIdeal.Run.frame m ρ
theorem frame_ri : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)
theorem frame_ri_finite : Cert.quiescent_ReferenceIdeal_pre_finite := fun m ρ _ => frame_ri m ρ trivial

theorem preserves : Cert.preserves_Kernel_KernelIdeal :=
  ⟨IdealRules.named_const.statement Cert.KernelIdeal.κ "scale_log2e" .f32 0x3DD53B95#32 (((Real.sqrt 192)⁻¹ * (Real.log 2)⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "scale" .f32 0x3D93CD3A#32 (((Real.sqrt 192)⁻¹ : ℝ) : EReal) rfl⟩

/-- The kernel's results, under the precondition, are the reference's functions of the arguments. -/
theorem kernel_run (m : (ℓ : Loc Cert.KernelIdeal.nD Cert.KernelIdeal.τ Cert.KernelIdeal.sig) → Buf (Elt Ideal) ℓ) (ρ : Dev Cert.KernelIdeal.nD → PrngReg)
    (hm : Cert.Pre_KernelIdeal_finite m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v42_0)
        = RefValue.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_v42_1)
        = RefValue.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_v42_2)
        = RefValue.out2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg2))) :=
  (θ_run Cert.KernelIdeal.defs _ _).mono (fun r h c => by
    obtain ⟨x, H⟩ := Cert.Pre_finite.Gen.reads (hm c)
    exact ⟨(h.out_eq c 6).trans (Cert.KernelIdeal.Final.final_dq H), (h.out_eq c 7).trans (Cert.KernelIdeal.Final.final_dkv H),
      (h.out_eq c 8).trans (Cert.KernelIdeal.Final.final_dkr H)⟩) (Cert.KernelIdeal.Run.run_main m ρ)

theorem algebraic : Cert.algebraic_KernelIdeal_ReferenceIdeal_pre_finite := by
  intro m ρ m' ρ' hm hagree
  refine ⟨_, _, _, (θ_run Cert.KernelIdeal.defs _ _).mono (fun r h c => ⟨(h.1 c).1, (h.1 c).2.1, (h.1 c).2.2, h.2.1 c⟩)
    (Idealize.ShloMosaic.θ_run_and (kernel_run m ρ hm) (Cert.KernelIdeal.Run.frame m ρ)), ?_⟩
  refine (θ_run Cert.ReferenceIdeal.defs _ _).mono (fun r h c => ?_) (Cert.ReferenceIdeal.Value.run (F := Ideal) m' ρ')
  obtain ⟨h0, h1, h2, ha⟩ := h c
  obtain ⟨g0, g1, g2, g3⟩ := hagree c
  refine ⟨h0.trans ?_, h1.trans ?_, h2.trans ?_, ha⟩
  · exact (RefValue.res0_eq m' c).trans (by rw [g0, g1, g2, g3])
  · exact (RefValue.res1_eq m' c).trans (by rw [g0, g1, g2, g3])
  · exact (RefValue.res2_eq m' c).trans (by rw [g0, g1, g2, g3])

end Cert.Proof.Claims

end
-- ==== Proof.Chunks.lean ====
/- The sum an accumulator holds: it is set at the first of every `K` grid points and added to at the others, and each point
   adds its own stretch of `T` terms. At the last of the `K` points it holds the sum of all the terms. -/
module

public import Idealize.ShloMosaic.Lib.Pointwise

@[expose] public section

noncomputable section

open Idealize.ShloMosaic

namespace Cert.Chunks

variable {M : Type} [AddCommMonoid M] {N : ℕ} (K T : ℕ) (S g : (n : ℕ) → n < N → M) (f : ℕ → ℕ → M)

/-- What the accumulator holds after point `n`: the stretches from the run's first one to `n`'s. -/
theorem acc_eq (h0 : ∀ n h, n % K = 0 → S n h = g n h) (hs : ∀ n h, n % K ≠ 0 → S n h = S (n - 1) (Nat.lt_of_le_of_lt (Nat.sub_le _ _) h) + g n h)
    (hg : ∀ n h, g n h = ∑ x : Fin T, f (n / K) (n % K * T + x.val)) :
    ∀ (n : ℕ) (h : n < N), S n h = ∑ s ∈ Finset.range (n % K + 1), ∑ x : Fin T, f (n / K) (s * T + x.val) := by
  intro n
  induction n with
  | zero =>
    intro h
    rw [h0 0 h (Nat.zero_mod K), hg]
    simp
  | succ n ih =>
    intro h
    by_cases hK : (n + 1) % K = 0
    · rw [h0 _ h hK, hg, hK, Finset.sum_range_one]
    · have hd : ¬ K ∣ n + 1 := fun d => hK (Nat.mod_eq_zero_of_dvd d)
      have e1 : (n + 1) / K = n / K := Nat.succ_div_of_not_dvd hd
      have e2 : (n + 1) % K = n % K + 1 := by
        have a := Nat.div_add_mod n K
        have b := Nat.div_add_mod (n + 1) K
        rw [e1] at b
        omega
      rw [hs _ h hK, hg, e1, e2, Finset.sum_range_succ]
      exact congrArg (· + _) (ih _)

/-- At the last point of a run it is the sum of all the terms. -/
theorem acc_last (h0 : ∀ n h, n % K = 0 → S n h = g n h) (hs : ∀ n h, n % K ≠ 0 → S n h = S (n - 1) (Nat.lt_of_le_of_lt (Nat.sub_le _ _) h) + g n h)
    (hg : ∀ n h, g n h = ∑ x : Fin T, f (n / K) (n % K * T + x.val))
    {L : ℕ} (hL : K * T = L) (n : ℕ) (h : n < N) (hn : n % K + 1 = K) : S n h = ∑ k : Fin L, f (n / K) k.val := by
  rw [acc_eq K T S g f h0 hs hg n h, hn, Finset.sum_range, Fin.sum_univ_tiles K T hL]

end Cert.Chunks

end
-- ==== Proof.Dh.lean ====
/- The product `d · wᵀ` of the backward pass, on exact numbers: four grid points in a row add up the four stretches of 1664
   terms of one block of 2048 x 1024 entries, so every entry is the reference's sum over all 6656 terms. -/
module

public import proofs.«01_k».proof.Proof.Chunks
public import proofs.«01_k».proof.Proof.Gen.KernelDhIdeal.Value
public import proofs.«01_k».proof.Proof.Gen.ReferenceDhIdeal.Run
public import Idealize.ShloMosaic.Lib.Pipeline.ValueKit.Geometry

@[expose] public section

set_option maxRecDepth 16384

noncomputable section

namespace Cert.KernelDhIdeal.Product

open Cert.KernelDhIdeal Cert.KernelDhIdeal.Gen Cert.KernelDhIdeal.Value
open Idealize.ShloMosaic Idealize.ShloMosaic.TcCoe Idealize.SL.Sem

section
variable {F : FTy → Type} [FloatOps F]
variable (c : Dev nD) (i : grid0.Coords) (arg3 : Memref sig .tc .vmem S2048x1664 .bf16) (harg3 : arg3.IsWhole)
  (arg4 : Memref sig .tc .vmem S1024x1664 .bf16) (harg4 : arg4.IsWhole) (arg5 : Memref sig .tc .vmem S2048x1024 .f32) (harg5 : arg5.IsWhole)
  (arg6 : Memref sig .tc .vmem S2048x1024 .f32) (harg6 : arg6.IsWhole)
  (x0 : Vec F S2048x1664 .bf16) (x1 : Vec F S1024x1664 .bf16) (xs0 : Vec F S2048x1024 .f32)

theorem zz : (![0, 0] : Fin 2 → Nat) = fun _ => 0 := funext fun a => by fin_cases a <;> rfl

/-- The first point of a run starts the accumulator from zero. -/
theorem first_eq (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S2048x1024) zz, View.readCov_unit_zero (S := S2048x1024) _ zz]
  simp only [View.readAt_eq_ld, harg3.read_unread, harg4.read_unread, View.ld_unit_zero (S := S2048x1664) zz, View.ld_unit_zero (S := S1024x1664) zz]

theorem middle_eq (hc0 : ¬cond0_0 i) (hc1 : ¬cond0_1 i) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero zz]
  simp only [View.readAt_eq_ld, harg3.read_unread, harg4.read_unread, harg6.read_unread, View.ld_unit_zero (S := S2048x1664) zz,
    View.ld_unit_zero (S := S1024x1664) zz, View.ld_unit_zero (S := S2048x1024) zz]

theorem last_eq (hc0 : ¬cond0_0 i) (hc1 : cond0_1 i) :
    sout0_C_0 c i arg3 harg3 arg4 harg4 arg5 harg5 arg6 harg6 hc0 hc1 x0 x1 xs0 = k0_pay2 xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero zz]
  simp only [View.readAt_eq_ld, harg3.read_unread, harg4.read_unread, harg6.read_unread, View.ld_unit_zero (S := S2048x1664) zz,
    View.ld_unit_zero (S := S1024x1664) zz, View.ld_unit_zero (S := S2048x1024) zz]

/-- The last point of a run stores the accumulator. -/
theorem stored_eq (hc0 : ¬cond0_0 i) (hc1 : cond0_1 i) :
    out0_C_2 c i arg3 harg3 arg4 harg4 arg5 harg5 arg6 harg6 hc0 hc1 x0 x1 xs0 = k0_pay2 xs0 x0 x1 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero zz, View.readCov_unit_zero (S := S2048x1024) _ zz]
  simp only [View.readAt_eq_ld, harg3.read_unread, harg4.read_unread, harg6.read_unread, View.ld_unit_zero (S := S2048x1664) zz,
    View.ld_unit_zero (S := S1024x1664) zz, View.ld_unit_zero (S := S2048x1024) zz]
end

/-- One point's product at an entry. -/
def stretch (x0 : FVec Ideal S2048x1664 .bf16) (x1 : FVec Ideal S1024x1664 .bf16) (r : Fin 2048) (l : Fin 1024) : EReal :=
  ∑ x : Fin 1664, x0 (ix2 r x) * x1 (ix2 l x)

theorem step_at (s : FVec Ideal S2048x1024 .f32) (x0 : FVec Ideal S2048x1664 .bf16) (x1 : FVec Ideal S1024x1664 .bf16) (r : Fin 2048) (l : Fin 1024) :
    k0_pay2 (F := Ideal) s x0 x1 (ix2 r l) = s (ix2 r l) + stretch x0 x1 r l := by
  unfold stretch
  pointwise [k0_pay2]

theorem zero_at (y : S2048x1024.Idx) : k0_pay1 (F := Ideal) y = 0 := by
  show Ideal.ofBits .f32 0x00000000#32 = 0
  simp [Ideal.ofBits, Ideal.ieee]

variable (m : (ℓ : Loc nD τ sig) → Buf (Elt Ideal) ℓ) (c : Dev nD)

theorem idx0 : ∀ t : Fin cfg0.N, win0_0.index t = ![t.val / 4 / 2, t.val % 4] := (by decide +kernel : ∀ t : Fin grid0.N, _)
theorem idx1 : ∀ t : Fin cfg0.N, win0_1.index t = ![t.val / 4 % 2, t.val % 4] := (by decide +kernel : ∀ t : Fin grid0.N, _)

theorem lt_16 (t : Fin cfg0.N) : t.val < 16 := Nat.lt_of_lt_of_eq t.isLt N_0

/-- Term `k` of entry `(r, l)` of block `q` of the result. -/
def term (w : FVec Ideal S2048x6656 .bf16) (d : FVec Ideal S4096x6656 .bf16) (r : Fin 2048) (l : Fin 1024) (q k : ℕ) : EReal :=
  d (ix2 ⟨(2048 * (q / 2) + r.val) % 4096, Nat.mod_lt _ (by decide)⟩ ⟨k % 6656, Nat.mod_lt _ (by decide)⟩)
    * w (ix2 ⟨(1024 * (q % 2) + l.val) % 2048, Nat.mod_lt _ (by decide)⟩ ⟨k % 6656, Nat.mod_lt _ (by decide)⟩)

/-- Entry `(i, j)` of `d · wᵀ`. -/
def entry (w : FVec Ideal S2048x6656 .bf16) (d : FVec Ideal S4096x6656 .bf16) (i : Fin 4096) (j : Fin 2048) : EReal :=
  ∑ k : Fin 6656, d (ix2 i k) * w (ix2 j k)

theorem blk0 (t : Fin cfg0.N) (r : Fin 2048) (x : Fin 1664) : iblk m c 0 t (ix2 r x)
    = m ((c : Thread nD τ).loc main_arg1) (ix2 ⟨(2048 * (t.val / 4 / 2) + r.val) % 4096, Nat.mod_lt _ (by decide)⟩ ⟨(t.val % 4 * 1664 + x.val) % 6656, Nat.mod_lt _ (by decide)⟩) := by
  have ht := lt_16 t
  rw [← V_main_arg1 m c]
  blk_simp [iblk]
  exact congrArg _ (by blk_ext [idx0])

theorem blk1 (t : Fin cfg0.N) (l : Fin 1024) (x : Fin 1664) : iblk m c 1 t (ix2 l x)
    = m ((c : Thread nD τ).loc main_arg0) (ix2 ⟨(1024 * (t.val / 4 % 2) + l.val) % 2048, Nat.mod_lt _ (by decide)⟩ ⟨(t.val % 4 * 1664 + x.val) % 6656, Nat.mod_lt _ (by decide)⟩) := by
  have ht := lt_16 t
  rw [← V_main_arg0 m c]
  blk_simp [iblk]
  exact congrArg _ (by blk_ext [idx1])

theorem acc_first (n : ℕ) (h : n < cfg0.N) (h0 : n % 4 = 0) :
    (outsAt0 m c n h).2 = k0_pay2 k0_pay1 (iblk m c 0 ⟨n, h⟩) (iblk m c 1 ⟨n, h⟩) := by
  rw [outsAt0_A m c ⟨n, h⟩ h0 (by dsimp only; omega), first_eq]

theorem acc_next (n : ℕ) (h : n < cfg0.N) (h0 : n % 4 ≠ 0) :
    (outsAt0 m c n h).2 = k0_pay2 (outsAt0 m c (n - 1) (Nat.lt_of_le_of_lt (Nat.sub_le _ _) h)).2 (iblk m c 0 ⟨n, h⟩) (iblk m c 1 ⟨n, h⟩) := by
  by_cases h1 : n % 4 = 3
  · rw [outsAt0_C m c ⟨n, h⟩ h0 h1, last_eq]
  · rw [outsAt0_B m c ⟨n, h⟩ h0 h1, middle_eq]

/-- The accumulator at the last point of a run. -/
theorem acc_at (r : Fin 2048) (l : Fin 1024) (n : ℕ) (h : n < cfg0.N) (hn : n % 4 = 3) :
    (outsAt0 m c n h).2 (ix2 r l) = ∑ k : Fin 6656, term (m ((c : Thread nD τ).loc main_arg0)) (m ((c : Thread nD τ).loc main_arg1)) r l (n / 4) k.val := by
  refine Chunks.acc_last 4 1664 (fun n h => (outsAt0 m c n h).2 (ix2 r l))
    (fun n h => stretch (iblk m c 0 ⟨n, h⟩) (iblk m c 1 ⟨n, h⟩) r l) (term (m ((c : Thread nD τ).loc main_arg0)) (m ((c : Thread nD τ).loc main_arg1)) r l) ?_ ?_ ?_ rfl n h (by omega)
  · intro n h h0
    rw [acc_first m c n h h0, step_at, zero_at, zero_add]
  · intro n h h0
    rw [acc_next m c n h h0, step_at]
  · intro n h
    exact Finset.sum_congr rfl fun x _ => by rw [blk0, blk1]; rfl

/-- At that point the block stored is the accumulator. -/
theorem stored_at (n : ℕ) (h : n < cfg0.N) (hn : n % 4 = 3) : (outsAt0 m c n h).1 = (outsAt0 m c n h).2 := by
  rw [outsAt0_C m c ⟨n, h⟩ (by dsimp only; omega) hn, last_eq, stored_eq]

/-- The terms of an entry, from its block and its place in the block. -/
theorem entry_of (w : FVec Ideal S2048x6656 .bf16) (d : FVec Ideal S4096x6656 .bf16) (i : Fin 4096) (j : Fin 2048) (q : ℕ)
    (hq : q = 2 * (i.val / 2048) + j.val / 1024) :
    ∑ k : Fin 6656, term w d ⟨i.val % 2048, Nat.mod_lt _ (by decide)⟩ ⟨j.val % 1024, Nat.mod_lt _ (by decide)⟩ q k.val = entry w d i j := by
  unfold entry term
  refine Finset.sum_congr rfl fun k _ => ?_
  congr 2 <;> congr 1 <;> refine Fin.ext ?_ <;> dsimp only <;> omega

/-- Every entry of the kernel's result. -/
theorem result_at (i : Fin 4096) (j : Fin 2048) : G2 m c (ix2 i j)
    = entry (m ((c : Thread nD τ).loc main_arg0)) (m ((c : Thread nD τ).loc main_arg1)) i j := by
  have hp : pt2Of (ix2 i j) = 4 * (2 * (i.val / 2048) + j.val / 1024) + 3 := by
    show 4 * (2 * (i.val / 2048 - 0) + 1 * (j.val / 1024 - 0)) + 3 = _
    omega
  have hN : pt2Of (ix2 i j) < cfg0.N := by rw [hp, show cfg0.N = 16 from N_0]; omega
  have hl : loc2Of (ix2 i j) = ix2 ⟨i.val % 2048, Nat.mod_lt _ (by decide)⟩ ⟨j.val % 1024, Nat.mod_lt _ (by decide)⟩ := by
    funext a; fin_cases a <;> rfl
  unfold G2
  rw [dif_pos hN, ← outsAt0_sweep m c _ hN, stored_at m c _ hN (by omega), hl, acc_at m c _ _ _ hN (by omega)]
  exact entry_of _ _ i j _ (by omega)

/-- The reference's result, as a function of the arguments. -/
def ref (w : FVec Ideal S2048x6656 .bf16) (d : FVec Ideal S4096x6656 .bf16) : FVec Ideal S4096x2048 .f32 :=
  Host.dotGeneral ReferenceDhIdeal.dot_S4096x6656_S2048x6656_S4096x2048_1_1_0_0_n_n none (extf .f32 d ReferenceDhIdeal.Gen.bitsLt_bf16_f32)
    (extf .f32 w ReferenceDhIdeal.Gen.bitsLt_bf16_f32)

theorem ref_at (w : FVec Ideal S2048x6656 .bf16) (d : FVec Ideal S4096x6656 .bf16) (i : Fin 4096) (j : Fin 2048) : ref w d (ix2 i j) = entry w d i j := by
  unfold entry
  pointwise [ref]

/-- The kernel leaves the reference's array. -/
theorem result_eq : G2 m c = ref (m ((c : Thread nD τ).loc main_arg0)) (m ((c : Thread nD τ).loc main_arg1)) := by
  funext y
  obtain ⟨i, j, rfl⟩ : ∃ i j, y = ix2 i j := ⟨y 0, y 1, (ix2_eta y).symm⟩
  exact (result_at m c i j).trans (ref_at _ _ i j).symm

end Cert.KernelDhIdeal.Product

end
-- ==== Proof.ClaimsDh.lean ====
/- The claims for the product `d · wᵀ`: the frames, and the equality of the results, which needs no precondition. -/
module

public import proofs.«01_k».proof.Defs
public import proofs.«01_k».proof.Proof.Gen.KernelDh.Frame
public import proofs.«01_k».proof.Proof.Dh
public import Idealize.ShloMosaic.Lib.Quiescent

@[expose] public section

noncomputable section

open Idealize.ShloMosaic Idealize.SL.Sem

namespace Cert.Proof.ClaimsDh

theorem frame_p : Cert.quiescent_KernelDh := fun m ρ _ => Cert.KernelDh.Gen.frame m ρ
theorem frame_pi : Cert.quiescent_KernelDhIdeal := fun m ρ _ => Cert.KernelDhIdeal.Gen.frame m ρ
theorem frame_ri : Cert.quiescent_ReferenceDhIdeal := fun m ρ _ =>
  (θ_run Cert.ReferenceDhIdeal.defs _ _).mono (fun r h => ⟨fun c => (h c).2, Idealize.ShloMosaic.sem_eq_zero_of_no_sems (by decide) r.2⟩)
    (Cert.ReferenceDhIdeal.Value.run (F := Ideal) m ρ)

theorem preserves : Cert.preserves_KernelDh_KernelDhIdeal := trivial

theorem algebraic : Cert.algebraic_KernelDhIdeal_ReferenceDhIdeal := by
  intro m ρ m' ρ' _ hagree
  refine ⟨_, Cert.KernelDhIdeal.Value.run (F := Ideal) m ρ, ?_⟩
  refine (θ_run Cert.ReferenceDhIdeal.defs _ _).mono (fun r h c => ⟨(h c).1.trans ?_, (h c).2⟩) (Cert.ReferenceDhIdeal.Value.run (F := Ideal) m' ρ')
  obtain ⟨g0, g1⟩ := hagree c
  rw [g0, g1]
  exact (Cert.KernelDhIdeal.Product.result_eq m c).symm

end Cert.Proof.ClaimsDh

end
-- ==== Proof.Dw.lean ====
/- The gradient `hᵀ · d` of the wide part of the input projection, on exact numbers: two grid points in a row add up the two
   stretches of 2048 terms of one block of 2048 x 512 entries, so every entry is the reference's sum over all 4096 terms. -/
module

public import proofs.«01_k».proof.Proof.Chunks
public import proofs.«01_k».proof.Proof.Gen.KernelDwIdeal.Value
public import proofs.«01_k».proof.Proof.Gen.ReferenceDwIdeal.Run
public import Idealize.ShloMosaic.Lib.Pipeline.ValueKit.Geometry

@[expose] public section

set_option maxRecDepth 16384

noncomputable section

namespace Cert.KernelDwIdeal.Product

open Cert.KernelDwIdeal Cert.KernelDwIdeal.Gen Cert.KernelDwIdeal.Value
open Idealize.ShloMosaic Idealize.ShloMosaic.TcCoe Idealize.SL.Sem

section
variable {F : FTy → Type} [FloatOps F]
variable (c : Dev nD) (i : grid0.Coords) (arg3 : Memref sig .tc .vmem S2048x2048 .bf16) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S2048x512 .f32) (harg6 : arg6.IsWhole)
  (x0 : Vec F S2048x2048 .bf16) (x1 : Vec F S2048x512 .bf16) (xs0 : Vec F S2048x512 .f32)

theorem zz : (![0, 0] : Fin 2 → Nat) = fun _ => 0 := funext fun a => by fin_cases a <;> rfl

/-- The first point of a run starts the accumulator from zero. -/
theorem first_eq (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S2048x512) zz, View.readCov_unit_zero (S := S2048x512) _ zz]
  simp only [View.readAt_eq_ld, harg3.read_unread, harg4.read_unread, View.ld_unit_zero (S := S2048x2048) zz, View.ld_unit_zero (S := S2048x512) zz]

theorem last_eq (hc0 : ¬cond0_0 i) (hc1 : cond0_1 i) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero zz]
  simp only [View.readAt_eq_ld, harg3.read_unread, harg4.read_unread, harg6.read_unread, View.ld_unit_zero (S := S2048x2048) zz,
    View.ld_unit_zero (S := S2048x512) zz]

/-- The last point of a run stores the accumulator, rounded. -/
theorem stored_eq (hc0 : ¬cond0_0 i) (hc1 : cond0_1 i) :
    out0_B_2 c i arg3 harg3 arg4 harg4 arg5 harg5 arg6 harg6 hc0 hc1 x0 x1 xs0 = k0_pay3 (k0_pay2 xs0 x0 x1) := by
  unfold out0_B_2
  rw [View.read_writes_eq_canon _ _ _ (cover0_B_2 c i arg3 harg3 arg4 harg4 arg5 harg5 arg6 harg6 hc0 hc1 x0 x1 xs0)]
  unfold kernelRun0_B
  dsimp only
  sl_unfold_words
  rw [View.canon_unit_zero zz, View.readCov_unit_zero (S := S2048x512) _ zz]
  simp only [View.readAt_eq_ld, harg3.read_unread, harg4.read_unread, harg6.read_unread, View.ld_unit_zero (S := S2048x2048) zz,
    View.ld_unit_zero (S := S2048x512) zz]
end

/-- One point's product at an entry. -/
def stretch (x0 : FVec Ideal S2048x2048 .bf16) (x1 : FVec Ideal S2048x512 .bf16) (r : Fin 2048) (l : Fin 512) : EReal :=
  ∑ x : Fin 2048, x0 (ix2 r x) * x1 (ix2 x l)

theorem step_at (s : FVec Ideal S2048x512 .f32) (x0 : FVec Ideal S2048x2048 .bf16) (x1 : FVec Ideal S2048x512 .bf16) (r : Fin 2048) (l : Fin 512) :
    k0_pay2 (F := Ideal) s x0 x1 (ix2 r l) = s (ix2 r l) + stretch x0 x1 r l := by
  unfold stretch
  pointwise [k0_pay2]

theorem zero_at (y : S2048x512.Idx) : k0_pay1 (F := Ideal) y = 0 := by
  show Ideal.ofBits .f32 0x00000000#32 = 0
  simp [Ideal.ofBits, Ideal.ieee]

variable (m : (ℓ : Loc nD τ sig) → Buf (Elt Ideal) ℓ) (c : Dev nD)

theorem idx0 : ∀ t : Fin cfg0.N, win0_0.index t = ![0, t.val % 2] := (by decide +kernel : ∀ t : Fin grid0.N, _)
theorem idx1 : ∀ t : Fin cfg0.N, win0_1.index t = ![t.val % 2, 3 + t.val / 2] := (by decide +kernel : ∀ t : Fin grid0.N, _)

theorem lt_20 (t : Fin cfg0.N) : t.val < 20 := Nat.lt_of_lt_of_eq t.isLt N_0

/-- Term `k` of entry `(r, l)` of block `q` of the result: the block's columns of `d` start at column `1536 + 512 q`. -/
def term (h : FVec Ideal S2048x4096 .bf16) (d : FVec Ideal S4096x6656 .bf16) (r : Fin 2048) (l : Fin 512) (q k : ℕ) : EReal :=
  h (ix2 r ⟨k % 4096, Nat.mod_lt _ (by decide)⟩)
    * d (ix2 ⟨k % 4096, Nat.mod_lt _ (by decide)⟩ ⟨(512 * (3 + q) + l.val) % 6656, Nat.mod_lt _ (by decide)⟩)

/-- Entry `(i, j)` of the product of `hᵀ` with the columns of `d` from 1536 on. -/
def entry (h : FVec Ideal S2048x4096 .bf16) (d : FVec Ideal S4096x6656 .bf16) (i : Fin 2048) (j : Fin 5120) : EReal :=
  ∑ k : Fin 4096, h (ix2 i k) * d (ix2 k ⟨1536 + j.val, by omega⟩)

theorem blk0 (t : Fin cfg0.N) (r : Fin 2048) (x : Fin 2048) : iblk m c 0 t (ix2 r x)
    = m ((c : Thread nD τ).loc main_arg0) (ix2 r ⟨(t.val % 2 * 2048 + x.val) % 4096, Nat.mod_lt _ (by decide)⟩) := by
  have ht := lt_20 t
  rw [← V_main_arg0 m c]
  blk_simp [iblk]
  exact congrArg _ (by blk_ext [idx0])

theorem blk1 (t : Fin cfg0.N) (x : Fin 2048) (l : Fin 512) : iblk m c 1 t (ix2 x l)
    = m ((c : Thread nD τ).loc main_arg1) (ix2 ⟨(t.val % 2 * 2048 + x.val) % 4096, Nat.mod_lt _ (by decide)⟩ ⟨(512 * (3 + t.val / 2) + l.val) % 6656, Nat.mod_lt _ (by decide)⟩) := by
  have ht := lt_20 t
  rw [← V_main_arg1 m c]
  blk_simp [iblk]
  exact congrArg _ (by blk_ext [idx1])

theorem acc_first (n : ℕ) (h : n < cfg0.N) (h0 : n % 2 = 0) :
    (outsAt0 m c n h).2 = k0_pay2 k0_pay1 (iblk m c 0 ⟨n, h⟩) (iblk m c 1 ⟨n, h⟩) := by
  rw [outsAt0_A m c ⟨n, h⟩ h0 (by dsimp only; omega), first_eq]

theorem acc_next (n : ℕ) (h : n < cfg0.N) (h0 : n % 2 ≠ 0) :
    (outsAt0 m c n h).2 = k0_pay2 (outsAt0 m c (n - 1) (Nat.lt_of_le_of_lt (Nat.sub_le _ _) h)).2 (iblk m c 0 ⟨n, h⟩) (iblk m c 1 ⟨n, h⟩) := by
  rw [outsAt0_B m c ⟨n, h⟩ h0 (by dsimp only; omega), last_eq]

/-- The accumulator at the last point of a run. -/
theorem acc_at (r : Fin 2048) (l : Fin 512) (n : ℕ) (h : n < cfg0.N) (hn : n % 2 = 1) :
    (outsAt0 m c n h).2 (ix2 r l) = ∑ k : Fin 4096, term (m ((c : Thread nD τ).loc main_arg0)) (m ((c : Thread nD τ).loc main_arg1)) r l (n / 2) k.val := by
  refine Chunks.acc_last 2 2048 (fun n h => (outsAt0 m c n h).2 (ix2 r l))
    (fun n h => stretch (iblk m c 0 ⟨n, h⟩) (iblk m c 1 ⟨n, h⟩) r l) (term (m ((c : Thread nD τ).loc main_arg0)) (m ((c : Thread nD τ).loc main_arg1)) r l) ?_ ?_ ?_ rfl n h (by omega)
  · intro n h h0
    rw [acc_first m c n h h0, step_at, zero_at, zero_add]
  · intro n h h0
    rw [acc_next m c n h h0, step_at]
  · intro n h
    exact Finset.sum_congr rfl fun x _ => by rw [blk0, blk1]; rfl

/-- At that point the block stored is the accumulator: rounding changes no exact number. -/
theorem stored_at (n : ℕ) (h : n < cfg0.N) (hn : n % 2 = 1) (y : S2048x512.Idx) : (outsAt0 m c n h).1 y = (outsAt0 m c n h).2 y := by
  rw [outsAt0_B m c ⟨n, h⟩ (by dsimp only; omega) hn, last_eq, stored_eq]
  rfl

/-- The terms of an entry, from its block and its place in the block. -/
theorem entry_of (h : FVec Ideal S2048x4096 .bf16) (d : FVec Ideal S4096x6656 .bf16) (i : Fin 2048) (j : Fin 5120) (r : Fin 2048) (q : ℕ)
    (hr : r = i) (hq : q = j.val / 512) :
    ∑ k : Fin 4096, term h d r ⟨j.val % 512, Nat.mod_lt _ (by decide)⟩ q k.val = entry h d i j := by
  subst hr
  unfold entry term
  refine Finset.sum_congr rfl fun k _ => ?_
  congr 2 <;> congr 1 <;> refine Fin.ext ?_ <;> dsimp only <;> omega

/-- Every entry of the kernel's result. -/
theorem result_at (i : Fin 2048) (j : Fin 5120) : G2 m c (ix2 i j)
    = entry (m ((c : Thread nD τ).loc main_arg0)) (m ((c : Thread nD τ).loc main_arg1)) i j := by
  have hp : pt2Of (ix2 i j) = 2 * (j.val / 512) + 1 := by
    show 2 * (10 * (i.val / 2048 - 0) + 1 * (j.val / 512 - 0)) + 1 = _
    omega
  have hN : pt2Of (ix2 i j) < cfg0.N := by rw [hp, show cfg0.N = 20 from N_0]; omega
  have hl : loc2Of (ix2 i j) = ix2 ⟨i.val % 2048, Nat.mod_lt _ (by decide)⟩ ⟨j.val % 512, Nat.mod_lt _ (by decide)⟩ := by
    funext a; fin_cases a <;> rfl
  unfold G2
  rw [dif_pos hN, ← outsAt0_sweep m c _ hN, stored_at m c _ hN (by omega), hl, acc_at m c _ _ _ hN (by omega)]
  exact entry_of _ _ i j _ _ (Fin.ext (Nat.mod_eq_of_lt i.isLt)) (by omega)

/-- The reference's result, as a function of the arguments. -/
def ref (h : FVec Ideal S2048x4096 .bf16) (d : FVec Ideal S4096x6656 .bf16) : FVec Ideal S2048x5120 .bf16 :=
  truncf .bf16 (transpose S2048x5120 [1, 0] (Host.dotGeneral (φ₁ := .f32) (φ₂ := .f32) ReferenceDwIdeal.dot_S4096x5120_S4096x2048_S5120x2048_0_0_1_1_n_n none
      (extf .f32 (extractStridedSlice ReferenceDwIdeal.S4096x5120 ![0, 1536] d ReferenceDwIdeal.Gen.slices_S4096x6656_S4096x5120_0_1536) ReferenceDwIdeal.Gen.bitsLt_bf16_f32)
      (transpose ReferenceDwIdeal.S4096x2048 [1, 0] (extf .f32 h ReferenceDwIdeal.Gen.bitsLt_bf16_f32) ReferenceDwIdeal.Gen.transposes_S2048x4096_S4096x2048_1_0))
    ReferenceDwIdeal.Gen.transposes_S5120x2048_S2048x5120_1_0) ReferenceDwIdeal.Gen.bitsLt_bf16_f32

theorem ref_at (h : FVec Ideal S2048x4096 .bf16) (d : FVec Ideal S4096x6656 .bf16) (i : Fin 2048) (j : Fin 5120) : ref h d (ix2 i j) = entry h d i j := by
  unfold entry
  pointwise [ref]
  exact Finset.sum_congr rfl fun k _ => mul_comm _ _

/-- The kernel leaves the reference's array. -/
theorem result_eq : G2 m c = ref (m ((c : Thread nD τ).loc main_arg0)) (m ((c : Thread nD τ).loc main_arg1)) := by
  funext y
  obtain ⟨i, j, rfl⟩ : ∃ i j, y = ix2 i j := ⟨y 0, y 1, (ix2_eta y).symm⟩
  exact (result_at m c i j).trans (ref_at _ _ i j).symm

end Cert.KernelDwIdeal.Product

end
-- ==== Proof.ClaimsDw.lean ====
/- The claims for the gradient of the wide part of the input projection: the frames, and the equality of the results, which needs no precondition. -/
module

public import proofs.«01_k».proof.Defs
public import proofs.«01_k».proof.Proof.Gen.KernelDw.Frame
public import proofs.«01_k».proof.Proof.Dw
public import Idealize.ShloMosaic.Lib.Quiescent

@[expose] public section

noncomputable section

open Idealize.ShloMosaic Idealize.SL.Sem

namespace Cert.Proof.ClaimsDw

theorem frame_p : Cert.quiescent_KernelDw := fun m ρ _ => Cert.KernelDw.Gen.frame m ρ
theorem frame_pi : Cert.quiescent_KernelDwIdeal := fun m ρ _ => Cert.KernelDwIdeal.Gen.frame m ρ
theorem frame_ri : Cert.quiescent_ReferenceDwIdeal := fun m ρ _ =>
  (θ_run Cert.ReferenceDwIdeal.defs _ _).mono (fun r h => ⟨fun c => (h c).2, Idealize.ShloMosaic.sem_eq_zero_of_no_sems (by decide) r.2⟩)
    (Cert.ReferenceDwIdeal.Value.run (F := Ideal) m ρ)

theorem preserves : Cert.preserves_KernelDw_KernelDwIdeal := trivial

theorem algebraic : Cert.algebraic_KernelDwIdeal_ReferenceDwIdeal := by
  intro m ρ m' ρ' _ hagree
  refine ⟨_, Cert.KernelDwIdeal.Value.run (F := Ideal) m ρ, ?_⟩
  refine (θ_run Cert.ReferenceDwIdeal.defs _ _).mono (fun r h c => ⟨(h c).1.trans ?_, (h c).2⟩) (Cert.ReferenceDwIdeal.Value.run (F := Ideal) m' ρ')
  obtain ⟨g0, g1⟩ := hagree c
  rw [g0, g1]
  exact (Cert.KernelDwIdeal.Product.result_eq m c).symm

end Cert.Proof.ClaimsDw

end
-- ==== Proof.Dl.lean ====
/- The gradient `hᵀ · d` of the narrow part of the input projection, on exact numbers: four grid points in a row add up the four
   stretches of 1024 terms of one block of 1024 x 1536 entries, so every entry is the reference's sum over all 4096 terms. -/
module

public import proofs.«01_k».proof.Proof.Chunks
public import proofs.«01_k».proof.Proof.Gen.KernelDlIdeal.Value
public import proofs.«01_k».proof.Proof.Gen.ReferenceDlIdeal.Run
public import Idealize.ShloMosaic.Lib.Pipeline.ValueKit.Geometry

@[expose] public section

set_option maxRecDepth 16384

noncomputable section

namespace Cert.KernelDlIdeal.Product

open Cert.KernelDlIdeal Cert.KernelDlIdeal.Gen Cert.KernelDlIdeal.Value
open Idealize.ShloMosaic Idealize.ShloMosaic.TcCoe Idealize.SL.Sem

section
variable {F : FTy → Type} [FloatOps F]
variable (c : Dev nD) (i : grid0.Coords) (arg3 : Memref sig .tc .vmem S1024x1024 .bf16) (harg3 : arg3.IsWhole)
  (arg4 : Memref sig .tc .vmem S1024x1536 .bf16) (harg4 : arg4.IsWhole) (arg5 : Memref sig .tc .vmem S1024x1536 .bf16) (harg5 : arg5.IsWhole)
  (arg6 : Memref sig .tc .vmem S1024x1536 .f32) (harg6 : arg6.IsWhole)
  (x0 : Vec F S1024x1024 .bf16) (x1 : Vec F S1024x1536 .bf16) (xs0 : Vec F S1024x1536 .f32)

theorem zz : (![0, 0] : Fin 2 → Nat) = fun _ => 0 := funext fun a => by fin_cases a <;> rfl

/-- The first point of a run starts the accumulator from zero. -/
theorem first_eq (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1536) zz, View.readCov_unit_zero (S := S1024x1536) _ zz]
  simp only [View.readAt_eq_ld, harg3.read_unread, harg4.read_unread, View.ld_unit_zero (S := S1024x1024) zz, View.ld_unit_zero (S := S1024x1536) zz]

theorem middle_eq (hc0 : ¬cond0_0 i) (hc1 : ¬cond0_1 i) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero zz]
  simp only [View.readAt_eq_ld, harg3.read_unread, harg4.read_unread, harg6.read_unread, View.ld_unit_zero (S := S1024x1024) zz,
    View.ld_unit_zero (S := S1024x1536) zz]

theorem last_eq (hc0 : ¬cond0_0 i) (hc1 : cond0_1 i) :
    sout0_C_0 c i arg3 harg3 arg4 harg4 arg5 harg5 arg6 harg6 hc0 hc1 x0 x1 xs0 = k0_pay2 xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero zz]
  simp only [View.readAt_eq_ld, harg3.read_unread, harg4.read_unread, harg6.read_unread, View.ld_unit_zero (S := S1024x1024) zz,
    View.ld_unit_zero (S := S1024x1536) zz]

/-- The last point of a run stores the accumulator, rounded. -/
theorem stored_eq (hc0 : ¬cond0_0 i) (hc1 : cond0_1 i) :
    out0_C_2 c i arg3 harg3 arg4 harg4 arg5 harg5 arg6 harg6 hc0 hc1 x0 x1 xs0 = k0_pay3 (k0_pay2 xs0 x0 x1) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero zz, View.readCov_unit_zero (S := S1024x1536) _ zz]
  simp only [View.readAt_eq_ld, harg3.read_unread, harg4.read_unread, harg6.read_unread, View.ld_unit_zero (S := S1024x1024) zz,
    View.ld_unit_zero (S := S1024x1536) zz]
end

/-- One point's product at an entry. -/
def stretch (x0 : FVec Ideal S1024x1024 .bf16) (x1 : FVec Ideal S1024x1536 .bf16) (r : Fin 1024) (l : Fin 1536) : EReal :=
  ∑ x : Fin 1024, x0 (ix2 r x) * x1 (ix2 x l)

theorem step_at (s : FVec Ideal S1024x1536 .f32) (x0 : FVec Ideal S1024x1024 .bf16) (x1 : FVec Ideal S1024x1536 .bf16) (r : Fin 1024) (l : Fin 1536) :
    k0_pay2 (F := Ideal) s x0 x1 (ix2 r l) = s (ix2 r l) + stretch x0 x1 r l := by
  unfold stretch
  pointwise [k0_pay2]

theorem zero_at (y : S1024x1536.Idx) : k0_pay1 (F := Ideal) y = 0 := by
  show Ideal.ofBits .f32 0x00000000#32 = 0
  simp [Ideal.ofBits, Ideal.ieee]

variable (m : (ℓ : Loc nD τ sig) → Buf (Elt Ideal) ℓ) (c : Dev nD)

theorem idx0 : ∀ t : Fin cfg0.N, win0_0.index t = ![t.val / 4, t.val % 4] := (by decide +kernel : ∀ t : Fin grid0.N, _)
theorem idx1 : ∀ t : Fin cfg0.N, win0_1.index t = ![t.val % 4, 0] := (by decide +kernel : ∀ t : Fin grid0.N, _)

theorem lt_8 (t : Fin cfg0.N) : t.val < 8 := Nat.lt_of_lt_of_eq t.isLt N_0

/-- Term `k` of entry `(r, l)` of block `q` of the result. -/
def term (h : FVec Ideal S2048x4096 .bf16) (d : FVec Ideal S4096x6656 .bf16) (r : Fin 1024) (l : Fin 1536) (q k : ℕ) : EReal :=
  h (ix2 ⟨(1024 * q + r.val) % 2048, Nat.mod_lt _ (by decide)⟩ ⟨k % 4096, Nat.mod_lt _ (by decide)⟩)
    * d (ix2 ⟨k % 4096, Nat.mod_lt _ (by decide)⟩ ⟨l.val, by omega⟩)

/-- Entry `(i, j)` of the product of `hᵀ` with the first 1536 columns of `d`. -/
def entry (h : FVec Ideal S2048x4096 .bf16) (d : FVec Ideal S4096x6656 .bf16) (i : Fin 2048) (j : Fin 1536) : EReal :=
  ∑ k : Fin 4096, h (ix2 i k) * d (ix2 k ⟨j.val, by omega⟩)

theorem blk0 (t : Fin cfg0.N) (r : Fin 1024) (x : Fin 1024) : iblk m c 0 t (ix2 r x)
    = m ((c : Thread nD τ).loc main_arg0) (ix2 ⟨(1024 * (t.val / 4) + r.val) % 2048, Nat.mod_lt _ (by decide)⟩ ⟨(t.val % 4 * 1024 + x.val) % 4096, Nat.mod_lt _ (by decide)⟩) := by
  have ht := lt_8 t
  rw [← V_main_arg0 m c]
  blk_simp [iblk]
  exact congrArg _ (by blk_ext [idx0])

theorem blk1 (t : Fin cfg0.N) (x : Fin 1024) (l : Fin 1536) : X0_1 m c t (ix2 x l)
    = m ((c : Thread nD τ).loc main_arg1) (ix2 ⟨(t.val % 4 * 1024 + x.val) % 4096, Nat.mod_lt _ (by decide)⟩ ⟨l.val, by omega⟩) := by
  have ht := lt_8 t
  rw [← V_main_arg1 m c]
  unfold X0_1 Pipeline.Window.fill
  rw [dif_pos (moved0_1 t _)]
  blk_simp [iblk]
  exact congrArg _ (by blk_ext [idx1])

theorem acc_first (n : ℕ) (h : n < cfg0.N) (h0 : n % 4 = 0) :
    (outsAt0 m c n h).2 = k0_pay2 k0_pay1 (iblk m c 0 ⟨n, h⟩) (X0_1 m c ⟨n, h⟩) := by
  rw [outsAt0_A m c ⟨n, h⟩ h0 (by dsimp only; omega), first_eq]

theorem acc_next (n : ℕ) (h : n < cfg0.N) (h0 : n % 4 ≠ 0) :
    (outsAt0 m c n h).2 = k0_pay2 (outsAt0 m c (n - 1) (Nat.lt_of_le_of_lt (Nat.sub_le _ _) h)).2 (iblk m c 0 ⟨n, h⟩) (X0_1 m c ⟨n, h⟩) := by
  by_cases h1 : n % 4 = 3
  · rw [outsAt0_C m c ⟨n, h⟩ h0 h1, last_eq]
  · rw [outsAt0_B m c ⟨n, h⟩ h0 h1, middle_eq]

/-- The accumulator at the last point of a run. -/
theorem acc_at (r : Fin 1024) (l : Fin 1536) (n : ℕ) (h : n < cfg0.N) (hn : n % 4 = 3) :
    (outsAt0 m c n h).2 (ix2 r l) = ∑ k : Fin 4096, term (m ((c : Thread nD τ).loc main_arg0)) (m ((c : Thread nD τ).loc main_arg1)) r l (n / 4) k.val := by
  refine Chunks.acc_last 4 1024 (fun n h => (outsAt0 m c n h).2 (ix2 r l))
    (fun n h => stretch (iblk m c 0 ⟨n, h⟩) (X0_1 m c ⟨n, h⟩) r l) (term (m ((c : Thread nD τ).loc main_arg0)) (m ((c : Thread nD τ).loc main_arg1)) r l) ?_ ?_ ?_ rfl n h (by omega)
  · intro n h h0
    rw [acc_first m c n h h0, step_at, zero_at, zero_add]
  · intro n h h0
    rw [acc_next m c n h h0, step_at]
  · intro n h
    exact Finset.sum_congr rfl fun x _ => by rw [blk0, blk1]; rfl

/-- At that point the block stored is the accumulator: rounding changes no exact number. -/
theorem stored_at (n : ℕ) (h : n < cfg0.N) (hn : n % 4 = 3) (y : S1024x1536.Idx) : (outsAt0 m c n h).1 y = (outsAt0 m c n h).2 y := by
  rw [outsAt0_C m c ⟨n, h⟩ (by dsimp only; omega) hn, last_eq, stored_eq]
  rfl

/-- The terms of an entry, from its block and its place in the block. -/
theorem entry_of (h : FVec Ideal S2048x4096 .bf16) (d : FVec Ideal S4096x6656 .bf16) (i : Fin 2048) (j l : Fin 1536) (q : ℕ)
    (hl : l = j) (hq : q = i.val / 1024) :
    ∑ k : Fin 4096, term h d ⟨i.val % 1024, Nat.mod_lt _ (by decide)⟩ l q k.val = entry h d i j := by
  subst hl
  unfold entry term
  refine Finset.sum_congr rfl fun k _ => ?_
  congr 2 <;> congr 1 <;> refine Fin.ext ?_ <;> dsimp only <;> omega

/-- Every entry of the kernel's result. -/
theorem result_at (i : Fin 2048) (j : Fin 1536) : G2 m c (ix2 i j)
    = entry (m ((c : Thread nD τ).loc main_arg0)) (m ((c : Thread nD τ).loc main_arg1)) i j := by
  have hp : pt2Of (ix2 i j) = 4 * (i.val / 1024) + 3 := by
    show 4 * (1 * (i.val / 1024 - 0) + 1 * (j.val / 1536 - 0)) + 3 = _
    omega
  have hN : pt2Of (ix2 i j) < cfg0.N := by rw [hp, show cfg0.N = 8 from N_0]; omega
  have hl : loc2Of (ix2 i j) = ix2 ⟨i.val % 1024, Nat.mod_lt _ (by decide)⟩ ⟨j.val % 1536, Nat.mod_lt _ (by decide)⟩ := by
    funext a; fin_cases a <;> rfl
  unfold G2
  rw [dif_pos hN, ← outsAt0_sweep m c _ hN, stored_at m c _ hN (by omega), hl, acc_at m c _ _ _ hN (by omega)]
  exact entry_of _ _ i j _ _ (Fin.ext (Nat.mod_eq_of_lt j.isLt)) (by omega)

/-- The reference's result, as a function of the arguments. -/
def ref (h : FVec Ideal S2048x4096 .bf16) (d : FVec Ideal S4096x6656 .bf16) : FVec Ideal S2048x1536 .bf16 :=
  truncf .bf16 (transpose S2048x1536 [1, 0] (Host.dotGeneral (φ₁ := .f32) (φ₂ := .f32) ReferenceDlIdeal.dot_S4096x1536_S4096x2048_S1536x2048_0_0_1_1_n_n none
      (extf .f32 (extractStridedSlice ReferenceDlIdeal.S4096x1536 ![0, 0] d ReferenceDlIdeal.Gen.slices_S4096x6656_S4096x1536_0_0) ReferenceDlIdeal.Gen.bitsLt_bf16_f32)
      (transpose ReferenceDlIdeal.S4096x2048 [1, 0] (extf .f32 h ReferenceDlIdeal.Gen.bitsLt_bf16_f32) ReferenceDlIdeal.Gen.transposes_S2048x4096_S4096x2048_1_0))
    ReferenceDlIdeal.Gen.transposes_S1536x2048_S2048x1536_1_0) ReferenceDlIdeal.Gen.bitsLt_bf16_f32

theorem ref_at (h : FVec Ideal S2048x4096 .bf16) (d : FVec Ideal S4096x6656 .bf16) (i : Fin 2048) (j : Fin 1536) : ref h d (ix2 i j) = entry h d i j := by
  unfold entry
  pointwise [ref]
  exact Finset.sum_congr rfl fun k _ => mul_comm _ _

/-- The kernel leaves the reference's array. -/
theorem result_eq : G2 m c = ref (m ((c : Thread nD τ).loc main_arg0)) (m ((c : Thread nD τ).loc main_arg1)) := by
  funext y
  obtain ⟨i, j, rfl⟩ : ∃ i j, y = ix2 i j := ⟨y 0, y 1, (ix2_eta y).symm⟩
  exact (result_at m c i j).trans (ref_at _ _ i j).symm

end Cert.KernelDlIdeal.Product

end
-- ==== Proof.ClaimsDl.lean ====
/- The claims for the gradient of the narrow part of the input projection: the frames, and the equality of the results, which needs no precondition. -/
module

public import proofs.«01_k».proof.Defs
public import proofs.«01_k».proof.Proof.Gen.KernelDl.Frame
public import proofs.«01_k».proof.Proof.Dl
public import Idealize.ShloMosaic.Lib.Quiescent

@[expose] public section

noncomputable section

open Idealize.ShloMosaic Idealize.SL.Sem

namespace Cert.Proof.ClaimsDl

theorem frame_p : Cert.quiescent_KernelDl := fun m ρ _ => Cert.KernelDl.Gen.frame m ρ
theorem frame_pi : Cert.quiescent_KernelDlIdeal := fun m ρ _ => Cert.KernelDlIdeal.Gen.frame m ρ
theorem frame_ri : Cert.quiescent_ReferenceDlIdeal := fun m ρ _ =>
  (θ_run Cert.ReferenceDlIdeal.defs _ _).mono (fun r h => ⟨fun c => (h c).2, Idealize.ShloMosaic.sem_eq_zero_of_no_sems (by decide) r.2⟩)
    (Cert.ReferenceDlIdeal.Value.run (F := Ideal) m ρ)

theorem preserves : Cert.preserves_KernelDl_KernelDlIdeal := trivial

theorem algebraic : Cert.algebraic_KernelDlIdeal_ReferenceDlIdeal := by
  intro m ρ m' ρ' _ hagree
  refine ⟨_, Cert.KernelDlIdeal.Value.run (F := Ideal) m ρ, ?_⟩
  refine (θ_run Cert.ReferenceDlIdeal.defs _ _).mono (fun r h c => ⟨(h c).1.trans ?_, (h c).2⟩) (Cert.ReferenceDlIdeal.Value.run (F := Ideal) m' ρ')
  obtain ⟨g0, g1⟩ := hagree c
  rw [g0, g1]
  exact (Cert.KernelDlIdeal.Product.result_eq m c).symm

end Cert.Proof.ClaimsDl

end
-- ==== Proof.PrFrame.lean ====
/- The run of the input projection, over any arithmetic. Every grid point stores its block of the product. The points of column block 1
   also store that block's last 128 columns, unrounded, into the second result, whose buffer then keeps them until the last column
   block, where it is written back. -/
module

public import proofs.«01_k».proof.Proof.Gen.KernelPrIdeal.Frame
public import proofs.«01_k».proof.Proof.Gen.KernelPrIdeal.Skeleton
public import Idealize.ShloMosaic.Lib.Pipeline.TableIdle
public import Idealize.ShloMosaic.Lib.Pipeline.Value
public import Idealize.ShloMosaic.Lib.Claim

@[expose] public section

set_option maxRecDepth 16384

noncomputable section

namespace Cert.KernelPrIdeal.Run

open Cert.KernelPrIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resources of a run of this kernel. -/
local notation "𝕄" => MT nD τ sig Unit (Elt F) ℕ (UR sig nD τ) ℕ

/-! ## One point -/

/-- The kernel's test for the first step over the contracted axis, which has only one. -/
abbrev AtFirst (i : grid0.Coords) : Prop :=
  (Scalar.cmpi .ne (Scalar.extui (Scalar.cmpi .eq (BitVec.ofNat 32 (i 2).val) 0#32)) 0#32) = 1#1

theorem zz : (![0, 0] : Fin 2 → Nat) = fun _ => 0 := funext fun a => by fin_cases a <;> rfl

/-- The product of a point's two blocks. -/
def product (x0 : Vec F S2048x2048 .bf16) (x1 : Vec F S2048x512 .bf16) : Vec F S2048x512 .f32 := k0_pay2 k0_pay1 x0 x1

/-- The last 128 columns of a block. -/
def lastCols (s : Vec F S2048x512 .f32) : Vec F S2048x128 .f32 := fun y =>
  s ((Rect.unit (s := S2048x512) ![0, 384] S2048x128.size inb_S2048x512_S2048x128_0_384).toLoadRect.idx y)

/-- A buffer that reads `x` is owned at `x`. -/
theorem owns_of {c : Dev nD} {s : Shape} {e : EltTy} {arg : Memref sig .tc .vmem s e} {x : s.Idx → Elt F e} {f : BufTy.Contents (Elt F) arg.view.ty}
    (h : arg.view.read (Elt F) f = x) :
    (arg.view.loc (c : Thread nD τ) ↦[arg.view.set]{fullShare} f : sProp 𝕄) ⊢ owns (c : Thread nD τ) arg fullShare x := by
  unfold owns
  iintro H
  iexists _
  isplitr
  · ipureintro; exact h
  iexact H

/-- A buffer stored whole reads what was stored. -/
theorem stored {s : Shape} {e : EltTy} (arg : Memref sig .tc .vmem s e) {off : Fin s.rank → Nat} (h : off = fun _ => 0)
    (inb : ∀ a, off a + s.size a ≤ s.size a) (w : s.Idx → Elt F e) (f : BufTy.Contents (Elt F) arg.view.ty) :
    arg.view.read (Elt F) (arg.view.writes (Elt F) f [⟨Rect.unit off s.size inb, w⟩]) = w := by
  subst h
  rw [View.read_writes_eq_canon _ _ _ fun y => ⟨_, List.mem_singleton_self _, by
    show y ∈ (Rect.whole s).set; rw [Rect.set_whole]; exact Finset.mem_univ y⟩, View.canon_unit_zero rfl]

section
variable (c : Dev nD) (i : grid0.Coords) (arg3 : Memref sig .tc .vmem S2048x2048 .bf16) (harg3 : arg3.IsWhole)
  (arg4 : Memref sig .tc .vmem S2048x512 .bf16) (harg4 : arg4.IsWhole) (arg5 : Memref sig .tc .vmem S2048x512 .bf16) (harg5 : arg5.IsWhole)
  (arg6 : Memref sig .tc .vmem S2048x128 .f32) (harg6 : arg6.IsWhole) (arg7 : Memref sig .tc .vmem S2048x512 .f32) (harg7 : arg7.IsWhole)
  (hc1 : AtFirst i) (hc2 : k0_cond2 i = 1#1)
  (x0 : Vec F S2048x2048 .bf16) (x1 : Vec F S2048x512 .bf16)

set_option maxHeartbeats 1000000 in
/-- The body where it stores the second result too: what it leaves in the two results and in the accumulator. -/
def runCopy (hc3 : k0_cond3 i = 1#1) :
    Σ' (L2 : List (View.Piece (Elt F) S2048x512 .bf16)) (L3 : List (View.Piece (Elt F) S2048x128 .f32)), { LS : List (View.Piece (Elt F) S2048x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS)) -∗ K ⟨⟩))
          ⊢ wp frame (wpE (defs₀ (F := F)) Variants.none c none) E (cc0_proj_in i arg3 harg3 arg4 harg4 arg5 harg5 arg6 harg6 arg7 harg7) K } := by
  refine ⟨?_, ?_, ?_, fun E K => ?run⟩
  case run =>
    simp only [cc0_proj_in_eq_skeleton]; unfold cc0_proj_in_skel
    unfold owns
    iintro ⟨⟨%f0, %hf0, H0⟩, ⟨%f1, %hf1, H1⟩, ⟨%d2, %f2, -, H2⟩, ⟨%d3, %f3, -, H3⟩, ⟨%ds, %fs, -, HS⟩, Hk⟩
    obtain rfl := harg3.eq_unread hf0; obtain rfl := harg4.eq_unread hf1
    sl_exec (disch := first | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    iexists _; iexact HS

set_option maxHeartbeats 1000000 in
/-- The body elsewhere: it hands the second result's buffer back as it was. -/
def runPlain (hc3 : ¬k0_cond3 i = 1#1) :
    Σ' (L2 : List (View.Piece (Elt F) S2048x512 .bf16)), { LS : List (View.Piece (Elt F) S2048x512 .f32) //
      ∀ (x3 : Vec F S2048x128 .f32) (E : Set ℕ) (K : PUnit → sProp 𝕄),
        iprop(owns (c : Thread nD τ) arg3 fullShare x0 ∗ owns (c : Thread nD τ) arg4 fullShare x1 ∗ (∃ d, owns (c : Thread nD τ) arg5 fullShare d)
            ∗ owns (c : Thread nD τ) arg6 fullShare x3 ∗ (∃ d, owns (c : Thread nD τ) arg7 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ owns (c : Thread nD τ) arg6 fullShare x3
                ∗ (∃ f, arg7.view.loc (c : Thread nD τ) ↦[arg7.view.set]{fullShare} arg7.view.writes (Elt F) f LS)) -∗ K ⟨⟩))
          ⊢ wp frame (wpE (defs₀ (F := F)) Variants.none c none) E (cc0_proj_in i arg3 harg3 arg4 harg4 arg5 harg5 arg6 harg6 arg7 harg7) K } := by
  refine ⟨?_, ?_, fun x3 E K => ?run⟩
  case run =>
    simp only [cc0_proj_in_eq_skeleton]; unfold cc0_proj_in_skel
    unfold owns
    iintro ⟨⟨%f0, %hf0, H0⟩, ⟨%f1, %hf1, H1⟩, ⟨%d2, %f2, -, H2⟩, H3, ⟨%ds, %fs, -, HS⟩, Hk⟩
    obtain rfl := harg3.eq_unread hf0; obtain rfl := harg4.eq_unread hf1
    sl_exec (disch := first | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexact H3
    iexists _; iexact HS

/-- The first result's block is the product, rounded, -/
theorem runCopy_fst (hc3 : k0_cond3 i = 1#1) (f : BufTy.Contents (Elt F) arg5.view.ty) :
    arg5.view.read (Elt F) (arg5.view.writes (Elt F) f (runCopy c i arg3 harg3 arg4 harg4 arg5 harg5 arg6 harg6 arg7 harg7 hc1 hc2 x0 x1 hc3).1) = k0_pay3 (product x0 x1) := by
  unfold runCopy
  dsimp only
  sl_unfold_words
  rw [View.readCov_cons_toLoadRect, View.readCov_unit_zero (S := S2048x512) _ zz]
  simp only [View.readAt_eq_ld, harg3.read_unread, harg4.read_unread, View.ld_unit_zero (S := S2048x2048) zz, View.ld_unit_zero (S := S2048x512) zz]
  exact stored arg5 zz _ _ f

/-- and the second's is the product's last columns. -/
theorem runCopy_snd (hc3 : k0_cond3 i = 1#1) (f : BufTy.Contents (Elt F) arg6.view.ty) :
    arg6.view.read (Elt F) (arg6.view.writes (Elt F) f (runCopy c i arg3 harg3 arg4 harg4 arg5 harg5 arg6 harg6 arg7 harg7 hc1 hc2 x0 x1 hc3).2.1) = lastCols (product x0 x1) := by
  unfold runCopy
  dsimp only
  sl_unfold_words
  rw [View.readCov_unit_zero (S := S2048x512) _ zz, View.readCov_eq_canon', View.canon_cons_unit_zero (S := S2048x512) zz]
  simp only [View.readAt_eq_ld, harg3.read_unread, harg4.read_unread, View.ld_unit_zero (S := S2048x2048) zz, View.ld_unit_zero (S := S2048x512) zz]
  exact stored arg6 zz _ _ f

theorem runPlain_fst (hc3 : ¬k0_cond3 i = 1#1) (f : BufTy.Contents (Elt F) arg5.view.ty) :
    arg5.view.read (Elt F) (arg5.view.writes (Elt F) f (runPlain c i arg3 harg3 arg4 harg4 arg5 harg5 arg6 harg6 arg7 harg7 hc1 hc2 x0 x1 hc3).1) = k0_pay3 (product x0 x1) := by
  unfold runPlain
  dsimp only
  sl_unfold_words
  rw [View.readCov_cons_toLoadRect, View.readCov_unit_zero (S := S2048x512) _ zz]
  simp only [View.readAt_eq_ld, harg3.read_unread, harg4.read_unread, View.ld_unit_zero (S := S2048x2048) zz, View.ld_unit_zero (S := S2048x512) zz]
  exact stored arg5 zz _ _ f

end

/-! ## The points -/

theorem lt_26 (t : Fin cfg0.N) : t.val < 26 := Nat.lt_of_lt_of_eq t.isLt N_0

theorem first (t : Fin cfg0.N) : AtFirst (grid0.coords t) := (by decide +kernel : ∀ t : Fin grid0.N, AtFirst (grid0.coords t)) t
theorem cond2 (t : Fin cfg0.N) : k0_cond2 (grid0.coords t) = 1#1 := (by decide +kernel : ∀ t : Fin grid0.N, k0_cond2 (grid0.coords t) = 1#1) t
theorem cond3 (t : Fin cfg0.N) : k0_cond3 (grid0.coords t) = 1#1 ↔ t.val % 13 = 1 :=
  (by decide +kernel : ∀ t : Fin grid0.N, k0_cond3 (grid0.coords t) = 1#1 ↔ t.val % 13 = 1) t

/-- The first result is stored at every point, -/
theorem idle2 (t : Fin cfg0.N) : cfg0.idle 2 (grid0.coords t) = false := by
  show (!(k0_cond2 (grid0.coords t) == 1#1)) = false
  rw [cond2]; rfl
/-- the second only at the points of column block 1. -/
theorem idle3 (t : Fin cfg0.N) : cfg0.idle 3 (grid0.coords t) = !decide (t.val % 13 = 1) := by
  show (!(k0_cond3 (grid0.coords t) == 1#1)) = _
  rw [← decide_eq_decide.mpr (cond3 t)]; rfl

/-- The second result's buffer holds nothing of its rows before their column block 1 is done. -/
theorem fresh3 (n : ℕ) (h : n ≤ cfg0.N) : cfg0.fresh 3 n = decide (n % 13 < 2) :=
  cfg0.fresh_tab 3 (fun n => decide (n % 13 < 2)) rfl
    (fun t => by
      rw [show (cfg0.win 3).flush t = decide (t.val % 13 = 12) from Bool.eq_iff_iff.mpr ((flush0_3 t).trans decide_eq_true_iff.symm), idle3]
      rw [Bool.eq_iff_iff]
      simp only [decide_eq_true_eq, Bool.or_eq_true, Bool.and_eq_true, Bool.not_eq_true', decide_eq_false_iff_not]
      omega) n h

variable (m : (ℓ : Loc nD τ sig) → Buf (Elt F) ℓ) (ρ : Dev nD → PrngReg)

/-- The product of a point's blocks. -/
def prod (c : Dev nD) (t : Fin cfg0.N) : Vec F S2048x512 .f32 := product (iblk m c 0 t) (iblk m c 1 t)

/-- The point of column block 1 in the same rows. -/
def copyPoint (t : Fin cfg0.N) : Fin cfg0.N := ⟨13 * (t.val / 13) + 1, Nat.lt_of_lt_of_eq (by have := lt_26 t; omega : _ < 26) N_0.symm⟩

/-- What each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay3 (prod m c t)
    | ⟨3, _⟩ => lastCols (prod m c (copyPoint t))
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = k0_pay3 (prod m c t) := by dsimp only [dats]
theorem after_3 (c : Dev nD) (t : Fin cfg0.N) : (dats m 0 c).after 3 t = lastCols (prod m c (copyPoint t)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

theorem after_3_pred (c : Dev nD) (t : Fin cfg0.N) (h : 2 ≤ t.val % 13) (hp : t.val - 1 < cfg0.N) : (dats m 0 c).after 3 ⟨t.val - 1, hp⟩ = (dats m 0 c).after 3 t := by
  rw [after_3, after_3]
  exact congrArg (fun s => lastCols (prod m c s)) (Fin.ext (by show 13 * ((t.val - 1) / 13) + 1 = 13 * (t.val / 13) + 1; omega))

/-- From column block 2 on the second result's buffer holds the columns stored at column block 1. -/
theorem before_3 (c : Dev nD) (t : Fin cfg0.N) (h : 2 ≤ t.val % 13) (d) : (dats m 0 c).before 3 t d = (dats m 0 c).after 3 t := by
  rw [(dats m 0 c).before_out_traj 3 rfl (fun _ _ => rfl) (fun s hs hi hf => (after_3_pred m c s (by
      rw [fresh3 s.val s.isLt.le] at hf
      have := of_decide_eq_false hf
      omega) _).symm) t.val t rfl d,
    fresh3 t.val t.isLt.le, decide_eq_false (by omega), if_neg Bool.false_ne_true, after_3_pred m c t h]

/-! ## The body obligation -/

/-- Each window's current block at a point, -/
abbrev ms0_0 (t : Fin cfg0.N) : Memref sig .tc .vmem S2048x2048 .bf16 := win0_0.stage (cfg0.slots t 0)
abbrev ms0_1 (t : Fin cfg0.N) : Memref sig .tc .vmem S2048x512 .bf16 := win0_1.stage (cfg0.slots t 1)
abbrev ms0_2 (t : Fin cfg0.N) : Memref sig .tc .vmem S2048x512 .bf16 := win0_2.stage (cfg0.slots t 2)
abbrev ms0_3 (t : Fin cfg0.N) : Memref sig .tc .vmem S2048x128 .f32 := win0_3.stage (cfg0.slots t 3)
/-- and the accumulator. -/
abbrev scM0_0 : Memref sig .tc .vmem S2048x512 .f32 := Memref.whole cc0_scratch0

/-- Between points the accumulator holds anything. -/
theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-- What the body is called with at a point, the second result's buffer as `P` says, -/
def bodyPre (c : Dev nD) (t : Fin cfg0.N) (P : sProp 𝕄) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)) ∗ P)

/-- and what it returns. -/
def bodyPost (c : Dev nD) (t : Fin cfg0.N) (P : sProp 𝕄) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t) ∗ P)

set_option maxHeartbeats 800000 in
/-- The body at a point of column block 1. -/
theorem sound_copy (c : Dev nD) (t : Fin cfg0.N) (h : t.val % 13 = 1) :
    bodyPre m c t iprop(∃ d, owns (c : Thread nD τ) (ms0_3 t) fullShare ((dats m 0 c).before 3 t d))
      ⊢ wp frame (wpE (defs₀ (F := F)) Variants.none c none) Set.univ (bodyAt0 t)
        (fun _ => bodyPost m c t (owns (c : Thread nD τ) (ms0_3 t) fullShare ((dats m 0 c).after 3 t))) := by
  have ht : copyPoint t = t := Fin.ext (by show 13 * (t.val / 13) + 1 = t.val; omega)
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl, after_0, after_1, after_2, after_3, ht]
  rw [show (dats m 0 c).Φ t.castSucc = Pipeline.ΦA spec0 c from rfl, PhiA0_eq]
  iintro ⟨⟨HS, Hg⟩, Ho, ⟨%d0, H0⟩, ⟨%d1, H1⟩, ⟨%d2, H2⟩, ⟨%d3, H3⟩⟩
  iapply ((runCopy c (grid0.coords t) _ _ _ _ _ _ _ _ _ _ (first t) (cond2 t) (iblk m c 0 t) (iblk m c 1 t) ((cond3 t).mpr h)).2.2.2 Set.univ _)
  isplitl [H0]; · iexact H0
  isplitl [H1]; · iexact H1
  isplitl [H2]; · iexists _; iexact H2
  isplitl [H3]; · iexists _; iexact H3
  isplitl [HS]; · iexact HS
  iintro ⟨H0, H1, ⟨%f2, H2⟩, ⟨%f3, H3⟩, ⟨%fs, HS⟩⟩
  isplitl [HS Hg]
  · isplitl [HS]
    · iexists _; iapply owns_of rfl; iexact HS
    iexact Hg
  isplitl [Ho]; · iexact Ho
  isplitl [H0]; · iexact H0
  isplitl [H1]; · iexact H1
  isplitl [H2]
  · iapply owns_of (runCopy_fst c (grid0.coords t) _ _ _ _ _ _ _ _ _ _ _ _ _ _ _ f2)
    iexact H2
  · iapply owns_of (runCopy_snd c (grid0.coords t) _ _ _ _ _ _ _ _ _ _ _ _ _ _ _ f3)
    iexact H3

set_option maxHeartbeats 800000 in
/-- The body at any other point: whatever is in the second result's buffer stays. -/
theorem sound_plain (c : Dev nD) (t : Fin cfg0.N) (h : ¬t.val % 13 = 1) {α : Type} (X : α → Vec F S2048x128 .f32) (Q : sProp 𝕄)
    (hQ : ∀ d, owns (c : Thread nD τ) (ms0_3 t) fullShare (X d) ⊢ Q) :
    bodyPre m c t iprop(∃ d, owns (c : Thread nD τ) (ms0_3 t) fullShare (X d))
      ⊢ wp frame (wpE (defs₀ (F := F)) Variants.none c none) Set.univ (bodyAt0 t) (fun _ => bodyPost m c t Q) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl, after_0, after_1, after_2]
  rw [show (dats m 0 c).Φ t.castSucc = Pipeline.ΦA spec0 c from rfl, PhiA0_eq]
  iintro ⟨⟨HS, Hg⟩, Ho, ⟨%d0, H0⟩, ⟨%d1, H1⟩, ⟨%d2, H2⟩, ⟨%d3, H3⟩⟩
  iapply ((runPlain c (grid0.coords t) _ _ _ _ _ _ _ _ _ _ (first t) (cond2 t) (iblk m c 0 t) (iblk m c 1 t) (fun e => h ((cond3 t).mp e))).2.2 (X d3) Set.univ _)
  isplitl [H0]; · iexact H0
  isplitl [H1]; · iexact H1
  isplitl [H2]; · iexists _; iexact H2
  isplitl [H3]; · iexact H3
  isplitl [HS]; · iexact HS
  iintro ⟨H0, H1, ⟨%f2, H2⟩, H3, ⟨%fs, HS⟩⟩
  isplitl [HS Hg]
  · isplitl [HS]
    · iexists _; iapply owns_of rfl; iexact HS
    iexact Hg
  isplitl [Ho]; · iexact Ho
  isplitl [H0]; · iexact H0
  isplitl [H1]; · iexact H1
  isplitl [H2]
  · iapply owns_of (runPlain_fst c (grid0.coords t) _ _ _ _ _ _ _ _ _ _ _ _ _ _ _ f2)
    iexact H2
  · iapply hQ d3
    iexact H3

/-- The body's row of the table of calls is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row, idle2, idle3]
  by_cases h1 : t.val % 13 = 1
  · rw [decide_eq_true h1]
    exact triple_restated (sound_copy m c t h1) rfl .rfl fun _ => .rfl
  · rw [decide_eq_false h1]
    by_cases h12 : t.val % 13 = 12
    · rw [(flush0_3 t).mpr h12]
      exact triple_restated (sound_plain m c t h1 (fun d => (dats m 0 c).before 3 t d) (owns (c : Thread nD τ) (ms0_3 t) fullShare ((dats m 0 c).after 3 t))
        fun d => by rw [before_3 m c t (by omega)]) rfl .rfl fun _ => .rfl
    · rw [Bool.eq_false_iff.mpr fun e => h12 ((flush0_3 t).mp e)]
      exact triple_restated (sound_plain m c t h1 (fun d => (dats m 0 c).before 3 t d) iprop(∃ d, owns (c : Thread nD τ) (ms0_3 t) fullShare ((dats m 0 c).before 3 t d))
        fun d => by iintro H; iexists d; iexact H) rfl .rfl fun _ => .rfl

/-! ## The run -/

set_option backward.isDefEq.respectTransparency.types false in
/-- The whole call runs, ends with every array as the proof data say, and leaves every counter at zero. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.KernelPrIdeal.Run

end
-- ==== Proof.Pr.lean ====
/- The input projection `h · w`, on exact numbers: every grid point multiplies 2048 rows of `h` with 512 columns of `w` and stores
   the product, so every entry is the reference's sum over all 2048 terms. The second result is the columns 896 to 1023 of it,
   unrounded: the last 128 columns of column block 1. -/
module

public import proofs.«01_k».proof.Proof.PrFrame
public import proofs.«01_k».proof.Proof.Gen.ReferencePrIdeal.Run
public import Idealize.ShloMosaic.Lib.Pipeline.ValueKit.Geometry
public import Idealize.ShloMosaic.Lib.Pipeline.ValueKit.Acc
public import Idealize.ShloMosaic.Lib.Pointwise

@[expose] public section

set_option maxRecDepth 16384

noncomputable section

namespace Cert.KernelPrIdeal.Product

open Cert.KernelPrIdeal Cert.KernelPrIdeal.Gen Cert.KernelPrIdeal.Run
open Idealize.ShloMosaic Idealize.ShloMosaic.TcCoe Idealize.SL.Sem

/-- Entry `(i, j)` of the product of `h` and `w`. -/
def entry (h : FVec Ideal S4096x2048 .bf16) (w : FVec Ideal S2048x6656 .bf16) (i : Fin 4096) (j : Fin 6656) : EReal :=
  ∑ k : Fin 2048, h (ix2 i k) * w (ix2 k j)

/-- The reference's result, as a function of the arguments. -/
def ref (h : FVec Ideal S4096x2048 .bf16) (w : FVec Ideal S2048x6656 .bf16) : FVec Ideal S4096x6656 .bf16 :=
  truncf .bf16 (Host.dotGeneral (φ₁ := .f32) (φ₂ := .f32) ReferencePrIdeal.dot_S4096x2048_S2048x6656_S4096x6656_1_0_0_1_n_n none
    (extf .f32 h ReferencePrIdeal.Gen.bitsLt_bf16_f32) (extf .f32 w ReferencePrIdeal.Gen.bitsLt_bf16_f32)) ReferencePrIdeal.Gen.bitsLt_bf16_f32

theorem ref_at (h : FVec Ideal S4096x2048 .bf16) (w : FVec Ideal S2048x6656 .bf16) (i : Fin 4096) (j : Fin 6656) : ref h w (ix2 i j) = entry h w i j := by
  unfold entry
  pointwise [ref]

/-- The reference's second result. -/
def refCols (h : FVec Ideal S4096x2048 .bf16) (w : FVec Ideal S2048x6656 .bf16) : FVec Ideal S4096x128 .f32 :=
  extractStridedSlice S4096x128 ![0, 896] (Host.dotGeneral (φ₁ := .f32) (φ₂ := .f32) ReferencePrIdeal.dot_S4096x2048_S2048x6656_S4096x6656_1_0_0_1_n_n none
    (extf .f32 h ReferencePrIdeal.Gen.bitsLt_bf16_f32) (extf .f32 w ReferencePrIdeal.Gen.bitsLt_bf16_f32)) ReferencePrIdeal.Gen.slices_S4096x6656_S4096x128_0_896

theorem refCols_at (h : FVec Ideal S4096x2048 .bf16) (w : FVec Ideal S2048x6656 .bf16) (i : Fin 4096) (j : Fin 128) :
    refCols h w (ix2 i j) = entry h w i ⟨896 + j.val, by omega⟩ := by
  unfold entry
  pointwise [refCols]

theorem zero_at (y : S2048x512.Idx) : k0_pay1 (F := Ideal) y = 0 := by
  show Ideal.ofBits .f32 0x00000000#32 = 0
  simp [Ideal.ofBits, Ideal.ieee]

/-- The product of two blocks at an entry. -/
def blockEntry (x0 : FVec Ideal S2048x2048 .bf16) (x1 : FVec Ideal S2048x512 .bf16) (r : Fin 2048) (l : Fin 512) : EReal :=
  ∑ x : Fin 2048, x0 (ix2 r x) * x1 (ix2 x l)

theorem step_at (s : FVec Ideal S2048x512 .f32) (x0 : FVec Ideal S2048x2048 .bf16) (x1 : FVec Ideal S2048x512 .bf16) (r : Fin 2048) (l : Fin 512) :
    k0_pay2 (F := Ideal) s x0 x1 (ix2 r l) = s (ix2 r l) + blockEntry x0 x1 r l := by
  unfold blockEntry
  pointwise [k0_pay2]

theorem product_at (x0 : FVec Ideal S2048x2048 .bf16) (x1 : FVec Ideal S2048x512 .bf16) (r : Fin 2048) (l : Fin 512) :
    product (F := Ideal) x0 x1 (ix2 r l) = blockEntry x0 x1 r l := by
  show k0_pay2 (F := Ideal) (k0_pay1 (F := Ideal)) x0 x1 (ix2 r l) = _
  rw [step_at, zero_at, zero_add]

theorem lastCols_at (s : FVec Ideal S2048x512 .f32) (r : Fin 2048) (l : Fin 128) : lastCols (F := Ideal) s (ix2 r l) = s (ix2 r ⟨384 + l.val, by omega⟩) :=
  congrArg s (by funext a; fin_cases a <;> exact Fin.ext (by simp [Rect.unit, ix2]))

variable (m : (ℓ : Loc nD τ sig) → Buf (Elt Ideal) ℓ) (c : Dev nD)

theorem idx0 : ∀ t : Fin cfg0.N, win0_0.index t = ![t.val / 13, 0] := (by decide +kernel : ∀ t : Fin grid0.N, _)
theorem idx1 : ∀ t : Fin cfg0.N, win0_1.index t = ![0, t.val % 13] := (by decide +kernel : ∀ t : Fin grid0.N, _)
theorem idx2 : ∀ t : Fin cfg0.N, win0_2.index t = ![t.val / 13, t.val % 13] := (by decide +kernel : ∀ t : Fin grid0.N, _)
theorem idx3 : ∀ t : Fin cfg0.N, win0_3.index t = ![t.val / 13, 0] := (by decide +kernel : ∀ t : Fin grid0.N, _)

/-- The row of the array that is row `r` of point `t`'s block, -/
def row (t : Fin cfg0.N) (r : Fin 2048) : Fin 4096 := ⟨2048 * (t.val / 13) + r.val, by have := lt_26 t; omega⟩
/-- and the column that is column `l` of it. -/
def col (t : Fin cfg0.N) (l : Fin 512) : Fin 6656 := ⟨512 * (t.val % 13) + l.val, by omega⟩

theorem blk0 (t : Fin cfg0.N) (r : Fin 2048) (x : Fin 2048) : iblk m c 0 t (ix2 r x) = m ((c : Thread nD τ).loc main_arg0) (ix2 (row t r) x) := by
  have ht := lt_26 t
  rw [← V_main_arg0 m c]
  blk_simp [iblk]
  exact congrArg _ (by blk_ext [idx0, row])

theorem blk1 (t : Fin cfg0.N) (x : Fin 2048) (l : Fin 512) : iblk m c 1 t (ix2 x l) = m ((c : Thread nD τ).loc main_arg1) (ix2 x (col t l)) := by
  have ht := lt_26 t
  rw [← V_main_arg1 m c]
  blk_simp [iblk]
  exact congrArg _ (by blk_ext [idx1, col])

theorem emb2 (t : Fin cfg0.N) (r : Fin 2048) (l : Fin 512) : ((cfg0.win 2).blk t).view.emb (ix2 r l) = ix2 (row t r) (col t l) := by
  have ht := lt_26 t
  blk_ext [idx2, row, col]

theorem emb3 (t : Fin cfg0.N) (r : Fin 2048) (l : Fin 128) : ((cfg0.win 3).blk t).view.emb (ix2 r l) = ix2 (row t r) l := by
  have ht := lt_26 t
  blk_ext [idx3, row]

theorem prod_at (t : Fin cfg0.N) (r : Fin 2048) (l : Fin 512) :
    prod m c t (ix2 r l) = entry (m ((c : Thread nD τ).loc main_arg0)) (m ((c : Thread nD τ).loc main_arg1)) (row t r) (col t l) :=
  (product_at _ _ r l).trans (Finset.sum_congr rfl fun x _ => by rw [blk0, blk1])

/-- What a point writes back is its block of the reference's result, -/
theorem flushed_eq (t : Fin cfg0.N) : (dats m 0 c).flushed 2 t = ((cfg0.win 2).blk t).view.read (Elt Ideal)
    (ref (m ((c : Thread nD τ).loc main_arg0)) (m ((c : Thread nD τ).loc main_arg1))) := by
  refine (after_2 m c t).trans ?_
  funext y
  obtain ⟨r, l, rfl⟩ : ∃ (r : Fin 2048) (l : Fin 512), y = ix2 r l := ⟨y 0, y 1, (ix2_eta y).symm⟩
  refine (prod_at m c t r l).trans ?_
  show _ = ref (m ((c : Thread nD τ).loc main_arg0)) (m ((c : Thread nD τ).loc main_arg1)) (((cfg0.win 2).blk t).view.emb (ix2 r l))
  rw [emb2, ref_at]

/-- and of its second result. -/
theorem flushed_cols (t : Fin cfg0.N) : (dats m 0 c).flushed 3 t = ((cfg0.win 3).blk t).view.read (Elt Ideal)
    (refCols (m ((c : Thread nD τ).loc main_arg0)) (m ((c : Thread nD τ).loc main_arg1))) := by
  refine (after_3 m c t).trans ?_
  funext y
  obtain ⟨r, l, rfl⟩ : ∃ (r : Fin 2048) (l : Fin 128), y = ix2 r l := ⟨y 0, y 1, (ix2_eta y).symm⟩
  refine (lastCols_at _ r l).trans ((prod_at m c (copyPoint t) r _).trans ?_)
  show _ = refCols (m ((c : Thread nD τ).loc main_arg0)) (m ((c : Thread nD τ).loc main_arg1)) (((cfg0.win 3).blk t).view.emb (ix2 r l))
  rw [emb3, refCols_at]
  have ht := lt_26 t
  exact congrArg₂ (entry _ _) (Fin.ext (by show 2048 * ((13 * (t.val / 13) + 1) / 13) + r.val = 2048 * (t.val / 13) + r.val; omega))
    (Fin.ext (by show 512 * ((13 * (t.val / 13) + 1) % 13) + (384 + l.val) = 896 + l.val; omega))

/-- Every entry of the result is in some point's block. -/
theorem covered (y : S4096x6656.Idx) : ∃ t : Fin cfg0.N, (cfg0.win 2).flush t = true ∧ y ∈ ((cfg0.win 2).blk t).view.set := by
  obtain ⟨i, j, rfl⟩ : ∃ (i : Fin 4096) (j : Fin 6656), y = ix2 i j := ⟨y 0, y 1, (ix2_eta y).symm⟩
  have hN : 13 * (i.val / 2048) + j.val / 512 < cfg0.N := by rw [show cfg0.N = 26 from N_0]; omega
  refine ⟨⟨_, hN⟩, flush0_2 _, ?_⟩
  have h := ((cfg0.win 2).blk ⟨_, hN⟩).view.emb_mem_set (ix2 ⟨i.val % 2048, by omega⟩ ⟨j.val % 512, by omega⟩)
  rw [emb2] at h
  rwa [show row ⟨_, hN⟩ ⟨i.val % 2048, by omega⟩ = i from Fin.ext (by dsimp only [row]; omega),
    show col ⟨_, hN⟩ ⟨j.val % 512, by omega⟩ = j from Fin.ext (by dsimp only [col]; omega)] at h

/-- Every entry of the second result is in the block of some point that writes it back. -/
theorem covered_cols (y : S4096x128.Idx) : ∃ t : Fin cfg0.N, (cfg0.win 3).flush t = true ∧ y ∈ ((cfg0.win 3).blk t).view.set := by
  obtain ⟨i, j, rfl⟩ : ∃ (i : Fin 4096) (j : Fin 128), y = ix2 i j := ⟨y 0, y 1, (ix2_eta y).symm⟩
  have hN : 13 * (i.val / 2048) + 12 < cfg0.N := by rw [show cfg0.N = 26 from N_0]; omega
  refine ⟨⟨_, hN⟩, (flush0_3 _).mpr (by dsimp only; omega), ?_⟩
  have h := ((cfg0.win 3).blk ⟨_, hN⟩).view.emb_mem_set (ix2 ⟨i.val % 2048, by omega⟩ j)
  rw [emb3] at h
  rwa [show row ⟨_, hN⟩ ⟨i.val % 2048, by omega⟩ = i from Fin.ext (by dsimp only [row]; omega)] at h

/-- The kernel leaves the reference's two arrays. -/
theorem result_eq : (dats m 0 c).arrAt 2 cfg0.N = ref (m ((c : Thread nD τ).loc main_arg0)) (m ((c : Thread nD τ).loc main_arg1)) :=
  (dats m 0 c).arrAt_eq_of_cover 2 _ (fun t _ => flushed_eq m c t) covered

theorem cols_eq : (dats m 0 c).arrAt 3 cfg0.N = refCols (m ((c : Thread nD τ).loc main_arg0)) (m ((c : Thread nD τ).loc main_arg1)) :=
  (dats m 0 c).arrAt_eq_of_cover 3 _ (fun t _ => flushed_cols m c t) covered_cols

end Cert.KernelPrIdeal.Product

end
-- ==== Proof.ClaimsPr.lean ====
/- The claims for the input projection: the frames, and the equality of both results, which needs no precondition. -/
module

public import proofs.«01_k».proof.Defs
public import proofs.«01_k».proof.Proof.Gen.KernelPr.Frame
public import proofs.«01_k».proof.Proof.Pr
public import Idealize.ShloMosaic.Lib.Quiescent

@[expose] public section

noncomputable section

open Idealize.ShloMosaic Idealize.SL.Sem

namespace Cert.Proof.ClaimsPr

/-- The two programs have one text: their bodies are equal, -/
theorem defs₀_eq : Cert.KernelPr.defs₀ (F := Bits) = Cert.KernelPrIdeal.defs₀ (F := Bits) := by
  funext k l a
  cases k with
  | tc => exact match l, a with
    | 0, (t, s) => rfl
    | ⟨_ + 1, h⟩, _ => absurd h (Nat.not_lt.2 (Nat.le_add_left _ _))
  | _ => rfl

/-- and so their tables of calls are. -/
theorem defs_eq : Cert.KernelPr.defs (F := Bits) = Cert.KernelPrIdeal.defs (F := Bits) :=
  congrArg (Pipeline.defs (Cert.KernelPrIdeal.pcfgs (F := Bits))) defs₀_eq

/-- The run over any arithmetic serves both. -/
theorem frame_p : Cert.quiescent_KernelPr := fun m ρ _ => by
  rw [defs_eq]
  exact Cert.KernelPrIdeal.Run.frame (F := Bits) m ρ
theorem frame_pi : Cert.quiescent_KernelPrIdeal := fun m ρ _ => Cert.KernelPrIdeal.Run.frame m ρ
theorem frame_ri : Cert.quiescent_ReferencePrIdeal := fun m ρ _ =>
  (θ_run Cert.ReferencePrIdeal.defs _ _).mono (fun r h => ⟨fun c => (h c).2.2, Idealize.ShloMosaic.sem_eq_zero_of_no_sems (by decide) r.2⟩)
    (Cert.ReferencePrIdeal.Value.run (F := Ideal) m ρ)

theorem preserves : Cert.preserves_KernelPr_KernelPrIdeal := trivial

theorem algebraic : Cert.algebraic_KernelPrIdeal_ReferencePrIdeal := by
  intro m ρ m' ρ' _ hagree
  refine ⟨_, _, (θ_run Cert.KernelPrIdeal.defs _ _).mono (fun r h c => ⟨((h.1.1 c).1 2).trans (Cert.KernelPrIdeal.Product.result_eq m c),
      ((h.1.1 c).1 3).trans (Cert.KernelPrIdeal.Product.cols_eq m c), h.2.1 c⟩)
    (Idealize.ShloMosaic.θ_run_and (Cert.KernelPrIdeal.Run.run_main (F := Ideal) m ρ) (Cert.KernelPrIdeal.Run.frame m ρ)), ?_⟩
  refine (θ_run Cert.ReferencePrIdeal.defs _ _).mono (fun r h c => ?_) (Cert.ReferencePrIdeal.Value.run (F := Ideal) m' ρ')
  obtain ⟨g0, g1⟩ := hagree c
  obtain ⟨h0, h1, ha⟩ := h c
  refine ⟨h0.trans ?_, h1.trans ?_, ha⟩
  · rw [g0, g1]; rfl
  · rw [g0, g1]; rfl

end Cert.Proof.ClaimsPr

end
-- ==== Proof.Do.lean ====
/- The gradient `oᵀ · d` of the output projection's weight, on exact numbers: four grid points in a row add up the four
   stretches of 1024 terms of one block of 1024 x 1024 entries, so every entry is the reference's sum over all 4096 terms. -/
module

public import proofs.«01_k».proof.Proof.Chunks
public import proofs.«01_k».proof.Proof.Gen.KernelDoIdeal.Value
public import proofs.«01_k».proof.Proof.Gen.ReferenceDoIdeal.Run
public import Idealize.ShloMosaic.Lib.Pipeline.ValueKit.Geometry

@[expose] public section

set_option maxRecDepth 16384

noncomputable section

namespace Cert.KernelDoIdeal.Product

open Cert.KernelDoIdeal Cert.KernelDoIdeal.Gen Cert.KernelDoIdeal.Value
open Idealize.ShloMosaic Idealize.ShloMosaic.TcCoe Idealize.SL.Sem

section
variable {F : FTy → Type} [FloatOps F]
variable (c : Dev nD) (i : grid0.Coords) (arg3 : Memref sig .tc .vmem S1024x1024 .bf16) (harg3 : arg3.IsWhole)
  (arg4 : Memref sig .tc .vmem S1024x1024 .bf16) (harg4 : arg4.IsWhole) (arg5 : Memref sig .tc .vmem S1024x1024 .bf16) (harg5 : arg5.IsWhole)
  (arg6 : Memref sig .tc .vmem S1024x1024 .f32) (harg6 : arg6.IsWhole)
  (x0 : Vec F S1024x1024 .bf16) (x1 : Vec F S1024x1024 .bf16) (xs0 : Vec F S1024x1024 .f32)

theorem zz : (![0, 0] : Fin 2 → Nat) = fun _ => 0 := funext fun a => by fin_cases a <;> rfl

/-- The first point of a run starts the accumulator from zero. -/
theorem first_eq (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) zz, View.readCov_unit_zero (S := S1024x1024) _ zz]
  simp only [View.readAt_eq_ld, harg3.read_unread, harg4.read_unread, View.ld_unit_zero (S := S1024x1024) zz]

theorem middle_eq (hc0 : ¬cond0_0 i) (hc1 : ¬cond0_1 i) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero zz]
  simp only [View.readAt_eq_ld, harg3.read_unread, harg4.read_unread, harg6.read_unread, View.ld_unit_zero (S := S1024x1024) zz]

theorem last_eq (hc0 : ¬cond0_0 i) (hc1 : cond0_1 i) :
    sout0_C_0 c i arg3 harg3 arg4 harg4 arg5 harg5 arg6 harg6 hc0 hc1 x0 x1 xs0 = k0_pay2 xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero zz]
  simp only [View.readAt_eq_ld, harg3.read_unread, harg4.read_unread, harg6.read_unread, View.ld_unit_zero (S := S1024x1024) zz]

/-- The last point of a run stores the accumulator, rounded. -/
theorem stored_eq (hc0 : ¬cond0_0 i) (hc1 : cond0_1 i) :
    out0_C_2 c i arg3 harg3 arg4 harg4 arg5 harg5 arg6 harg6 hc0 hc1 x0 x1 xs0 = k0_pay3 (k0_pay2 xs0 x0 x1) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero zz, View.readCov_unit_zero (S := S1024x1024) _ zz]
  simp only [View.readAt_eq_ld, harg3.read_unread, harg4.read_unread, harg6.read_unread, View.ld_unit_zero (S := S1024x1024) zz]
end

/-- One point's product at an entry. -/
def stretch (x0 : FVec Ideal S1024x1024 .bf16) (x1 : FVec Ideal S1024x1024 .bf16) (r : Fin 1024) (l : Fin 1024) : EReal :=
  ∑ x : Fin 1024, x0 (ix2 r x) * x1 (ix2 x l)

theorem step_at (s : FVec Ideal S1024x1024 .f32) (x0 : FVec Ideal S1024x1024 .bf16) (x1 : FVec Ideal S1024x1024 .bf16) (r : Fin 1024) (l : Fin 1024) :
    k0_pay2 (F := Ideal) s x0 x1 (ix2 r l) = s (ix2 r l) + stretch x0 x1 r l := by
  unfold stretch
  pointwise [k0_pay2]

theorem zero_at (y : S1024x1024.Idx) : k0_pay1 (F := Ideal) y = 0 := by
  show Ideal.ofBits .f32 0x00000000#32 = 0
  simp [Ideal.ofBits, Ideal.ieee]

variable (m : (ℓ : Loc nD τ sig) → Buf (Elt Ideal) ℓ) (c : Dev nD)

theorem idx0 : ∀ t : Fin cfg0.N, win0_0.index t = ![t.val / 4 / 2, t.val % 4] := (by decide +kernel : ∀ t : Fin grid0.N, _)
theorem idx1 : ∀ t : Fin cfg0.N, win0_1.index t = ![t.val % 4, t.val / 4 % 2] := (by decide +kernel : ∀ t : Fin grid0.N, _)

theorem lt_16 (t : Fin cfg0.N) : t.val < 16 := Nat.lt_of_lt_of_eq t.isLt N_0

/-- Term `k` of entry `(r, l)` of block `q` of the result. -/
def term (o : FVec Ideal S2048x4096 .bf16) (d : FVec Ideal S4096x2048 .bf16) (r : Fin 1024) (l : Fin 1024) (q k : ℕ) : EReal :=
  o (ix2 ⟨(1024 * (q / 2) + r.val) % 2048, Nat.mod_lt _ (by decide)⟩ ⟨k % 4096, Nat.mod_lt _ (by decide)⟩)
    * d (ix2 ⟨k % 4096, Nat.mod_lt _ (by decide)⟩ ⟨(1024 * (q % 2) + l.val) % 2048, Nat.mod_lt _ (by decide)⟩)

/-- Entry `(i, j)` of the product of `oᵀ` and `d`. -/
def entry (o : FVec Ideal S2048x4096 .bf16) (d : FVec Ideal S4096x2048 .bf16) (i : Fin 2048) (j : Fin 2048) : EReal :=
  ∑ k : Fin 4096, o (ix2 i k) * d (ix2 k j)

theorem blk0 (t : Fin cfg0.N) (r : Fin 1024) (x : Fin 1024) : iblk m c 0 t (ix2 r x)
    = m ((c : Thread nD τ).loc main_arg0) (ix2 ⟨(1024 * (t.val / 4 / 2) + r.val) % 2048, Nat.mod_lt _ (by decide)⟩ ⟨(t.val % 4 * 1024 + x.val) % 4096, Nat.mod_lt _ (by decide)⟩) := by
  have ht := lt_16 t
  rw [← V_main_arg0 m c]
  blk_simp [iblk]
  exact congrArg _ (by blk_ext [idx0])

theorem blk1 (t : Fin cfg0.N) (x : Fin 1024) (l : Fin 1024) : iblk m c 1 t (ix2 x l)
    = m ((c : Thread nD τ).loc main_arg1) (ix2 ⟨(t.val % 4 * 1024 + x.val) % 4096, Nat.mod_lt _ (by decide)⟩ ⟨(1024 * (t.val / 4 % 2) + l.val) % 2048, Nat.mod_lt _ (by decide)⟩) := by
  have ht := lt_16 t
  rw [← V_main_arg1 m c]
  blk_simp [iblk]
  exact congrArg _ (by blk_ext [idx1])

theorem acc_first (n : ℕ) (h : n < cfg0.N) (h0 : n % 4 = 0) :
    (outsAt0 m c n h).2 = k0_pay2 k0_pay1 (iblk m c 0 ⟨n, h⟩) (iblk m c 1 ⟨n, h⟩) := by
  rw [outsAt0_A m c ⟨n, h⟩ h0 (by dsimp only; omega), first_eq]

theorem acc_next (n : ℕ) (h : n < cfg0.N) (h0 : n % 4 ≠ 0) :
    (outsAt0 m c n h).2 = k0_pay2 (outsAt0 m c (n - 1) (Nat.lt_of_le_of_lt (Nat.sub_le _ _) h)).2 (iblk m c 0 ⟨n, h⟩) (iblk m c 1 ⟨n, h⟩) := by
  by_cases h1 : n % 4 = 3
  · rw [outsAt0_C m c ⟨n, h⟩ h0 h1, last_eq]
  · rw [outsAt0_B m c ⟨n, h⟩ h0 h1, middle_eq]

/-- The accumulator at the last point of a run. -/
theorem acc_at (r : Fin 1024) (l : Fin 1024) (n : ℕ) (h : n < cfg0.N) (hn : n % 4 = 3) :
    (outsAt0 m c n h).2 (ix2 r l) = ∑ k : Fin 4096, term (m ((c : Thread nD τ).loc main_arg0)) (m ((c : Thread nD τ).loc main_arg1)) r l (n / 4) k.val := by
  refine Chunks.acc_last 4 1024 (fun n h => (outsAt0 m c n h).2 (ix2 r l))
    (fun n h => stretch (iblk m c 0 ⟨n, h⟩) (iblk m c 1 ⟨n, h⟩) r l) (term (m ((c : Thread nD τ).loc main_arg0)) (m ((c : Thread nD τ).loc main_arg1)) r l) ?_ ?_ ?_ rfl n h (by omega)
  · intro n h h0
    rw [acc_first m c n h h0, step_at, zero_at, zero_add]
  · intro n h h0
    rw [acc_next m c n h h0, step_at]
  · intro n h
    exact Finset.sum_congr rfl fun x _ => by rw [blk0, blk1]; rfl

/-- At that point the block stored is the accumulator: rounding changes no exact number. -/
theorem stored_at (n : ℕ) (h : n < cfg0.N) (hn : n % 4 = 3) (y : S1024x1024.Idx) : (outsAt0 m c n h).1 y = (outsAt0 m c n h).2 y := by
  rw [outsAt0_C m c ⟨n, h⟩ (by dsimp only; omega) hn, last_eq, stored_eq]
  rfl

/-- The terms of an entry, from its block and its place in the block. -/
theorem entry_of (o : FVec Ideal S2048x4096 .bf16) (d : FVec Ideal S4096x2048 .bf16) (i j : Fin 2048) (q : ℕ) (hq : q = 2 * (i.val / 1024) + j.val / 1024) :
    ∑ k : Fin 4096, term o d ⟨i.val % 1024, Nat.mod_lt _ (by decide)⟩ ⟨j.val % 1024, Nat.mod_lt _ (by decide)⟩ q k.val = entry o d i j := by
  unfold entry term
  refine Finset.sum_congr rfl fun k _ => ?_
  congr 2 <;> congr 1 <;> refine Fin.ext ?_ <;> dsimp only <;> omega

/-- Every entry of the kernel's result. -/
theorem result_at (i : Fin 2048) (j : Fin 2048) : G2 m c (ix2 i j)
    = entry (m ((c : Thread nD τ).loc main_arg0)) (m ((c : Thread nD τ).loc main_arg1)) i j := by
  have hp : pt2Of (ix2 i j) = 4 * (2 * (i.val / 1024) + j.val / 1024) + 3 := by
    show 4 * (2 * (i.val / 1024 - 0) + 1 * (j.val / 1024 - 0)) + 3 = _
    omega
  have hN : pt2Of (ix2 i j) < cfg0.N := by rw [hp, show cfg0.N = 16 from N_0]; omega
  have hl : loc2Of (ix2 i j) = ix2 ⟨i.val % 1024, Nat.mod_lt _ (by decide)⟩ ⟨j.val % 1024, Nat.mod_lt _ (by decide)⟩ := by
    funext a; fin_cases a <;> rfl
  unfold G2
  rw [dif_pos hN, ← outsAt0_sweep m c _ hN, stored_at m c _ hN (by omega), hl, acc_at m c _ _ _ hN (by omega)]
  exact entry_of _ _ i j _ (by omega)

/-- The reference's result, as a function of the arguments. -/
def ref (o : FVec Ideal S2048x4096 .bf16) (d : FVec Ideal S4096x2048 .bf16) : FVec Ideal S2048x2048 .bf16 :=
  truncf .bf16 (transpose S2048x2048 [1, 0] (Host.dotGeneral (φ₁ := .f32) (φ₂ := .f32) ReferenceDoIdeal.dot_S4096x2048_S4096x2048_S2048x2048_0_0_1_1_n_n none
      (extf .f32 d ReferenceDoIdeal.Gen.bitsLt_bf16_f32)
      (transpose ReferenceDoIdeal.S4096x2048 [1, 0] (extf .f32 o ReferenceDoIdeal.Gen.bitsLt_bf16_f32) ReferenceDoIdeal.Gen.transposes_S2048x4096_S4096x2048_1_0))
    ReferenceDoIdeal.Gen.transposes_S2048x2048_S2048x2048_1_0) ReferenceDoIdeal.Gen.bitsLt_bf16_f32

theorem ref_at (o : FVec Ideal S2048x4096 .bf16) (d : FVec Ideal S4096x2048 .bf16) (i : Fin 2048) (j : Fin 2048) : ref o d (ix2 i j) = entry o d i j := by
  unfold entry
  pointwise [ref]
  exact Finset.sum_congr rfl fun k _ => mul_comm _ _

/-- The kernel leaves the reference's array. -/
theorem result_eq : G2 m c = ref (m ((c : Thread nD τ).loc main_arg0)) (m ((c : Thread nD τ).loc main_arg1)) := by
  funext y
  obtain ⟨i, j, rfl⟩ : ∃ i j, y = ix2 i j := ⟨y 0, y 1, (ix2_eta y).symm⟩
  exact (result_at m c i j).trans (ref_at _ _ i j).symm

end Cert.KernelDoIdeal.Product

end
-- ==== Proof.ClaimsDo.lean ====
/- The claims for the gradient of the output projection's weight: the frames, and the equality of the results, which needs no precondition. -/
module

public import proofs.«01_k».proof.Defs
public import proofs.«01_k».proof.Proof.Gen.KernelDo.Frame
public import proofs.«01_k».proof.Proof.Do
public import Idealize.ShloMosaic.Lib.Quiescent

@[expose] public section

noncomputable section

open Idealize.ShloMosaic Idealize.SL.Sem

namespace Cert.Proof.ClaimsDo

theorem frame_p : Cert.quiescent_KernelDo := fun m ρ _ => Cert.KernelDo.Gen.frame m ρ
theorem frame_pi : Cert.quiescent_KernelDoIdeal := fun m ρ _ => Cert.KernelDoIdeal.Gen.frame m ρ
theorem frame_ri : Cert.quiescent_ReferenceDoIdeal := fun m ρ _ =>
  (θ_run Cert.ReferenceDoIdeal.defs _ _).mono (fun r h => ⟨fun c => (h c).2, Idealize.ShloMosaic.sem_eq_zero_of_no_sems (by decide) r.2⟩)
    (Cert.ReferenceDoIdeal.Value.run (F := Ideal) m ρ)

theorem preserves : Cert.preserves_KernelDo_KernelDoIdeal := trivial

theorem algebraic : Cert.algebraic_KernelDoIdeal_ReferenceDoIdeal := by
  intro m ρ m' ρ' _ hagree
  refine ⟨_, Cert.KernelDoIdeal.Value.run (F := Ideal) m ρ, ?_⟩
  refine (θ_run Cert.ReferenceDoIdeal.defs _ _).mono (fun r h c => ⟨(h c).1.trans ?_, (h c).2⟩) (Cert.ReferenceDoIdeal.Value.run (F := Ideal) m' ρ')
  obtain ⟨g0, g1⟩ := hagree c
  rw [g0, g1]
  exact (Cert.KernelDoIdeal.Product.result_eq m c).symm

end Cert.Proof.ClaimsDo

end
-- ==== Proof.Uq.lean ====
/- The gradient `a · d` of the weight that makes the queries out of their latent (`a` is the latent, transposed), on exact numbers:
   four grid points in a row add up the four stretches of 1024 terms of one block of 768 x 1024 entries, so every entry is the
   reference's sum over all 4096 terms. -/
module

public import proofs.«01_k».proof.Proof.Chunks
public import proofs.«01_k».proof.Proof.Gen.KernelUqIdeal.Value
public import proofs.«01_k».proof.Proof.Gen.ReferenceUqIdeal.Run
public import Idealize.ShloMosaic.Lib.Pipeline.ValueKit.Geometry

@[expose] public section

set_option maxRecDepth 16384

noncomputable section

namespace Cert.KernelUqIdeal.Product

open Cert.KernelUqIdeal Cert.KernelUqIdeal.Gen Cert.KernelUqIdeal.Value
open Idealize.ShloMosaic Idealize.ShloMosaic.TcCoe Idealize.SL.Sem

section
variable {F : FTy → Type} [FloatOps F]
variable (c : Dev nD) (i : grid0.Coords) (arg3 : Memref sig .tc .vmem S768x1024 .bf16) (harg3 : arg3.IsWhole)
  (arg4 : Memref sig .tc .vmem S1024x1024 .bf16) (harg4 : arg4.IsWhole) (arg5 : Memref sig .tc .vmem S768x1024 .bf16) (harg5 : arg5.IsWhole)
  (arg6 : Memref sig .tc .vmem S768x1024 .f32) (harg6 : arg6.IsWhole)
  (x0 : Vec F S768x1024 .bf16) (x1 : Vec F S1024x1024 .bf16) (xs0 : Vec F S768x1024 .f32)

theorem zz : (![0, 0] : Fin 2 → Nat) = fun _ => 0 := funext fun a => by fin_cases a <;> rfl

/-- The first point of a run starts the accumulator from zero. -/
theorem first_eq (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S768x1024) zz, View.readCov_unit_zero (S := S768x1024) _ zz]
  simp only [View.readAt_eq_ld, harg3.read_unread, harg4.read_unread, View.ld_unit_zero (S := S768x1024) zz,
    View.ld_unit_zero (S := S1024x1024) zz]

theorem middle_eq (hc0 : ¬cond0_0 i) (hc1 : ¬cond0_1 i) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero zz]
  simp only [View.readAt_eq_ld, harg3.read_unread, harg4.read_unread, harg6.read_unread, View.ld_unit_zero (S := S768x1024) zz,
    View.ld_unit_zero (S := S1024x1024) zz]

theorem last_eq (hc0 : ¬cond0_0 i) (hc1 : cond0_1 i) :
    sout0_C_0 c i arg3 harg3 arg4 harg4 arg5 harg5 arg6 harg6 hc0 hc1 x0 x1 xs0 = k0_pay2 xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero zz]
  simp only [View.readAt_eq_ld, harg3.read_unread, harg4.read_unread, harg6.read_unread, View.ld_unit_zero (S := S768x1024) zz,
    View.ld_unit_zero (S := S1024x1024) zz]

/-- The last point of a run stores the accumulator, rounded. -/
theorem stored_eq (hc0 : ¬cond0_0 i) (hc1 : cond0_1 i) :
    out0_C_2 c i arg3 harg3 arg4 harg4 arg5 harg5 arg6 harg6 hc0 hc1 x0 x1 xs0 = k0_pay3 (k0_pay2 xs0 x0 x1) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero zz, View.readCov_unit_zero (S := S768x1024) _ zz]
  simp only [View.readAt_eq_ld, harg3.read_unread, harg4.read_unread, harg6.read_unread, View.ld_unit_zero (S := S768x1024) zz,
    View.ld_unit_zero (S := S1024x1024) zz]
end

/-- One point's product at an entry. -/
def stretch (x0 : FVec Ideal S768x1024 .bf16) (x1 : FVec Ideal S1024x1024 .bf16) (r : Fin 768) (l : Fin 1024) : EReal :=
  ∑ x : Fin 1024, x0 (ix2 r x) * x1 (ix2 x l)

theorem step_at (s : FVec Ideal S768x1024 .f32) (x0 : FVec Ideal S768x1024 .bf16) (x1 : FVec Ideal S1024x1024 .bf16) (r : Fin 768) (l : Fin 1024) :
    k0_pay2 (F := Ideal) s x0 x1 (ix2 r l) = s (ix2 r l) + stretch x0 x1 r l := by
  unfold stretch
  pointwise [k0_pay2]

theorem zero_at (y : S768x1024.Idx) : k0_pay1 (F := Ideal) y = 0 := by
  show Ideal.ofBits .f32 0x00000000#32 = 0
  simp [Ideal.ofBits, Ideal.ieee]

variable (m : (ℓ : Loc nD τ sig) → Buf (Elt Ideal) ℓ) (c : Dev nD)

theorem idx0 : ∀ t : Fin cfg0.N, win0_0.index t = ![0, t.val % 4] := (by decide +kernel : ∀ t : Fin grid0.N, _)
theorem idx1 : ∀ t : Fin cfg0.N, win0_1.index t = ![t.val % 4, t.val / 4] := (by decide +kernel : ∀ t : Fin grid0.N, _)

theorem lt_8 (t : Fin cfg0.N) : t.val < 8 := Nat.lt_of_lt_of_eq t.isLt N_0

/-- Term `k` of entry `(r, l)` of block `q` of the result. -/
def term (a : FVec Ideal S768x4096 .bf16) (d : FVec Ideal S4096x2048 .bf16) (r : Fin 768) (l : Fin 1024) (q k : ℕ) : EReal :=
  a (ix2 r ⟨k % 4096, Nat.mod_lt _ (by decide)⟩)
    * d (ix2 ⟨k % 4096, Nat.mod_lt _ (by decide)⟩ ⟨(1024 * q + l.val) % 2048, Nat.mod_lt _ (by decide)⟩)

/-- Entry `(i, j)` of the product of `a` and `d`. -/
def entry (a : FVec Ideal S768x4096 .bf16) (d : FVec Ideal S4096x2048 .bf16) (i : Fin 768) (j : Fin 2048) : EReal :=
  ∑ k : Fin 4096, a (ix2 i k) * d (ix2 k j)

theorem blk0 (t : Fin cfg0.N) (r : Fin 768) (x : Fin 1024) : iblk m c 0 t (ix2 r x)
    = m ((c : Thread nD τ).loc main_arg0) (ix2 r ⟨(t.val % 4 * 1024 + x.val) % 4096, Nat.mod_lt _ (by decide)⟩) := by
  have ht := lt_8 t
  rw [← V_main_arg0 m c]
  blk_simp [iblk]
  exact congrArg _ (by blk_ext [idx0])

theorem blk1 (t : Fin cfg0.N) (x : Fin 1024) (l : Fin 1024) : iblk m c 1 t (ix2 x l)
    = m ((c : Thread nD τ).loc main_arg1) (ix2 ⟨(t.val % 4 * 1024 + x.val) % 4096, Nat.mod_lt _ (by decide)⟩ ⟨(1024 * (t.val / 4) + l.val) % 2048, Nat.mod_lt _ (by decide)⟩) := by
  have ht := lt_8 t
  rw [← V_main_arg1 m c]
  blk_simp [iblk]
  exact congrArg _ (by blk_ext [idx1])

theorem acc_first (n : ℕ) (h : n < cfg0.N) (h0 : n % 4 = 0) :
    (outsAt0 m c n h).2 = k0_pay2 k0_pay1 (iblk m c 0 ⟨n, h⟩) (iblk m c 1 ⟨n, h⟩) := by
  rw [outsAt0_A m c ⟨n, h⟩ h0 (by dsimp only; omega), first_eq]

theorem acc_next (n : ℕ) (h : n < cfg0.N) (h0 : n % 4 ≠ 0) :
    (outsAt0 m c n h).2 = k0_pay2 (outsAt0 m c (n - 1) (Nat.lt_of_le_of_lt (Nat.sub_le _ _) h)).2 (iblk m c 0 ⟨n, h⟩) (iblk m c 1 ⟨n, h⟩) := by
  by_cases h1 : n % 4 = 3
  · rw [outsAt0_C m c ⟨n, h⟩ h0 h1, last_eq]
  · rw [outsAt0_B m c ⟨n, h⟩ h0 h1, middle_eq]

/-- The accumulator at the last point of a run. -/
theorem acc_at (r : Fin 768) (l : Fin 1024) (n : ℕ) (h : n < cfg0.N) (hn : n % 4 = 3) :
    (outsAt0 m c n h).2 (ix2 r l) = ∑ k : Fin 4096, term (m ((c : Thread nD τ).loc main_arg0)) (m ((c : Thread nD τ).loc main_arg1)) r l (n / 4) k.val := by
  refine Chunks.acc_last 4 1024 (fun n h => (outsAt0 m c n h).2 (ix2 r l))
    (fun n h => stretch (iblk m c 0 ⟨n, h⟩) (iblk m c 1 ⟨n, h⟩) r l) (term (m ((c : Thread nD τ).loc main_arg0)) (m ((c : Thread nD τ).loc main_arg1)) r l) ?_ ?_ ?_ rfl n h (by omega)
  · intro n h h0
    rw [acc_first m c n h h0, step_at, zero_at, zero_add]
  · intro n h h0
    rw [acc_next m c n h h0, step_at]
  · intro n h
    exact Finset.sum_congr rfl fun x _ => by rw [blk0, blk1]; rfl

/-- At that point the block stored is the accumulator: rounding changes no exact number. -/
theorem stored_at (n : ℕ) (h : n < cfg0.N) (hn : n % 4 = 3) (y : S768x1024.Idx) : (outsAt0 m c n h).1 y = (outsAt0 m c n h).2 y := by
  rw [outsAt0_C m c ⟨n, h⟩ (by dsimp only; omega) hn, last_eq, stored_eq]
  rfl

/-- The terms of an entry, from its block and its place in the block. -/
theorem entry_of (a : FVec Ideal S768x4096 .bf16) (d : FVec Ideal S4096x2048 .bf16) (i r : Fin 768) (j : Fin 2048) (q : ℕ)
    (hr : r = i) (hq : q = j.val / 1024) :
    ∑ k : Fin 4096, term a d r ⟨j.val % 1024, Nat.mod_lt _ (by decide)⟩ q k.val = entry a d i j := by
  subst hr
  unfold entry term
  refine Finset.sum_congr rfl fun k _ => ?_
  congr 2 <;> congr 1 <;> refine Fin.ext ?_ <;> dsimp only <;> omega

/-- Every entry of the kernel's result. -/
theorem result_at (i : Fin 768) (j : Fin 2048) : G2 m c (ix2 i j)
    = entry (m ((c : Thread nD τ).loc main_arg0)) (m ((c : Thread nD τ).loc main_arg1)) i j := by
  have hp : pt2Of (ix2 i j) = 4 * (j.val / 1024) + 3 := by
    show 4 * (2 * (i.val / 768 - 0) + 1 * (j.val / 1024 - 0)) + 3 = _
    omega
  have hN : pt2Of (ix2 i j) < cfg0.N := by rw [hp, show cfg0.N = 8 from N_0]; omega
  have hl : loc2Of (ix2 i j) = ix2 ⟨i.val % 768, Nat.mod_lt _ (by decide)⟩ ⟨j.val % 1024, Nat.mod_lt _ (by decide)⟩ := by
    funext a; fin_cases a <;> rfl
  unfold G2
  rw [dif_pos hN, ← outsAt0_sweep m c _ hN, stored_at m c _ hN (by omega), hl, acc_at m c _ _ _ hN (by omega)]
  exact entry_of _ _ i _ j _ (Fin.ext (Nat.mod_eq_of_lt i.isLt)) (by omega)

/-- The reference's result, as a function of the arguments. -/
def ref (a : FVec Ideal S768x4096 .bf16) (d : FVec Ideal S4096x2048 .bf16) : FVec Ideal S768x2048 .bf16 :=
  truncf .bf16 (transpose S768x2048 [1, 0] (Host.dotGeneral (φ₁ := .f32) (φ₂ := .f32) ReferenceUqIdeal.dot_S4096x2048_S4096x768_S2048x768_0_0_1_1_n_n none
      (extf .f32 d ReferenceUqIdeal.Gen.bitsLt_bf16_f32)
      (transpose ReferenceUqIdeal.S4096x768 [1, 0] (extf .f32 a ReferenceUqIdeal.Gen.bitsLt_bf16_f32) ReferenceUqIdeal.Gen.transposes_S768x4096_S4096x768_1_0))
    ReferenceUqIdeal.Gen.transposes_S2048x768_S768x2048_1_0) ReferenceUqIdeal.Gen.bitsLt_bf16_f32

theorem ref_at (a : FVec Ideal S768x4096 .bf16) (d : FVec Ideal S4096x2048 .bf16) (i : Fin 768) (j : Fin 2048) : ref a d (ix2 i j) = entry a d i j := by
  unfold entry
  pointwise [ref]
  exact Finset.sum_congr rfl fun k _ => mul_comm _ _

/-- The kernel leaves the reference's array. -/
theorem result_eq : G2 m c = ref (m ((c : Thread nD τ).loc main_arg0)) (m ((c : Thread nD τ).loc main_arg1)) := by
  funext y
  obtain ⟨i, j, rfl⟩ : ∃ i j, y = ix2 i j := ⟨y 0, y 1, (ix2_eta y).symm⟩
  exact (result_at m c i j).trans (ref_at _ _ i j).symm

end Cert.KernelUqIdeal.Product

end
-- ==== Proof.Ukv.lean ====
/- The gradient `a · d` of the weight that makes the keys and values out of their latent (`a` is the latent, transposed), on exact
   numbers: four grid points in a row add up the four stretches of 1024 terms of one block of 512 x 1024 entries, so every entry is the
   reference's sum over all 4096 terms. -/
module

public import proofs.«01_k».proof.Proof.Chunks
public import proofs.«01_k».proof.Proof.Gen.KernelUkvIdeal.Value
public import proofs.«01_k».proof.Proof.Gen.ReferenceUkvIdeal.Run
public import Idealize.ShloMosaic.Lib.Pipeline.ValueKit.Geometry

@[expose] public section

set_option maxRecDepth 16384

noncomputable section

namespace Cert.KernelUkvIdeal.Product

open Cert.KernelUkvIdeal Cert.KernelUkvIdeal.Gen Cert.KernelUkvIdeal.Value
open Idealize.ShloMosaic Idealize.ShloMosaic.TcCoe Idealize.SL.Sem

section
variable {F : FTy → Type} [FloatOps F]
variable (c : Dev nD) (i : grid0.Coords) (arg3 : Memref sig .tc .vmem S512x1024 .bf16) (harg3 : arg3.IsWhole)
  (arg4 : Memref sig .tc .vmem S1024x1024 .bf16) (harg4 : arg4.IsWhole) (arg5 : Memref sig .tc .vmem S512x1024 .bf16) (harg5 : arg5.IsWhole)
  (arg6 : Memref sig .tc .vmem S512x1024 .f32) (harg6 : arg6.IsWhole)
  (x0 : Vec F S512x1024 .bf16) (x1 : Vec F S1024x1024 .bf16) (xs0 : Vec F S512x1024 .f32)

theorem zz : (![0, 0] : Fin 2 → Nat) = fun _ => 0 := funext fun a => by fin_cases a <;> rfl

/-- The first point of a run starts the accumulator from zero. -/
theorem first_eq (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S512x1024) zz, View.readCov_unit_zero (S := S512x1024) _ zz]
  simp only [View.readAt_eq_ld, harg3.read_unread, harg4.read_unread, View.ld_unit_zero (S := S512x1024) zz,
    View.ld_unit_zero (S := S1024x1024) zz]

theorem middle_eq (hc0 : ¬cond0_0 i) (hc1 : ¬cond0_1 i) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero zz]
  simp only [View.readAt_eq_ld, harg3.read_unread, harg4.read_unread, harg6.read_unread, View.ld_unit_zero (S := S512x1024) zz,
    View.ld_unit_zero (S := S1024x1024) zz]

theorem last_eq (hc0 : ¬cond0_0 i) (hc1 : cond0_1 i) :
    sout0_C_0 c i arg3 harg3 arg4 harg4 arg5 harg5 arg6 harg6 hc0 hc1 x0 x1 xs0 = k0_pay2 xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero zz]
  simp only [View.readAt_eq_ld, harg3.read_unread, harg4.read_unread, harg6.read_unread, View.ld_unit_zero (S := S512x1024) zz,
    View.ld_unit_zero (S := S1024x1024) zz]

/-- The last point of a run stores the accumulator, rounded. -/
theorem stored_eq (hc0 : ¬cond0_0 i) (hc1 : cond0_1 i) :
    out0_C_2 c i arg3 harg3 arg4 harg4 arg5 harg5 arg6 harg6 hc0 hc1 x0 x1 xs0 = k0_pay3 (k0_pay2 xs0 x0 x1) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero zz, View.readCov_unit_zero (S := S512x1024) _ zz]
  simp only [View.readAt_eq_ld, harg3.read_unread, harg4.read_unread, harg6.read_unread, View.ld_unit_zero (S := S512x1024) zz,
    View.ld_unit_zero (S := S1024x1024) zz]
end

/-- One point's product at an entry. -/
def stretch (x0 : FVec Ideal S512x1024 .bf16) (x1 : FVec Ideal S1024x1024 .bf16) (r : Fin 512) (l : Fin 1024) : EReal :=
  ∑ x : Fin 1024, x0 (ix2 r x) * x1 (ix2 x l)

theorem step_at (s : FVec Ideal S512x1024 .f32) (x0 : FVec Ideal S512x1024 .bf16) (x1 : FVec Ideal S1024x1024 .bf16) (r : Fin 512) (l : Fin 1024) :
    k0_pay2 (F := Ideal) s x0 x1 (ix2 r l) = s (ix2 r l) + stretch x0 x1 r l := by
  unfold stretch
  pointwise [k0_pay2]

theorem zero_at (y : S512x1024.Idx) : k0_pay1 (F := Ideal) y = 0 := by
  show Ideal.ofBits .f32 0x00000000#32 = 0
  simp [Ideal.ofBits, Ideal.ieee]

variable (m : (ℓ : Loc nD τ sig) → Buf (Elt Ideal) ℓ) (c : Dev nD)

theorem idx0 : ∀ t : Fin cfg0.N, win0_0.index t = ![0, t.val % 4] := (by decide +kernel : ∀ t : Fin grid0.N, _)
theorem idx1 : ∀ t : Fin cfg0.N, win0_1.index t = ![t.val % 4, t.val / 4] := (by decide +kernel : ∀ t : Fin grid0.N, _)

theorem lt_8 (t : Fin cfg0.N) : t.val < 8 := Nat.lt_of_lt_of_eq t.isLt N_0

/-- Term `k` of entry `(r, l)` of block `q` of the result. -/
def term (a : FVec Ideal S512x4096 .bf16) (d : FVec Ideal S4096x2048 .bf16) (r : Fin 512) (l : Fin 1024) (q k : ℕ) : EReal :=
  a (ix2 r ⟨k % 4096, Nat.mod_lt _ (by decide)⟩)
    * d (ix2 ⟨k % 4096, Nat.mod_lt _ (by decide)⟩ ⟨(1024 * q + l.val) % 2048, Nat.mod_lt _ (by decide)⟩)

/-- Entry `(i, j)` of the product of `a` and `d`. -/
def entry (a : FVec Ideal S512x4096 .bf16) (d : FVec Ideal S4096x2048 .bf16) (i : Fin 512) (j : Fin 2048) : EReal :=
  ∑ k : Fin 4096, a (ix2 i k) * d (ix2 k j)

theorem blk0 (t : Fin cfg0.N) (r : Fin 512) (x : Fin 1024) : iblk m c 0 t (ix2 r x)
    = m ((c : Thread nD τ).loc main_arg0) (ix2 r ⟨(t.val % 4 * 1024 + x.val) % 4096, Nat.mod_lt _ (by decide)⟩) := by
  have ht := lt_8 t
  rw [← V_main_arg0 m c]
  blk_simp [iblk]
  exact congrArg _ (by blk_ext [idx0])

theorem blk1 (t : Fin cfg0.N) (x : Fin 1024) (l : Fin 1024) : iblk m c 1 t (ix2 x l)
    = m ((c : Thread nD τ).loc main_arg1) (ix2 ⟨(t.val % 4 * 1024 + x.val) % 4096, Nat.mod_lt _ (by decide)⟩ ⟨(1024 * (t.val / 4) + l.val) % 2048, Nat.mod_lt _ (by decide)⟩) := by
  have ht := lt_8 t
  rw [← V_main_arg1 m c]
  blk_simp [iblk]
  exact congrArg _ (by blk_ext [idx1])

theorem acc_first (n : ℕ) (h : n < cfg0.N) (h0 : n % 4 = 0) :
    (outsAt0 m c n h).2 = k0_pay2 k0_pay1 (iblk m c 0 ⟨n, h⟩) (iblk m c 1 ⟨n, h⟩) := by
  rw [outsAt0_A m c ⟨n, h⟩ h0 (by dsimp only; omega), first_eq]

theorem acc_next (n : ℕ) (h : n < cfg0.N) (h0 : n % 4 ≠ 0) :
    (outsAt0 m c n h).2 = k0_pay2 (outsAt0 m c (n - 1) (Nat.lt_of_le_of_lt (Nat.sub_le _ _) h)).2 (iblk m c 0 ⟨n, h⟩) (iblk m c 1 ⟨n, h⟩) := by
  by_cases h1 : n % 4 = 3
  · rw [outsAt0_C m c ⟨n, h⟩ h0 h1, last_eq]
  · rw [outsAt0_B m c ⟨n, h⟩ h0 h1, middle_eq]

/-- The accumulator at the last point of a run. -/
theorem acc_at (r : Fin 512) (l : Fin 1024) (n : ℕ) (h : n < cfg0.N) (hn : n % 4 = 3) :
    (outsAt0 m c n h).2 (ix2 r l) = ∑ k : Fin 4096, term (m ((c : Thread nD τ).loc main_arg0)) (m ((c : Thread nD τ).loc main_arg1)) r l (n / 4) k.val := by
  refine Chunks.acc_last 4 1024 (fun n h => (outsAt0 m c n h).2 (ix2 r l))
    (fun n h => stretch (iblk m c 0 ⟨n, h⟩) (iblk m c 1 ⟨n, h⟩) r l) (term (m ((c : Thread nD τ).loc main_arg0)) (m ((c : Thread nD τ).loc main_arg1)) r l) ?_ ?_ ?_ rfl n h (by omega)
  · intro n h h0
    rw [acc_first m c n h h0, step_at, zero_at, zero_add]
  · intro n h h0
    rw [acc_next m c n h h0, step_at]
  · intro n h
    exact Finset.sum_congr rfl fun x _ => by rw [blk0, blk1]; rfl

/-- At that point the block stored is the accumulator: rounding changes no exact number. -/
theorem stored_at (n : ℕ) (h : n < cfg0.N) (hn : n % 4 = 3) (y : S512x1024.Idx) : (outsAt0 m c n h).1 y = (outsAt0 m c n h).2 y := by
  rw [outsAt0_C m c ⟨n, h⟩ (by dsimp only; omega) hn, last_eq, stored_eq]
  rfl

/-- The terms of an entry, from its block and its place in the block. -/
theorem entry_of (a : FVec Ideal S512x4096 .bf16) (d : FVec Ideal S4096x2048 .bf16) (i r : Fin 512) (j : Fin 2048) (q : ℕ)
    (hr : r = i) (hq : q = j.val / 1024) :
    ∑ k : Fin 4096, term a d r ⟨j.val % 1024, Nat.mod_lt _ (by decide)⟩ q k.val = entry a d i j := by
  subst hr
  unfold entry term
  refine Finset.sum_congr rfl fun k _ => ?_
  congr 2 <;> congr 1 <;> refine Fin.ext ?_ <;> dsimp only <;> omega

/-- Every entry of the kernel's result. -/
theorem result_at (i : Fin 512) (j : Fin 2048) : G2 m c (ix2 i j)
    = entry (m ((c : Thread nD τ).loc main_arg0)) (m ((c : Thread nD τ).loc main_arg1)) i j := by
  have hp : pt2Of (ix2 i j) = 4 * (j.val / 1024) + 3 := by
    show 4 * (2 * (i.val / 512 - 0) + 1 * (j.val / 1024 - 0)) + 3 = _
    omega
  have hN : pt2Of (ix2 i j) < cfg0.N := by rw [hp, show cfg0.N = 8 from N_0]; omega
  have hl : loc2Of (ix2 i j) = ix2 ⟨i.val % 512, Nat.mod_lt _ (by decide)⟩ ⟨j.val % 1024, Nat.mod_lt _ (by decide)⟩ := by
    funext a; fin_cases a <;> rfl
  unfold G2
  rw [dif_pos hN, ← outsAt0_sweep m c _ hN, stored_at m c _ hN (by omega), hl, acc_at m c _ _ _ hN (by omega)]
  exact entry_of _ _ i _ j _ (Fin.ext (Nat.mod_eq_of_lt i.isLt)) (by omega)

/-- The reference's result, as a function of the arguments. -/
def ref (a : FVec Ideal S512x4096 .bf16) (d : FVec Ideal S4096x2048 .bf16) : FVec Ideal S512x2048 .bf16 :=
  truncf .bf16 (transpose S512x2048 [1, 0] (Host.dotGeneral (φ₁ := .f32) (φ₂ := .f32) ReferenceUkvIdeal.dot_S4096x2048_S4096x512_S2048x512_0_0_1_1_n_n none
      (extf .f32 d ReferenceUkvIdeal.Gen.bitsLt_bf16_f32)
      (transpose ReferenceUkvIdeal.S4096x512 [1, 0] (extf .f32 a ReferenceUkvIdeal.Gen.bitsLt_bf16_f32) ReferenceUkvIdeal.Gen.transposes_S512x4096_S4096x512_1_0))
    ReferenceUkvIdeal.Gen.transposes_S2048x512_S512x2048_1_0) ReferenceUkvIdeal.Gen.bitsLt_bf16_f32

theorem ref_at (a : FVec Ideal S512x4096 .bf16) (d : FVec Ideal S4096x2048 .bf16) (i : Fin 512) (j : Fin 2048) : ref a d (ix2 i j) = entry a d i j := by
  unfold entry
  pointwise [ref]
  exact Finset.sum_congr rfl fun k _ => mul_comm _ _

/-- The kernel leaves the reference's array. -/
theorem result_eq : G2 m c = ref (m ((c : Thread nD τ).loc main_arg0)) (m ((c : Thread nD τ).loc main_arg1)) := by
  funext y
  obtain ⟨i, j, rfl⟩ : ∃ i j, y = ix2 i j := ⟨y 0, y 1, (ix2_eta y).symm⟩
  exact (result_at m c i j).trans (ref_at _ _ i j).symm

end Cert.KernelUkvIdeal.Product

end
-- ==== Proof.ClaimsUq.lean ====
/- The claims for the gradients of the up-projections' weights: the frames, and the equality of the results, which needs no
   precondition. -/
module

public import proofs.«01_k».proof.Defs
public import proofs.«01_k».proof.Proof.Gen.KernelUq.Frame
public import proofs.«01_k».proof.Proof.Gen.KernelUkv.Frame
public import proofs.«01_k».proof.Proof.Uq
public import proofs.«01_k».proof.Proof.Ukv
public import Idealize.ShloMosaic.Lib.Quiescent

@[expose] public section

noncomputable section

open Idealize.ShloMosaic Idealize.SL.Sem

/-! ## The queries' weight -/
namespace Cert.Proof.ClaimsUq

theorem frame_p : Cert.quiescent_KernelUq := fun m ρ _ => Cert.KernelUq.Gen.frame m ρ
theorem frame_pi : Cert.quiescent_KernelUqIdeal := fun m ρ _ => Cert.KernelUqIdeal.Gen.frame m ρ
theorem frame_ri : Cert.quiescent_ReferenceUqIdeal := fun m ρ _ =>
  (θ_run Cert.ReferenceUqIdeal.defs _ _).mono (fun r h => ⟨fun c => (h c).2, Idealize.ShloMosaic.sem_eq_zero_of_no_sems (by decide) r.2⟩)
    (Cert.ReferenceUqIdeal.Value.run (F := Ideal) m ρ)

theorem preserves : Cert.preserves_KernelUq_KernelUqIdeal := trivial

theorem algebraic : Cert.algebraic_KernelUqIdeal_ReferenceUqIdeal := by
  intro m ρ m' ρ' _ hagree
  refine ⟨_, Cert.KernelUqIdeal.Value.run (F := Ideal) m ρ, ?_⟩
  refine (θ_run Cert.ReferenceUqIdeal.defs _ _).mono (fun r h c => ⟨(h c).1.trans ?_, (h c).2⟩) (Cert.ReferenceUqIdeal.Value.run (F := Ideal) m' ρ')
  obtain ⟨g0, g1⟩ := hagree c
  rw [g0, g1]
  exact (Cert.KernelUqIdeal.Product.result_eq m c).symm

end Cert.Proof.ClaimsUq

/-! ## The keys' and values' weight -/
namespace Cert.Proof.ClaimsUkv

theorem frame_p : Cert.quiescent_KernelUkv := fun m ρ _ => Cert.KernelUkv.Gen.frame m ρ
theorem frame_pi : Cert.quiescent_KernelUkvIdeal := fun m ρ _ => Cert.KernelUkvIdeal.Gen.frame m ρ
theorem frame_ri : Cert.quiescent_ReferenceUkvIdeal := fun m ρ _ =>
  (θ_run Cert.ReferenceUkvIdeal.defs _ _).mono (fun r h => ⟨fun c => (h c).2, Idealize.ShloMosaic.sem_eq_zero_of_no_sems (by decide) r.2⟩)
    (Cert.ReferenceUkvIdeal.Value.run (F := Ideal) m ρ)

theorem preserves : Cert.preserves_KernelUkv_KernelUkvIdeal := trivial

theorem algebraic : Cert.algebraic_KernelUkvIdeal_ReferenceUkvIdeal := by
  intro m ρ m' ρ' _ hagree
  refine ⟨_, Cert.KernelUkvIdeal.Value.run (F := Ideal) m ρ, ?_⟩
  refine (θ_run Cert.ReferenceUkvIdeal.defs _ _).mono (fun r h c => ⟨(h c).1.trans ?_, (h c).2⟩) (Cert.ReferenceUkvIdeal.Value.run (F := Ideal) m' ρ')
  obtain ⟨g0, g1⟩ := hagree c
  rw [g0, g1]
  exact (Cert.KernelUkvIdeal.Product.result_eq m c).symm

end Cert.Proof.ClaimsUkv

end
-- ==== Proof.Qn.lean ====
/- The gradient `d · wᵀ` of the queries' normed latent, on exact numbers: every grid point multiplies 1024 rows of `d` with the whole
   of `wᵀ` and stores the product, so every entry is the reference's sum over all 2048 terms. -/
module

public import proofs.«01_k».proof.Proof.Gen.KernelQnIdeal.Value
public import proofs.«01_k».proof.Proof.Gen.ReferenceQnIdeal.Run
public import Idealize.ShloMosaic.Lib.Pipeline.ValueKit.Geometry
public import Idealize.ShloMosaic.Lib.Pipeline.ValueKit.Acc
public import Idealize.ShloMosaic.Lib.Pointwise

@[expose] public section

set_option maxRecDepth 16384

noncomputable section

namespace Cert.KernelQnIdeal.Product

open Cert.KernelQnIdeal Cert.KernelQnIdeal.Gen Cert.KernelQnIdeal.Value
open Idealize.ShloMosaic Idealize.ShloMosaic.TcCoe Idealize.SL.Sem

theorem zz : (![0, 0] : Fin 2 → Nat) = fun _ => 0 := funext fun a => by fin_cases a <;> rfl

/-- A point stores the product of its blocks, added to zeros. -/
theorem stored_eq {F : FTy → Type} [FloatOps F] (c : Dev nD) (i : grid0.Coords) (arg3 : Memref sig .tc .vmem S1024x2048 .bf16) (harg3 : arg3.IsWhole)
    (arg4 : Memref sig .tc .vmem S768x2048 .bf16) (harg4 : arg4.IsWhole) (arg5 : Memref sig .tc .vmem S1024x768 .f32) (harg5 : arg5.IsWhole)
    (arg6 : Memref sig .tc .vmem S1024x768 .f32) (harg6 : arg6.IsWhole) (hc0 : cond0_0 i) (hc1 : cond0_1 i)
    (x0 : Vec F S1024x2048 .bf16) (x1 : Vec F S768x2048 .bf16) :
    out0_A_2 c i arg3 harg3 arg4 harg4 arg5 harg5 arg6 harg6 hc0 hc1 x0 x1 = k0_pay2 k0_pay1 x0 x1 := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero zz, View.readCov_cons_toLoadRect, View.readCov_cons_toLoadRect]
  simp only [View.readAt_eq_ld, harg3.read_unread, harg4.read_unread, View.ld_unit_zero (S := S1024x2048) zz, View.ld_unit_zero (S := S768x2048) zz]

/-- Entry `(i, j)` of `d · wᵀ`. -/
def entry (w : FVec Ideal S768x2048 .bf16) (d : FVec Ideal S4096x2048 .bf16) (i : Fin 4096) (j : Fin 768) : EReal :=
  ∑ k : Fin 2048, d (ix2 i k) * w (ix2 j k)

/-- The reference's result, as a function of the arguments. -/
def ref (w : FVec Ideal S768x2048 .bf16) (d : FVec Ideal S4096x2048 .bf16) : FVec Ideal S4096x768 .f32 :=
  Host.dotGeneral ReferenceQnIdeal.dot_S4096x2048_S768x2048_S4096x768_1_1_0_0_n_n none (extf .f32 d ReferenceQnIdeal.Gen.bitsLt_bf16_f32)
    (extf .f32 w ReferenceQnIdeal.Gen.bitsLt_bf16_f32)

theorem ref_at (w : FVec Ideal S768x2048 .bf16) (d : FVec Ideal S4096x2048 .bf16) (i : Fin 4096) (j : Fin 768) : ref w d (ix2 i j) = entry w d i j := by
  unfold entry
  pointwise [ref]

theorem zero_at (y : S1024x768.Idx) : k0_pay1 (F := Ideal) y = 0 := by
  show Ideal.ofBits .f32 0x00000000#32 = 0
  simp [Ideal.ofBits, Ideal.ieee]

theorem step_at (s : FVec Ideal S1024x768 .f32) (x0 : FVec Ideal S1024x2048 .bf16) (x1 : FVec Ideal S768x2048 .bf16) (r : Fin 1024) (l : Fin 768) :
    k0_pay2 (F := Ideal) s x0 x1 (ix2 r l) = s (ix2 r l) + ∑ x : Fin 2048, x0 (ix2 r x) * x1 (ix2 l x) := by
  pointwise [k0_pay2]

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem flush2 : ∀ t : Fin cfg0.N, (cfg0.win 2).flush t = true := (by decide +kernel : ∀ t : Fin grid0.N, win0_2.flush t = true)

theorem lt_4 (t : Fin cfg0.N) : t.val < 4 := Nat.lt_of_lt_of_eq t.isLt N_0

/-- The row of the array that is row `r` of point `t`'s block. -/
def row (t : Fin cfg0.N) (r : Fin 1024) : Fin 4096 := ⟨1024 * t.val + r.val, by have := lt_4 t; omega⟩

theorem blk0 (t : Fin cfg0.N) (r : Fin 1024) (x : Fin 2048) : iblk m c 0 t (ix2 r x) = m ((c : Thread nD τ).loc main_arg1) (ix2 (row t r) x) := by
  have ht := lt_4 t
  rw [← V_main_arg1 m c]
  blk_simp [iblk]
  exact congrArg _ (by blk_ext [idx0, row])

theorem blk1 (t : Fin cfg0.N) (l : Fin 768) (x : Fin 2048) : iblk m c 1 t (ix2 l x) = m ((c : Thread nD τ).loc main_arg0) (ix2 l x) := by
  rw [← V_main_arg0 m c]
  blk_simp [iblk]
  exact congrArg _ (by blk_ext [idx1])

theorem emb2 (t : Fin cfg0.N) (r : Fin 1024) (l : Fin 768) : ((cfg0.win 2).blk t).view.emb (ix2 r l) = ix2 (row t r) l := by
  have ht := lt_4 t
  blk_ext [idx2, row]

/-- What a point leaves in its block. -/
theorem outs_at (t : Fin cfg0.N) (r : Fin 1024) (l : Fin 768) :
    outsAt0 m c t (ix2 r l) = entry (m ((c : Thread nD τ).loc main_arg0)) (m ((c : Thread nD τ).loc main_arg1)) (row t r) l := by
  unfold outsAt0
  rw [stored_eq, step_at, zero_at, zero_add]
  exact Finset.sum_congr rfl fun x _ => by rw [blk0, blk1]

/-- What a point writes back is its block of the reference's result. -/
theorem flushed_eq (t : Fin cfg0.N) : (dats m 0 c).flushed 2 t = ((cfg0.win 2).blk t).view.read (Elt Ideal)
    (ref (m ((c : Thread nD τ).loc main_arg0)) (m ((c : Thread nD τ).loc main_arg1))) := by
  refine (flushed2 m c t).trans ?_
  funext y
  obtain ⟨r, l, rfl⟩ : ∃ (r : Fin 1024) (l : Fin 768), y = ix2 r l := ⟨y 0, y 1, (ix2_eta y).symm⟩
  refine (outs_at m c t r l).trans ?_
  show _ = ref (m ((c : Thread nD τ).loc main_arg0)) (m ((c : Thread nD τ).loc main_arg1)) (((cfg0.win 2).blk t).view.emb (ix2 r l))
  rw [emb2, ref_at]

/-- Every entry of the result is in some point's block. -/
theorem covered (y : S4096x768.Idx) : ∃ t : Fin cfg0.N, (cfg0.win 2).flush t = true ∧ y ∈ ((cfg0.win 2).blk t).view.set := by
  obtain ⟨i, j, rfl⟩ : ∃ (i : Fin 4096) (j : Fin 768), y = ix2 i j := ⟨y 0, y 1, (ix2_eta y).symm⟩
  have hN : i.val / 1024 < cfg0.N := by rw [show cfg0.N = 4 from N_0]; omega
  refine ⟨⟨_, hN⟩, flush2 _, ?_⟩
  have h := ((cfg0.win 2).blk ⟨_, hN⟩).view.emb_mem_set (ix2 ⟨i.val % 1024, by omega⟩ j)
  rw [emb2] at h
  rwa [show row ⟨_, hN⟩ ⟨i.val % 1024, by omega⟩ = i from Fin.ext (by dsimp only [row]; omega)] at h

/-- The kernel leaves the reference's array. -/
theorem result_eq : (dats m 0 c).arrAt 2 cfg0.N = ref (m ((c : Thread nD τ).loc main_arg0)) (m ((c : Thread nD τ).loc main_arg1)) :=
  (dats m 0 c).arrAt_eq_of_cover 2 _ (fun t _ => flushed_eq m c t) covered

end Cert.KernelQnIdeal.Product

end
-- ==== Proof.Kvn.lean ====
/- The gradient `d · wᵀ` of the keys' and values' normed latent, on exact numbers: every grid point multiplies 1024 rows of `d` with the
   whole of `wᵀ` and stores the product, so every entry is the reference's sum over all 2048 terms. -/
module

public import proofs.«01_k».proof.Proof.Gen.KernelKvnIdeal.Value
public import proofs.«01_k».proof.Proof.Gen.ReferenceKvnIdeal.Run
public import Idealize.ShloMosaic.Lib.Pipeline.ValueKit.Geometry
public import Idealize.ShloMosaic.Lib.Pipeline.ValueKit.Acc
public import Idealize.ShloMosaic.Lib.Pointwise

@[expose] public section

set_option maxRecDepth 16384

noncomputable section

namespace Cert.KernelKvnIdeal.Product

open Cert.KernelKvnIdeal Cert.KernelKvnIdeal.Gen Cert.KernelKvnIdeal.Value
open Idealize.ShloMosaic Idealize.ShloMosaic.TcCoe Idealize.SL.Sem

theorem zz : (![0, 0] : Fin 2 → Nat) = fun _ => 0 := funext fun a => by fin_cases a <;> rfl

/-- A point stores the product of its blocks, added to zeros. -/
theorem stored_eq {F : FTy → Type} [FloatOps F] (c : Dev nD) (i : grid0.Coords) (arg3 : Memref sig .tc .vmem S1024x2048 .bf16) (harg3 : arg3.IsWhole)
    (arg4 : Memref sig .tc .vmem S512x2048 .bf16) (harg4 : arg4.IsWhole) (arg5 : Memref sig .tc .vmem S1024x512 .f32) (harg5 : arg5.IsWhole)
    (arg6 : Memref sig .tc .vmem S1024x512 .f32) (harg6 : arg6.IsWhole) (hc0 : cond0_0 i) (hc1 : cond0_1 i)
    (x0 : Vec F S1024x2048 .bf16) (x1 : Vec F S512x2048 .bf16) :
    out0_A_2 c i arg3 harg3 arg4 harg4 arg5 harg5 arg6 harg6 hc0 hc1 x0 x1 = k0_pay2 k0_pay1 x0 x1 := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero zz, View.readCov_cons_toLoadRect, View.readCov_cons_toLoadRect]
  simp only [View.readAt_eq_ld, harg3.read_unread, harg4.read_unread, View.ld_unit_zero (S := S1024x2048) zz, View.ld_unit_zero (S := S512x2048) zz]

/-- Entry `(i, j)` of `d · wᵀ`. -/
def entry (w : FVec Ideal S512x2048 .bf16) (d : FVec Ideal S4096x2048 .bf16) (i : Fin 4096) (j : Fin 512) : EReal :=
  ∑ k : Fin 2048, d (ix2 i k) * w (ix2 j k)

/-- The reference's result, as a function of the arguments. -/
def ref (w : FVec Ideal S512x2048 .bf16) (d : FVec Ideal S4096x2048 .bf16) : FVec Ideal S4096x512 .f32 :=
  Host.dotGeneral ReferenceKvnIdeal.dot_S4096x2048_S512x2048_S4096x512_1_1_0_0_n_n none (extf .f32 d ReferenceKvnIdeal.Gen.bitsLt_bf16_f32)
    (extf .f32 w ReferenceKvnIdeal.Gen.bitsLt_bf16_f32)

theorem ref_at (w : FVec Ideal S512x2048 .bf16) (d : FVec Ideal S4096x2048 .bf16) (i : Fin 4096) (j : Fin 512) : ref w d (ix2 i j) = entry w d i j := by
  unfold entry
  pointwise [ref]

theorem zero_at (y : S1024x512.Idx) : k0_pay1 (F := Ideal) y = 0 := by
  show Ideal.ofBits .f32 0x00000000#32 = 0
  simp [Ideal.ofBits, Ideal.ieee]

theorem step_at (s : FVec Ideal S1024x512 .f32) (x0 : FVec Ideal S1024x2048 .bf16) (x1 : FVec Ideal S512x2048 .bf16) (r : Fin 1024) (l : Fin 512) :
    k0_pay2 (F := Ideal) s x0 x1 (ix2 r l) = s (ix2 r l) + ∑ x : Fin 2048, x0 (ix2 r x) * x1 (ix2 l x) := by
  pointwise [k0_pay2]

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem flush2 : ∀ t : Fin cfg0.N, (cfg0.win 2).flush t = true := (by decide +kernel : ∀ t : Fin grid0.N, win0_2.flush t = true)

theorem lt_4 (t : Fin cfg0.N) : t.val < 4 := Nat.lt_of_lt_of_eq t.isLt N_0

/-- The row of the array that is row `r` of point `t`'s block. -/
def row (t : Fin cfg0.N) (r : Fin 1024) : Fin 4096 := ⟨1024 * t.val + r.val, by have := lt_4 t; omega⟩

theorem blk0 (t : Fin cfg0.N) (r : Fin 1024) (x : Fin 2048) : iblk m c 0 t (ix2 r x) = m ((c : Thread nD τ).loc main_arg1) (ix2 (row t r) x) := by
  have ht := lt_4 t
  rw [← V_main_arg1 m c]
  blk_simp [iblk]
  exact congrArg _ (by blk_ext [idx0, row])

theorem blk1 (t : Fin cfg0.N) (l : Fin 512) (x : Fin 2048) : iblk m c 1 t (ix2 l x) = m ((c : Thread nD τ).loc main_arg0) (ix2 l x) := by
  rw [← V_main_arg0 m c]
  blk_simp [iblk]
  exact congrArg _ (by blk_ext [idx1])

theorem emb2 (t : Fin cfg0.N) (r : Fin 1024) (l : Fin 512) : ((cfg0.win 2).blk t).view.emb (ix2 r l) = ix2 (row t r) l := by
  have ht := lt_4 t
  blk_ext [idx2, row]

/-- What a point leaves in its block. -/
theorem outs_at (t : Fin cfg0.N) (r : Fin 1024) (l : Fin 512) :
    outsAt0 m c t (ix2 r l) = entry (m ((c : Thread nD τ).loc main_arg0)) (m ((c : Thread nD τ).loc main_arg1)) (row t r) l := by
  unfold outsAt0
  rw [stored_eq, step_at, zero_at, zero_add]
  exact Finset.sum_congr rfl fun x _ => by rw [blk0, blk1]

/-- What a point writes back is its block of the reference's result. -/
theorem flushed_eq (t : Fin cfg0.N) : (dats m 0 c).flushed 2 t = ((cfg0.win 2).blk t).view.read (Elt Ideal)
    (ref (m ((c : Thread nD τ).loc main_arg0)) (m ((c : Thread nD τ).loc main_arg1))) := by
  refine (flushed2 m c t).trans ?_
  funext y
  obtain ⟨r, l, rfl⟩ : ∃ (r : Fin 1024) (l : Fin 512), y = ix2 r l := ⟨y 0, y 1, (ix2_eta y).symm⟩
  refine (outs_at m c t r l).trans ?_
  show _ = ref (m ((c : Thread nD τ).loc main_arg0)) (m ((c : Thread nD τ).loc main_arg1)) (((cfg0.win 2).blk t).view.emb (ix2 r l))
  rw [emb2, ref_at]

/-- Every entry of the result is in some point's block. -/
theorem covered (y : S4096x512.Idx) : ∃ t : Fin cfg0.N, (cfg0.win 2).flush t = true ∧ y ∈ ((cfg0.win 2).blk t).view.set := by
  obtain ⟨i, j, rfl⟩ : ∃ (i : Fin 4096) (j : Fin 512), y = ix2 i j := ⟨y 0, y 1, (ix2_eta y).symm⟩
  have hN : i.val / 1024 < cfg0.N := by rw [show cfg0.N = 4 from N_0]; omega
  refine ⟨⟨_, hN⟩, flush2 _, ?_⟩
  have h := ((cfg0.win 2).blk ⟨_, hN⟩).view.emb_mem_set (ix2 ⟨i.val % 1024, by omega⟩ j)
  rw [emb2] at h
  rwa [show row ⟨_, hN⟩ ⟨i.val % 1024, by omega⟩ = i from Fin.ext (by dsimp only [row]; omega)] at h

/-- The kernel leaves the reference's array. -/
theorem result_eq : (dats m 0 c).arrAt 2 cfg0.N = ref (m ((c : Thread nD τ).loc main_arg0)) (m ((c : Thread nD τ).loc main_arg1)) :=
  (dats m 0 c).arrAt_eq_of_cover 2 _ (fun t _ => flushed_eq m c t) covered

end Cert.KernelKvnIdeal.Product

end
-- ==== Proof.Kv.lean ====
/- The product `a · w` that makes the keys and values out of their normed latent `a`, on exact numbers: every grid point multiplies
   1024 rows of `a` with 512 columns of `w` and stores the product, so every entry is the reference's sum over all 512 terms. -/
module

public import proofs.«01_k».proof.Proof.Gen.KernelKvIdeal.Value
public import proofs.«01_k».proof.Proof.Gen.ReferenceKvIdeal.Run
public import Idealize.ShloMosaic.Lib.Pipeline.ValueKit.Geometry
public import Idealize.ShloMosaic.Lib.Pipeline.ValueKit.Acc
public import Idealize.ShloMosaic.Lib.Pointwise

@[expose] public section

set_option maxRecDepth 16384

noncomputable section

namespace Cert.KernelKvIdeal.Product

open Cert.KernelKvIdeal Cert.KernelKvIdeal.Gen Cert.KernelKvIdeal.Value
open Idealize.ShloMosaic Idealize.ShloMosaic.TcCoe Idealize.SL.Sem

theorem zz : (![0, 0] : Fin 2 → Nat) = fun _ => 0 := funext fun a => by fin_cases a <;> rfl

/-- A point stores the product of its blocks, added to zeros and rounded. -/
theorem stored_eq {F : FTy → Type} [FloatOps F] (c : Dev nD) (i : grid0.Coords) (arg3 : Memref sig .tc .vmem S1024x512 .bf16) (harg3 : arg3.IsWhole)
    (arg4 : Memref sig .tc .vmem S512x512 .bf16) (harg4 : arg4.IsWhole) (arg5 : Memref sig .tc .vmem S1024x512 .bf16) (harg5 : arg5.IsWhole)
    (arg6 : Memref sig .tc .vmem S1024x512 .f32) (harg6 : arg6.IsWhole) (hc0 : cond0_0 i) (hc1 : cond0_1 i)
    (x0 : Vec F S1024x512 .bf16) (x1 : Vec F S512x512 .bf16) :
    out0_A_2 c i arg3 harg3 arg4 harg4 arg5 harg5 arg6 harg6 hc0 hc1 x0 x1 = k0_pay3 (k0_pay2 k0_pay1 x0 x1) := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero zz, View.readCov_cons_toLoadRect, View.readCov_cons_toLoadRect]
  simp only [View.readAt_eq_ld, harg3.read_unread, harg4.read_unread, View.ld_unit_zero (S := S1024x512) zz, View.ld_unit_zero (S := S512x512) zz]

/-- Entry `(i, j)` of the product of `a` and `w`. -/
def entry (a : FVec Ideal S4096x512 .bf16) (w : FVec Ideal S512x2048 .bf16) (i : Fin 4096) (j : Fin 2048) : EReal :=
  ∑ k : Fin 512, a (ix2 i k) * w (ix2 k j)

/-- The reference's result, as a function of the arguments. -/
def ref (a : FVec Ideal S4096x512 .bf16) (w : FVec Ideal S512x2048 .bf16) : FVec Ideal S4096x2048 .bf16 :=
  truncf .bf16 (Host.dotGeneral (φ₁ := .f32) (φ₂ := .f32) ReferenceKvIdeal.dot_S4096x512_S512x2048_S4096x2048_1_0_0_1_n_n none
    (extf .f32 a ReferenceKvIdeal.Gen.bitsLt_bf16_f32) (extf .f32 w ReferenceKvIdeal.Gen.bitsLt_bf16_f32)) ReferenceKvIdeal.Gen.bitsLt_bf16_f32

theorem ref_at (a : FVec Ideal S4096x512 .bf16) (w : FVec Ideal S512x2048 .bf16) (i : Fin 4096) (j : Fin 2048) : ref a w (ix2 i j) = entry a w i j := by
  unfold entry
  pointwise [ref]

theorem zero_at (y : S1024x512.Idx) : k0_pay1 (F := Ideal) y = 0 := by
  show Ideal.ofBits .f32 0x00000000#32 = 0
  simp [Ideal.ofBits, Ideal.ieee]

theorem step_at (s : FVec Ideal S1024x512 .f32) (x0 : FVec Ideal S1024x512 .bf16) (x1 : FVec Ideal S512x512 .bf16) (r : Fin 1024) (l : Fin 512) :
    k0_pay2 (F := Ideal) s x0 x1 (ix2 r l) = s (ix2 r l) + ∑ x : Fin 512, x0 (ix2 r x) * x1 (ix2 x l) := by
  pointwise [k0_pay2]

variable (m : (ℓ : Loc nD τ sig) → Buf (Elt Ideal) ℓ) (c : Dev nD)

theorem idx0 : ∀ t : Fin cfg0.N, win0_0.index t = ![t.val / 4, 0] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, t.val % 4] := (by decide +kernel : ∀ t : Fin grid0.N, _)
theorem flush2 : ∀ t : Fin cfg0.N, (cfg0.win 2).flush t = true := (by decide +kernel : ∀ t : Fin grid0.N, win0_2.flush t = true)

theorem lt_16 (t : Fin cfg0.N) : t.val < 16 := Nat.lt_of_lt_of_eq t.isLt N_0

/-- The row of the array that is row `r` of point `t`'s block, -/
def row (t : Fin cfg0.N) (r : Fin 1024) : Fin 4096 := ⟨1024 * (t.val / 4) + r.val, by have := lt_16 t; omega⟩
/-- and the column that is column `l` of it. -/
def col (t : Fin cfg0.N) (l : Fin 512) : Fin 2048 := ⟨512 * (t.val % 4) + l.val, by omega⟩

theorem blk0 (t : Fin cfg0.N) (r : Fin 1024) (x : Fin 512) : iblk m c 0 t (ix2 r x) = m ((c : Thread nD τ).loc main_arg0) (ix2 (row t r) x) := by
  have ht := lt_16 t
  rw [← V_main_arg0 m c]
  blk_simp [iblk]
  exact congrArg _ (by blk_ext [idx0, row])

theorem blk1 (t : Fin cfg0.N) (x : Fin 512) (l : Fin 512) : iblk m c 1 t (ix2 x l) = m ((c : Thread nD τ).loc main_arg1) (ix2 x (col t l)) := by
  have ht := lt_16 t
  rw [← V_main_arg1 m c]
  blk_simp [iblk]
  exact congrArg _ (by blk_ext [idx1, col])

theorem emb2 (t : Fin cfg0.N) (r : Fin 1024) (l : Fin 512) : ((cfg0.win 2).blk t).view.emb (ix2 r l) = ix2 (row t r) (col t l) := by
  have ht := lt_16 t
  blk_ext [idx2, row, col]

/-- What a point leaves in its block. -/
theorem outs_at (t : Fin cfg0.N) (r : Fin 1024) (l : Fin 512) :
    outsAt0 m c t (ix2 r l) = entry (m ((c : Thread nD τ).loc main_arg0)) (m ((c : Thread nD τ).loc main_arg1)) (row t r) (col t l) := by
  unfold outsAt0
  rw [stored_eq]
  refine (step_at _ _ _ r l).trans ?_
  rw [zero_at, zero_add]
  exact Finset.sum_congr rfl fun x _ => by rw [blk0, blk1]

/-- What a point writes back is its block of the reference's result. -/
theorem flushed_eq (t : Fin cfg0.N) : (dats m 0 c).flushed 2 t = ((cfg0.win 2).blk t).view.read (Elt Ideal)
    (ref (m ((c : Thread nD τ).loc main_arg0)) (m ((c : Thread nD τ).loc main_arg1))) := by
  refine (flushed2 m c t).trans ?_
  funext y
  obtain ⟨r, l, rfl⟩ : ∃ (r : Fin 1024) (l : Fin 512), y = ix2 r l := ⟨y 0, y 1, (ix2_eta y).symm⟩
  refine (outs_at m c t r l).trans ?_
  show _ = ref (m ((c : Thread nD τ).loc main_arg0)) (m ((c : Thread nD τ).loc main_arg1)) (((cfg0.win 2).blk t).view.emb (ix2 r l))
  rw [emb2, ref_at]

/-- Every entry of the result is in some point's block. -/
theorem covered (y : S4096x2048.Idx) : ∃ t : Fin cfg0.N, (cfg0.win 2).flush t = true ∧ y ∈ ((cfg0.win 2).blk t).view.set := by
  obtain ⟨i, j, rfl⟩ : ∃ (i : Fin 4096) (j : Fin 2048), y = ix2 i j := ⟨y 0, y 1, (ix2_eta y).symm⟩
  have hN : 4 * (i.val / 1024) + j.val / 512 < cfg0.N := by rw [show cfg0.N = 16 from N_0]; omega
  refine ⟨⟨_, hN⟩, flush2 _, ?_⟩
  have h := ((cfg0.win 2).blk ⟨_, hN⟩).view.emb_mem_set (ix2 ⟨i.val % 1024, by omega⟩ ⟨j.val % 512, by omega⟩)
  rw [emb2] at h
  rwa [show row ⟨_, hN⟩ ⟨i.val % 1024, by omega⟩ = i from Fin.ext (by dsimp only [row]; omega),
    show col ⟨_, hN⟩ ⟨j.val % 512, by omega⟩ = j from Fin.ext (by dsimp only [col]; omega)] at h

/-- The kernel leaves the reference's array. -/
theorem result_eq : (dats m 0 c).arrAt 2 cfg0.N = ref (m ((c : Thread nD τ).loc main_arg0)) (m ((c : Thread nD τ).loc main_arg1)) :=
  (dats m 0 c).arrAt_eq_of_cover 2 _ (fun t _ => flushed_eq m c t) covered

end Cert.KernelKvIdeal.Product

end
-- ==== Proof.ClaimsUp.lean ====
/- The claims for the gradients of the normed latents and for the keys' and values' up-projection: the frames, and the equality of
   the results, which needs no precondition. -/
module

public import proofs.«01_k».proof.Defs
public import proofs.«01_k».proof.Proof.Gen.KernelQn.Frame
public import proofs.«01_k».proof.Proof.Gen.KernelKvn.Frame
public import proofs.«01_k».proof.Proof.Gen.KernelKv.Frame
public import proofs.«01_k».proof.Proof.Qn
public import proofs.«01_k».proof.Proof.Kvn
public import proofs.«01_k».proof.Proof.Kv
public import Idealize.ShloMosaic.Lib.Quiescent

@[expose] public section

noncomputable section

open Idealize.ShloMosaic Idealize.SL.Sem

/-! ## The queries' normed latent -/
namespace Cert.Proof.ClaimsQn

theorem frame_p : Cert.quiescent_KernelQn := fun m ρ _ => Cert.KernelQn.Gen.frame m ρ
theorem frame_pi : Cert.quiescent_KernelQnIdeal := fun m ρ _ => Cert.KernelQnIdeal.Gen.frame m ρ
theorem frame_ri : Cert.quiescent_ReferenceQnIdeal := fun m ρ _ =>
  (θ_run Cert.ReferenceQnIdeal.defs _ _).mono (fun r h => ⟨fun c => (h c).2, Idealize.ShloMosaic.sem_eq_zero_of_no_sems (by decide) r.2⟩)
    (Cert.ReferenceQnIdeal.Value.run (F := Ideal) m ρ)

theorem preserves : Cert.preserves_KernelQn_KernelQnIdeal := trivial

theorem algebraic : Cert.algebraic_KernelQnIdeal_ReferenceQnIdeal := by
  intro m ρ m' ρ' _ hagree
  refine ⟨_, Cert.KernelQnIdeal.Value.run_blocks (F := Ideal) m ρ, ?_⟩
  refine (θ_run Cert.ReferenceQnIdeal.defs _ _).mono (fun r h c => ⟨(h c).1.trans ?_, (h c).2⟩) (Cert.ReferenceQnIdeal.Value.run (F := Ideal) m' ρ')
  obtain ⟨g0, g1⟩ := hagree c
  rw [g0, g1]
  exact (Cert.KernelQnIdeal.Product.result_eq m c).symm

end Cert.Proof.ClaimsQn

/-! ## The keys' and values' normed latent -/
namespace Cert.Proof.ClaimsKvn

theorem frame_p : Cert.quiescent_KernelKvn := fun m ρ _ => Cert.KernelKvn.Gen.frame m ρ
theorem frame_pi : Cert.quiescent_KernelKvnIdeal := fun m ρ _ => Cert.KernelKvnIdeal.Gen.frame m ρ
theorem frame_ri : Cert.quiescent_ReferenceKvnIdeal := fun m ρ _ =>
  (θ_run Cert.ReferenceKvnIdeal.defs _ _).mono (fun r h => ⟨fun c => (h c).2, Idealize.ShloMosaic.sem_eq_zero_of_no_sems (by decide) r.2⟩)
    (Cert.ReferenceKvnIdeal.Value.run (F := Ideal) m ρ)

theorem preserves : Cert.preserves_KernelKvn_KernelKvnIdeal := trivial

theorem algebraic : Cert.algebraic_KernelKvnIdeal_ReferenceKvnIdeal := by
  intro m ρ m' ρ' _ hagree
  refine ⟨_, Cert.KernelKvnIdeal.Value.run_blocks (F := Ideal) m ρ, ?_⟩
  refine (θ_run Cert.ReferenceKvnIdeal.defs _ _).mono (fun r h c => ⟨(h c).1.trans ?_, (h c).2⟩) (Cert.ReferenceKvnIdeal.Value.run (F := Ideal) m' ρ')
  obtain ⟨g0, g1⟩ := hagree c
  rw [g0, g1]
  exact (Cert.KernelKvnIdeal.Product.result_eq m c).symm

end Cert.Proof.ClaimsKvn

/-! ## The keys and values -/
namespace Cert.Proof.ClaimsKv

theorem frame_p : Cert.quiescent_KernelKv := fun m ρ _ => Cert.KernelKv.Gen.frame m ρ
theorem frame_pi : Cert.quiescent_KernelKvIdeal := fun m ρ _ => Cert.KernelKvIdeal.Gen.frame m ρ
theorem frame_ri : Cert.quiescent_ReferenceKvIdeal := fun m ρ _ =>
  (θ_run Cert.ReferenceKvIdeal.defs _ _).mono (fun r h => ⟨fun c => (h c).2, Idealize.ShloMosaic.sem_eq_zero_of_no_sems (by decide) r.2⟩)
    (Cert.ReferenceKvIdeal.Value.run (F := Ideal) m ρ)

theorem preserves : Cert.preserves_KernelKv_KernelKvIdeal := trivial

theorem algebraic : Cert.algebraic_KernelKvIdeal_ReferenceKvIdeal := by
  intro m ρ m' ρ' _ hagree
  refine ⟨_, Cert.KernelKvIdeal.Value.run_blocks (F := Ideal) m ρ, ?_⟩
  refine (θ_run Cert.ReferenceKvIdeal.defs _ _).mono (fun r h c => ⟨(h c).1.trans ?_, (h c).2⟩) (Cert.ReferenceKvIdeal.Value.run (F := Ideal) m' ρ')
  obtain ⟨g0, g1⟩ := hagree c
  rw [g0, g1]
  exact (Cert.KernelKvIdeal.Product.result_eq m c).symm

end Cert.Proof.ClaimsKv

end
-- ==== Proof.Dg.lean ====
/- The gradient through the gate, on exact numbers: every grid point multiplies 1024 rows of `d` with 512 columns of `wᵀ`, and the
   product with `g · σ(g)`, the gate; each entry is the reference's. -/
module

public import proofs.«01_k».proof.Proof.Gen.KernelDgIdeal.Value
public import proofs.«01_k».proof.Proof.Gen.ReferenceDgIdeal.Run
public import Idealize.ShloMosaic.Lib.Pipeline.ValueKit.Geometry
public import Idealize.ShloMosaic.Lib.Pipeline.ValueKit.Acc
public import Idealize.ShloMosaic.Lib.Pointwise

@[expose] public section

set_option maxRecDepth 16384

noncomputable section

namespace Cert.KernelDgIdeal.Gate

open Cert.KernelDgIdeal Cert.KernelDgIdeal.Gen Cert.KernelDgIdeal.Value
open Idealize.ShloMosaic Idealize.ShloMosaic.TcCoe Idealize.SL.Sem

theorem zz : (![0, 0] : Fin 2 → Nat) = fun _ => 0 := funext fun a => by fin_cases a <;> rfl

section Stored

variable {F : FTy → Type} [FloatOps F] (c : Dev nD) (i : grid0.Coords) (arg2 : Memref sig .tc .vmem S1024x2048 .bf16) (harg2 : arg2.IsWhole)
  (arg3 : Memref sig .tc .vmem S512x2048 .bf16) (harg3 : arg3.IsWhole) (arg4 : Memref sig .tc .vmem S1024x512 .f32) (harg4 : arg4.IsWhole)
  (arg5 : Memref sig .tc .vmem S1024x512 .bf16) (harg5 : arg5.IsWhole) (arg6 : Memref sig .tc .vmem S1024x512 .bf16) (harg6 : arg6.IsWhole)
  (arg7 : Memref sig .tc .vmem S1024x512 .bf16) (harg7 : arg7.IsWhole) (arg8 : Memref sig .tc .vmem S1024x128 .f32) (harg8 : arg8.IsWhole)
  (x0 : Vec F S1024x2048 .bf16) (x1 : Vec F S512x2048 .bf16) (x2 : Vec F S1024x512 .f32) (x3 : Vec F S1024x512 .bf16)

/-- The numbers of the lanes. -/
abbrev lanes : IVec S1024x128 32 := iota .tc S1024x128 32 [1] iota_S1024x128_d1_w32

/-- The first point of a row of blocks stores the gated product. -/
theorem first_d (hc0 : cond0_0 i) :
    out0_A_4 c i arg2 harg2 arg3 harg3 arg4 harg4 arg5 harg5 arg6 harg6 arg7 harg7 arg8 harg8 hc0 x0 x1 x2 x3 = k0_pay7 x0 x1 x3 := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_unit_zero zz]
  simp only [View.readAt_eq_ld, harg2.read_unread, harg3.read_unread, harg5.read_unread, View.ld_unit_zero (S := S1024x2048) zz,
    View.ld_unit_zero (S := S512x2048) zz, View.ld_unit_zero (S := S1024x512) zz]

/-- So does every other point. -/
theorem next_d (hc0 : ¬cond0_0 i) (s : Vec F S1024x128 .f32) :
    out0_B_4 c i arg2 harg2 arg3 harg3 arg4 harg4 arg5 harg5 arg6 harg6 arg7 harg7 arg8 harg8 hc0 x0 x1 x2 x3 s = k0_pay7 x0 x1 x3 := by
  unfold out0_B_4
  rw [View.read_writes_eq_canon _ _ _ (cover0_B_4 c i arg2 harg2 arg3 harg3 arg4 harg4 arg5 harg5 arg6 harg6 arg7 harg7 arg8 harg8 hc0 x0 x1 x2 x3 s)]
  unfold kernelRun0_B
  dsimp only
  sl_unfold_words
  rw [View.canon_unit_zero zz]
  simp only [View.readAt_eq_ld, harg2.read_unread, harg3.read_unread, harg5.read_unread, View.ld_unit_zero (S := S1024x2048) zz,
    View.ld_unit_zero (S := S512x2048) zz, View.ld_unit_zero (S := S1024x512) zz]

/-- The first point puts its four heads' sums into their lanes, over zeros. -/
theorem first_s (hc0 : cond0_0 i) :
    out0_A_6 c i arg2 harg2 arg3 harg3 arg4 harg4 arg5 harg5 arg6 harg6 arg7 harg7 arg8 harg8 hc0 x0 x1 x2 x3
      = k0_pay1 (BitVec.ofNat 32 (i 1).val) (k0_pay9 x0 x1 x3 x2) lanes k0_pay2 := by
  unfold out0_A_6
  rw [View.read_writes_eq_canon _ _ _ (cover0_A_6 c i arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S1024x128) zz, View.readCov_unit_zero (S := S1024x128) _ zz]
  simp only [View.readAt_eq_ld, harg2.read_unread, harg3.read_unread, harg4.read_unread, harg5.read_unread, View.ld_unit_zero (S := S1024x2048) zz,
    View.ld_unit_zero (S := S512x2048) zz, View.ld_unit_zero (S := S1024x512) zz]

/-- Every other point puts them over what the point before left. -/
theorem next_s (hc0 : ¬cond0_0 i) (s : Vec F S1024x128 .f32) :
    out0_B_6 c i arg2 harg2 arg3 harg3 arg4 harg4 arg5 harg5 arg6 harg6 arg7 harg7 arg8 harg8 hc0 x0 x1 x2 x3 s
      = k0_pay1 (BitVec.ofNat 32 (i 1).val) (k0_pay9 x0 x1 x3 x2) lanes s := by
  unfold out0_B_6
  rw [View.read_writes_eq_canon _ _ _ (cover0_B_6 c i arg2 harg2 arg3 harg3 arg4 harg4 arg5 harg5 arg6 harg6 arg7 harg7 arg8 harg8 hc0 x0 x1 x2 x3 s)]
  unfold kernelRun0_B
  dsimp only
  sl_unfold_words
  rw [View.canon_unit_zero zz]
  simp only [View.readAt_eq_ld, harg2.read_unread, harg3.read_unread, harg4.read_unread, harg5.read_unread, harg8.read_unread,
    View.ld_unit_zero (S := S1024x2048) zz, View.ld_unit_zero (S := S512x2048) zz, View.ld_unit_zero (S := S1024x512) zz,
    View.ld_unit_zero (S := S1024x128) zz]

end Stored

/-! ## The gated product -/

/-- The gate `g · σ(g)`, `σ(g) = 1 / (1 + e⁻ᵍ)`. -/
def silu (g : EReal) : EReal := g * Ideal.div 1 (1 + Ideal.exp (-g))

/-- Entry `(i, j)` of the gradient: `(d · wᵀ)` times the gate. -/
def entry (d : FVec Ideal S4096x2048 .bf16) (w : FVec Ideal S2048x2048 .bf16) (p : FVec Ideal S4096x6656 .bf16) (i : Fin 4096) (j : Fin 2048) : EReal :=
  (∑ k : Fin 2048, d (ix2 i k) * w (ix2 j k)) * silu (p (ix2 i ⟨1536 + j.val, by omega⟩))

/-- The reference's gradient before its rounding, as a function of the arguments. -/
def grad (d : FVec Ideal S4096x2048 .bf16) (w : FVec Ideal S2048x2048 .bf16) (p : FVec Ideal S4096x6656 .bf16) : FVec Ideal S4096x2048 .f32 :=
  mulf (Host.dotGeneral ReferenceDgIdeal.dot_S4096x2048_S2048x2048_S4096x2048_1_1_0_0_n_n none (extf .f32 d ReferenceDgIdeal.Gen.bitsLt_bf16_f32)
      (extf .f32 w ReferenceDgIdeal.Gen.bitsLt_bf16_f32))
    (mulf (extf .f32 (extractStridedSlice S4096x2048 ![0, 1536] p ReferenceDgIdeal.Gen.slices_S4096x6656_S4096x2048_0_1536) ReferenceDgIdeal.Gen.bitsLt_bf16_f32)
      (Host.divf (broadcastInDim S4096x2048 ![] ReferenceDgIdeal.Gen.bcast_S_S4096x2048 (constant ReferenceDgIdeal.S_ .f32 0x3F800000#32))
        (addf (broadcastInDim S4096x2048 ![] ReferenceDgIdeal.Gen.bcast_S_S4096x2048 (constant ReferenceDgIdeal.S_ .f32 0x3F800000#32))
          (Host.exp (Host.negf (extf .f32 (extractStridedSlice S4096x2048 ![0, 1536] p ReferenceDgIdeal.Gen.slices_S4096x6656_S4096x2048_0_1536)
            ReferenceDgIdeal.Gen.bitsLt_bf16_f32))))))

theorem grad_at (d : FVec Ideal S4096x2048 .bf16) (w : FVec Ideal S2048x2048 .bf16) (p : FVec Ideal S4096x6656 .bf16) (i : Fin 4096) (j : Fin 2048) :
    grad d w p (ix2 i j) = entry d w p i j := by
  unfold entry silu
  pointwise [grad]

theorem zero_at (y : S1024x128.Idx) : k0_pay2 (F := Ideal) y = 0 := by
  show Ideal.ofBits .f32 0x00000000#32 = 0
  simp [Ideal.ofBits, Ideal.ieee]

theorem gated_at (x0 : FVec Ideal S1024x2048 .bf16) (x1 : FVec Ideal S512x2048 .bf16) (x3 : FVec Ideal S1024x512 .bf16) (r : Fin 1024) (l : Fin 512) :
    k0_pay6 (F := Ideal) x0 x1 x3 (ix2 r l) = (∑ x : Fin 2048, x0 (ix2 r x) * x1 (ix2 l x)) * silu (x3 (ix2 r l)) := by
  unfold silu
  pointwise [k0_pay6, k0_pay5, k0_pay4, k0_pay3]
  rw [zero_sub]

/-- What a point stores, before its rounding, times `o`. -/
theorem weighed_at (x0 : FVec Ideal S1024x2048 .bf16) (x1 : FVec Ideal S512x2048 .bf16) (x2 : FVec Ideal S1024x512 .f32) (x3 : FVec Ideal S1024x512 .bf16)
    (y : S1024x512.Idx) : k0_pay9 (F := Ideal) x0 x1 x3 x2 y = k0_pay6 (F := Ideal) x0 x1 x3 y * x2 y := rfl

/-- Lane `j` is lane `u` of the four that belong to block `a` of the columns. -/
theorem lane_eq : ∀ (j : Fin 128) (a u : Fin 4), IntOp.cmpi CmpIPredicate.eq (BitVec.ofNat 32 j.val)
    (Scalar.addi (Scalar.muli 4#32 (BitVec.ofNat 32 a.val)) (BitVec.ofNat 32 u.val)) = if j.val = 4 * a.val + u.val then 1#1 else 0#1 := by
  decide +kernel

/-- Lane `j` takes the sum of its head where the head is one of the point's four, and keeps what it held where not. -/
theorem heads_at (a : Fin 4) (v : FVec Ideal S1024x512 .f32) (s : FVec Ideal S1024x128 .f32) (r : Fin 1024) (j : Fin 128) :
    k0_pay1 (F := Ideal) (BitVec.ofNat 32 a.val) v lanes s (ix2 r j)
      = if j.val / 4 = a.val then ∑ q : Fin 128, v (ix2 r ⟨128 * (j.val % 4) + q.val, by omega⟩) else s (ix2 r j) := by
  pointwise [k0_pay1]
  rw [show (0#32) = BitVec.ofNat 32 (0 : Fin 4).val from rfl, lane_eq, show (1#32) = BitVec.ofNat 32 (1 : Fin 4).val from rfl, lane_eq,
    show (2#32) = BitVec.ofNat 32 (2 : Fin 4).val from rfl, lane_eq, show (3#32) = BitVec.ofNat 32 (3 : Fin 4).val from rfl, lane_eq]
  rw [show (3 : Fin 4).val = 3 from rfl, show (2 : Fin 4).val = 2 from rfl, show (1 : Fin 4).val = 1 from rfl, show (0 : Fin 4).val = 0 from rfl]
  by_cases h3 : j.val = 4 * a.val + 3
  · rw [if_pos h3, ValueIdx.select_one, if_pos (by omega)]
    exact Finset.sum_congr rfl fun q _ => congrArg v (congrArg (ix2 r) (Fin.ext (by dsimp only; omega)))
  rw [if_neg h3, ValueIdx.select_zero]
  by_cases h2 : j.val = 4 * a.val + 2
  · rw [if_pos h2, ValueIdx.select_one, if_pos (by omega)]
    exact Finset.sum_congr rfl fun q _ => congrArg v (congrArg (ix2 r) (Fin.ext (by dsimp only; omega)))
  rw [if_neg h2, ValueIdx.select_zero]
  by_cases h1 : j.val = 4 * a.val + 1
  · rw [if_pos h1, ValueIdx.select_one, if_pos (by omega)]
    exact Finset.sum_congr rfl fun q _ => congrArg v (congrArg (ix2 r) (Fin.ext (by dsimp only; omega)))
  rw [if_neg h1, ValueIdx.select_zero]
  by_cases h0 : j.val = 4 * a.val + 0
  · rw [if_pos h0, ValueIdx.select_one, if_pos (by omega)]
    exact Finset.sum_congr rfl fun q _ => congrArg v (congrArg (ix2 r) (Fin.ext (by dsimp only; omega)))
  rw [if_neg h0, ValueIdx.select_zero, if_neg (by omega)]

/-- The reference's sums over the heads, as a function of the arguments. -/
def delta (d : FVec Ideal S4096x2048 .bf16) (w : FVec Ideal S2048x2048 .bf16) (o : FVec Ideal S4096x2048 .f32) (p : FVec Ideal S4096x6656 .bf16) :
    FVec Ideal S4096x128 .f32 :=
  concatenate S4096x128 1
    [⟨ReferenceDgIdeal.S4096x16, Host.reduceAdd (shapeCast ReferenceDgIdeal.S4096x16x128 (mulf (grad d w p) o) ReferenceDgIdeal.Gen.shapeCasts_S4096x2048_S4096x16x128)
        (constant ReferenceDgIdeal.S_ .f32 0x00000000#32) ReferenceDgIdeal.Gen.reducesTo_S4096x16x128_S4096x16_d2 ReferenceDgIdeal.Gen.h_S_⟩,
      ⟨ReferenceDgIdeal.S4096x112, broadcastInDim ReferenceDgIdeal.S4096x112 ![] ReferenceDgIdeal.Gen.bcast_S_S4096x112 (constant ReferenceDgIdeal.S_ .f32 0x00000000#32)⟩]
    ReferenceDgIdeal.Gen.concatenates_S4096x16_S4096x112_S4096x128_d1

/-- Lane `j` of the sums: head `j`'s, or nothing past the last head. -/
def total (d : FVec Ideal S4096x2048 .bf16) (w : FVec Ideal S2048x2048 .bf16) (o : FVec Ideal S4096x2048 .f32) (p : FVec Ideal S4096x6656 .bf16)
    (i : Fin 4096) (j : Fin 128) : EReal :=
  if h : j.val < 16 then ∑ q : Fin 128, entry d w p i ⟨j.val * 128 + q.val, by omega⟩ * o (ix2 i ⟨j.val * 128 + q.val, by omega⟩) else 0

theorem delta_at (d : FVec Ideal S4096x2048 .bf16) (w : FVec Ideal S2048x2048 .bf16) (o : FVec Ideal S4096x2048 .f32) (p : FVec Ideal S4096x6656 .bf16)
    (i : Fin 4096) (j : Fin 128) : delta d w o p (ix2 i j) = total d w o p i j := by
  unfold total
  pointwise [delta]
  simp only [grad_at]

/-! ## The points' blocks -/

variable (m : (ℓ : Loc nD τ sig) → Buf (Elt Ideal) ℓ) (c : Dev nD)

theorem idx0 : ∀ t : Fin cfg0.N, win0_0.index t = ![t.val / 4, 0] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, t.val % 4] := (by decide +kernel : ∀ t : Fin grid0.N, _)
theorem idx3 : ∀ t : Fin cfg0.N, win0_3.index t = ![t.val / 4, 3 + t.val % 4] := (by decide +kernel : ∀ t : Fin grid0.N, _)
theorem idx4 : ∀ t : Fin cfg0.N, win0_4.index t = ![t.val / 4, t.val % 4] := (by decide +kernel : ∀ t : Fin grid0.N, _)
theorem idx6 : ∀ t : Fin cfg0.N, win0_6.index t = ![t.val / 4, 0] := (by decide +kernel : ∀ t : Fin grid0.N, _)
theorem flush4 : ∀ t : Fin cfg0.N, (cfg0.win 4).flush t = true := (by decide +kernel : ∀ t : Fin grid0.N, win0_4.flush t = true)
theorem flush6 : ∀ t : Fin cfg0.N, (cfg0.win 6).flush t = true ↔ t.val % 4 = 3 :=
  (by decide +kernel : ∀ t : Fin grid0.N, win0_6.flush t = true ↔ t.val % 4 = 3)
theorem column : ∀ t : Fin cfg0.N, (grid0.coords t 1).val = t.val % 4 := (by decide +kernel : ∀ t : Fin grid0.N, _)

theorem lt_16 (t : Fin cfg0.N) : t.val < 16 := Nat.lt_of_lt_of_eq t.isLt N_0

/-- The row of the array that is row `r` of point `t`'s block. -/
def row (t : Fin cfg0.N) (r : Fin 1024) : Fin 4096 := ⟨1024 * (t.val / 4) + r.val, by have := lt_16 t; omega⟩

/-- The column of the gate that is column `l` of point `t`'s block. -/
def col (t : Fin cfg0.N) (l : Fin 512) : Fin 2048 := ⟨512 * (t.val % 4) + l.val, by omega⟩

theorem blk0 (t : Fin cfg0.N) (r : Fin 1024) (x : Fin 2048) : iblk m c 0 t (ix2 r x) = m ((c : Thread nD τ).loc main_arg0) (ix2 (row t r) x) := by
  have ht := lt_16 t
  rw [← V_main_arg0 m c]
  blk_simp [iblk]
  exact congrArg _ (by blk_ext [idx0, row])

theorem blk1 (t : Fin cfg0.N) (l : Fin 512) (x : Fin 2048) : iblk m c 1 t (ix2 l x) = m ((c : Thread nD τ).loc main_arg1) (ix2 (col t l) x) := by
  rw [← V_main_arg1 m c]
  blk_simp [iblk]
  exact congrArg _ (by blk_ext [idx1, col])

theorem blk2 (t : Fin cfg0.N) (r : Fin 1024) (l : Fin 512) :
    iblk m c 2 t (ix2 r l) = m ((c : Thread nD τ).loc main_arg2) (ix2 (row t r) (col t l)) := by
  have ht := lt_16 t
  rw [← V_main_arg2 m c]
  blk_simp [iblk]
  exact congrArg _ (by blk_ext [idx2, row, col])

theorem blk3 (t : Fin cfg0.N) (r : Fin 1024) (l : Fin 512) :
    iblk m c 3 t (ix2 r l) = m ((c : Thread nD τ).loc main_arg3) (ix2 (row t r) ⟨1536 + (col t l).val, by omega⟩) := by
  have ht := lt_16 t
  rw [← V_main_arg3 m c]
  blk_simp [iblk]
  exact congrArg _ (by blk_ext [idx3, row, col])

theorem emb4 (t : Fin cfg0.N) (r : Fin 1024) (l : Fin 512) : ((cfg0.win 4).blk t).view.emb (ix2 r l) = ix2 (row t r) (col t l) := by
  have ht := lt_16 t
  blk_ext [idx4, row, col]

theorem emb6 (t : Fin cfg0.N) (r : Fin 1024) (j : Fin 128) : ((cfg0.win 6).blk t).view.emb (ix2 r j) = ix2 (row t r) j := by
  have ht := lt_16 t
  blk_ext [idx6, row]

/-- The product of a point's blocks with the gate is the reference's gradient there. -/
theorem point_at (t : Fin cfg0.N) (r : Fin 1024) (l : Fin 512) :
    k0_pay6 (F := Ideal) (iblk m c 0 t) (iblk m c 1 t) (iblk m c 3 t) (ix2 r l)
      = entry (m ((c : Thread nD τ).loc main_arg0)) (m ((c : Thread nD τ).loc main_arg1)) (m ((c : Thread nD τ).loc main_arg3)) (row t r) (col t l) := by
  rw [gated_at, blk3]
  unfold entry
  exact congrArg (· * _) (Finset.sum_congr rfl fun x _ => by rw [blk0, blk1])

/-! ## The gradient -/

theorem outs_d (t : Fin cfg0.N) : (outsAt0 m c t.val t.isLt).1 = k0_pay7 (F := Ideal) (iblk m c 0 t) (iblk m c 1 t) (iblk m c 3 t) := by
  by_cases h : t.val % 4 = 0
  · rw [outsAt0_A m c t h, first_d]
  · rw [outsAt0_B m c t h, next_d]

/-- The reference's gradient, as a function of the arguments. -/
def gradRounded (d : FVec Ideal S4096x2048 .bf16) (w : FVec Ideal S2048x2048 .bf16) (p : FVec Ideal S4096x6656 .bf16) : FVec Ideal S4096x2048 .bf16 :=
  truncf .bf16 (grad d w p) ReferenceDgIdeal.Gen.bitsLt_bf16_f32

/-- What a point writes back is its block of the gradient. -/
theorem flushed_d (t : Fin cfg0.N) : (dats m 0 c).flushed 4 t = ((cfg0.win 4).blk t).view.read (Elt Ideal)
    (gradRounded (m ((c : Thread nD τ).loc main_arg0)) (m ((c : Thread nD τ).loc main_arg1)) (m ((c : Thread nD τ).loc main_arg3))) := by
  refine (flushed4 m c t).trans ?_
  funext y
  obtain ⟨r, l, rfl⟩ : ∃ (r : Fin 1024) (l : Fin 512), y = ix2 r l := ⟨y 0, y 1, (ix2_eta y).symm⟩
  refine (congrFun (outs_d m c t) (ix2 r l)).trans ?_
  refine (point_at m c t r l).trans ?_
  show _ = grad (m ((c : Thread nD τ).loc main_arg0)) (m ((c : Thread nD τ).loc main_arg1)) (m ((c : Thread nD τ).loc main_arg3))
    (((cfg0.win 4).blk t).view.emb (ix2 r l))
  rw [emb4, grad_at]

/-- Every entry of the gradient is in some point's block. -/
theorem covered_d (y : S4096x2048.Idx) : ∃ t : Fin cfg0.N, (cfg0.win 4).flush t = true ∧ y ∈ ((cfg0.win 4).blk t).view.set := by
  obtain ⟨i, j, rfl⟩ : ∃ (i : Fin 4096) (j : Fin 2048), y = ix2 i j := ⟨y 0, y 1, (ix2_eta y).symm⟩
  have hN : 4 * (i.val / 1024) + j.val / 512 < cfg0.N := by rw [show cfg0.N = 16 from N_0]; omega
  refine ⟨⟨_, hN⟩, flush4 _, ?_⟩
  have h := ((cfg0.win 4).blk ⟨_, hN⟩).view.emb_mem_set (ix2 ⟨i.val % 1024, by omega⟩ ⟨j.val % 512, by omega⟩)
  rw [emb4] at h
  rwa [show row ⟨_, hN⟩ ⟨i.val % 1024, by omega⟩ = i from Fin.ext (by dsimp only [row]; omega),
    show col ⟨_, hN⟩ ⟨j.val % 512, by omega⟩ = j from Fin.ext (by dsimp only [col]; omega)] at h

/-- The kernel leaves the reference's gradient. -/
theorem grad_eq : (dats m 0 c).arrAt 4 cfg0.N
    = gradRounded (m ((c : Thread nD τ).loc main_arg0)) (m ((c : Thread nD τ).loc main_arg1)) (m ((c : Thread nD τ).loc main_arg3)) :=
  (dats m 0 c).arrAt_eq_of_cover 4 _ (fun t _ => flushed_d m c t) covered_d

/-! ## The sums over the heads -/

/-- A point's sum over its head `j` is the reference's. -/
theorem head_at (t : Fin cfg0.N) (r : Fin 1024) (j : Fin 128) (h : j.val / 4 = t.val % 4) :
    ∑ q : Fin 128, k0_pay9 (F := Ideal) (iblk m c 0 t) (iblk m c 1 t) (iblk m c 3 t) (iblk m c 2 t) (ix2 r ⟨128 * (j.val % 4) + q.val, by omega⟩)
      = total (m ((c : Thread nD τ).loc main_arg0)) (m ((c : Thread nD τ).loc main_arg1)) (m ((c : Thread nD τ).loc main_arg2))
          (m ((c : Thread nD τ).loc main_arg3)) (row t r) j := by
  unfold total
  rw [dif_pos (show j.val < 16 by omega)]
  refine Finset.sum_congr rfl fun q _ => ?_
  rw [weighed_at, point_at, blk2, show col t ⟨128 * (j.val % 4) + q.val, by omega⟩ = ⟨j.val * 128 + q.val, by omega⟩ from
    Fin.ext (by dsimp only [col]; omega)]

theorem sums_first (t : Fin cfg0.N) (h : t.val % 4 = 0) : (outsAt0 m c t.val t.isLt).2.2
    = k0_pay1 (BitVec.ofNat 32 (grid0.coords t 1).val) (k0_pay9 (iblk m c 0 t) (iblk m c 1 t) (iblk m c 3 t) (iblk m c 2 t)) lanes (k0_pay2 (F := Ideal)) := by
  rw [outsAt0_A m c t h, first_s]

theorem sums_next (t : Fin cfg0.N) (h : ¬t.val % 4 = 0) : (outsAt0 m c t.val t.isLt).2.2
    = k0_pay1 (BitVec.ofNat 32 (grid0.coords t 1).val) (k0_pay9 (iblk m c 0 t) (iblk m c 1 t) (iblk m c 3 t) (iblk m c 2 t)) lanes
        (outsAt0 m c (t.val - 1) (Nat.lt_of_le_of_lt (Nat.sub_le _ _) t.isLt)).2.2 := by
  rw [outsAt0_B m c t h, next_s]

/-- The lanes after a point: the heads up to its last hold their sums, the rest nothing. -/
theorem sums_at (n : ℕ) (hn : n < cfg0.N) (r : Fin 1024) (j : Fin 128) :
    (outsAt0 m c n hn).2.2 (ix2 r j) = if j.val / 4 ≤ n % 4
      then total (m ((c : Thread nD τ).loc main_arg0)) (m ((c : Thread nD τ).loc main_arg1)) (m ((c : Thread nD τ).loc main_arg2))
          (m ((c : Thread nD τ).loc main_arg3)) (row ⟨n, hn⟩ r) j
      else 0 := by
  induction n using Nat.strong_induction_on with
  | _ n ih =>
  have hc : BitVec.ofNat 32 (grid0.coords ⟨n, hn⟩ 1).val = BitVec.ofNat 32 (⟨n % 4, by omega⟩ : Fin 4).val := by rw [column]
  by_cases h0 : n % 4 = 0
  · refine (congrFun (sums_first m c ⟨n, hn⟩ h0) (ix2 r j)).trans ?_
    rw [hc, heads_at, zero_at]
    by_cases h : j.val / 4 = n % 4
    · rw [if_pos h, if_pos (by omega)]
      exact head_at m c ⟨n, hn⟩ r j h
    · rw [if_neg h, if_neg (by omega)]
  · refine (congrFun (sums_next m c ⟨n, hn⟩ h0) (ix2 r j)).trans ?_
    rw [hc, heads_at]
    by_cases h : j.val / 4 = n % 4
    · rw [if_pos h, if_pos (by omega)]
      exact head_at m c ⟨n, hn⟩ r j h
    · rw [if_neg h]
      refine (ih (n - 1) (by omega) (by omega)).trans ?_
      rw [show row ⟨n - 1, by omega⟩ r = row ⟨n, hn⟩ r from Fin.ext (by dsimp only [row]; omega)]
      by_cases h' : j.val / 4 ≤ n % 4
      · rw [if_pos h', if_pos (by omega)]
      · rw [if_neg h', if_neg (by omega)]

/-- What the last point of a row of blocks writes back is its block of the reference's sums. -/
theorem flushed_s (t : Fin cfg0.N) (ht : (cfg0.win 6).flush t = true) : (dats m 0 c).flushed 6 t = ((cfg0.win 6).blk t).view.read (Elt Ideal)
    (delta (m ((c : Thread nD τ).loc main_arg0)) (m ((c : Thread nD τ).loc main_arg1)) (m ((c : Thread nD τ).loc main_arg2))
      (m ((c : Thread nD τ).loc main_arg3))) := by
  have h3 := (flush6 t).mp ht
  refine (flushed6 m c t).trans ?_
  funext y
  obtain ⟨r, j, rfl⟩ : ∃ (r : Fin 1024) (j : Fin 128), y = ix2 r j := ⟨y 0, y 1, (ix2_eta y).symm⟩
  refine (sums_at m c t.val t.isLt r j).trans ?_
  show _ = delta (m ((c : Thread nD τ).loc main_arg0)) (m ((c : Thread nD τ).loc main_arg1)) (m ((c : Thread nD τ).loc main_arg2))
      (m ((c : Thread nD τ).loc main_arg3)) (((cfg0.win 6).blk t).view.emb (ix2 r j))
  rw [emb6, delta_at]
  by_cases h : j.val / 4 ≤ t.val % 4
  · rw [if_pos h]
  · rw [if_neg h]
    unfold total
    rw [dif_neg (by omega)]

/-- Every entry of the sums is in the block of a point that writes back. -/
theorem covered_s (y : S4096x128.Idx) : ∃ t : Fin cfg0.N, (cfg0.win 6).flush t = true ∧ y ∈ ((cfg0.win 6).blk t).view.set := by
  obtain ⟨i, j, rfl⟩ : ∃ (i : Fin 4096) (j : Fin 128), y = ix2 i j := ⟨y 0, y 1, (ix2_eta y).symm⟩
  have hN : 4 * (i.val / 1024) + 3 < cfg0.N := by rw [show cfg0.N = 16 from N_0]; omega
  refine ⟨⟨_, hN⟩, (flush6 _).mpr (by dsimp only; omega), ?_⟩
  have h := ((cfg0.win 6).blk ⟨_, hN⟩).view.emb_mem_set (ix2 ⟨i.val % 1024, by omega⟩ j)
  rw [emb6] at h
  rwa [show row ⟨_, hN⟩ ⟨i.val % 1024, by omega⟩ = i from Fin.ext (by dsimp only [row]; omega)] at h

/-- The kernel leaves the reference's sums. -/
theorem delta_eq : (dats m 0 c).arrAt 6 cfg0.N
    = delta (m ((c : Thread nD τ).loc main_arg0)) (m ((c : Thread nD τ).loc main_arg1)) (m ((c : Thread nD τ).loc main_arg2))
        (m ((c : Thread nD τ).loc main_arg3)) :=
  (dats m 0 c).arrAt_eq_of_cover 6 _ (fun t ht => flushed_s m c t ht) covered_s

end Cert.KernelDgIdeal.Gate

end
-- ==== Proof.ClaimsDg.lean ====
/- The claims for the gradient through the gates and the output projection: the frames, and the equality of both results, which
   needs no precondition. -/
module

public import proofs.«01_k».proof.Defs
public import proofs.«01_k».proof.Proof.Gen.KernelDg.Frame
public import proofs.«01_k».proof.Proof.Dg
public import Idealize.ShloMosaic.Lib.Quiescent

@[expose] public section

noncomputable section

namespace Cert.Proof.ClaimsDg

open Idealize.ShloMosaic Idealize.SL.Sem

theorem frame_p : Cert.quiescent_KernelDg := fun m ρ _ => Cert.KernelDg.Gen.frame m ρ
theorem frame_pi : Cert.quiescent_KernelDgIdeal := fun m ρ _ => Cert.KernelDgIdeal.Gen.frame m ρ
theorem frame_ri : Cert.quiescent_ReferenceDgIdeal := fun m ρ _ =>
  (θ_run Cert.ReferenceDgIdeal.defs _ _).mono (fun r h => ⟨fun c => (h c).2.2, Idealize.ShloMosaic.sem_eq_zero_of_no_sems (by decide) r.2⟩)
    (Cert.ReferenceDgIdeal.Value.run (F := Ideal) m ρ)

theorem preserves : Cert.preserves_KernelDg_KernelDgIdeal := trivial

theorem algebraic : Cert.algebraic_KernelDgIdeal_ReferenceDgIdeal := by
  intro m ρ m' ρ' _ hagree
  refine ⟨_, _, (θ_run Cert.KernelDgIdeal.defs _ _).mono (fun r h c => ⟨(h c).1.trans (Cert.KernelDgIdeal.Gate.grad_eq m c),
      (h c).2.2.1.trans (Cert.KernelDgIdeal.Gate.delta_eq m c), (h c).2.2.2⟩)
    (Cert.KernelDgIdeal.Value.run_blocks (F := Ideal) m ρ), ?_⟩
  refine (θ_run Cert.ReferenceDgIdeal.defs _ _).mono (fun r h c => ?_) (Cert.ReferenceDgIdeal.Value.run (F := Ideal) m' ρ')
  obtain ⟨g0, g1, g2, g3⟩ := hagree c
  obtain ⟨h0, h1, ha⟩ := h c
  refine ⟨h0.trans ?_, h1.trans ?_, ha⟩
  · rw [g0, g1, g3]; rfl
  · rw [g0, g1, g2, g3]; rfl

end Cert.Proof.ClaimsDg

end
-- ==== Proof.lean ====
module

public import proofs.«01_k».proof.Defs
public import proofs.«01_k».proof.Proof.Gen.Kernel
public import proofs.«01_k».proof.Proof.Gen.KernelDh
public import proofs.«01_k».proof.Proof.Gen.KernelDhIdeal
public import proofs.«01_k».proof.Proof.Gen.ReferenceDhIdeal
public import proofs.«01_k».proof.Proof.Gen.KernelDw
public import proofs.«01_k».proof.Proof.Gen.KernelDwIdeal
public import proofs.«01_k».proof.Proof.Gen.ReferenceDwIdeal
public import proofs.«01_k».proof.Proof.Gen.KernelDl
public import proofs.«01_k».proof.Proof.Gen.KernelDlIdeal
public import proofs.«01_k».proof.Proof.Gen.ReferenceDlIdeal
public import proofs.«01_k».proof.Proof.Gen.KernelPr
public import proofs.«01_k».proof.Proof.Gen.KernelPrIdeal
public import proofs.«01_k».proof.Proof.Gen.ReferencePrIdeal
public import proofs.«01_k».proof.Proof.Gen.KernelDo
public import proofs.«01_k».proof.Proof.Gen.KernelDoIdeal
public import proofs.«01_k».proof.Proof.Gen.ReferenceDoIdeal
public import proofs.«01_k».proof.Proof.Gen.KernelUq
public import proofs.«01_k».proof.Proof.Gen.KernelUqIdeal
public import proofs.«01_k».proof.Proof.Gen.ReferenceUqIdeal
public import proofs.«01_k».proof.Proof.Gen.KernelUkv
public import proofs.«01_k».proof.Proof.Gen.KernelUkvIdeal
public import proofs.«01_k».proof.Proof.Gen.ReferenceUkvIdeal
public import proofs.«01_k».proof.Proof.Gen.KernelQn
public import proofs.«01_k».proof.Proof.Gen.KernelQnIdeal
public import proofs.«01_k».proof.Proof.Gen.ReferenceQnIdeal
public import proofs.«01_k».proof.Proof.Gen.KernelKvn
public import proofs.«01_k».proof.Proof.Gen.KernelKvnIdeal
public import proofs.«01_k».proof.Proof.Gen.ReferenceKvnIdeal
public import proofs.«01_k».proof.Proof.Gen.KernelKv
public import proofs.«01_k».proof.Proof.Gen.KernelKvIdeal
public import proofs.«01_k».proof.Proof.Gen.ReferenceKvIdeal
public import proofs.«01_k».proof.Proof.Gen.KernelDg
public import proofs.«01_k».proof.Proof.Gen.KernelDgIdeal
public import proofs.«01_k».proof.Proof.Gen.ReferenceDgIdeal
public import proofs.«01_k».proof.Proof.Claims
public import proofs.«01_k».proof.Proof.ClaimsDh
public import proofs.«01_k».proof.Proof.ClaimsDw
public import proofs.«01_k».proof.Proof.ClaimsDl
public import proofs.«01_k».proof.Proof.ClaimsPr
public import proofs.«01_k».proof.Proof.ClaimsDo
public import proofs.«01_k».proof.Proof.ClaimsUq
public import proofs.«01_k».proof.Proof.ClaimsUp
public import proofs.«01_k».proof.Proof.ClaimsDg

@[expose] public section

noncomputable section

namespace Cert.Proof

theorem claim : Cert.Claim :=
  ⟨Cert.Kernel.Gen.facts, Cert.KernelIdeal.Gen.facts, Cert.ReferenceIdeal.Gen.facts,
    Cert.KernelDh.Gen.facts, Cert.KernelDhIdeal.Gen.facts, Cert.ReferenceDhIdeal.Gen.facts,
    Cert.KernelDw.Gen.facts, Cert.KernelDwIdeal.Gen.facts, Cert.ReferenceDwIdeal.Gen.facts,
    Cert.KernelDl.Gen.facts, Cert.KernelDlIdeal.Gen.facts, Cert.ReferenceDlIdeal.Gen.facts,
    Cert.KernelPr.Gen.facts, Cert.KernelPrIdeal.Gen.facts, Cert.ReferencePrIdeal.Gen.facts,
    Cert.KernelDo.Gen.facts, Cert.KernelDoIdeal.Gen.facts, Cert.ReferenceDoIdeal.Gen.facts,
    Cert.KernelUq.Gen.facts, Cert.KernelUqIdeal.Gen.facts, Cert.ReferenceUqIdeal.Gen.facts,
    Cert.KernelUkv.Gen.facts, Cert.KernelUkvIdeal.Gen.facts, Cert.ReferenceUkvIdeal.Gen.facts,
    Cert.KernelQn.Gen.facts, Cert.KernelQnIdeal.Gen.facts, Cert.ReferenceQnIdeal.Gen.facts,
    Cert.KernelKvn.Gen.facts, Cert.KernelKvnIdeal.Gen.facts, Cert.ReferenceKvnIdeal.Gen.facts,
    Cert.KernelKv.Gen.facts, Cert.KernelKvIdeal.Gen.facts, Cert.ReferenceKvIdeal.Gen.facts,
    Cert.KernelDg.Gen.facts, Cert.KernelDgIdeal.Gen.facts, Cert.ReferenceDgIdeal.Gen.facts,
    Cert.Pre_finite.Gen.facts,
    Claims.frame_p, Claims.frame_pi, Claims.frame_pi_finite, Claims.frame_ri, Claims.frame_ri_finite,
    ClaimsDh.frame_p, ClaimsDh.frame_pi, ClaimsDh.frame_ri, ClaimsDw.frame_p, ClaimsDw.frame_pi, ClaimsDw.frame_ri,
    ClaimsDl.frame_p, ClaimsDl.frame_pi, ClaimsDl.frame_ri,
    ClaimsPr.frame_p, ClaimsPr.frame_pi, ClaimsPr.frame_ri, ClaimsDo.frame_p, ClaimsDo.frame_pi, ClaimsDo.frame_ri,
    ClaimsUq.frame_p, ClaimsUq.frame_pi, ClaimsUq.frame_ri,
    ClaimsUkv.frame_p, ClaimsUkv.frame_pi, ClaimsUkv.frame_ri,
    ClaimsQn.frame_p, ClaimsQn.frame_pi, ClaimsQn.frame_ri,
    ClaimsKvn.frame_p, ClaimsKvn.frame_pi, ClaimsKvn.frame_ri,
    ClaimsKv.frame_p, ClaimsKv.frame_pi, ClaimsKv.frame_ri,
    ClaimsDg.frame_p, ClaimsDg.frame_pi, ClaimsDg.frame_ri,
    Claims.preserves, Claims.algebraic,
    ClaimsDh.preserves, ClaimsDh.algebraic, ClaimsDw.preserves, ClaimsDw.algebraic, ClaimsDl.preserves, ClaimsDl.algebraic,
    ClaimsPr.preserves, ClaimsPr.algebraic, ClaimsDo.preserves, ClaimsDo.algebraic,
    ClaimsUq.preserves, ClaimsUq.algebraic,
    ClaimsUkv.preserves, ClaimsUkv.algebraic,
    ClaimsQn.preserves, ClaimsQn.algebraic,
    ClaimsKvn.preserves, ClaimsKvn.algebraic,
    ClaimsKv.preserves, ClaimsKv.algebraic,
    ClaimsDg.preserves, ClaimsDg.algebraic⟩

end Cert.Proof

end
